-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_BranchSb (m : (ℓ : Loc Cert.BranchSb.nD Cert.BranchSb.τ Cert.BranchSb.sig) → Buf (Elt Bits) ℓ) : Prop :=
  True

def Pre_BranchSbIdeal (m : (ℓ : Loc Cert.BranchSbIdeal.nD Cert.BranchSbIdeal.τ Cert.BranchSbIdeal.sig) → Buf (Elt Ideal) ℓ) : Prop :=
  True

def Pre_BranchSbReferenceIdeal (m : (ℓ : Loc Cert.BranchSbReferenceIdeal.nD Cert.BranchSbReferenceIdeal.τ Cert.BranchSbReferenceIdeal.sig) → Buf (Elt Ideal) ℓ) : Prop :=
  True

def Pre_BranchSbDw (m : (ℓ : Loc Cert.BranchSbDw.nD Cert.BranchSbDw.τ Cert.BranchSbDw.sig) → Buf (Elt Bits) ℓ) : Prop :=
  True

def Pre_BranchSbDwIdeal (m : (ℓ : Loc Cert.BranchSbDwIdeal.nD Cert.BranchSbDwIdeal.τ Cert.BranchSbDwIdeal.sig) → Buf (Elt Ideal) ℓ) : Prop :=
  True

def Pre_BranchSbDwReferenceIdeal (m : (ℓ : Loc Cert.BranchSbDwReferenceIdeal.nD Cert.BranchSbDwReferenceIdeal.τ Cert.BranchSbDwReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeDx (m : (ℓ : Loc Cert.MergeDx.nD Cert.MergeDx.τ Cert.MergeDx.sig) → Buf (Elt Bits) ℓ) : Prop :=
  True

def Pre_MergeDxIdeal (m : (ℓ : Loc Cert.MergeDxIdeal.nD Cert.MergeDxIdeal.τ Cert.MergeDxIdeal.sig) → Buf (Elt Ideal) ℓ) : Prop :=
  True

def Pre_MergeDxReferenceIdeal (m : (ℓ : Loc Cert.MergeDxReferenceIdeal.nD Cert.MergeDxReferenceIdeal.τ Cert.MergeDxReferenceIdeal.sig) → Buf (Elt Ideal) ℓ) : Prop :=
  True

def Pre_DnPost (m : (ℓ : Loc Cert.DnPost.nD Cert.DnPost.τ Cert.DnPost.sig) → Buf (Elt Bits) ℓ) : Prop :=
  True

def Pre_DnPostIdeal (m : (ℓ : Loc Cert.DnPostIdeal.nD Cert.DnPostIdeal.τ Cert.DnPostIdeal.sig) → Buf (Elt Ideal) ℓ) : Prop :=
  True

def Pre_DnPostReferenceIdeal (m : (ℓ : Loc Cert.DnPostReferenceIdeal.nD Cert.DnPostReferenceIdeal.τ Cert.DnPostReferenceIdeal.sig) → Buf (Elt Ideal) ℓ) : Prop :=
  True

def Pre_SsmPost (m : (ℓ : Loc Cert.SsmPost.nD Cert.SsmPost.τ Cert.SsmPost.sig) → Buf (Elt Bits) ℓ) : Prop :=
  True

def Pre_SsmPostIdeal (m : (ℓ : Loc Cert.SsmPostIdeal.nD Cert.SsmPostIdeal.τ Cert.SsmPostIdeal.sig) → Buf (Elt Ideal) ℓ) : Prop :=
  True

def Pre_SsmPostReferenceIdeal (m : (ℓ : Loc Cert.SsmPostReferenceIdeal.nD Cert.SsmPostReferenceIdeal.τ Cert.SsmPostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_BranchSb [hBranchSb : Cert.BranchSb.Facts] : Prop :=
  ∀ (m : (ℓ : Loc Cert.BranchSb.nD Cert.BranchSb.τ Cert.BranchSb.sig) → Buf (Elt Bits) ℓ) (g : Dev Cert.BranchSb.nD → PrngReg), Pre_BranchSb m →
    θ_run (Cert.BranchSb.defs (F := Bits)) (onTc (τ := Cert.BranchSb.τ) (Cert.BranchSb.main (F := Bits))) ⟨m, fun _ => 0, g⟩ (fun r => (∀ c : Dev Cert.BranchSb.nD,
      r.2.mem ((c.tc : Thread Cert.BranchSb.nD Cert.BranchSb.τ).loc Cert.BranchSb.main_arg0) = m ((c.tc : Thread Cert.BranchSb.nD Cert.BranchSb.τ).loc Cert.BranchSb.main_arg0)
      ∧ r.2.mem ((c.tc : Thread Cert.BranchSb.nD Cert.BranchSb.τ).loc Cert.BranchSb.main_arg1) = m ((c.tc : Thread Cert.BranchSb.nD Cert.BranchSb.τ).loc Cert.BranchSb.main_arg1))
      ∧ r.2.sem = fun _ => 0)

def quiescent_BranchSbIdeal [hBranchSbIdeal : Cert.BranchSbIdeal.Facts] : Prop :=
  ∀ (m : (ℓ : Loc Cert.BranchSbIdeal.nD Cert.BranchSbIdeal.τ Cert.BranchSbIdeal.sig) → Buf (Elt Ideal) ℓ) (g : Dev Cert.BranchSbIdeal.nD → PrngReg), Pre_BranchSbIdeal m →
    θ_run (Cert.BranchSbIdeal.defs (F := Ideal)) (onTc (τ := Cert.BranchSbIdeal.τ) (Cert.BranchSbIdeal.main (F := Ideal))) ⟨m, fun _ => 0, g⟩ (fun r => (∀ c : Dev Cert.BranchSbIdeal.nD,
      r.2.mem ((c.tc : Thread Cert.BranchSbIdeal.nD Cert.BranchSbIdeal.τ).loc Cert.BranchSbIdeal.main_arg0) = m ((c.tc : Thread Cert.BranchSbIdeal.nD Cert.BranchSbIdeal.τ).loc Cert.BranchSbIdeal.main_arg0)
      ∧ r.2.mem ((c.tc : Thread Cert.BranchSbIdeal.nD Cert.BranchSbIdeal.τ).loc Cert.BranchSbIdeal.main_arg1) = m ((c.tc : Thread Cert.BranchSbIdeal.nD Cert.BranchSbIdeal.τ).loc Cert.BranchSbIdeal.main_arg1))
      ∧ r.2.sem = fun _ => 0)

def quiescent_BranchSbReferenceIdeal [hBranchSbReferenceIdeal : Cert.BranchSbReferenceIdeal.Facts] : Prop :=
  ∀ (m : (ℓ : Loc Cert.BranchSbReferenceIdeal.nD Cert.BranchSbReferenceIdeal.τ Cert.BranchSbReferenceIdeal.sig) → Buf (Elt Ideal) ℓ) (g : Dev Cert.BranchSbReferenceIdeal.nD → PrngReg), Pre_BranchSbReferenceIdeal m →
    θ_run (Cert.BranchSbReferenceIdeal.defs (F := Ideal)) (onTc (τ := Cert.BranchSbReferenceIdeal.τ) (Cert.BranchSbReferenceIdeal.main (F := Ideal))) ⟨m, fun _ => 0, g⟩ (fun r => (∀ c : Dev Cert.BranchSbReferenceIdeal.nD,
      r.2.mem ((c.tc : Thread Cert.BranchSbReferenceIdeal.nD Cert.BranchSbReferenceIdeal.τ).loc Cert.BranchSbReferenceIdeal.main_arg0) = m ((c.tc : Thread Cert.BranchSbReferenceIdeal.nD Cert.BranchSbReferenceIdeal.τ).loc Cert.BranchSbReferenceIdeal.main_arg0)
      ∧ r.2.mem ((c.tc : Thread Cert.BranchSbReferenceIdeal.nD Cert.BranchSbReferenceIdeal.τ).loc Cert.BranchSbReferenceIdeal.main_arg1) = m ((c.tc : Thread Cert.BranchSbReferenceIdeal.nD Cert.BranchSbReferenceIdeal.τ).loc Cert.BranchSbReferenceIdeal.main_arg1))
      ∧ r.2.sem = fun _ => 0)

def quiescent_BranchSbDw [hBranchSbDw : Cert.BranchSbDw.Facts] : Prop :=
  ∀ (m : (ℓ : Loc Cert.BranchSbDw.nD Cert.BranchSbDw.τ Cert.BranchSbDw.sig) → Buf (Elt Bits) ℓ) (g : Dev Cert.BranchSbDw.nD → PrngReg), Pre_BranchSbDw m →
    θ_run (Cert.BranchSbDw.defs (F := Bits)) (onTc (τ := Cert.BranchSbDw.τ) (Cert.BranchSbDw.main (F := Bits))) ⟨m, fun _ => 0, g⟩ (fun r => (∀ c : Dev Cert.BranchSbDw.nD,
      r.2.mem ((c.tc : Thread Cert.BranchSbDw.nD Cert.BranchSbDw.τ).loc Cert.BranchSbDw.main_arg0) = m ((c.tc : Thread Cert.BranchSbDw.nD Cert.BranchSbDw.τ).loc Cert.BranchSbDw.main_arg0)
      ∧ r.2.mem ((c.tc : Thread Cert.BranchSbDw.nD Cert.BranchSbDw.τ).loc Cert.BranchSbDw.main_arg1) = m ((c.tc : Thread Cert.BranchSbDw.nD Cert.BranchSbDw.τ).loc Cert.BranchSbDw.main_arg1))
      ∧ r.2.sem = fun _ => 0)

def quiescent_BranchSbDwIdeal [hBranchSbDwIdeal : Cert.BranchSbDwIdeal.Facts] : Prop :=
  ∀ (m : (ℓ : Loc Cert.BranchSbDwIdeal.nD Cert.BranchSbDwIdeal.τ Cert.BranchSbDwIdeal.sig) → Buf (Elt Ideal) ℓ) (g : Dev Cert.BranchSbDwIdeal.nD → PrngReg), Pre_BranchSbDwIdeal m →
    θ_run (Cert.BranchSbDwIdeal.defs (F := Ideal)) (onTc (τ := Cert.BranchSbDwIdeal.τ) (Cert.BranchSbDwIdeal.main (F := Ideal))) ⟨m, fun _ => 0, g⟩ (fun r => (∀ c : Dev Cert.BranchSbDwIdeal.nD,
      r.2.mem ((c.tc : Thread Cert.BranchSbDwIdeal.nD Cert.BranchSbDwIdeal.τ).loc Cert.BranchSbDwIdeal.main_arg0) = m ((c.tc : Thread Cert.BranchSbDwIdeal.nD Cert.BranchSbDwIdeal.τ).loc Cert.BranchSbDwIdeal.main_arg0)
      ∧ r.2.mem ((c.tc : Thread Cert.BranchSbDwIdeal.nD Cert.BranchSbDwIdeal.τ).loc Cert.BranchSbDwIdeal.main_arg1) = m ((c.tc : Thread Cert.BranchSbDwIdeal.nD Cert.BranchSbDwIdeal.τ).loc Cert.BranchSbDwIdeal.main_arg1))
      ∧ r.2.sem = fun _ => 0)

def quiescent_BranchSbDwReferenceIdeal [hBranchSbDwReferenceIdeal : Cert.BranchSbDwReferenceIdeal.Facts] : Prop :=
  ∀ (m : (ℓ : Loc Cert.BranchSbDwReferenceIdeal.nD Cert.BranchSbDwReferenceIdeal.τ Cert.BranchSbDwReferenceIdeal.sig) → Buf (Elt Ideal) ℓ) (g : Dev Cert.BranchSbDwReferenceIdeal.nD → PrngReg), Pre_BranchSbDwReferenceIdeal m →
    θ_run (Cert.BranchSbDwReferenceIdeal.defs (F := Ideal)) (onTc (τ := Cert.BranchSbDwReferenceIdeal.τ) (Cert.BranchSbDwReferenceIdeal.main (F := Ideal))) ⟨m, fun _ => 0, g⟩ (fun r => (∀ c : Dev Cert.BranchSbDwReferenceIdeal.nD,
      r.2.mem ((c.tc : Thread Cert.BranchSbDwReferenceIdeal.nD Cert.BranchSbDwReferenceIdeal.τ).loc Cert.BranchSbDwReferenceIdeal.main_arg0) = m ((c.tc : Thread Cert.BranchSbDwReferenceIdeal.nD Cert.BranchSbDwReferenceIdeal.τ).loc Cert.BranchSbDwReferenceIdeal.main_arg0)
      ∧ r.2.mem ((c.tc : Thread Cert.BranchSbDwReferenceIdeal.nD Cert.BranchSbDwReferenceIdeal.τ).loc Cert.BranchSbDwReferenceIdeal.main_arg1) = m ((c.tc : Thread Cert.BranchSbDwReferenceIdeal.nD Cert.BranchSbDwReferenceIdeal.τ).loc Cert.BranchSbDwReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1))
      ∧ r.2.sem = fun _ => 0)

def quiescent_MergeDx [hMergeDx : Cert.MergeDx.Facts] : Prop :=
  ∀ (m : (ℓ : Loc Cert.MergeDx.nD Cert.MergeDx.τ Cert.MergeDx.sig) → Buf (Elt Bits) ℓ) (g : Dev Cert.MergeDx.nD → PrngReg), Pre_MergeDx m →
    θ_run (Cert.MergeDx.defs (F := Bits)) (onTc (τ := Cert.MergeDx.τ) (Cert.MergeDx.main (F := Bits))) ⟨m, fun _ => 0, g⟩ (fun r => (∀ c : Dev Cert.MergeDx.nD,
      r.2.mem ((c.tc : Thread Cert.MergeDx.nD Cert.MergeDx.τ).loc Cert.MergeDx.main_arg0) = m ((c.tc : Thread Cert.MergeDx.nD Cert.MergeDx.τ).loc Cert.MergeDx.main_arg0)
      ∧ r.2.mem ((c.tc : Thread Cert.MergeDx.nD Cert.MergeDx.τ).loc Cert.MergeDx.main_arg1) = m ((c.tc : Thread Cert.MergeDx.nD Cert.MergeDx.τ).loc Cert.MergeDx.main_arg1)
      ∧ r.2.mem ((c.tc : Thread Cert.MergeDx.nD Cert.MergeDx.τ).loc Cert.MergeDx.main_arg2) = m ((c.tc : Thread Cert.MergeDx.nD Cert.MergeDx.τ).loc Cert.MergeDx.main_arg2))
      ∧ r.2.sem = fun _ => 0)

def quiescent_MergeDxIdeal [hMergeDxIdeal : Cert.MergeDxIdeal.Facts] : Prop :=
  ∀ (m : (ℓ : Loc Cert.MergeDxIdeal.nD Cert.MergeDxIdeal.τ Cert.MergeDxIdeal.sig) → Buf (Elt Ideal) ℓ) (g : Dev Cert.MergeDxIdeal.nD → PrngReg), Pre_MergeDxIdeal m →
    θ_run (Cert.MergeDxIdeal.defs (F := Ideal)) (onTc (τ := Cert.MergeDxIdeal.τ) (Cert.MergeDxIdeal.main (F := Ideal))) ⟨m, fun _ => 0, g⟩ (fun r => (∀ c : Dev Cert.MergeDxIdeal.nD,
      r.2.mem ((c.tc : Thread Cert.MergeDxIdeal.nD Cert.MergeDxIdeal.τ).loc Cert.MergeDxIdeal.main_arg0) = m ((c.tc : Thread Cert.MergeDxIdeal.nD Cert.MergeDxIdeal.τ).loc Cert.MergeDxIdeal.main_arg0)
      ∧ r.2.mem ((c.tc : Thread Cert.MergeDxIdeal.nD Cert.MergeDxIdeal.τ).loc Cert.MergeDxIdeal.main_arg1) = m ((c.tc : Thread Cert.MergeDxIdeal.nD Cert.MergeDxIdeal.τ).loc Cert.MergeDxIdeal.main_arg1)
      ∧ r.2.mem ((c.tc : Thread Cert.MergeDxIdeal.nD Cert.MergeDxIdeal.τ).loc Cert.MergeDxIdeal.main_arg2) = m ((c.tc : Thread Cert.MergeDxIdeal.nD Cert.MergeDxIdeal.τ).loc Cert.MergeDxIdeal.main_arg2))
      ∧ r.2.sem = fun _ => 0)

def quiescent_MergeDxReferenceIdeal [hMergeDxReferenceIdeal : Cert.MergeDxReferenceIdeal.Facts] : Prop :=
  ∀ (m : (ℓ : Loc Cert.MergeDxReferenceIdeal.nD Cert.MergeDxReferenceIdeal.τ Cert.MergeDxReferenceIdeal.sig) → Buf (Elt Ideal) ℓ) (g : Dev Cert.MergeDxReferenceIdeal.nD → PrngReg), Pre_MergeDxReferenceIdeal m →
    θ_run (Cert.MergeDxReferenceIdeal.defs (F := Ideal)) (onTc (τ := Cert.MergeDxReferenceIdeal.τ) (Cert.MergeDxReferenceIdeal.main (F := Ideal))) ⟨m, fun _ => 0, g⟩ (fun r => (∀ c : Dev Cert.MergeDxReferenceIdeal.nD,
      r.2.mem ((c.tc : Thread Cert.MergeDxReferenceIdeal.nD Cert.MergeDxReferenceIdeal.τ).loc Cert.MergeDxReferenceIdeal.main_arg0) = m ((c.tc : Thread Cert.MergeDxReferenceIdeal.nD Cert.MergeDxReferenceIdeal.τ).loc Cert.MergeDxReferenceIdeal.main_arg0)
      ∧ r.2.mem ((c.tc : Thread Cert.MergeDxReferenceIdeal.nD Cert.MergeDxReferenceIdeal.τ).loc Cert.MergeDxReferenceIdeal.main_arg1) = m ((c.tc : Thread Cert.MergeDxReferenceIdeal.nD Cert.MergeDxReferenceIdeal.τ).loc Cert.MergeDxReferenceIdeal.main_arg1)
      ∧ r.2.mem ((c.tc : Thread Cert.MergeDxReferenceIdeal.nD Cert.MergeDxReferenceIdeal.τ).loc Cert.MergeDxReferenceIdeal.main_arg2) = m ((c.tc : Thread Cert.MergeDxReferenceIdeal.nD Cert.MergeDxReferenceIdeal.τ).loc Cert.MergeDxReferenceIdeal.main_arg2))
      ∧ r.2.sem = fun _ => 0)

def quiescent_DnPost [hDnPost : Cert.DnPost.Facts] : Prop :=
  ∀ (m : (ℓ : Loc Cert.DnPost.nD Cert.DnPost.τ Cert.DnPost.sig) → Buf (Elt Bits) ℓ) (g : Dev Cert.DnPost.nD → PrngReg), Pre_DnPost m →
    θ_run (Cert.DnPost.defs (F := Bits)) (onTc (τ := Cert.DnPost.τ) (Cert.DnPost.main (F := Bits))) ⟨m, fun _ => 0, g⟩ (fun r => (∀ c : Dev Cert.DnPost.nD,
      r.2.mem ((c.tc : Thread Cert.DnPost.nD Cert.DnPost.τ).loc Cert.DnPost.main_arg0) = m ((c.tc : Thread Cert.DnPost.nD Cert.DnPost.τ).loc Cert.DnPost.main_arg0)
      ∧ r.2.mem ((c.tc : Thread Cert.DnPost.nD Cert.DnPost.τ).loc Cert.DnPost.main_arg1) = m ((c.tc : Thread Cert.DnPost.nD Cert.DnPost.τ).loc Cert.DnPost.main_arg1)
      ∧ r.2.mem ((c.tc : Thread Cert.DnPost.nD Cert.DnPost.τ).loc Cert.DnPost.main_arg2) = m ((c.tc : Thread Cert.DnPost.nD Cert.DnPost.τ).loc Cert.DnPost.main_arg2))
      ∧ r.2.sem = fun _ => 0)

def quiescent_DnPostIdeal [hDnPostIdeal : Cert.DnPostIdeal.Facts] : Prop :=
  ∀ (m : (ℓ : Loc Cert.DnPostIdeal.nD Cert.DnPostIdeal.τ Cert.DnPostIdeal.sig) → Buf (Elt Ideal) ℓ) (g : Dev Cert.DnPostIdeal.nD → PrngReg), Pre_DnPostIdeal m →
    θ_run (Cert.DnPostIdeal.defs (F := Ideal)) (onTc (τ := Cert.DnPostIdeal.τ) (Cert.DnPostIdeal.main (F := Ideal))) ⟨m, fun _ => 0, g⟩ (fun r => (∀ c : Dev Cert.DnPostIdeal.nD,
      r.2.mem ((c.tc : Thread Cert.DnPostIdeal.nD Cert.DnPostIdeal.τ).loc Cert.DnPostIdeal.main_arg0) = m ((c.tc : Thread Cert.DnPostIdeal.nD Cert.DnPostIdeal.τ).loc Cert.DnPostIdeal.main_arg0)
      ∧ r.2.mem ((c.tc : Thread Cert.DnPostIdeal.nD Cert.DnPostIdeal.τ).loc Cert.DnPostIdeal.main_arg1) = m ((c.tc : Thread Cert.DnPostIdeal.nD Cert.DnPostIdeal.τ).loc Cert.DnPostIdeal.main_arg1)
      ∧ r.2.mem ((c.tc : Thread Cert.DnPostIdeal.nD Cert.DnPostIdeal.τ).loc Cert.DnPostIdeal.main_arg2) = m ((c.tc : Thread Cert.DnPostIdeal.nD Cert.DnPostIdeal.τ).loc Cert.DnPostIdeal.main_arg2))
      ∧ r.2.sem = fun _ => 0)

def quiescent_DnPostReferenceIdeal [hDnPostReferenceIdeal : Cert.DnPostReferenceIdeal.Facts] : Prop :=
  ∀ (m : (ℓ : Loc Cert.DnPostReferenceIdeal.nD Cert.DnPostReferenceIdeal.τ Cert.DnPostReferenceIdeal.sig) → Buf (Elt Ideal) ℓ) (g : Dev Cert.DnPostReferenceIdeal.nD → PrngReg), Pre_DnPostReferenceIdeal m →
    θ_run (Cert.DnPostReferenceIdeal.defs (F := Ideal)) (onTc (τ := Cert.DnPostReferenceIdeal.τ) (Cert.DnPostReferenceIdeal.main (F := Ideal))) ⟨m, fun _ => 0, g⟩ (fun r => (∀ c : Dev Cert.DnPostReferenceIdeal.nD,
      r.2.mem ((c.tc : Thread Cert.DnPostReferenceIdeal.nD Cert.DnPostReferenceIdeal.τ).loc Cert.DnPostReferenceIdeal.main_arg0) = m ((c.tc : Thread Cert.DnPostReferenceIdeal.nD Cert.DnPostReferenceIdeal.τ).loc Cert.DnPostReferenceIdeal.main_arg0)
      ∧ r.2.mem ((c.tc : Thread Cert.DnPostReferenceIdeal.nD Cert.DnPostReferenceIdeal.τ).loc Cert.DnPostReferenceIdeal.main_arg1) = m ((c.tc : Thread Cert.DnPostReferenceIdeal.nD Cert.DnPostReferenceIdeal.τ).loc Cert.DnPostReferenceIdeal.main_arg1)
      ∧ r.2.mem ((c.tc : Thread Cert.DnPostReferenceIdeal.nD Cert.DnPostReferenceIdeal.τ).loc Cert.DnPostReferenceIdeal.main_arg2) = m ((c.tc : Thread Cert.DnPostReferenceIdeal.nD Cert.DnPostReferenceIdeal.τ).loc Cert.DnPostReferenceIdeal.main_arg2))
      ∧ r.2.sem = fun _ => 0)

def quiescent_SsmPost [hSsmPost : Cert.SsmPost.Facts] : Prop :=
  ∀ (m : (ℓ : Loc Cert.SsmPost.nD Cert.SsmPost.τ Cert.SsmPost.sig) → Buf (Elt Bits) ℓ) (g : Dev Cert.SsmPost.nD → PrngReg), Pre_SsmPost m →
    θ_run (Cert.SsmPost.defs (F := Bits)) (onTc (τ := Cert.SsmPost.τ) (Cert.SsmPost.main (F := Bits))) ⟨m, fun _ => 0, g⟩ (fun r => (∀ c : Dev Cert.SsmPost.nD,
      r.2.mem ((c.tc : Thread Cert.SsmPost.nD Cert.SsmPost.τ).loc Cert.SsmPost.main_arg0) = m ((c.tc : Thread Cert.SsmPost.nD Cert.SsmPost.τ).loc Cert.SsmPost.main_arg0)
      ∧ r.2.mem ((c.tc : Thread Cert.SsmPost.nD Cert.SsmPost.τ).loc Cert.SsmPost.main_arg1) = m ((c.tc : Thread Cert.SsmPost.nD Cert.SsmPost.τ).loc Cert.SsmPost.main_arg1)
      ∧ r.2.mem ((c.tc : Thread Cert.SsmPost.nD Cert.SsmPost.τ).loc Cert.SsmPost.main_arg2) = m ((c.tc : Thread Cert.SsmPost.nD Cert.SsmPost.τ).loc Cert.SsmPost.main_arg2)
      ∧ r.2.mem ((c.tc : Thread Cert.SsmPost.nD Cert.SsmPost.τ).loc Cert.SsmPost.main_arg3) = m ((c.tc : Thread Cert.SsmPost.nD Cert.SsmPost.τ).loc Cert.SsmPost.main_arg3)
      ∧ r.2.mem ((c.tc : Thread Cert.SsmPost.nD Cert.SsmPost.τ).loc Cert.SsmPost.main_arg4) = m ((c.tc : Thread Cert.SsmPost.nD Cert.SsmPost.τ).loc Cert.SsmPost.main_arg4))
      ∧ r.2.sem = fun _ => 0)

def quiescent_SsmPostIdeal [hSsmPostIdeal : Cert.SsmPostIdeal.Facts] : Prop :=
  ∀ (m : (ℓ : Loc Cert.SsmPostIdeal.nD Cert.SsmPostIdeal.τ Cert.SsmPostIdeal.sig) → Buf (Elt Ideal) ℓ) (g : Dev Cert.SsmPostIdeal.nD → PrngReg), Pre_SsmPostIdeal m →
    θ_run (Cert.SsmPostIdeal.defs (F := Ideal)) (onTc (τ := Cert.SsmPostIdeal.τ) (Cert.SsmPostIdeal.main (F := Ideal))) ⟨m, fun _ => 0, g⟩ (fun r => (∀ c : Dev Cert.SsmPostIdeal.nD,
      r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
      ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
      ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
      ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3)
      ∧ r.2.mem ((c.tc : Thread Cert.SsmPostIdeal.nD Cert.SsmPostIdeal.τ).loc Cert.SsmPostIdeal.main_arg4) = m ((c.tc : Thread Cert.SsmPostIdeal.nD Cert.SsmPostIdeal.τ).loc Cert.SsmPostIdeal.main_arg4))
      ∧ r.2.sem = fun _ => 0)

def quiescent_SsmPostReferenceIdeal [hSsmPostReferenceIdeal : Cert.SsmPostReferenceIdeal.Facts] : Prop :=
  ∀ (m : (ℓ : Loc Cert.SsmPostReferenceIdeal.nD Cert.SsmPostReferenceIdeal.τ Cert.SsmPostReferenceIdeal.sig) → Buf (Elt Ideal) ℓ) (g : Dev Cert.SsmPostReferenceIdeal.nD → PrngReg), Pre_SsmPostReferenceIdeal m →
    θ_run (Cert.SsmPostReferenceIdeal.defs (F := Ideal)) (onTc (τ := Cert.SsmPostReferenceIdeal.τ) (Cert.SsmPostReferenceIdeal.main (F := Ideal))) ⟨m, fun _ => 0, g⟩ (fun r => (∀ c : Dev Cert.SsmPostReferenceIdeal.nD,
      r.2.mem ((c.tc : Thread Cert.SsmPostReferenceIdeal.nD Cert.SsmPostReferenceIdeal.τ).loc Cert.SsmPostReferenceIdeal.main_arg0) = m ((c.tc : Thread Cert.SsmPostReferenceIdeal.nD Cert.SsmPostReferenceIdeal.τ).loc Cert.SsmPostReferenceIdeal.main_arg0)
      ∧ r.2.mem ((c.tc : Thread Cert.SsmPostReferenceIdeal.nD Cert.SsmPostReferenceIdeal.τ).loc Cert.SsmPostReferenceIdeal.main_arg1) = m ((c.tc : Thread Cert.SsmPostReferenceIdeal.nD Cert.SsmPostReferenceIdeal.τ).loc Cert.SsmPostReferenceIdeal.main_arg1)
      ∧ r.2.mem ((c.tc : Thread Cert.SsmPostReferenceIdeal.nD Cert.SsmPostReferenceIdeal.τ).loc Cert.SsmPostReferenceIdeal.main_arg2) = m ((c.tc : Thread Cert.SsmPostReferenceIdeal.nD Cert.SsmPostReferenceIdeal.τ).loc Cert.SsmPostReferenceIdeal.main_arg2)
      ∧ r.2.mem ((c.tc : Thread Cert.SsmPostReferenceIdeal.nD Cert.SsmPostReferenceIdeal.τ).loc Cert.SsmPostReferenceIdeal.main_arg3) = m ((c.tc : Thread Cert.SsmPostReferenceIdeal.nD Cert.SsmPostReferenceIdeal.τ).loc Cert.SsmPostReferenceIdeal.main_arg3)
      ∧ r.2.mem ((c.tc : Thread Cert.SsmPostReferenceIdeal.nD Cert.SsmPostReferenceIdeal.τ).loc Cert.SsmPostReferenceIdeal.main_arg4) = m ((c.tc : Thread Cert.SsmPostReferenceIdeal.nD Cert.SsmPostReferenceIdeal.τ).loc Cert.SsmPostReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 51712, 128]⟩ ⟨3, ![64, 51712, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![416, 128]⟩ ⟨2, ![3328, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![51712, 128]⟩ ⟨2, ![413696, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![51712, 128]⟩ ⟨2, ![413696, 128]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![51712, 128]⟩ ⟨2, ![413696, 128]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v26)) (v2 : Buf (Elt Ideal) (((0 : Dev Cert.ReferenceIdeal.nD).tc : Thread Cert.ReferenceIdeal.nD Cert.ReferenceIdeal.τ).loc Cert.ReferenceIdeal.main_v7)) (v3 : Buf (Elt Ideal) (((0 : Dev Cert.ReferenceIdeal.nD).tc : Thread Cert.ReferenceIdeal.nD Cert.ReferenceIdeal.τ).loc Cert.ReferenceIdeal.main_v13)) (v4 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![51712, 128]⟩ ⟨2, ![413696, 128]⟩ 0 8 c v0
          ∧ r.2.mem ((c.tc : Thread Cert.KernelIdeal.nD Cert.KernelIdeal.τ).loc Cert.KernelIdeal.main_v2_1) = Layout.block ⟨2, ![51712, 128]⟩ ⟨2, ![413696, 128]⟩ 0 8 c v1
          ∧ r.2.mem ((c.tc : Thread Cert.KernelIdeal.nD Cert.KernelIdeal.τ).loc Cert.KernelIdeal.main_v2_2) = Layout.block ⟨2, ![51712, 128]⟩ ⟨2, ![413696, 128]⟩ 0 8 c v2
          ∧ r.2.mem ((c.tc : Thread Cert.KernelIdeal.nD Cert.KernelIdeal.τ).loc Cert.KernelIdeal.main_v2_3) = Layout.block ⟨2, ![51712, 128]⟩ ⟨2, ![413696, 128]⟩ 0 8 c v3
          ∧ r.2.mem ((c.tc : Thread Cert.KernelIdeal.nD Cert.KernelIdeal.τ).loc Cert.KernelIdeal.main_v3) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v26) = v1
          ∧ r.2.mem (((0 : Dev Cert.ReferenceIdeal.nD).tc : Thread Cert.ReferenceIdeal.nD Cert.ReferenceIdeal.τ).loc Cert.ReferenceIdeal.main_v7) = v2
          ∧ r.2.mem (((0 : Dev Cert.ReferenceIdeal.nD).tc : Thread Cert.ReferenceIdeal.nD Cert.ReferenceIdeal.τ).loc Cert.ReferenceIdeal.main_v13) = v3
          ∧ r.2.mem (((0 : Dev Cert.ReferenceIdeal.nD).tc : Thread Cert.ReferenceIdeal.nD Cert.ReferenceIdeal.τ).loc Cert.ReferenceIdeal.main_v28) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![51344, 128]⟩ ⟨2, ![410752, 128]⟩ 0 8 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![51344, 128]⟩ ⟨2, ![410752, 128]⟩ 0 8 c (m' (((0 : Dev Cert.GatherReference.nD).tc : Thread Cert.GatherReference.nD Cert.GatherReference.τ).loc Cert.GatherReference.main_arg0))) →
    ∃ (v0 : Buf (Elt Bits) (((0 : Dev Cert.GatherReference.nD).tc : Thread Cert.GatherReference.nD Cert.GatherReference.τ).loc Cert.GatherReference.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v4) = v1 c
          ∧ r.2.mem ((c.tc : Thread Cert.SmallReferenceIdeal.nD Cert.SmallReferenceIdeal.τ).loc Cert.SmallReferenceIdeal.main_v10) = v2 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v34) = v0 c
          ∧ r.2.mem ((c.tc : Thread Cert.NormReferenceIdeal.nD Cert.NormReferenceIdeal.τ).loc Cert.NormReferenceIdeal.main_v17) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v49) = v0 c
          ∧ r.2.mem ((c.tc : Thread Cert.LossReferenceIdeal.nD Cert.LossReferenceIdeal.τ).loc Cert.LossReferenceIdeal.main_v48) = v1 c
          ∧ r.2.mem ((c.tc : Thread Cert.LossReferenceIdeal.nD Cert.LossReferenceIdeal.τ).loc Cert.LossReferenceIdeal.main_v32) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)) →
    ∃ (v0 : (c : Dev Cert.ForwardIdeal.nD) → Buf (Elt Ideal) ((c.tc : Thread Cert.ForwardIdeal.nD Cert.ForwardIdeal.τ).loc Cert.ForwardIdeal.main_v0)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0) = v0 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v12) = v0 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v5) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v14) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v3) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v3) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v2) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_BranchSb_BranchSbIdeal : Prop :=
  True

def algebraic_BranchSbIdeal_BranchSbReferenceIdeal [hBranchSbIdeal : Cert.BranchSbIdeal.Facts] [hBranchSbReferenceIdeal : Cert.BranchSbReferenceIdeal.Facts] : Prop :=
  ∀ (m : (ℓ : Loc Cert.BranchSbIdeal.nD Cert.BranchSbIdeal.τ Cert.BranchSbIdeal.sig) → Buf (Elt Ideal) ℓ) (g : Dev Cert.BranchSbIdeal.nD → PrngReg)
    (m' : (ℓ : Loc Cert.BranchSbReferenceIdeal.nD Cert.BranchSbReferenceIdeal.τ Cert.BranchSbReferenceIdeal.sig) → Buf (Elt Ideal) ℓ) (g' : Dev Cert.BranchSbReferenceIdeal.nD → PrngReg), Pre_BranchSbIdeal m →
    (∀ c : Dev Cert.BranchSbIdeal.nD,
      m' ((c.tc : Thread Cert.BranchSbReferenceIdeal.nD Cert.BranchSbReferenceIdeal.τ).loc Cert.BranchSbReferenceIdeal.main_arg0) = m ((c.tc : Thread Cert.BranchSbIdeal.nD Cert.BranchSbIdeal.τ).loc Cert.BranchSbIdeal.main_arg0)
      ∧ m' ((c.tc : Thread Cert.BranchSbReferenceIdeal.nD Cert.BranchSbReferenceIdeal.τ).loc Cert.BranchSbReferenceIdeal.main_arg1) = m ((c.tc : Thread Cert.BranchSbIdeal.nD Cert.BranchSbIdeal.τ).loc Cert.BranchSbIdeal.main_arg1)) →
    ∃ (v0 : (c : Dev Cert.BranchSbIdeal.nD) → Buf (Elt Ideal) ((c.tc : Thread Cert.BranchSbIdeal.nD Cert.BranchSbIdeal.τ).loc Cert.BranchSbIdeal.main_v0)),
      θ_run (Cert.BranchSbIdeal.defs (F := Ideal)) (onTc (τ := Cert.BranchSbIdeal.τ) (Cert.BranchSbIdeal.main (F := Ideal))) ⟨m, fun _ => 0, g⟩ (fun r => ∀ c : Dev Cert.BranchSbIdeal.nD,
          r.2.mem ((c.tc : Thread Cert.BranchSbIdeal.nD Cert.BranchSbIdeal.τ).loc Cert.BranchSbIdeal.main_v0) = v0 c
          ∧ r.2.mem ((c.tc : Thread Cert.BranchSbIdeal.nD Cert.BranchSbIdeal.τ).loc Cert.BranchSbIdeal.main_arg0) = m ((c.tc : Thread Cert.BranchSbIdeal.nD Cert.BranchSbIdeal.τ).loc Cert.BranchSbIdeal.main_arg0)
          ∧ r.2.mem ((c.tc : Thread Cert.BranchSbIdeal.nD Cert.BranchSbIdeal.τ).loc Cert.BranchSbIdeal.main_arg1) = m ((c.tc : Thread Cert.BranchSbIdeal.nD Cert.BranchSbIdeal.τ).loc Cert.BranchSbIdeal.main_arg1))
      ∧ θ_run (Cert.BranchSbReferenceIdeal.defs (F := Ideal)) (onTc (τ := Cert.BranchSbReferenceIdeal.τ) (Cert.BranchSbReferenceIdeal.main (F := Ideal))) ⟨m', fun _ => 0, g'⟩ (fun r => ∀ c : Dev Cert.BranchSbReferenceIdeal.nD,
          r.2.mem ((c.tc : Thread Cert.BranchSbReferenceIdeal.nD Cert.BranchSbReferenceIdeal.τ).loc Cert.BranchSbReferenceIdeal.main_v1) = v0 c
          ∧ r.2.mem ((c.tc : Thread Cert.BranchSbReferenceIdeal.nD Cert.BranchSbReferenceIdeal.τ).loc Cert.BranchSbReferenceIdeal.main_arg0) = m' ((c.tc : Thread Cert.BranchSbReferenceIdeal.nD Cert.BranchSbReferenceIdeal.τ).loc Cert.BranchSbReferenceIdeal.main_arg0)
          ∧ r.2.mem ((c.tc : Thread Cert.BranchSbReferenceIdeal.nD Cert.BranchSbReferenceIdeal.τ).loc Cert.BranchSbReferenceIdeal.main_arg1) = m' ((c.tc : Thread Cert.BranchSbReferenceIdeal.nD Cert.BranchSbReferenceIdeal.τ).loc Cert.BranchSbReferenceIdeal.main_arg1))

def preserves_BranchSbDw_BranchSbDwIdeal : Prop :=
  True

def algebraic_BranchSbDwIdeal_BranchSbDwReferenceIdeal [hBranchSbDwIdeal : Cert.BranchSbDwIdeal.Facts] [hBranchSbDwReferenceIdeal : Cert.BranchSbDwReferenceIdeal.Facts] : Prop :=
  ∀ (m : (ℓ : Loc Cert.BranchSbDwIdeal.nD Cert.BranchSbDwIdeal.τ Cert.BranchSbDwIdeal.sig) → Buf (Elt Ideal) ℓ) (g : Dev Cert.BranchSbDwIdeal.nD → PrngReg)
    (m' : (ℓ : Loc Cert.BranchSbDwReferenceIdeal.nD Cert.BranchSbDwReferenceIdeal.τ Cert.BranchSbDwReferenceIdeal.sig) → Buf (Elt Ideal) ℓ) (g' : Dev Cert.BranchSbDwReferenceIdeal.nD → PrngReg), Pre_BranchSbDwIdeal m →
    (∀ c : Dev Cert.BranchSbDwIdeal.nD,
      m' ((c.tc : Thread Cert.BranchSbDwReferenceIdeal.nD Cert.BranchSbDwReferenceIdeal.τ).loc Cert.BranchSbDwReferenceIdeal.main_arg0) = m ((c.tc : Thread Cert.BranchSbDwIdeal.nD Cert.BranchSbDwIdeal.τ).loc Cert.BranchSbDwIdeal.main_arg0)
      ∧ m' ((c.tc : Thread Cert.BranchSbDwReferenceIdeal.nD Cert.BranchSbDwReferenceIdeal.τ).loc Cert.BranchSbDwReferenceIdeal.main_arg1) = m ((c.tc : Thread Cert.BranchSbDwIdeal.nD Cert.BranchSbDwIdeal.τ).loc Cert.BranchSbDwIdeal.main_arg1)) →
    ∃ (v0 : (c : Dev Cert.BranchSbDwIdeal.nD) → Buf (Elt Ideal) ((c.tc : Thread Cert.BranchSbDwIdeal.nD Cert.BranchSbDwIdeal.τ).loc Cert.BranchSbDwIdeal.main_v0)),
      θ_run (Cert.BranchSbDwIdeal.defs (F := Ideal)) (onTc (τ := Cert.BranchSbDwIdeal.τ) (Cert.BranchSbDwIdeal.main (F := Ideal))) ⟨m, fun _ => 0, g⟩ (fun r => ∀ c : Dev Cert.BranchSbDwIdeal.nD,
          r.2.mem ((c.tc : Thread Cert.BranchSbDwIdeal.nD Cert.BranchSbDwIdeal.τ).loc Cert.BranchSbDwIdeal.main_v0) = v0 c
          ∧ r.2.mem ((c.tc : Thread Cert.BranchSbDwIdeal.nD Cert.BranchSbDwIdeal.τ).loc Cert.BranchSbDwIdeal.main_arg0) = m ((c.tc : Thread Cert.BranchSbDwIdeal.nD Cert.BranchSbDwIdeal.τ).loc Cert.BranchSbDwIdeal.main_arg0)
          ∧ r.2.mem ((c.tc : Thread Cert.BranchSbDwIdeal.nD Cert.BranchSbDwIdeal.τ).loc Cert.BranchSbDwIdeal.main_arg1) = m ((c.tc : Thread Cert.BranchSbDwIdeal.nD Cert.BranchSbDwIdeal.τ).loc Cert.BranchSbDwIdeal.main_arg1))
      ∧ θ_run (Cert.BranchSbDwReferenceIdeal.defs (F := Ideal)) (onTc (τ := Cert.BranchSbDwReferenceIdeal.τ) (Cert.BranchSbDwReferenceIdeal.main (F := Ideal))) ⟨m', fun _ => 0, g'⟩ (fun r => ∀ c : Dev Cert.BranchSbDwReferenceIdeal.nD,
          r.2.mem ((c.tc : Thread Cert.BranchSbDwReferenceIdeal.nD Cert.BranchSbDwReferenceIdeal.τ).loc Cert.BranchSbDwReferenceIdeal.main_v2) = v0 c
          ∧ r.2.mem ((c.tc : Thread Cert.BranchSbDwReferenceIdeal.nD Cert.BranchSbDwReferenceIdeal.τ).loc Cert.BranchSbDwReferenceIdeal.main_arg0) = m' ((c.tc : Thread Cert.BranchSbDwReferenceIdeal.nD Cert.BranchSbDwReferenceIdeal.τ).loc Cert.BranchSbDwReferenceIdeal.main_arg0)
          ∧ r.2.mem ((c.tc : Thread Cert.BranchSbDwReferenceIdeal.nD Cert.BranchSbDwReferenceIdeal.τ).loc Cert.BranchSbDwReferenceIdeal.main_arg1) = m' ((c.tc : Thread Cert.BranchSbDwReferenceIdeal.nD Cert.BranchSbDwReferenceIdeal.τ).loc Cert.BranchSbDwReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v3) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v3) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1))

def preserves_MergeDx_MergeDxIdeal : Prop :=
  True

def algebraic_MergeDxIdeal_MergeDxReferenceIdeal [hMergeDxIdeal : Cert.MergeDxIdeal.Facts] [hMergeDxReferenceIdeal : Cert.MergeDxReferenceIdeal.Facts] : Prop :=
  ∀ (m : (ℓ : Loc Cert.MergeDxIdeal.nD Cert.MergeDxIdeal.τ Cert.MergeDxIdeal.sig) → Buf (Elt Ideal) ℓ) (g : Dev Cert.MergeDxIdeal.nD → PrngReg)
    (m' : (ℓ : Loc Cert.MergeDxReferenceIdeal.nD Cert.MergeDxReferenceIdeal.τ Cert.MergeDxReferenceIdeal.sig) → Buf (Elt Ideal) ℓ) (g' : Dev Cert.MergeDxReferenceIdeal.nD → PrngReg), Pre_MergeDxIdeal m →
    (∀ c : Dev Cert.MergeDxIdeal.nD,
      m' ((c.tc : Thread Cert.MergeDxReferenceIdeal.nD Cert.MergeDxReferenceIdeal.τ).loc Cert.MergeDxReferenceIdeal.main_arg0) = m ((c.tc : Thread Cert.MergeDxIdeal.nD Cert.MergeDxIdeal.τ).loc Cert.MergeDxIdeal.main_arg0)
      ∧ m' ((c.tc : Thread Cert.MergeDxReferenceIdeal.nD Cert.MergeDxReferenceIdeal.τ).loc Cert.MergeDxReferenceIdeal.main_arg1) = m ((c.tc : Thread Cert.MergeDxIdeal.nD Cert.MergeDxIdeal.τ).loc Cert.MergeDxIdeal.main_arg1)
      ∧ m' ((c.tc : Thread Cert.MergeDxReferenceIdeal.nD Cert.MergeDxReferenceIdeal.τ).loc Cert.MergeDxReferenceIdeal.main_arg2) = m ((c.tc : Thread Cert.MergeDxIdeal.nD Cert.MergeDxIdeal.τ).loc Cert.MergeDxIdeal.main_arg2)) →
    ∃ (v0 : (c : Dev Cert.MergeDxIdeal.nD) → Buf (Elt Ideal) ((c.tc : Thread Cert.MergeDxIdeal.nD Cert.MergeDxIdeal.τ).loc Cert.MergeDxIdeal.main_v0_0)) (v1 : (c : Dev Cert.MergeDxIdeal.nD) → Buf (Elt Ideal) ((c.tc : Thread Cert.MergeDxIdeal.nD Cert.MergeDxIdeal.τ).loc Cert.MergeDxIdeal.main_v0_1)),
      θ_run (Cert.MergeDxIdeal.defs (F := Ideal)) (onTc (τ := Cert.MergeDxIdeal.τ) (Cert.MergeDxIdeal.main (F := Ideal))) ⟨m, fun _ => 0, g⟩ (fun r => ∀ c : Dev Cert.MergeDxIdeal.nD,
          r.2.mem ((c.tc : Thread Cert.MergeDxIdeal.nD Cert.MergeDxIdeal.τ).loc Cert.MergeDxIdeal.main_v0_0) = v0 c
          ∧ r.2.mem ((c.tc : Thread Cert.MergeDxIdeal.nD Cert.MergeDxIdeal.τ).loc Cert.MergeDxIdeal.main_v0_1) = v1 c
          ∧ r.2.mem ((c.tc : Thread Cert.MergeDxIdeal.nD Cert.MergeDxIdeal.τ).loc Cert.MergeDxIdeal.main_arg0) = m ((c.tc : Thread Cert.MergeDxIdeal.nD Cert.MergeDxIdeal.τ).loc Cert.MergeDxIdeal.main_arg0)
          ∧ r.2.mem ((c.tc : Thread Cert.MergeDxIdeal.nD Cert.MergeDxIdeal.τ).loc Cert.MergeDxIdeal.main_arg1) = m ((c.tc : Thread Cert.MergeDxIdeal.nD Cert.MergeDxIdeal.τ).loc Cert.MergeDxIdeal.main_arg1)
          ∧ r.2.mem ((c.tc : Thread Cert.MergeDxIdeal.nD Cert.MergeDxIdeal.τ).loc Cert.MergeDxIdeal.main_arg2) = m ((c.tc : Thread Cert.MergeDxIdeal.nD Cert.MergeDxIdeal.τ).loc Cert.MergeDxIdeal.main_arg2))
      ∧ θ_run (Cert.MergeDxReferenceIdeal.defs (F := Ideal)) (onTc (τ := Cert.MergeDxReferenceIdeal.τ) (Cert.MergeDxReferenceIdeal.main (F := Ideal))) ⟨m', fun _ => 0, g'⟩ (fun r => ∀ c : Dev Cert.MergeDxReferenceIdeal.nD,
          r.2.mem ((c.tc : Thread Cert.MergeDxReferenceIdeal.nD Cert.MergeDxReferenceIdeal.τ).loc Cert.MergeDxReferenceIdeal.main_v15) = v0 c
          ∧ r.2.mem ((c.tc : Thread Cert.MergeDxReferenceIdeal.nD Cert.MergeDxReferenceIdeal.τ).loc Cert.MergeDxReferenceIdeal.main_v16) = v1 c
          ∧ r.2.mem ((c.tc : Thread Cert.MergeDxReferenceIdeal.nD Cert.MergeDxReferenceIdeal.τ).loc Cert.MergeDxReferenceIdeal.main_arg0) = m' ((c.tc : Thread Cert.MergeDxReferenceIdeal.nD Cert.MergeDxReferenceIdeal.τ).loc Cert.MergeDxReferenceIdeal.main_arg0)
          ∧ r.2.mem ((c.tc : Thread Cert.MergeDxReferenceIdeal.nD Cert.MergeDxReferenceIdeal.τ).loc Cert.MergeDxReferenceIdeal.main_arg1) = m' ((c.tc : Thread Cert.MergeDxReferenceIdeal.nD Cert.MergeDxReferenceIdeal.τ).loc Cert.MergeDxReferenceIdeal.main_arg1)
          ∧ r.2.mem ((c.tc : Thread Cert.MergeDxReferenceIdeal.nD Cert.MergeDxReferenceIdeal.τ).loc Cert.MergeDxReferenceIdeal.main_arg2) = m' ((c.tc : Thread Cert.MergeDxReferenceIdeal.nD Cert.MergeDxReferenceIdeal.τ).loc Cert.MergeDxReferenceIdeal.main_arg2))

def preserves_DnPost_DnPostIdeal : Prop :=
  True

def algebraic_DnPostIdeal_DnPostReferenceIdeal [hDnPostIdeal : Cert.DnPostIdeal.Facts] [hDnPostReferenceIdeal : Cert.DnPostReferenceIdeal.Facts] : Prop :=
  ∀ (m : (ℓ : Loc Cert.DnPostIdeal.nD Cert.DnPostIdeal.τ Cert.DnPostIdeal.sig) → Buf (Elt Ideal) ℓ) (g : Dev Cert.DnPostIdeal.nD → PrngReg)
    (m' : (ℓ : Loc Cert.DnPostReferenceIdeal.nD Cert.DnPostReferenceIdeal.τ Cert.DnPostReferenceIdeal.sig) → Buf (Elt Ideal) ℓ) (g' : Dev Cert.DnPostReferenceIdeal.nD → PrngReg), Pre_DnPostIdeal m →
    (∀ c : Dev Cert.DnPostIdeal.nD,
      m' ((c.tc : Thread Cert.DnPostReferenceIdeal.nD Cert.DnPostReferenceIdeal.τ).loc Cert.DnPostReferenceIdeal.main_arg0) = m ((c.tc : Thread Cert.DnPostIdeal.nD Cert.DnPostIdeal.τ).loc Cert.DnPostIdeal.main_arg0)
      ∧ m' ((c.tc : Thread Cert.DnPostReferenceIdeal.nD Cert.DnPostReferenceIdeal.τ).loc Cert.DnPostReferenceIdeal.main_arg1) = m ((c.tc : Thread Cert.DnPostIdeal.nD Cert.DnPostIdeal.τ).loc Cert.DnPostIdeal.main_arg1)
      ∧ m' ((c.tc : Thread Cert.DnPostReferenceIdeal.nD Cert.DnPostReferenceIdeal.τ).loc Cert.DnPostReferenceIdeal.main_arg2) = m ((c.tc : Thread Cert.DnPostIdeal.nD Cert.DnPostIdeal.τ).loc Cert.DnPostIdeal.main_arg2)) →
    ∃ (v0 : (c : Dev Cert.DnPostIdeal.nD) → Buf (Elt Ideal) ((c.tc : Thread Cert.DnPostIdeal.nD Cert.DnPostIdeal.τ).loc Cert.DnPostIdeal.main_v0)),
      θ_run (Cert.DnPostIdeal.defs (F := Ideal)) (onTc (τ := Cert.DnPostIdeal.τ) (Cert.DnPostIdeal.main (F := Ideal))) ⟨m, fun _ => 0, g⟩ (fun r => ∀ c : Dev Cert.DnPostIdeal.nD,
          r.2.mem ((c.tc : Thread Cert.DnPostIdeal.nD Cert.DnPostIdeal.τ).loc Cert.DnPostIdeal.main_v0) = v0 c
          ∧ r.2.mem ((c.tc : Thread Cert.DnPostIdeal.nD Cert.DnPostIdeal.τ).loc Cert.DnPostIdeal.main_arg0) = m ((c.tc : Thread Cert.DnPostIdeal.nD Cert.DnPostIdeal.τ).loc Cert.DnPostIdeal.main_arg0)
          ∧ r.2.mem ((c.tc : Thread Cert.DnPostIdeal.nD Cert.DnPostIdeal.τ).loc Cert.DnPostIdeal.main_arg1) = m ((c.tc : Thread Cert.DnPostIdeal.nD Cert.DnPostIdeal.τ).loc Cert.DnPostIdeal.main_arg1)
          ∧ r.2.mem ((c.tc : Thread Cert.DnPostIdeal.nD Cert.DnPostIdeal.τ).loc Cert.DnPostIdeal.main_arg2) = m ((c.tc : Thread Cert.DnPostIdeal.nD Cert.DnPostIdeal.τ).loc Cert.DnPostIdeal.main_arg2))
      ∧ θ_run (Cert.DnPostReferenceIdeal.defs (F := Ideal)) (onTc (τ := Cert.DnPostReferenceIdeal.τ) (Cert.DnPostReferenceIdeal.main (F := Ideal))) ⟨m', fun _ => 0, g'⟩ (fun r => ∀ c : Dev Cert.DnPostReferenceIdeal.nD,
          r.2.mem ((c.tc : Thread Cert.DnPostReferenceIdeal.nD Cert.DnPostReferenceIdeal.τ).loc Cert.DnPostReferenceIdeal.main_v19) = v0 c
          ∧ r.2.mem ((c.tc : Thread Cert.DnPostReferenceIdeal.nD Cert.DnPostReferenceIdeal.τ).loc Cert.DnPostReferenceIdeal.main_arg0) = m' ((c.tc : Thread Cert.DnPostReferenceIdeal.nD Cert.DnPostReferenceIdeal.τ).loc Cert.DnPostReferenceIdeal.main_arg0)
          ∧ r.2.mem ((c.tc : Thread Cert.DnPostReferenceIdeal.nD Cert.DnPostReferenceIdeal.τ).loc Cert.DnPostReferenceIdeal.main_arg1) = m' ((c.tc : Thread Cert.DnPostReferenceIdeal.nD Cert.DnPostReferenceIdeal.τ).loc Cert.DnPostReferenceIdeal.main_arg1)
          ∧ r.2.mem ((c.tc : Thread Cert.DnPostReferenceIdeal.nD Cert.DnPostReferenceIdeal.τ).loc Cert.DnPostReferenceIdeal.main_arg2) = m' ((c.tc : Thread Cert.DnPostReferenceIdeal.nD Cert.DnPostReferenceIdeal.τ).loc Cert.DnPostReferenceIdeal.main_arg2))

def preserves_SsmPost_SsmPostIdeal : Prop :=
  True

def algebraic_SsmPostIdeal_SsmPostReferenceIdeal [hSsmPostIdeal : Cert.SsmPostIdeal.Facts] [hSsmPostReferenceIdeal : Cert.SsmPostReferenceIdeal.Facts] : Prop :=
  ∀ (m : (ℓ : Loc Cert.SsmPostIdeal.nD Cert.SsmPostIdeal.τ Cert.SsmPostIdeal.sig) → Buf (Elt Ideal) ℓ) (g : Dev Cert.SsmPostIdeal.nD → PrngReg)
    (m' : (ℓ : Loc Cert.SsmPostReferenceIdeal.nD Cert.SsmPostReferenceIdeal.τ Cert.SsmPostReferenceIdeal.sig) → Buf (Elt Ideal) ℓ) (g' : Dev Cert.SsmPostReferenceIdeal.nD → PrngReg), Pre_SsmPostIdeal m →
    (∀ c : Dev Cert.SsmPostIdeal.nD,
      m' ((c.tc : Thread Cert.SsmPostReferenceIdeal.nD Cert.SsmPostReferenceIdeal.τ).loc Cert.SsmPostReferenceIdeal.main_arg0) = m ((c.tc : Thread Cert.SsmPostIdeal.nD Cert.SsmPostIdeal.τ).loc Cert.SsmPostIdeal.main_arg0)
      ∧ m' ((c.tc : Thread Cert.SsmPostReferenceIdeal.nD Cert.SsmPostReferenceIdeal.τ).loc Cert.SsmPostReferenceIdeal.main_arg1) = m ((c.tc : Thread Cert.SsmPostIdeal.nD Cert.SsmPostIdeal.τ).loc Cert.SsmPostIdeal.main_arg1)
      ∧ m' ((c.tc : Thread Cert.SsmPostReferenceIdeal.nD Cert.SsmPostReferenceIdeal.τ).loc Cert.SsmPostReferenceIdeal.main_arg2) = m ((c.tc : Thread Cert.SsmPostIdeal.nD Cert.SsmPostIdeal.τ).loc Cert.SsmPostIdeal.main_arg2)
      ∧ m' ((c.tc : Thread Cert.SsmPostReferenceIdeal.nD Cert.SsmPostReferenceIdeal.τ).loc Cert.SsmPostReferenceIdeal.main_arg3) = m ((c.tc : Thread Cert.SsmPostIdeal.nD Cert.SsmPostIdeal.τ).loc Cert.SsmPostIdeal.main_arg3)
      ∧ m' ((c.tc : Thread Cert.SsmPostReferenceIdeal.nD Cert.SsmPostReferenceIdeal.τ).loc Cert.SsmPostReferenceIdeal.main_arg4) = m ((c.tc : Thread Cert.SsmPostIdeal.nD Cert.SsmPostIdeal.τ).loc Cert.SsmPostIdeal.main_arg4)) →
    ∃ (v0 : (c : Dev Cert.SsmPostIdeal.nD) → Buf (Elt Ideal) ((c.tc : Thread Cert.SsmPostIdeal.nD Cert.SsmPostIdeal.τ).loc Cert.SsmPostIdeal.main_v0)),
      θ_run (Cert.SsmPostIdeal.defs (F := Ideal)) (onTc (τ := Cert.SsmPostIdeal.τ) (Cert.SsmPostIdeal.main (F := Ideal))) ⟨m, fun _ => 0, g⟩ (fun r => ∀ c : Dev Cert.SsmPostIdeal.nD,
          r.2.mem ((c.tc : Thread Cert.SsmPostIdeal.nD Cert.SsmPostIdeal.τ).loc Cert.SsmPostIdeal.main_v0) = v0 c
          ∧ r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
          ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
          ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
          ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3)
          ∧ r.2.mem ((c.tc : Thread Cert.SsmPostIdeal.nD Cert.SsmPostIdeal.τ).loc Cert.SsmPostIdeal.main_arg4) = m ((c.tc : Thread Cert.SsmPostIdeal.nD Cert.SsmPostIdeal.τ).loc Cert.SsmPostIdeal.main_arg4))
      ∧ θ_run (Cert.SsmPostReferenceIdeal.defs (F := Ideal)) (onTc (τ := Cert.SsmPostReferenceIdeal.τ) (Cert.SsmPostReferenceIdeal.main (F := Ideal))) ⟨m', fun _ => 0, g'⟩ (fun r => ∀ c : Dev Cert.SsmPostReferenceIdeal.nD,
          r.2.mem ((c.tc : Thread Cert.SsmPostReferenceIdeal.nD Cert.SsmPostReferenceIdeal.τ).loc Cert.SsmPostReferenceIdeal.main_v23) = v0 c
          ∧ r.2.mem ((c.tc : Thread Cert.SsmPostReferenceIdeal.nD Cert.SsmPostReferenceIdeal.τ).loc Cert.SsmPostReferenceIdeal.main_arg0) = m' ((c.tc : Thread Cert.SsmPostReferenceIdeal.nD Cert.SsmPostReferenceIdeal.τ).loc Cert.SsmPostReferenceIdeal.main_arg0)
          ∧ r.2.mem ((c.tc : Thread Cert.SsmPostReferenceIdeal.nD Cert.SsmPostReferenceIdeal.τ).loc Cert.SsmPostReferenceIdeal.main_arg1) = m' ((c.tc : Thread Cert.SsmPostReferenceIdeal.nD Cert.SsmPostReferenceIdeal.τ).loc Cert.SsmPostReferenceIdeal.main_arg1)
          ∧ r.2.mem ((c.tc : Thread Cert.SsmPostReferenceIdeal.nD Cert.SsmPostReferenceIdeal.τ).loc Cert.SsmPostReferenceIdeal.main_arg2) = m' ((c.tc : Thread Cert.SsmPostReferenceIdeal.nD Cert.SsmPostReferenceIdeal.τ).loc Cert.SsmPostReferenceIdeal.main_arg2)
          ∧ r.2.mem ((c.tc : Thread Cert.SsmPostReferenceIdeal.nD Cert.SsmPostReferenceIdeal.τ).loc Cert.SsmPostReferenceIdeal.main_arg3) = m' ((c.tc : Thread Cert.SsmPostReferenceIdeal.nD Cert.SsmPostReferenceIdeal.τ).loc Cert.SsmPostReferenceIdeal.main_arg3)
          ∧ r.2.mem ((c.tc : Thread Cert.SsmPostReferenceIdeal.nD Cert.SsmPostReferenceIdeal.τ).loc Cert.SsmPostReferenceIdeal.main_arg4) = m' ((c.tc : Thread Cert.SsmPostReferenceIdeal.nD Cert.SsmPostReferenceIdeal.τ).loc Cert.SsmPostReferenceIdeal.main_arg4))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hSmall : Cert.Small.Facts) (hSmallIdeal : Cert.SmallIdeal.Facts) (hSmallReferenceIdeal : Cert.SmallReferenceIdeal.Facts) (hNorm : Cert.Norm.Facts) (hNormIdeal : Cert.NormIdeal.Facts) (hNormReferenceIdeal : Cert.NormReferenceIdeal.Facts) (hLoss : Cert.Loss.Facts) (hLossIdeal : Cert.LossIdeal.Facts) (hLossReferenceIdeal : Cert.LossReferenceIdeal.Facts) (hForward : Cert.Forward.Facts) (hForwardIdeal : Cert.ForwardIdeal.Facts) (hForwardReferenceIdeal : Cert.ForwardReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hOut : Cert.Out.Facts) (hOutIdeal : Cert.OutIdeal.Facts) (hOutReferenceIdeal : Cert.OutReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hBranch : Cert.Branch.Facts) (hBranchIdeal : Cert.BranchIdeal.Facts) (hBranchReferenceIdeal : Cert.BranchReferenceIdeal.Facts) (hBranchSb : Cert.BranchSb.Facts) (hBranchSbIdeal : Cert.BranchSbIdeal.Facts) (hBranchSbReferenceIdeal : Cert.BranchSbReferenceIdeal.Facts) (hBranchSbDw : Cert.BranchSbDw.Facts) (hBranchSbDwIdeal : Cert.BranchSbDwIdeal.Facts) (hBranchSbDwReferenceIdeal : Cert.BranchSbDwReferenceIdeal.Facts) (hIn : Cert.In.Facts) (hInIdeal : Cert.InIdeal.Facts) (hInReferenceIdeal : Cert.InReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hMerge : Cert.Merge.Facts) (hMergeIdeal : Cert.MergeIdeal.Facts) (hMergeReferenceIdeal : Cert.MergeReferenceIdeal.Facts) (hMergeDx : Cert.MergeDx.Facts) (hMergeDxIdeal : Cert.MergeDxIdeal.Facts) (hMergeDxReferenceIdeal : Cert.MergeDxReferenceIdeal.Facts) (hDnPost : Cert.DnPost.Facts) (hDnPostIdeal : Cert.DnPostIdeal.Facts) (hDnPostReferenceIdeal : Cert.DnPostReferenceIdeal.Facts) (hSsmPost : Cert.SsmPost.Facts) (hSsmPostIdeal : Cert.SsmPostIdeal.Facts) (hSsmPostReferenceIdeal : Cert.SsmPostReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Small (hSmall := hSmall)
    ∧ quiescent_SmallIdeal (hSmallIdeal := hSmallIdeal)
    ∧ quiescent_SmallReferenceIdeal (hSmallReferenceIdeal := hSmallReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Forward (hForward := hForward)
    ∧ quiescent_ForwardIdeal (hForwardIdeal := hForwardIdeal)
    ∧ quiescent_ForwardReferenceIdeal (hForwardReferenceIdeal := hForwardReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_Out (hOut := hOut)
    ∧ quiescent_OutIdeal (hOutIdeal := hOutIdeal)
    ∧ quiescent_OutReferenceIdeal (hOutReferenceIdeal := hOutReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_BranchSb (hBranchSb := hBranchSb)
    ∧ quiescent_BranchSbIdeal (hBranchSbIdeal := hBranchSbIdeal)
    ∧ quiescent_BranchSbReferenceIdeal (hBranchSbReferenceIdeal := hBranchSbReferenceIdeal)
    ∧ quiescent_BranchSbDw (hBranchSbDw := hBranchSbDw)
    ∧ quiescent_BranchSbDwIdeal (hBranchSbDwIdeal := hBranchSbDwIdeal)
    ∧ quiescent_BranchSbDwReferenceIdeal (hBranchSbDwReferenceIdeal := hBranchSbDwReferenceIdeal)
    ∧ quiescent_In (hIn := hIn)
    ∧ quiescent_InIdeal (hInIdeal := hInIdeal)
    ∧ quiescent_InReferenceIdeal (hInReferenceIdeal := hInReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeDx (hMergeDx := hMergeDx)
    ∧ quiescent_MergeDxIdeal (hMergeDxIdeal := hMergeDxIdeal)
    ∧ quiescent_MergeDxReferenceIdeal (hMergeDxReferenceIdeal := hMergeDxReferenceIdeal)
    ∧ quiescent_DnPost (hDnPost := hDnPost)
    ∧ quiescent_DnPostIdeal (hDnPostIdeal := hDnPostIdeal)
    ∧ quiescent_DnPostReferenceIdeal (hDnPostReferenceIdeal := hDnPostReferenceIdeal)
    ∧ quiescent_SsmPost (hSsmPost := hSsmPost)
    ∧ quiescent_SsmPostIdeal (hSsmPostIdeal := hSsmPostIdeal)
    ∧ quiescent_SsmPostReferenceIdeal (hSsmPostReferenceIdeal := hSsmPostReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Small_SmallIdeal
    ∧ algebraic_SmallIdeal_SmallReferenceIdeal (hSmallIdeal := hSmallIdeal) (hSmallReferenceIdeal := hSmallReferenceIdeal)
    ∧ preserves_Norm_NormIdeal
    ∧ algebraic_NormIdeal_NormReferenceIdeal (hNormIdeal := hNormIdeal) (hNormReferenceIdeal := hNormReferenceIdeal)
    ∧ preserves_Loss_LossIdeal
    ∧ algebraic_LossIdeal_LossReferenceIdeal (hLossIdeal := hLossIdeal) (hLossReferenceIdeal := hLossReferenceIdeal)
    ∧ preserves_Forward_ForwardIdeal
    ∧ algebraic_ForwardIdeal_ForwardReferenceIdeal (hForwardIdeal := hForwardIdeal) (hForwardReferenceIdeal := hForwardReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_Out_OutIdeal
    ∧ algebraic_OutIdeal_OutReferenceIdeal (hOutIdeal := hOutIdeal) (hOutReferenceIdeal := hOutReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Branch_BranchIdeal
    ∧ algebraic_BranchIdeal_BranchReferenceIdeal (hBranchIdeal := hBranchIdeal) (hBranchReferenceIdeal := hBranchReferenceIdeal)
    ∧ preserves_BranchSb_BranchSbIdeal
    ∧ algebraic_BranchSbIdeal_BranchSbReferenceIdeal (hBranchSbIdeal := hBranchSbIdeal) (hBranchSbReferenceIdeal := hBranchSbReferenceIdeal)
    ∧ preserves_BranchSbDw_BranchSbDwIdeal
    ∧ algebraic_BranchSbDwIdeal_BranchSbDwReferenceIdeal (hBranchSbDwIdeal := hBranchSbDwIdeal) (hBranchSbDwReferenceIdeal := hBranchSbDwReferenceIdeal)
    ∧ preserves_In_InIdeal
    ∧ algebraic_InIdeal_InReferenceIdeal (hInIdeal := hInIdeal) (hInReferenceIdeal := hInReferenceIdeal)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_Merge_MergeIdeal
    ∧ algebraic_MergeIdeal_MergeReferenceIdeal (hMergeIdeal := hMergeIdeal) (hMergeReferenceIdeal := hMergeReferenceIdeal)
    ∧ preserves_MergeDx_MergeDxIdeal
    ∧ algebraic_MergeDxIdeal_MergeDxReferenceIdeal (hMergeDxIdeal := hMergeDxIdeal) (hMergeDxReferenceIdeal := hMergeDxReferenceIdeal)
    ∧ preserves_DnPost_DnPostIdeal
    ∧ algebraic_DnPostIdeal_DnPostReferenceIdeal (hDnPostIdeal := hDnPostIdeal) (hDnPostReferenceIdeal := hDnPostReferenceIdeal)
    ∧ preserves_SsmPost_SsmPostIdeal
    ∧ algebraic_SsmPostIdeal_SsmPostReferenceIdeal (hSsmPostIdeal := hSsmPostIdeal) (hSsmPostReferenceIdeal := hSsmPostReferenceIdeal)
-- ==== Kernel.lean ====
abbrev S8x51712x128 : Shape := ⟨3, ![8, 51712, 128]⟩
abbrev S416x128 : Shape := ⟨2, ![416, 128]⟩
abbrev S51712x128 : Shape := ⟨2, ![51712, 128]⟩
abbrev S8x416x128 : Shape := ⟨3, ![8, 416, 128]⟩
abbrev S14 : Shape := ⟨1, ![14]⟩
abbrev S2 : Shape := ⟨1, ![2]⟩
abbrev S1 : Shape := ⟨1, ![1]⟩
abbrev S_ : Shape := ⟨0, ![]⟩
abbrev S1x51712x128 : Shape := ⟨3, ![1, 51712, 128]⟩
abbrev S1x416x128 : Shape := ⟨3, ![1, 416, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 12
  | .vmem => 18
  | .smem => 0
  | _ => 0

abbrev bufTy : (tb : Table) → Fin (tcTables nBuf tb) → BufTy
  | .hbm, ⟨0, _⟩ => ⟨S8x51712x128, .bf16⟩
  | .hbm, ⟨1, _⟩ => ⟨S416x128, .f32⟩
  | .hbm, ⟨2, _⟩ => ⟨S51712x128, .f32⟩
  | .hbm, ⟨3, _⟩ => ⟨S51712x128, .f32⟩
  | .hbm, ⟨4, _⟩ => ⟨S51712x128, .f32⟩
  | .hbm, ⟨5, _⟩ => ⟨S8x51712x128, .bf16⟩
  | .hbm, ⟨6, _⟩ => ⟨S8x416x128, .f32⟩
  | .hbm, ⟨7, _⟩ => ⟨S51712x128, .f32⟩
  | .hbm, ⟨8, _⟩ => ⟨S51712x128, .f32⟩
  | .hbm, ⟨9, _⟩ => ⟨S51712x128, .f32⟩
  | .hbm, ⟨10, _⟩ => ⟨S51712x128, .f32⟩
  | .hbm, ⟨11, _⟩ => ⟨S416x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S8x416x128, .f32⟩
  | .local _ .vmem, ⟨17, _⟩ => ⟨S416x128, .f32⟩
  | _, _ => ⟨S8x51712x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg1_0 : Ref sig .tc := ⟨.vmem, 17, rfl⟩
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc2_sem0_0 : DmaSem sig := 46
abbrev cc2_sem1_0 : DmaSem sig := 47

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) (c0_i32_12 : BitVec 32) (c0_i32_13 : BitVec 32) (c1_i32_14 : BitVec 32) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.xori v2 c0_i32_12
  let v26 : BitVec 32 := Scalar.muli c4_i32_15 v23
  let c2_i32_16 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.xori v5 c0_i32_13
  let v27 : BitVec 32 := Scalar.muli c2_i32_16 v24
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.xori v8 c1_i32_14
  let v29 : BitVec 32 := Scalar.addi v28 v25
  let c0_i32_55 : BitVec 32 := 0#32
  let c0_i32_56 : BitVec 32 := 0#32
  ![v29.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_12 : BitVec 32 := 0#32
  let v23 : BitVec 32 := Scalar.xori v2 c0_i32_12
  let c4_i32_49 : BitVec 32 := 4#32
  let v72 : BitVec 32 := Scalar.muli v23 c4_i32_49
  let v73 : BitVec 32 := Scalar.addi c0_i32_50 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_13 : BitVec 32 := 0#32
  let v24 : BitVec 32 := Scalar.xori v5 c0_i32_13
  let c2_i32_51 : BitVec 32 := 2#32
  let v74 : BitVec 32 := Scalar.muli v24 c2_i32_51
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.xori v8 c1_i32_14
  let c1_i32_52 : BitVec 32 := 1#32
  let v76 : BitVec 32 := Scalar.muli v25 c1_i32_52
  let v77 : BitVec 32 := Scalar.addi v75 v76
  v77.toNat
def k0_dev2 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_12 : BitVec 32 := 0#32
  let v23 : BitVec 32 := Scalar.xori v2 c0_i32_12
  let c4_i32_59 : BitVec 32 := 4#32
  let v86 : BitVec 32 := Scalar.muli v23 c4_i32_59
  let v87 : BitVec 32 := Scalar.addi c0_i32_60 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_13 : BitVec 32 := 0#32
  let v24 : BitVec 32 := Scalar.xori v5 c0_i32_13
  let c2_i32_61 : BitVec 32 := 2#32
  let v88 : BitVec 32 := Scalar.muli v24 c2_i32_61
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.xori v8 c1_i32_14
  let c1_i32_62 : BitVec 32 := 1#32
  let v90 : BitVec 32 := Scalar.muli v25 c1_i32_62
  let v91 : BitVec 32 := Scalar.addi v89 v90
  v91.toNat
def k0_dev3 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_17 : BitVec 32 := 0#32
  let v30 : BitVec 32 := Scalar.xori v2 c0_i32_17
  let c4_i32_67 : BitVec 32 := 4#32
  let v98 : BitVec 32 := Scalar.muli v30 c4_i32_67
  let v99 : BitVec 32 := Scalar.addi c0_i32_68 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_18 : BitVec 32 := 1#32
  let v31 : BitVec 32 := Scalar.xori v5 c1_i32_18
  let c2_i32_69 : BitVec 32 := 2#32
  let v100 : BitVec 32 := Scalar.muli v31 c2_i32_69
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let v32 : BitVec 32 := Scalar.xori v8 c0_i32_19
  let c1_i32_70 : BitVec 32 := 1#32
  let v102 : BitVec 32 := Scalar.muli v32 c1_i32_70
  let v103 : BitVec 32 := Scalar.addi v101 v102
  v103.toNat
def k0_dev4 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_17 : BitVec 32 := 0#32
  let v30 : BitVec 32 := Scalar.xori v2 c0_i32_17
  let c4_i32_76 : BitVec 32 := 4#32
  let v112 : BitVec 32 := Scalar.muli v30 c4_i32_76
  let v113 : BitVec 32 := Scalar.addi c0_i32_77 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_18 : BitVec 32 := 1#32
  let v31 : BitVec 32 := Scalar.xori v5 c1_i32_18
  let c2_i32_78 : BitVec 32 := 2#32
  let v114 : BitVec 32 := Scalar.muli v31 c2_i32_78
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let v32 : BitVec 32 := Scalar.xori v8 c0_i32_19
  let c1_i32_79 : BitVec 32 := 1#32
  let v116 : BitVec 32 := Scalar.muli v32 c1_i32_79
  let v117 : BitVec 32 := Scalar.addi v115 v116
  v117.toNat
def k0_dev5 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_22 : BitVec 32 := 0#32
  let v37 : BitVec 32 := Scalar.xori v2 c0_i32_22
  let c4_i32_84 : BitVec 32 := 4#32
  let v124 : BitVec 32 := Scalar.muli v37 c4_i32_84
  let v125 : BitVec 32 := Scalar.addi c0_i32_85 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v38 : BitVec 32 := Scalar.xori v5 c1_i32_23
  let c2_i32_86 : BitVec 32 := 2#32
  let v126 : BitVec 32 := Scalar.muli v38 c2_i32_86
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v39 : BitVec 32 := Scalar.xori v8 c1_i32_24
  let c1_i32_87 : BitVec 32 := 1#32
  let v128 : BitVec 32 := Scalar.muli v39 c1_i32_87
  let v129 : BitVec 32 := Scalar.addi v127 v128
  v129.toNat
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_22 : BitVec 32 := 0#32
  let v37 : BitVec 32 := Scalar.xori v2 c0_i32_22
  let c4_i32_93 : BitVec 32 := 4#32
  let v138 : BitVec 32 := Scalar.muli v37 c4_i32_93
  let v139 : BitVec 32 := Scalar.addi c0_i32_94 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v38 : BitVec 32 := Scalar.xori v5 c1_i32_23
  let c2_i32_95 : BitVec 32 := 2#32
  let v140 : BitVec 32 := Scalar.muli v38 c2_i32_95
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v39 : BitVec 32 := Scalar.xori v8 c1_i32_24
  let c1_i32_96 : BitVec 32 := 1#32
  let v142 : BitVec 32 := Scalar.muli v39 c1_i32_96
  let v143 : BitVec 32 := Scalar.addi v141 v142
  v143.toNat
def k0_dev7 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v44 : BitVec 32 := Scalar.xori v2 c1_i32_27
  let c4_i32_100 : BitVec 32 := 4#32
  let v150 : BitVec 32 := Scalar.muli v44 c4_i32_100
  let v151 : BitVec 32 := Scalar.addi c0_i32_101 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_28 : BitVec 32 := 0#32
  let v45 : BitVec 32 := Scalar.xori v5 c0_i32_28
  let c2_i32_102 : BitVec 32 := 2#32
  let v152 : BitVec 32 := Scalar.muli v45 c2_i32_102
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let v46 : BitVec 32 := Scalar.xori v8 c0_i32_29
  let c1_i32_103 : BitVec 32 := 1#32
  let v154 : BitVec 32 := Scalar.muli v46 c1_i32_103
  let v155 : BitVec 32 := Scalar.addi v153 v154
  v155.toNat
def k0_dev8 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_27 : BitVec 32 := 1#32
  let v44 : BitVec 32 := Scalar.xori v2 c1_i32_27
  let c4_i32_109 : BitVec 32 := 4#32
  let v164 : BitVec 32 := Scalar.muli v44 c4_i32_109
  let v165 : BitVec 32 := Scalar.addi c0_i32_110 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_28 : BitVec 32 := 0#32
  let v45 : BitVec 32 := Scalar.xori v5 c0_i32_28
  let c2_i32_111 : BitVec 32 := 2#32
  let v166 : BitVec 32 := Scalar.muli v45 c2_i32_111
  let v167 : BitVec 32 := Scalar.addi v165 v166
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let v46 : BitVec 32 := Scalar.xori v8 c0_i32_29
  let c1_i32_112 : BitVec 32 := 1#32
  let v168 : BitVec 32 := Scalar.muli v46 c1_i32_112
  let v169 : BitVec 32 := Scalar.addi v167 v168
  v169.toNat
def k0_dev9 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_32 : BitVec 32 := 1#32
  let v51 : BitVec 32 := Scalar.xori v2 c1_i32_32
  let c4_i32_116 : BitVec 32 := 4#32
  let v176 : BitVec 32 := Scalar.muli v51 c4_i32_116
  let v177 : BitVec 32 := Scalar.addi c0_i32_117 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_33 : BitVec 32 := 0#32
  let v52 : BitVec 32 := Scalar.xori v5 c0_i32_33
  let c2_i32_118 : BitVec 32 := 2#32
  let v178 : BitVec 32 := Scalar.muli v52 c2_i32_118
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v53 : BitVec 32 := Scalar.xori v8 c1_i32_34
  let c1_i32_119 : BitVec 32 := 1#32
  let v180 : BitVec 32 := Scalar.muli v53 c1_i32_119
  let v181 : BitVec 32 := Scalar.addi v179 v180
  v181.toNat
def k0_dev10 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_32 : BitVec 32 := 1#32
  let v51 : BitVec 32 := Scalar.xori v2 c1_i32_32
  let c4_i32_125 : BitVec 32 := 4#32
  let v190 : BitVec 32 := Scalar.muli v51 c4_i32_125
  let v191 : BitVec 32 := Scalar.addi c0_i32_126 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_33 : BitVec 32 := 0#32
  let v52 : BitVec 32 := Scalar.xori v5 c0_i32_33
  let c2_i32_127 : BitVec 32 := 2#32
  let v192 : BitVec 32 := Scalar.muli v52 c2_i32_127
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v53 : BitVec 32 := Scalar.xori v8 c1_i32_34
  let c1_i32_128 : BitVec 32 := 1#32
  let v194 : BitVec 32 := Scalar.muli v53 c1_i32_128
  let v195 : BitVec 32 := Scalar.addi v193 v194
  v195.toNat
def k0_dev11 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_37 : BitVec 32 := 1#32
  let v58 : BitVec 32 := Scalar.xori v2 c1_i32_37
  let c4_i32_132 : BitVec 32 := 4#32
  let v202 : BitVec 32 := Scalar.muli v58 c4_i32_132
  let v203 : BitVec 32 := Scalar.addi c0_i32_133 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_38 : BitVec 32 := 1#32
  let v59 : BitVec 32 := Scalar.xori v5 c1_i32_38
  let c2_i32_134 : BitVec 32 := 2#32
  let v204 : BitVec 32 := Scalar.muli v59 c2_i32_134
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let v60 : BitVec 32 := Scalar.xori v8 c0_i32_39
  let c1_i32_135 : BitVec 32 := 1#32
  let v206 : BitVec 32 := Scalar.muli v60 c1_i32_135
  let v207 : BitVec 32 := Scalar.addi v205 v206
  v207.toNat
def k0_dev12 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_37 : BitVec 32 := 1#32
  let v58 : BitVec 32 := Scalar.xori v2 c1_i32_37
  let c4_i32_141 : BitVec 32 := 4#32
  let v216 : BitVec 32 := Scalar.muli v58 c4_i32_141
  let v217 : BitVec 32 := Scalar.addi c0_i32_142 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_38 : BitVec 32 := 1#32
  let v59 : BitVec 32 := Scalar.xori v5 c1_i32_38
  let c2_i32_143 : BitVec 32 := 2#32
  let v218 : BitVec 32 := Scalar.muli v59 c2_i32_143
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let v60 : BitVec 32 := Scalar.xori v8 c0_i32_39
  let c1_i32_144 : BitVec 32 := 1#32
  let v220 : BitVec 32 := Scalar.muli v60 c1_i32_144
  let v221 : BitVec 32 := Scalar.addi v219 v220
  v221.toNat
def k0_dev13 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_42 : BitVec 32 := 1#32
  let v65 : BitVec 32 := Scalar.xori v2 c1_i32_42
  let c4_i32_148 : BitVec 32 := 4#32
  let v228 : BitVec 32 := Scalar.muli v65 c4_i32_148
  let v229 : BitVec 32 := Scalar.addi c0_i32_149 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_43 : BitVec 32 := 1#32
  let v66 : BitVec 32 := Scalar.xori v5 c1_i32_43
  let c2_i32_150 : BitVec 32 := 2#32
  let v230 : BitVec 32 := Scalar.muli v66 c2_i32_150
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v67 : BitVec 32 := Scalar.xori v8 c1_i32_44
  let c1_i32_151 : BitVec 32 := 1#32
  let v232 : BitVec 32 := Scalar.muli v67 c1_i32_151
  let v233 : BitVec 32 := Scalar.addi v231 v232
  v233.toNat
def k0_dev14 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_42 : BitVec 32 := 1#32
  let v65 : BitVec 32 := Scalar.xori v2 c1_i32_42
  let c4_i32_157 : BitVec 32 := 4#32
  let v242 : BitVec 32 := Scalar.muli v65 c4_i32_157
  let v243 : BitVec 32 := Scalar.addi c0_i32_158 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_43 : BitVec 32 := 1#32
  let v66 : BitVec 32 := Scalar.xori v5 c1_i32_43
  let c2_i32_159 : BitVec 32 := 2#32
  let v244 : BitVec 32 := Scalar.muli v66 c2_i32_159
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v67 : BitVec 32 := Scalar.xori v8 c1_i32_44
  let c1_i32_160 : BitVec 32 := 1#32
  let v246 : BitVec 32 := Scalar.muli v67 c1_i32_160
  let v247 : BitVec 32 := Scalar.addi v245 v246
  v247.toNat
abbrev grid1 : Pipeline.Grid := ⟨1, ![101], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x416x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S416x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]
-- ==== ReferenceIdeal.lean ====
abbrev S64x51712x128 : Shape := ⟨3, ![64, 51712, 128]⟩
abbrev S3328x128 : Shape := ⟨2, ![3328, 128]⟩
abbrev S413696x128 : Shape := ⟨2, ![413696, 128]⟩
abbrev S8x413696x128 : Shape := ⟨3, ![8, 413696, 128]⟩
abbrev S_ : Shape := ⟨0, ![]⟩
abbrev S8x416x128 : Shape := ⟨3, ![8, 416, 128]⟩
abbrev S416x128 : Shape := ⟨2, ![416, 128]⟩

abbrev nBuf : Space → Nat
  | .hbm => 45
  | .vmem => 0
  | .smem => 0
  | _ => 0

abbrev bufTy : (tb : Table) → Fin (tcTables nBuf tb) → BufTy
  | .hbm, ⟨0, _⟩ => ⟨S64x51712x128, .bf16⟩
  | .hbm, ⟨1, _⟩ => ⟨S3328x128, .f32⟩
  | .hbm, ⟨2, _⟩ => ⟨S413696x128, .f32⟩
  | .hbm, ⟨3, _⟩ => ⟨S413696x128, .f32⟩
  | .hbm, ⟨4, _⟩ => ⟨S413696x128, .f32⟩
  | .hbm, ⟨5, _⟩ => ⟨S8x413696x128, .bf16⟩
  | .hbm, ⟨6, _⟩ => ⟨S8x413696x128, .f32⟩
  | .hbm, ⟨7, _⟩ => ⟨S_, .f32⟩
  | .hbm, ⟨8, _⟩ => ⟨S413696x128, .f32⟩
  | .hbm, ⟨9, _⟩ => ⟨S_, .f32⟩
  | .hbm, ⟨10, _⟩ => ⟨S413696x128, .f32⟩
  | .hbm, ⟨11, _⟩ => ⟨S413696x128, .f32⟩
  | .hbm, ⟨12, _⟩ => ⟨S_, .f32⟩
  | .hbm, ⟨13, _⟩ => ⟨S413696x128, .f32⟩
  | .hbm, ⟨14, _⟩ => ⟨S413696x128, .f32⟩
  | .hbm, ⟨15, _⟩ => ⟨S413696x128, .f32⟩
  | .hbm, ⟨16, _⟩ => ⟨S_, .f32⟩
  | .hbm, ⟨17, _⟩ => ⟨S413696x128, .f32⟩
  | .hbm, ⟨18, _⟩ => ⟨S413696x128, .f32⟩
  | .hbm, ⟨19, _⟩ => ⟨S413696x128, .f32⟩
  | .hbm, ⟨20, _⟩ => ⟨S_, .f32⟩
  | .hbm, ⟨21, _⟩ => ⟨S413696x128, .f32⟩
  | .hbm, ⟨22, _⟩ => ⟨S413696x128, .f32⟩
  | .hbm, ⟨23, _⟩ => ⟨S413696x128, .f32⟩
  | .hbm, ⟨24, _⟩ => ⟨S_, .f32⟩
  | .hbm, ⟨25, _⟩ => ⟨S413696x128, .f32⟩
  | .hbm, ⟨26, _⟩ => ⟨S413696x128, .f32⟩
  | .hbm, ⟨27, _⟩ => ⟨S_, .f32⟩
  | .hbm, ⟨28, _⟩ => ⟨S413696x128, .f32⟩
  | .hbm, ⟨29, _⟩ => ⟨S413696x128, .f32⟩
  | .hbm, ⟨30, _⟩ => ⟨S413696x128, .f32⟩
  | .hbm, ⟨31, _⟩ => ⟨S_, .f32⟩
  | .hbm, ⟨32, _⟩ => ⟨S413696x128, .f32⟩
  | .hbm, ⟨33, _⟩ => ⟨S413696x128, .f32⟩
  | .hbm, ⟨34, _⟩ => ⟨S413696x128, .f32⟩
  | .hbm, ⟨35, _⟩ => ⟨S_, .f32⟩
  | .hbm, ⟨36, _⟩ => ⟨S413696x128, .f32⟩
  | .hbm, ⟨37, _⟩ => ⟨S413696x128, .f32⟩
  | .hbm, ⟨38, _⟩ => ⟨S413696x128, .f32⟩
  | .hbm, ⟨39, _⟩ => ⟨S_, .f32⟩
  | .hbm, ⟨40, _⟩ => ⟨S413696x128, .f32⟩
  | .hbm, ⟨41, _⟩ => ⟨S413696x128, .f32⟩
  | .hbm, ⟨42, _⟩ => ⟨S8x416x128, .f32⟩
  | .hbm, ⟨43, _⟩ => ⟨S_, .f32⟩
  | .hbm, ⟨44, _⟩ => ⟨S416x128, .f32⟩
  | _, _ => ⟨S64x51712x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Gather.lean ====
abbrev S51344x128 : Shape := ⟨2, ![51344, 128]⟩
abbrev S8x51344x128 : Shape := ⟨3, ![8, 51344, 128]⟩
abbrev S7 : Shape := ⟨1, ![7]⟩
abbrev S_ : Shape := ⟨0, ![]⟩
abbrev S1x51344x128 : Shape := ⟨3, ![1, 51344, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S51344x128, .bf16⟩
  | .hbm, ⟨1, _⟩ => ⟨S8x51344x128, .bf16⟩
  | _, _ => ⟨S51344x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherReference.lean ====
abbrev S410752x128 : Shape := ⟨2, ![410752, 128]⟩
abbrev S8x51344x128 : Shape := ⟨3, ![8, 51344, 128]⟩

abbrev nBuf : Space → Nat
  | .hbm => 2
  | .vmem => 0
  | .smem => 0
  | _ => 0

abbrev bufTy : (tb : Table) → Fin (tcTables nBuf tb) → BufTy
  | .hbm, ⟨0, _⟩ => ⟨S410752x128, .bf16⟩
  | .hbm, ⟨1, _⟩ => ⟨S8x51344x128, .bf16⟩
  | _, _ => ⟨S410752x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S144x128 : Shape := ⟨2, ![144, 128]⟩

abbrev nBuf : Space → Nat
  | .hbm => 7
  | .vmem => 7
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S144x128, .f32⟩
  | .hbm, ⟨5, _⟩ => ⟨S144x128, .f32⟩
  | .hbm, ⟨6, _⟩ => ⟨S144x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SmallReferenceIdeal.lean ====
abbrev S144x128 : Shape := ⟨2, ![144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S_, .f32⟩
  | .hbm, ⟨5, _⟩ => ⟨S144x128, .f32⟩
  | .hbm, ⟨6, _⟩ => ⟨S144x128, .f32⟩
  | .hbm, ⟨7, _⟩ => ⟨S_, .f32⟩
  | .hbm, ⟨8, _⟩ => ⟨S144x128, .f32⟩
  | .hbm, ⟨9, _⟩ => ⟨S144x128, .f32⟩
  | .hbm, ⟨10, _⟩ => ⟨S144x128, .f32⟩
  | .hbm, ⟨11, _⟩ => ⟨S_, .f32⟩
  | .hbm, ⟨12, _⟩ => ⟨S144x128, .f32⟩
  | .hbm, ⟨13, _⟩ => ⟨S144x128, .f32⟩
  | .hbm, ⟨14, _⟩ => ⟨S144x128, .f32⟩
  | .hbm, ⟨15, _⟩ => ⟨S_, .f32⟩
  | .hbm, ⟨16, _⟩ => ⟨S144x128, .f32⟩
  | .hbm, ⟨17, _⟩ => ⟨S144x128, .f32⟩
  | .hbm, ⟨18, _⟩ => ⟨S144x128, .f32⟩
  | .hbm, ⟨19, _⟩ => ⟨S_, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S144x128, .f32⟩
  | .hbm, ⟨26, _⟩ => ⟨S_, .f32⟩
  | .hbm, ⟨27, _⟩ => ⟨S144x128, .f32⟩
  | .hbm, ⟨28, _⟩ => ⟨S144x128, .f32⟩
  | .hbm, ⟨29, _⟩ => ⟨S144x128, .f32⟩
  | .hbm, ⟨30, _⟩ => ⟨S_, .f32⟩
  | .hbm, ⟨31, _⟩ => ⟨S144x128, .f32⟩
  | .hbm, ⟨32, _⟩ => ⟨S144x128, .f32⟩
  | .hbm, ⟨33, _⟩ => ⟨S144x128, .f32⟩
  | .hbm, ⟨34, _⟩ => ⟨S_, .f32⟩
  | .hbm, ⟨35, _⟩ => ⟨S144x128, .f32⟩
  | .hbm, ⟨36, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x1024 : Shape := ⟨2, ![2048, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x1, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Forward.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ForwardReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Up.lean ====
abbrev S2048x1024 : Shape := ⟨2, ![2048, 1024]⟩
abbrev S1024x4096 : Shape := ⟨2, ![1024, 4096]⟩
abbrev S2048x4096 : Shape := ⟨2, ![2048, 4096]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .hbm, ⟨3, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S2048x4096 : Shape := ⟨2, ![2048, 4096]⟩
abbrev S4096x1024 : Shape := ⟨2, ![4096, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S4096x1024, .f32⟩
  | .hbm, ⟨17, _⟩ => ⟨S1024x4096, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S2048x4096 : Shape := ⟨2, ![2048, 4096]⟩
abbrev S2048x1024 : Shape := ⟨2, ![2048, 1024]⟩
abbrev S4096x1024 : Shape := ⟨2, ![4096, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x4096 : Shape := ⟨2, ![2048, 4096]⟩
abbrev S2048x1024 : Shape := ⟨2, ![2048, 1024]⟩
abbrev S4096x2048 : Shape := ⟨2, ![4096, 2048]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S4096x2048, .f32⟩
  | .hbm, ⟨4, _⟩ => ⟨S2048x1024, .f32⟩
  | .hbm, ⟨5, _⟩ => ⟨S4096x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDw.lean ====
abbrev S2048x1024 : Shape := ⟨2, ![2048, 1024]⟩
abbrev S2048x4096 : Shape := ⟨2, ![2048, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S1024x2048, .f32⟩
  | .hbm, ⟨4, _⟩ => ⟨S2048x4096, .f32⟩
  | .hbm, ⟨5, _⟩ => ⟨S1024x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDx.lean ====
abbrev S2048x4096 : Shape := ⟨2, ![2048, 4096]⟩
abbrev S1024x4096 : Shape := ⟨2, ![1024, 4096]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S2048x4096 : Shape := ⟨2, ![2048, 4096]⟩
abbrev S1024x4096 : Shape := ⟨2, ![1024, 4096]⟩
abbrev S4096x1024 : Shape := ⟨2, ![4096, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x4096, .f32⟩
  | .hbm, ⟨3, _⟩ => ⟨S1024x4096, .f32⟩
  | .hbm, ⟨4, _⟩ => ⟨S4096x1024, .f32⟩
  | .hbm, ⟨5, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Branch.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchSb.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSbReferenceIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchSbDw.lean ====
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSbDwReferenceIdeal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x2048, .f32⟩
  | .hbm, ⟨3, _⟩ => ⟨S2048x1024, .f32⟩
  | .hbm, ⟨4, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In.lean ====
abbrev S2048x1024 : Shape := ⟨2, ![2048, 1024]⟩
abbrev S1024x13440 : Shape := ⟨2, ![1024, 13440]⟩
abbrev S2048x13440 : Shape := ⟨2, ![2048, 13440]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x13440, .bf16⟩
  | .hbm, ⟨2, _⟩ => ⟨S2048x13440, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 21, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2048x1024 : Shape := ⟨2, ![2048, 1024]⟩
abbrev S1024x13440 : Shape := ⟨2, ![1024, 13440]⟩
abbrev S2048x13440 : Shape := ⟨2, ![2048, 13440]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x13440, .bf16⟩
  | .hbm, ⟨2, _⟩ => ⟨S2048x1024, .f32⟩
  | .hbm, ⟨3, _⟩ => ⟨S1024x13440, .f32⟩
  | .hbm, ⟨4, _⟩ => ⟨S2048x13440, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDw.lean ====
abbrev S2048x1024 : Shape := ⟨2, ![2048, 1024]⟩
abbrev S2048x13440 : Shape := ⟨2, ![2048, 13440]⟩
abbrev S1024x13440 : Shape := ⟨2, ![1024, 13440]⟩
abbrev S1024x512 : Shape := ⟨2, ![1024, 512]⟩
abbrev S1024x640 : Shape := ⟨2, ![1024, 640]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x13440, .bf16⟩
  | .hbm, ⟨2, _⟩ => ⟨S1024x13440, .f32⟩
  | .local _ .vmem, ⟨0, _⟩ => ⟨S1024x512, .bf16⟩
  | .local _ .vmem, ⟨1, _⟩ => ⟨S1024x512, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 21, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x1024 : Shape := ⟨2, ![2048, 1024]⟩
abbrev S2048x13440 : Shape := ⟨2, ![2048, 13440]⟩
abbrev S1024x2048 : Shape := ⟨2, ![1024, 2048]⟩
abbrev S1024x13440 : Shape := ⟨2, ![1024, 13440]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x13440, .bf16⟩
  | .hbm, ⟨2, _⟩ => ⟨S2048x1024, .f32⟩
  | .hbm, ⟨3, _⟩ => ⟨S1024x2048, .f32⟩
  | .hbm, ⟨4, _⟩ => ⟨S2048x13440, .f32⟩
  | .hbm, ⟨5, _⟩ => ⟨S1024x13440, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDx.lean ====
abbrev S2048x13440 : Shape := ⟨2, ![2048, 13440]⟩
abbrev S1024x13440 : Shape := ⟨2, ![1024, 13440]⟩
abbrev S2048x1024 : Shape := ⟨2, ![2048, 1024]⟩
abbrev S512x1920 : Shape := ⟨2, ![512, 1920]⟩
abbrev S1024x1920 : Shape := ⟨2, ![1024, 1920]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x13440, .bf16⟩
  | .hbm, ⟨1, _⟩ => ⟨S1024x13440, .bf16⟩
  | .hbm, ⟨2, _⟩ => ⟨S2048x1024, .f32⟩
  | .local _ .vmem, ⟨0, _⟩ => ⟨S512x1920, .bf16⟩
  | .local _ .vmem, ⟨1, _⟩ => ⟨S512x1920, .bf16⟩
  | .local _ .vmem, ⟨2, _⟩ => ⟨S1024x1920, .bf16⟩
  | .local _ .vmem, ⟨3, _⟩ => ⟨S1024x1920, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S2048x13440 : Shape := ⟨2, ![2048, 13440]⟩
abbrev S1024x13440 : Shape := ⟨2, ![1024, 13440]⟩
abbrev S13440x1024 : Shape := ⟨2, ![13440, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x13440, .bf16⟩
  | .hbm, ⟨1, _⟩ => ⟨S1024x13440, .bf16⟩
  | .hbm, ⟨2, _⟩ => ⟨S2048x13440, .f32⟩
  | .hbm, ⟨3, _⟩ => ⟨S1024x13440, .f32⟩
  | .hbm, ⟨4, _⟩ => ⟨S13440x1024, .f32⟩
  | .hbm, ⟨5, _⟩ => ⟨S2048x1024, .f32⟩
  | _, _ => ⟨S2048x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S2048x3072 : Shape := ⟨2, ![2048, 3072]⟩
abbrev S2048x13440 : Shape := ⟨2, ![2048, 13440]⟩
abbrev S2048x1024 : Shape := ⟨2, ![2048, 1024]⟩
abbrev S256x1024 : Shape := ⟨2, ![256, 1024]⟩

abbrev nBuf : Space → Nat
  | .hbm => 3
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S2048x3072 : Shape := ⟨2, ![2048, 3072]⟩
abbrev S2048x13440 : Shape := ⟨2, ![2048, 13440]⟩
abbrev S_ : Shape := ⟨0, ![]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S_, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== MergeDx.lean ====
abbrev S2048x3072 : Shape := ⟨2, ![2048, 3072]⟩
abbrev S2048x13440 : Shape := ⟨2, ![2048, 13440]⟩
abbrev S2048x1024 : Shape := ⟨2, ![2048, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x1024, .f32⟩
  | .hbm, ⟨3, _⟩ => ⟨S2048x3072, .bf16⟩
  | .hbm, ⟨4, _⟩ => ⟨S2048x3072, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeDxReferenceIdeal.lean ====
abbrev S2048x3072 : Shape := ⟨2, ![2048, 3072]⟩
abbrev S2048x13440 : Shape := ⟨2, ![2048, 13440]⟩
abbrev S2048x1024 : Shape := ⟨2, ![2048, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x13440, .f32⟩
  | .hbm, ⟨2, _⟩ => ⟨S2048x1024, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S_, .f32⟩
  | .hbm, ⟨7, _⟩ => ⟨S2048x3072, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x3072, .bf16⟩
  | .hbm, ⟨22, _⟩ => ⟨S2048x3072, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== DnPost.lean ====
abbrev S2048x1024 : Shape := ⟨2, ![2048, 1024]⟩
abbrev S2048x13440 : Shape := ⟨2, ![2048, 13440]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x13440, .f32⟩
  | .hbm, ⟨2, _⟩ => ⟨S1x128, .f32⟩
  | .hbm, ⟨3, _⟩ => ⟨S2048x1024, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnPostReferenceIdeal.lean ====
abbrev S2048x1024 : Shape := ⟨2, ![2048, 1024]⟩
abbrev S2048x13440 : Shape := ⟨2, ![2048, 13440]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x13440, .f32⟩
  | .hbm, ⟨2, _⟩ => ⟨S1x128, .f32⟩
  | .hbm, ⟨3, _⟩ => ⟨S2048x8x128, .f32⟩
  | .hbm, ⟨4, _⟩ => ⟨S2048x8x128, .f32⟩
  | .hbm, ⟨5, _⟩ => ⟨S_, .f32⟩
  | .hbm, ⟨6, _⟩ => ⟨S2048x8, .f32⟩
  | .hbm, ⟨7, _⟩ => ⟨S2048x8x1, .f32⟩
  | .hbm, ⟨8, _⟩ => ⟨S_, .f32⟩
  | .hbm, ⟨9, _⟩ => ⟨S2048x8x1, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S2048x8x1, .f32⟩
  | .hbm, ⟨15, _⟩ => ⟨S2048x8x128, .f32⟩
  | .hbm, ⟨16, _⟩ => ⟨S2048x8x128, .f32⟩
  | .hbm, ⟨17, _⟩ => ⟨S1x1x128, .f32⟩
  | .hbm, ⟨18, _⟩ => ⟨S2048x8x128, .f32⟩
  | .hbm, ⟨19, _⟩ => ⟨S2048x8x128, .f32⟩
  | .hbm, ⟨20, _⟩ => ⟨S2048x1024, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S_, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8x128, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== SsmPost.lean ====
abbrev S2048x1024 : Shape := ⟨2, ![2048, 1024]⟩
abbrev S2048x2048 : Shape := ⟨2, ![2048, 2048]⟩
abbrev S2048x13440 : Shape := ⟨2, ![2048, 13440]⟩
abbrev S1x1024 : Shape := ⟨2, ![1, 1024]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x13440, .f32⟩
  | .hbm, ⟨3, _⟩ => ⟨S1x1024, .f32⟩
  | .hbm, ⟨4, _⟩ => ⟨S1x1024, .f32⟩
  | .hbm, ⟨5, _⟩ => ⟨S2048x1024, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S256x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsmPostReferenceIdeal.lean ====
abbrev S2048x1024 : Shape := ⟨2, ![2048, 1024]⟩
abbrev S2048x2048 : Shape := ⟨2, ![2048, 2048]⟩
abbrev S2048x13440 : Shape := ⟨2, ![2048, 13440]⟩
abbrev S1x1024 : Shape := ⟨2, ![1, 1024]⟩
abbrev S_ : Shape := ⟨0, ![]⟩
abbrev S2048x4x256 : Shape := ⟨3, ![2048, 4, 256]⟩
abbrev S4x256 : Shape := ⟨2, ![4, 256]⟩
abbrev S2048x4 : Shape := ⟨2, ![2048, 4]⟩
abbrev S2048x4x1 : Shape := ⟨3, ![2048, 4, 1]⟩
abbrev S1x4x256 : Shape := ⟨3, ![1, 4, 256]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x13440, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x4x256, .f32⟩
  | .hbm, ⟨21, _⟩ => ⟨S4x256, .f32⟩
  | .hbm, ⟨22, _⟩ => ⟨S2048x4x256, .f32⟩
  | .hbm, ⟨23, _⟩ => ⟨S_, .f32⟩
  | .hbm, ⟨24, _⟩ => ⟨S2048x4, .f32⟩
  | .hbm, ⟨25, _⟩ => ⟨S2048x4x1, .f32⟩
  | .hbm, ⟨26, _⟩ => ⟨S_, .f32⟩
  | .hbm, ⟨27, _⟩ => ⟨S2048x4x1, .f32⟩
  | .hbm, ⟨28, _⟩ => ⟨S2048x4x1, .f32⟩
  | .hbm, ⟨29, _⟩ => ⟨S_, .f32⟩
  | .hbm, ⟨30, _⟩ => ⟨S2048x4x1, .f32⟩
  | .hbm, ⟨31, _⟩ => ⟨S2048x4x1, .f32⟩
  | .hbm, ⟨32, _⟩ => ⟨S2048x4x1, .f32⟩
  | .hbm, ⟨33, _⟩ => ⟨S2048x4x256, .f32⟩
  | .hbm, ⟨34, _⟩ => ⟨S2048x4x256, .f32⟩
  | .hbm, ⟨35, _⟩ => ⟨S1x4x256, .f32⟩
  | .hbm, ⟨36, _⟩ => ⟨S2048x4x256, .f32⟩
  | .hbm, ⟨37, _⟩ => ⟨S2048x4x256, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.Slots.lean ====
/- The gradient exchange's slots: which block of which buffer goes where. -/
module

public import proofs.«01_k».proof.Proof.Gen.KernelIdeal
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.ValueLayout
public import Idealize.ShloMosaic.Lib.ShareLeaves
public import Idealize.ShloMosaic.Lib.Ring
public import Idealize.ShloMosaic.Lib.Pipeline.ValueKit.Tiles

@[expose] public section

noncomputable section

namespace Cert.Exchange

open Cert.KernelIdeal Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## Peers -/

/-- The device whose three mesh bits differ from `c`'s by those of `r + 1`. -/
def peer (r : Fin 7) (c : Dev nD) : Dev nD :=
  ⟨c.val ^^^ (r.val + 1), Nat.xor_lt_two_pow (n := 3) c.isLt (by have := r.isLt; omega)⟩

theorem peer_peer (r : Fin 7) (c : Dev nD) : peer r (peer r c) = c := by revert r c; decide
def peerEquiv (r : Fin 7) : Dev nD ≃ Dev nD := ⟨peer r, peer r, peer_peer r, peer_peer r⟩

/-! ## Slots -/

/-- A row of a block is that row of the array the block is a slot of. -/
theorem slot_emb {n a b : ℕ} (off : Fin 3 → ℕ) (p : Fin n) (h : off = ![p.val, 0, 0])
    (inb : ∀ x, off x + (![1, a, b] : Fin 3 → ℕ) x ≤ (⟨3, ![n, a, b]⟩ : Shape).size x)
    (hs : (⟨2, ![a, b]⟩ : Shape).numel = (⟨3, ![1, a, b]⟩ : Shape).numel) (i : Fin a) (j : Fin b) :
    (Rect.unit (s := ⟨3, ![n, a, b]⟩) off ![1, a, b] inb).idx (Shape.reshapeEquiv hs (ix2 i j)) = ix3 p i j := by
  subst h
  rw [ValueIdx.reshapeEquiv_ix2_1ab]
  funext x
  apply Fin.ext
  rw [Rect.idx_unit_val]
  fin_cases x <;> simp [ix3]
/-- A slot is what has its first index. -/
theorem slot_mem {n a b : ℕ} (off : Fin 3 → ℕ) (p : Fin n) (h : off = ![p.val, 0, 0])
    (inb : ∀ x, off x + (![1, a, b] : Fin 3 → ℕ) x ≤ (⟨3, ![n, a, b]⟩ : Shape).size x) (i : (⟨3, ![n, a, b]⟩ : Shape).Idx) :
    Iff (i ∈ (Rect.unit (s := ⟨3, ![n, a, b]⟩) off ![1, a, b] inb).set) ((i 0).val = p.val) := by
  subst h
  rw [Rect.mem_set_unit]
  constructor
  · intro h
    have h0 := h 0
    simp at h0
    omega
  · intro h x
    have h1 : (i 1).val < a := (i 1).isLt
    have h2 : (i 2).val < b := (i 2).isLt
    fin_cases x
    · simp; omega
    · simp; omega
    · simp; omega

/-- Slot `p` of the operand of eight blocks. -/
abbrev bM (p : Dev nD) : Memref sig .tc .hbm S51712x128 .bf16 :=
  ((Memref.whole main_arg0).slice (Rect.unit (s := S8x51712x128) (k0_off1 p) S1x51712x128.size (k0_off1_inb p)) (fun _ => rfl)).squeeze S51712x128 squeezes_S1x51712x128_S51712x128
/-- Slot `p` of the first result. -/
abbrev bO (p : Dev nD) : Memref sig .tc .hbm S51712x128 .bf16 :=
  ((Memref.whole main_v1_0).slice (Rect.unit (s := S8x51712x128) (k0_off1 p) S1x51712x128.size (k0_off1_inb p)) (fun _ => rfl)).squeeze S51712x128 squeezes_S1x51712x128_S51712x128
/-- The operand every device gets whole. -/
abbrev sM : Memref sig .tc .hbm S416x128 .f32 := Memref.whole main_arg1
/-- Slot `p` of the second result. -/
abbrev sO (p : Dev nD) : Memref sig .tc .hbm S416x128 .f32 :=
  ((Memref.whole main_v1_1).slice (Rect.unit (s := S8x416x128) (k0_off2 p) S1x416x128.size (k0_off2_inb p)) (fun _ => rfl)).squeeze S416x128 squeezes_S1x416x128_S416x128

theorem off1_apply (p : Dev nD) : k0_off1 p = ![p.val, 0, 0] := by revert p; decide
theorem off2_apply (p : Dev nD) : k0_off2 p = ![p.val, 0, 0] := by revert p; decide

theorem bM_emb (p : Dev nD) (i : Fin 51712) (j : Fin 128) : (bM p).view.emb (ix2 i j) = ix3 p i j :=
  slot_emb (k0_off1 p) p (off1_apply p) (k0_off1_inb p) _ i j
theorem bO_emb (p : Dev nD) (i : Fin 51712) (j : Fin 128) : (bO p).view.emb (ix2 i j) = ix3 p i j :=
  slot_emb (k0_off1 p) p (off1_apply p) (k0_off1_inb p) _ i j
theorem sO_emb (p : Dev nD) (i : Fin 416) (j : Fin 128) : (sO p).view.emb (ix2 i j) = ix3 p i j :=
  slot_emb (k0_off2 p) p (off2_apply p) (k0_off2_inb p) _ i j

theorem bM_set (p : Dev nD) : (bM p).view.set = (Rect.unit (s := S8x51712x128) (k0_off1 p) S1x51712x128.size (k0_off1_inb p)).set :=
  (View.set_reshape _ _).trans (View.set_slice_whole main_arg0 _)
theorem bO_set (p : Dev nD) : (bO p).view.set = (Rect.unit (s := S8x51712x128) (k0_off1 p) S1x51712x128.size (k0_off1_inb p)).set :=
  (View.set_reshape _ _).trans (View.set_slice_whole main_v1_0 _)
theorem sO_set (p : Dev nD) : (sO p).view.set = (Rect.unit (s := S8x416x128) (k0_off2 p) S1x416x128.size (k0_off2_inb p)).set :=
  (View.set_reshape _ _).trans (View.set_slice_whole main_v1_1 _)

theorem mem_big (p : Dev nD) (i : S8x51712x128.Idx) :
    Iff (i ∈ (Rect.unit (s := S8x51712x128) (k0_off1 p) S1x51712x128.size (k0_off1_inb p)).set) ((i 0).val = p.val) :=
  slot_mem (k0_off1 p) p (off1_apply p) (k0_off1_inb p) i
theorem mem_small (p : Dev nD) (i : S8x416x128.Idx) :
    Iff (i ∈ (Rect.unit (s := S8x416x128) (k0_off2 p) S1x416x128.size (k0_off2_inb p)).set) ((i 0).val = p.val) :=
  slot_mem (k0_off2 p) p (off2_apply p) (k0_off2_inb p) i

/-! ## Contents -/

abbrev BigBuf (F : FTy → Type) : Type := (main_arg0 : Ref sig .tc).ty.Contents (Elt F)
abbrev SmallBuf (F : FTy → Type) : Type := (main_arg1 : Ref sig .tc).ty.Contents (Elt F)
abbrev BigOut (F : FTy → Type) : Type := (main_v1_0 : Ref sig .tc).ty.Contents (Elt F)
abbrev SmallOut (F : FTy → Type) : Type := (main_v1_1 : Ref sig .tc).ty.Contents (Elt F)

variable (B : Dev nD → BigBuf F) (S : Dev nD → SmallBuf F)

/-- What device `c`'s first result ends with: slot `p` is slot `c` of device `p`'s operand. -/
def gatB (c : Dev nD) : BigOut F := fun i => B (i 0) (ix3 c (i 1) (i 2))
/-- What device `c`'s second result ends with: slot `p` is device `p`'s operand. -/
def gatS (c : Dev nD) : SmallOut F := fun i => S (i 0) (ix2 (i 1) (i 2))

theorem ix2_cases {a b : ℕ} (x : (⟨2, ![a, b]⟩ : Shape).Idx) : ∃ (i : Fin a) (j : Fin b), x = ix2 i j :=
  ⟨x 0, x 1, by funext k; fin_cases k <;> rfl⟩

theorem landB (p c : Dev nD) (fd : BigOut F) {i : S8x51712x128.Idx} (hi : i ∈ (bO p).view.set) :
    (bO p).view.write (Elt F) fd ((bM c).view.read (Elt F) (B p)) Finset.univ i = gatB B c i := by
  obtain ⟨x, -, rfl⟩ := Finset.mem_map.mp hi
  rw [View.write_emb_of_mem _ _ (Finset.mem_univ x), View.read_apply]
  obtain ⟨i, j, rfl⟩ := ix2_cases (a := 51712) (b := 128) x
  rw [bM_emb c i j, bO_emb p i j]
  rfl
theorem landS (p c : Dev nD) (fd : SmallOut F) {i : S8x416x128.Idx} (hi : i ∈ (sO p).view.set) :
    (sO p).view.write (Elt F) fd (sM.view.read (Elt F) (S p)) Finset.univ i = gatS S c i := by
  obtain ⟨x, -, rfl⟩ := Finset.mem_map.mp hi
  rw [View.write_emb_of_mem _ _ (Finset.mem_univ x), View.read_apply]
  obtain ⟨i, j, rfl⟩ := ix2_cases (a := 416) (b := 128) x
  rw [sO_emb p i j]
  rfl

end Cert.Exchange
-- ==== Proof.Proto.lean ====
/- The gradient exchange's protocol: which slot goes where, what every DMA semaphore's single round pays, and with what contents. -/
module

public import proofs.«01_k».proof.Proof.Slots
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.ValueLayout
public import Idealize.ShloMosaic.Lib.ShareLeaves
public import Idealize.ShloMosaic.Lib.Ring

@[expose] public section

noncomputable section

namespace Cert.Exchange

open Cert.KernelIdeal Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- Two copies of the rounds algebra: the pipelines' and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

variable (B : Dev nD → BigBuf F) (S : Dev nD → SmallBuf F)

/-! ## Points-tos of slots -/

/-- Slot `p` of device `c`'s operand. -/
abbrev bMpt (c p : Dev nD) (f : BigBuf F) : sProp 𝕄 :=
  (bM p).view.loc (c : Thread nD τ) ↦[(bM p).view.set]{fullShare} f
abbrev bOpt (c p : Dev nD) (f : BigOut F) : sProp 𝕄 :=
  (bO p).view.loc (c : Thread nD τ) ↦[(bO p).view.set]{fullShare} f
abbrev sMpt (c : Dev nD) (q : PosShare TreeShare) (f : SmallBuf F) : sProp 𝕄 :=
  sM.view.loc (c : Thread nD τ) ↦[sM.view.set]{q} f
abbrev sOpt (c p : Dev nD) (f : SmallOut F) : sProp 𝕄 :=
  (sO p).view.loc (c : Thread nD τ) ↦[(sO p).view.set]{fullShare} f

/-- One of eight shares of a buffer. -/
abbrev eighth (k : Fin 8) : PosShare TreeShare := ShareLeaves.leaf 3 fullShare k

/-! ## The semaphores -/

/-- What a DMA semaphore of the exchange counts: the departure or the arrival of a peer's block or of its small
    array, or one of the two local copies. -/
inductive Sm : Type
  | sendB (r : Fin 7) | sendS (r : Fin 7) | recvB (r : Fin 7) | recvS (r : Fin 7) | locB | locS
  deriving DecidableEq

namespace Sm
def num : Sm → Fin 30
  | sendB r => ⟨2 * r.val, by omega⟩
  | sendS r => ⟨2 * r.val + 1, by omega⟩
  | recvB r => ⟨14 + 2 * r.val, by omega⟩
  | recvS r => ⟨15 + 2 * r.val, by omega⟩
  | locB => 28
  | locS => 29
def ofNum (n : Fin 30) : Sm :=
  if h : n.val < 14 then (if n.val % 2 = 0 then sendB ⟨n.val / 2, by omega⟩ else sendS ⟨n.val / 2, by omega⟩)
  else if h' : n.val < 28 then (if n.val % 2 = 0 then recvB ⟨(n.val - 14) / 2, by omega⟩ else recvS ⟨(n.val - 14) / 2, by omega⟩)
  else if n.val = 28 then locB else locS
theorem ofNum_num (k : Sm) : ofNum k.num = k := by
  cases k with
  | sendB r => revert r; decide
  | sendS r => revert r; decide
  | recvB r => revert r; decide
  | recvS r => revert r; decide
  | locB => decide
  | locS => decide
theorem num_ofNum (n : Fin 30) : (ofNum n).num = n := by revert n; decide
def equiv : Sm ≃ Fin 30 := ⟨num, ofNum, ofNum_num, num_ofNum⟩
end Sm

instance : Fintype Sm := Fintype.ofEquiv (Fin 30) Sm.equiv.symm

/-- The DMA semaphore. -/
def dsem (k : Sm) : DmaSem sig := ⟨k.num.val, Nat.lt_of_lt_of_le k.num.isLt (by decide : 30 ≤ 48)⟩
theorem dsem_inj : Function.Injective dsem := fun a b h => by
  have : a.num = b.num := Fin.ext (show a.num.val = b.num.val from congrArg (fun x : DmaSem sig => x.val) h)
  exact Sm.equiv.injective this

abbrev cell (c : Dev nD) (k : Sm) : GSem nD τ sig := ((c : Thread nD τ), .dma (dsem k))

theorem cell_inj {c c' : Dev nD} {k k' : Sm} (h : cell c k = cell c' k') : c = c' ∧ k = k' := by
  constructor
  · exact congrArg (fun g : GSem nD τ sig => g.1.1) h
  · have h2 := congrArg (fun g : GSem nD τ sig => g.2) h
    exact dsem_inj (SemLoc.dma.inj h2)

/-- Which of the exchange's semaphores, if any. -/
def which : SemLoc sig → Option Sm
  | .dma n => if h : n.val < 30 then some (Sm.ofNum ⟨n.val, h⟩) else none
  | _ => none
theorem which_dsem (k : Sm) : which (.dma (dsem k)) = some k := by
  have h : (dsem k).val < 30 := k.num.isLt
  show (if h : (dsem k).val < 30 then some (Sm.ofNum ⟨(dsem k).val, h⟩) else none) = some k
  rw [dif_pos h]
  exact congrArg some (Sm.ofNum_num k)

/-! ## The schedule -/

@[irreducible] def NB : ℕ := (bO 0).view.dmaCredit
@[irreducible] def NS : ℕ := (sO 0).view.dmaCredit
theorem NB_pos : 0 < NB := by
  unfold NB
  exact (bO 0).view.dmaCredit_pos (Shape.numel_pos fun a => by fin_cases a <;> exact Nat.succ_pos _)
theorem NS_pos : 0 < NS := by
  unfold NS
  exact (sO 0).view.dmaCredit_pos h_S416x128
theorem bO_credit (p : Dev nD) : (bO p).view.dmaCredit = NB := by unfold NB; rfl
theorem bM_credit (p : Dev nD) : (bM p).view.dmaCredit = NB := by unfold NB; rfl
theorem sO_credit (p : Dev nD) : (sO p).view.dmaCredit = NS := by unfold NS; rfl
theorem sM_credit : sM.view.dmaCredit = NS := by unfold NS; rfl

def amt : Sm → ℕ
  | .sendB _ | .recvB _ | .locB => NB
  | .sendS _ | .recvS _ | .locS => NS
theorem amt_pos : (k : Sm) → 0 < amt k
  | .sendB _ | .recvB _ | .locB => NB_pos
  | .sendS _ | .recvS _ | .locS => NS_pos

def pay (c : Dev nD) : Sm → sProp 𝕄
  | .sendB r => bMpt c (peer r c) (B c)
  | .sendS r => sMpt c (eighth r.succ) (S c)
  | .recvB r => bOpt c (peer r c) (gatB B c)
  | .recvS r => sOpt c (peer r c) (gatS S c)
  | .locB => iprop(bOpt c c (gatB B c) ∗ bMpt c c (B c))
  | .locS => iprop(sOpt c c (gatS S c) ∗ sMpt c (eighth 0) (S c))

/-- One round with one duty on each of the thirty semaphores of each device. -/
def Rd : Rounds.Schedule (GSem nD τ sig) Unit 𝕄 where
  duties g r := if r = 0 then (match which g.2 with | some _ => {()} | none => ∅) else ∅
  unitless _ := False
  amount g _ _ := match which g.2 with | some k => amt k | none => 1
  payload g _ _ := match which g.2 with | some k => pay B S g.1.1 k | none => iprop(emp)
  amount_pos g _ _ _ := by
    cases h : which g.2 with
    | none => exact Nat.one_pos
    | some k => exact amt_pos k

instance pay_storable (c : Dev nD) (k : Sm) : BI.Storable (upEmb : UEmb _ 𝕄) (pay B S c k) := by
  cases k <;> (unfold pay; infer_instance)
instance Rd_storable (g : GSem nD τ sig) (r : ℕ) (d : Unit) : BI.Storable (upEmb : UEmb _ 𝕄) ((Rd B S).payload g r d) := by
  show BI.Storable upEmb (match which g.2 with | some k => pay B S g.1.1 k | none => iprop(emp))
  cases which g.2 <;> infer_instance

theorem Rd_duties (c : Dev nD) (k : Sm) : (Rd B S).duties (cell c k) 0 = {()} := by
  dsimp only [Rd]; rw [if_pos rfl, which_dsem]
theorem Rd_later (g : GSem nD τ sig) (r : ℕ) (h : 1 ≤ r) : (Rd B S).duties g r = ∅ := by
  dsimp only [Rd]; rw [if_neg (by omega)]
theorem Rd_amount (c : Dev nD) (k : Sm) (u : Unit) : (Rd B S).amount (cell c k) 0 u = amt k := by
  dsimp only [Rd]; rw [which_dsem]
theorem Rd_expect (c : Dev nD) (k : Sm) : (Rd B S).expect (cell c k) 0 = amt k := by
  unfold Schedule.expect Schedule.amountOf; rw [Rd_duties, Finset.sum_singleton, Rd_amount]
theorem Rd_payload (c : Dev nD) (k : Sm) (u : Unit) : (Rd B S).payload (cell c k) 0 u = pay B S c k := by
  dsimp only [Rd]; rw [which_dsem]
theorem Rd_rest (c : Dev nD) (k : Sm) :
    bigSep ((Rd B S).duties (cell c k) 0 \ ∅) (fun u => (Rd B S).payload (cell c k) 0 u) = pay B S c k := by
  rw [Finset.sdiff_empty, Rd_duties, bigSep_singleton, Rd_payload]
theorem Rd_mem (c : Dev nD) (k : Sm) : () ∈ (Rd B S).duties (cell c k) 0 := by
  rw [Rd_duties]; exact Finset.mem_singleton_self _

/-! ## What a device owes, in the order its copies pay it -/

/-- The credit the remote copies to the listed peers put there. -/
def left (c : Dev nD) : List (Fin 7) → CellTallies nD τ sig Unit
  | [] => 0
  | r :: l => left c l + tallyAt (cell (peer r c) (.recvS r)) () NS + tallyAt (cell (peer r c) (.recvB r)) () NB

abbrev O₀ (c : Dev nD) : CellTallies nD τ sig Unit := left c [0, 1, 2, 3, 4, 5, 6]

/-- Owing `O`, at some record of waits. -/
def ow (c : Dev nD) (O : CellTallies nD τ sig Unit) : sProp 𝕄 := iprop(∃ W, owes (c : Thread nD τ) O W)

/-! ## The records every device may consult -/

def cellEmb : Dev nD × Sm ↪ GSem nD τ sig :=
  ⟨fun ck => cell ck.1 ck.2, fun _ _ h => Prod.ext (cell_inj h).1 (cell_inj h).2⟩
def cells : Finset (GSem nD τ sig) := Finset.univ.map cellEmb
theorem cell_mem (c : Dev nD) (k : Sm) : cell c k ∈ cells := Finset.mem_map_of_mem cellEmb (Finset.mem_univ (c, k))

def recs (K : GSem nD τ sig → ℕ) : sProp 𝕄 :=
  iprop((bigSep cells fun g => cellInv EX (Rd B S) (K g) g) ∗ bigSep cells fun g => reached EX g 0)
instance recs_persistent (K : GSem nD τ sig → ℕ) : BI.Persistent (recs B S K) := by unfold recs; infer_instance
theorem inv_at (K : GSem nD τ sig → ℕ) (c : Dev nD) (k : Sm) :
    (bigSep cells fun g => (cellInv EX (Rd B S) (K g) g : sProp 𝕄)) ⊢ cellInv EX (Rd B S) (K (cell c k)) (cell c k) := bigSep_elim (cell_mem c k)
theorem reached_at (c : Dev nD) (k : Sm) : (bigSep cells fun g => (reached EX g 0 : sProp 𝕄)) ⊢ reached EX (cell c k) 0 := bigSep_elim (cell_mem c k)
theorem recs_inv (K : GSem nD τ sig → ℕ) (c : Dev nD) (k : Sm) : recs B S K ⊢ cellInv EX (Rd B S) (K (cell c k)) (cell c k) := by
  unfold recs
  iintro ⟨H, -⟩
  iapply (inv_at B S K c k); iexact H
theorem recs_reached (K : GSem nD τ sig → ℕ) (c : Dev nD) (k : Sm) : recs B S K ⊢ reached EX (cell c k) 0 := by
  unfold recs
  iintro ⟨-, H⟩
  iapply (reached_at (F := F) c k); iexact H

def L (g : GSem nD τ sig) : Finset Unit := if g.1.2 = .tc then {()} else ∅
def lv (_ : GSem nD τ sig) (_ : Unit) : ℕ := 1
theorem L_of_ne (g : GSem nD τ sig) (h : g.1.2 ≠ .tc) : L g = ∅ := if_neg h

end Cert.Exchange
-- ==== Proof.Body.lean ====
/- The gradient exchange's body, one copy or wait at a time. -/
module

public import proofs.«01_k».proof.Proof.Proto
public import proofs.«01_k».proof.Proof.Gen.KernelIdeal.Skeleton

@[expose] public section

noncomputable section

namespace Cert.Exchange

open Cert.KernelIdeal Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

abbrev 𝒱₀ : Variants := Variants.none

variable (B : Dev nD → BigBuf F) (S : Dev nD → SmallBuf F) (K : GSem nD τ sig → ℕ) (c : Dev nD)

/-- A semaphore's counter back at zero, with what its round paid. -/
def got (k : Sm) : sProp 𝕄 := iprop(semVal (cell c k) 0 ∗ pay B S c k)

theorem pay_recvB (c : Dev nD) (r : Fin 7) : pay B S c (.recvB r) = bOpt c (peer r c) (gatB B c) := rfl
theorem pay_recvS (c : Dev nD) (r : Fin 7) : pay B S c (.recvS r) = sOpt c (peer r c) (gatS S c) := rfl

theorem landB_all (p c : Dev nD) (f : BigOut F) : ∀ i ∈ (bO p).view.set,
    (bO p).view.write (Elt F) f ((bM c).view.read (Elt F) (B p)) Finset.univ i = gatB B c i := fun i hi => landB B p c f hi
theorem bOpt_congr (p c : Dev nD) (f g : BigOut F) (h : ∀ i ∈ (bO p).view.set, f i = g i) : bOpt c p f = bOpt c p g := pointsTo_congr h
/-- A slot that a block was copied into, at what it holds then. -/
theorem landB_pt (p c : Dev nD) (f : BigOut F) :
    (((bO p).view.loc (c : Thread nD τ) ↦[(bO p).view.set]{fullShare} ((bO p).view.write (Elt F) f ((bM c).view.read (Elt F) (B p)) Finset.univ)) : sProp 𝕄)
      = bOpt c p (gatB B c) := bOpt_congr p c _ _ (landB_all B p c f)
theorem landS_pt (p c : Dev nD) (f : SmallOut F) :
    (((sO p).view.loc (c : Thread nD τ) ↦[(sO p).view.set]{fullShare} ((sO p).view.write (Elt F) f (sM.view.read (Elt F) (S p)) Finset.univ)) : sProp 𝕄)
      = sOpt c p (gatS S c) := pointsTo_congr fun i hi => landS S p c f hi

/-- A wait, with nothing owed: the round is over, and the counter is taken out of its invariant. -/
theorem step_wait (k : Sm) {w : TpuEff nD τ sig (Elt F) Λ₀ .tc PUnit} {sm : DmaSem sig} {k' : ℕ}
    (hw : ∀ Q : PUnit → sProp 𝕄, wpE (defs₀ (F := F)) 𝒱₀ (c : Thread nD τ) none Set.univ w Q = waitSpec (c : Thread nD τ) Set.univ (.dma sm) k' Q)
    (hs : sm = dsem k) (hk : k' = amt k) {cont : PUnit → Prog (TpuEff nD τ sig (Elt F) Λ₀ .tc) PUnit} {Q : PUnit → sProp 𝕄} :
    iprop(recs B S K ∗ cred (tallyAt (cell c k) () (amt k)) ∗ atPos EX (cell c k) 0 ∅ 0 ∗ ow c 0)
      ⊢ iprop(((got B S c k ∗ ow c 0) -∗ wp frame (wpE (defs₀ (F := F)) 𝒱₀ (c : Thread nD τ) none) Set.univ (cont ⟨⟩) Q)
        -∗ wp frame (wpE (defs₀ (F := F)) 𝒱₀ (c : Thread nD τ) none) Set.univ (.op w cont) Q) := by
  subst hs hk
  unfold ow got
  iintro ⟨#HR, Hc, Hat, %W, HO⟩ Hk
  ihave #HI := (recs_inv B S K c k) $$ HR
  iapply (Rounds.wp_wait_rest_token 𝒱₀ EX (Rd B S) (c : Thread nD τ) none (κ := K (cell c k)) hw (Set.mem_univ _) ()
    (O := 0) (W := W) (R := 0) (m := 0) (T := ∅) ((Nat.zero_add _).trans (Rd_expect B S c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close EX (Rd B S) (g := cell c k) (κ := K (cell c k)) (Es := Set.univ) (Set.mem_univ _) (fun h => h) (R := 1)
    (fun r h => Rd_later B S _ r h)) $$ [Hat] with Hv
  · isplitr; · iexact HI
    iexact Hat
  ihave Hpay' := (Entails.of_eq (Rd_rest B S c k)) $$ Hpay
  iapply Hk
  isplitl [Hv Hpay']
  · isplitl [Hv] <;> iassumption
  iexists _; iexact HO

/-- What a wait takes: the credit and the position of its semaphore. -/
def rdy (k : Sm) : sProp 𝕄 := iprop(cred (tallyAt (cell c k) () (amt k)) ∗ atPos EX (cell c k) 0 ∅ 0)

/-- Two waits in a row. -/
theorem step_waits (k k₂ : Sm) {w w₂ : TpuEff nD τ sig (Elt F) Λ₀ .tc PUnit} {sm sm₂ : DmaSem sig} {n n₂ : ℕ}
    (hw : ∀ Q : PUnit → sProp 𝕄, wpE (defs₀ (F := F)) 𝒱₀ (c : Thread nD τ) none Set.univ w Q = waitSpec (c : Thread nD τ) Set.univ (.dma sm) n Q)
    (hw₂ : ∀ Q : PUnit → sProp 𝕄, wpE (defs₀ (F := F)) 𝒱₀ (c : Thread nD τ) none Set.univ w₂ Q = waitSpec (c : Thread nD τ) Set.univ (.dma sm₂) n₂ Q)
    (hs : sm = dsem k) (hk : n = amt k) (hs₂ : sm₂ = dsem k₂) (hk₂ : n₂ = amt k₂)
    {cont : PUnit → Prog (TpuEff nD τ sig (Elt F) Λ₀ .tc) PUnit} {Q : PUnit → sProp 𝕄} :
    iprop(recs B S K ∗ (rdy c k ∗ rdy c k₂) ∗ ow c 0)
      ⊢ iprop(((got B S c k ∗ got B S c k₂) -∗ ow c 0 -∗ wp frame (wpE (defs₀ (F := F)) 𝒱₀ (c : Thread nD τ) none) Set.univ (cont ⟨⟩) Q)
        -∗ wp frame (wpE (defs₀ (F := F)) 𝒱₀ (c : Thread nD τ) none) Set.univ (.op w fun _ => .op w₂ cont) Q) := by
  unfold rdy
  iintro ⟨#HR, ⟨⟨Hc, Ha⟩, ⟨Hc₂, Ha₂⟩⟩, HO⟩ Hk
  iapply (step_wait B S K c k hw hs hk) $$ [Hc Ha HO]
  · isplitr; · iexact HR
    isplitl [Hc]; · iexact Hc
    isplitl [Ha] <;> iassumption
  iintro ⟨Hg, HO⟩
  iapply (step_wait B S K c k₂ hw₂ hs₂ hk₂) $$ [Hc₂ Ha₂ HO]
  · isplitr; · iexact HR
    isplitl [Hc₂]; · iexact Hc₂
    isplitl [Ha₂] <;> iassumption
  iintro ⟨Hg₂, HO⟩
  iapply Hk $$ [Hg Hg₂] [HO]
  · isplitl [Hg] <;> iassumption
  iexact HO

/-- The copy of this device's own block. -/
theorem step_locB {sm : DmaSem sig} (hs : sm = dsem .locB)
    {hsrc : (bM c).view.WordExact} {hdst : (bO c).view.WordExact} {hsem}
    {cont : PUnit → Prog (TpuEff nD τ sig (Elt F) Λ₀ .tc) PUnit} {Q : PUnit → sProp 𝕄} :
    iprop(recs B S K ∗ bMpt c c (B c) ∗ (∃ f, bOpt c c f) ∗ dutyTok EX (cell c .locB) 0 ())
      ⊢ iprop((cred (tallyAt (cell c .locB) () (amt .locB)) -∗ wp frame (wpE (defs₀ (F := F)) 𝒱₀ (c : Thread nD τ) none) Set.univ (cont ⟨⟩) Q)
        -∗ wp frame (wpE (defs₀ (F := F)) 𝒱₀ (c : Thread nD τ) none) Set.univ (.op (.enqueueDma (bM c) (.here (bO c)) (.dma sm) hsrc hdst hsem) cont) Q) := by
  subst hs
  iintro ⟨#HR, Hs, ⟨%f, Hd⟩, Ht⟩ Hk
  ihave #HI := (recs_inv B S K c .locB) $$ HR
  ihave #Hr := (recs_reached B S K c .locB) $$ HR
  iapply (Rounds.wp_copy_pointsTo 𝒱₀ EX (Rd B S) (c : Thread nD τ) none (src := bM c) (dst := bO c) (sem := .dma (dsem .locB)) (q := fullShare)
    (fs := B c) (fd := f) (r := 0) (d := ()) (κ := K (cell c .locB)) (Rd_mem B S c .locB) () (amt .locB) (bO_credit c) (Rd_amount B S c .locB ())
    (by rw [Rd_payload, landB_pt B c c f]; exact BI.Entails.refl _)) $$ [Hs Hd Ht]
  · isplitr; · iexact HI
    isplitl [Hs]; · iexact Hs
    isplitl [Hd]; · iexact Hd
    isplitl [Ht]; · iexact Ht
    iexact Hr
  iexact Hk

/-- The copy of this device's own small array. -/
theorem step_locS {sm : DmaSem sig} (hs : sm = dsem .locS)
    {hsrc : sM.view.WordExact} {hdst : (sO c).view.WordExact} {hsem}
    {cont : PUnit → Prog (TpuEff nD τ sig (Elt F) Λ₀ .tc) PUnit} {Q : PUnit → sProp 𝕄} :
    iprop(recs B S K ∗ sMpt c (eighth 0) (S c) ∗ (∃ f, sOpt c c f) ∗ dutyTok EX (cell c .locS) 0 ())
      ⊢ iprop((cred (tallyAt (cell c .locS) () (amt .locS)) -∗ wp frame (wpE (defs₀ (F := F)) 𝒱₀ (c : Thread nD τ) none) Set.univ (cont ⟨⟩) Q)
        -∗ wp frame (wpE (defs₀ (F := F)) 𝒱₀ (c : Thread nD τ) none) Set.univ (.op (.enqueueDma sM (.here (sO c)) (.dma sm) hsrc hdst hsem) cont) Q) := by
  subst hs
  iintro ⟨#HR, Hs, ⟨%f, Hd⟩, Ht⟩ Hk
  ihave #HI := (recs_inv B S K c .locS) $$ HR
  ihave #Hr := (recs_reached B S K c .locS) $$ HR
  iapply (Rounds.wp_copy_pointsTo 𝒱₀ EX (Rd B S) (c : Thread nD τ) none (src := sM) (dst := sO c) (sem := .dma (dsem .locS)) (q := eighth 0)
    (fs := S c) (fd := f) (r := 0) (d := ()) (κ := K (cell c .locS)) (Rd_mem B S c .locS) () (amt .locS) (sO_credit c) (Rd_amount B S c .locS ())
    (by rw [Rd_payload, landS_pt S c c f]; exact BI.Entails.refl _)) $$ [Hs Hd Ht]
  · isplitr; · iexact HI
    isplitl [Hs]; · iexact Hs
    isplitl [Hd]; · iexact Hd
    isplitl [Ht]; · iexact Ht
    iexact Hr
  iexact Hk

/-- What the two copies to one peer take. -/
def kit (r : Fin 7) : sProp 𝕄 :=
  iprop((bMpt c (peer r c) (B c) ∗ (∃ f, bOpt (peer r c) c f) ∗ dutyTok EX (cell c (.sendB r)) 0 () ∗ dutyTok EX (cell (peer r c) (.recvB r)) 0 ())
    ∗ (sMpt c (eighth r.succ) (S c) ∗ (∃ f, sOpt (peer r c) c f) ∗ dutyTok EX (cell c (.sendS r)) 0 () ∗ dutyTok EX (cell (peer r c) (.recvS r)) 0 ())
    ∗ atPos EX (cell c (.sendB r)) 0 ∅ 0 ∗ atPos EX (cell c (.sendS r)) 0 ∅ 0)

/-- The two remote copies to one peer. -/
theorem step_send (r : Fin 7) (l : List (Fin 7)) {off : Fin 3 → ℕ} {inb : ∀ a, off a + S1x51712x128.size a ≤ S8x51712x128.size a}
    (hoff : off = k0_off1 (peer r c)) {d d' : Dev nD} (hd : d = peer r c) (hd' : d' = peer r c)
    {s₁ s₂ s₃ s₄ : DmaSem sig} (h₁ : s₁ = dsem (.sendB r)) (h₂ : s₂ = dsem (.recvB r)) (h₃ : s₃ = dsem (.sendS r)) (h₄ : s₄ = dsem (.recvS r))
    {hsrc : (((Memref.whole main_arg0).slice (Rect.unit (s := S8x51712x128) off S1x51712x128.size inb) (fun _ => rfl)).squeeze S51712x128 squeezes_S1x51712x128_S51712x128).view.WordExact}
    {hdst : (bO c).view.WordExact} {hsc} {hsem}
    {hsrc' : sM.view.WordExact} {hdst' : (sO c).view.WordExact} {hsc'} {hsem'}
    {cont : PUnit → Prog (TpuEff nD τ sig (Elt F) Λ₀ .tc) PUnit} {Q : PUnit → sProp 𝕄} :
    iprop(recs B S K ∗ kit B S c r ∗ ow c (left c (r :: l)))
      ⊢ iprop(((rdy c (.sendB r) ∗ rdy c (.sendS r)) -∗ ow c (left c l)
            -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (((Memref.whole main_arg0).slice (Rect.unit (s := S8x51712x128) off S1x51712x128.size inb) (fun _ => rfl)).squeeze S51712x128 squeezes_S1x51712x128_S51712x128)
              (.remote (Dev.tc d) (bO c) (.dma s₁) hsc) (.dma s₂) hsrc hdst hsem)
            fun _ => .op (.enqueueDma sM (.remote (Dev.tc d') (sO c) (.dma s₃) hsc') (.dma s₄) hsrc' hdst' hsem') cont) Q) := by
  subst hoff hd hd' h₁ h₂ h₃ h₄
  unfold ow kit rdy
  iintro ⟨#HR, ⟨⟨Hs, ⟨%f, Hd⟩, Ht, Hu⟩, ⟨Hs', ⟨%f', Hd'⟩, Ht', Hu'⟩, Ha, Ha'⟩, %W, HO⟩ Hk
  ihave #HI1 := (recs_inv B S K c (.sendB r)) $$ HR
  ihave #HI2 := (recs_inv B S K (peer r c) (.recvB r)) $$ HR
  ihave #HI3 := (recs_inv B S K c (.sendS r)) $$ HR
  ihave #HI4 := (recs_inv B S K (peer r c) (.recvS r)) $$ HR
  ihave #Hr1 := (recs_reached B S K c (.sendB r)) $$ HR
  ihave #Hr2 := (recs_reached B S K (peer r c) (.recvB r)) $$ HR
  ihave #Hr3 := (recs_reached B S K c (.sendS r)) $$ HR
  ihave #Hr4 := (recs_reached B S K (peer r c) (.recvS r)) $$ HR
  iapply (Rounds.wp_send_pointsTo 𝒱₀ EX (Rd B S) (c : Thread nD τ) none (c' := (peer r c : Thread nD τ)) (src := bM (peer r c)) (dst := bO c)
      (sS := .dma (dsem (.sendB r))) (sem := .dma (dsem (.recvB r))) (q := fullShare) (fs := B c)
      (κ₁ := K (cell c (.sendB r))) (κ₂ := K (cell (peer r c) (.recvB r))) (r₁ := 0) (r₂ := 0) (d₁ := ()) (d₂ := ()) (fd := f)
      (Rd_mem B S c (.sendB r)) (Rd_mem B S (peer r c) (.recvB r)) () () NB (bO_credit c)
      (Rd_amount B S c (.sendB r) ()) (Rd_amount B S (peer r c) (.recvB r) ())
      (left c l + tallyAt (cell (peer r c) (.recvS r)) () NS) rfl (W := W)
      (by rw [Rd_payload]; exact BI.Entails.refl _)
      (by rw [Rd_payload, landB_pt B c (peer r c) f]; rw [pay_recvB, peer_peer])) $$ [Hs Hd HO Ht Hu]
  · isplitr; · iexact HI1
    isplitr; · iexact HI2
    isplitl [Hs]; · iexact Hs
    isplitl [Hd]; · iexact Hd
    isplitl [HO]; · iexact HO
    isplitl [Ht]; · iexact Ht
    isplitr; · iexact Hr1
    isplitl [Hu]; · iexact Hu
    iexact Hr2
  iintro ⟨Hc, HO⟩
  iapply (Rounds.wp_send_pointsTo 𝒱₀ EX (Rd B S) (c : Thread nD τ) none (c' := (peer r c : Thread nD τ)) (src := sM) (dst := sO c)
      (sS := .dma (dsem (.sendS r))) (sem := .dma (dsem (.recvS r))) (q := eighth r.succ) (fs := S c)
      (κ₁ := K (cell c (.sendS r))) (κ₂ := K (cell (peer r c) (.recvS r))) (r₁ := 0) (r₂ := 0) (d₁ := ()) (d₂ := ()) (fd := f')
      (Rd_mem B S c (.sendS r)) (Rd_mem B S (peer r c) (.recvS r)) () () NS (sO_credit c)
      (Rd_amount B S c (.sendS r) ()) (Rd_amount B S (peer r c) (.recvS r) ())
      (left c l) rfl (W := W)
      (by rw [Rd_payload]; exact BI.Entails.refl _)
      (by rw [Rd_payload, landS_pt S c (peer r c) f']; rw [pay_recvS, peer_peer])) $$ [Hs' Hd' HO Ht' Hu']
  · isplitr; · iexact HI3
    isplitr; · iexact HI4
    isplitl [Hs']; · iexact Hs'
    isplitl [Hd']; · iexact Hd'
    isplitl [HO]; · iexact HO
    isplitl [Ht']; · iexact Ht'
    isplitr; · iexact Hr3
    isplitl [Hu']; · iexact Hu'
    iexact Hr4
  iintro ⟨Hc', HO⟩
  iapply Hk $$ [Hc Hc' Ha Ha'] [HO]
  · isplitl [Hc Ha]
    · isplitl [Hc]; · iexact Hc
      iexact Ha
    · isplitl [Hc']; · iexact Hc'
      iexact Ha'
  iexists W; iexact HO

end Cert.Exchange
-- ==== Proof.Run.lean ====
/- The gradient exchange's body from start to end. -/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Dev nD → BigBuf F) (S : Dev nD → SmallBuf F) (K : GSem nD τ sig → ℕ) (c : Dev nD)

/-- The block a device sends to a peer is the peer's slot. -/
theorem src_eq : ∀ (r : Fin 7) (c : Dev nD), k0_off3 c (BitVec.ofNat 32 ((r.val + 1) / 4)) (BitVec.ofNat 32 ((r.val + 1) / 2 % 2)) (BitVec.ofNat 32 ((r.val + 1) % 2))
    = k0_off1 (peer r c) := by decide

theorem src_credit (off : Fin 3 → ℕ) (inb : ∀ a, off a + S1x51712x128.size a ≤ S8x51712x128.size a) :
    (((Memref.whole main_arg0).slice (Rect.unit (s := S8x51712x128) off S1x51712x128.size inb) (fun _ => rfl)).squeeze S51712x128 squeezes_S1x51712x128_S51712x128).view.dmaCredit = NB := by
  unfold NB; rfl

theorem sep7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

/-- What a device starts its exchange with. -/
def start : sProp 𝕄 :=
  iprop((bMpt c c (B c) ∗ (∃ f, bOpt c c f) ∗ dutyTok EX (cell c .locB) 0 ())
    ∗ (sMpt c (eighth 0) (S c) ∗ (∃ f, sOpt c c f) ∗ dutyTok EX (cell c .locS) 0 ())
    ∗ atPos EX (cell c .locB) 0 ∅ 0 ∗ atPos EX (cell c .locS) 0 ∅ 0
    ∗ (bigSep Finset.univ fun r => kit B S c r)
    ∗ (bigSep Finset.univ fun r : Fin 7 => iprop(rdy c (.recvB r) ∗ rdy c (.recvS r))))

/-- What it ends it with. -/
def finish : sProp 𝕄 :=
  iprop(got B S c .locB ∗ got B S c .locS
    ∗ (bigSep Finset.univ fun r : Fin 7 => iprop(got B S c (.sendB r) ∗ got B S c (.sendS r)))
    ∗ (bigSep Finset.univ fun r : Fin 7 => iprop(got B S c (.recvB r) ∗ got B S c (.recvS r))))

set_option maxHeartbeats 4000000 in
theorem body_run (Q : PUnit → sProp 𝕄) :
    iprop((recs B S K ∗ start B S c ∗ ow c (O₀ c)) ∗ (finish B S c -∗ ow c 0 -∗ Q ⟨⟩))
      ⊢ wp frame (wpE (defs₀ (F := F)) 𝒱₀ (c : Thread nD τ) none) Set.univ
        (cc0_grad_exchange (F := F) (Memref.whole main_arg0) (Memref.isWhole_whole _) (Memref.whole main_arg1) (Memref.isWhole_whole _) (Memref.whole main_v1_0) (Memref.isWhole_whole _) (Memref.whole main_v1_1) (Memref.isWhole_whole _) cc0_scratch0 cc0_scratch1 cc0_scratch2) Q := by
  have hd0 : ∀ c : Dev nD, k0_dev1 c = (peer 0 c).val ∧ k0_dev2 c = (peer 0 c).val := by decide
  have hd1 : ∀ c : Dev nD, k0_dev3 c = (peer 1 c).val ∧ k0_dev4 c = (peer 1 c).val := by decide
  have hd2 : ∀ c : Dev nD, k0_dev5 c = (peer 2 c).val ∧ k0_dev6 c = (peer 2 c).val := by decide
  have hd3 : ∀ c : Dev nD, k0_dev7 c = (peer 3 c).val ∧ k0_dev8 c = (peer 3 c).val := by decide
  have hd4 : ∀ c : Dev nD, k0_dev9 c = (peer 4 c).val ∧ k0_dev10 c = (peer 4 c).val := by decide
  have hd5 : ∀ c : Dev nD, k0_dev11 c = (peer 5 c).val ∧ k0_dev12 c = (peer 5 c).val := by decide
  have hd6 : ∀ c : Dev nD, k0_dev13 c = (peer 6 c).val ∧ k0_dev14 c = (peer 6 c).val := by decide
  simp only [cc0_grad_exchange_eq_skeleton]; unfold cc0_grad_exchange_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel
    k0_part13_skel k0_part14_skel k0_part15_skel
  simp only [Prog.lift, Prog.bind_op, Prog.bind_ret, Prog.pure_eq_ret, Prog.bind_assoc, wp_deviceId]
  unfold start finish
  rw [sep7, sep7, sep7, sep7]
  iintro ⟨⟨#HR, ⟨⟨Hb, HbO, HtB⟩, ⟨Hs, HsO, HtS⟩, HaB, HaS, ⟨K0, K1, K2, K3, K4, K5, K6⟩, ⟨W0, W1, W2, W3, W4, W5, W6⟩⟩, HO⟩, Hk⟩
  iapply (step_locB B S K c rfl) $$ [Hb HbO HtB]
  · isplitr; · iexact HR
    isplitl [Hb]; · iexact Hb
    isplitl [HbO] <;> iassumption
  iintro HcB
  iapply (step_locS B S K c rfl) $$ [Hs HsO HtS]
  · isplitr; · iexact HR
    isplitl [Hs]; · iexact Hs
    isplitl [HsO] <;> iassumption
  iintro HcS
  iapply (step_send B S K c 0 [1, 2, 3, 4, 5, 6] (src_eq 0 c) (d := ⟨k0_dev1 c, k0_dev1_lt c⟩) (d' := ⟨k0_dev2 c, k0_dev2_lt c⟩) (Fin.ext (hd0 c).1) (Fin.ext (hd0 c).2) rfl rfl rfl rfl) $$ [K0 HO]
  · isplitr; · iexact HR
    isplitl [K0] <;> iassumption
  iintro Y0 HO
  iapply (step_send B S K c 1 [2, 3, 4, 5, 6] (src_eq 1 c) (d := ⟨k0_dev3 c, k0_dev3_lt c⟩) (d' := ⟨k0_dev4 c, k0_dev4_lt c⟩) (Fin.ext (hd1 c).1) (Fin.ext (hd1 c).2) rfl rfl rfl rfl) $$ [K1 HO]
  · isplitr; · iexact HR
    isplitl [K1] <;> iassumption
  iintro Y1 HO
  iapply (step_send B S K c 2 [3, 4, 5, 6] (src_eq 2 c) (d := ⟨k0_dev5 c, k0_dev5_lt c⟩) (d' := ⟨k0_dev6 c, k0_dev6_lt c⟩) (Fin.ext (hd2 c).1) (Fin.ext (hd2 c).2) rfl rfl rfl rfl) $$ [K2 HO]
  · isplitr; · iexact HR
    isplitl [K2] <;> iassumption
  iintro Y2 HO
  iapply (step_send B S K c 3 [4, 5, 6] (src_eq 3 c) (d := ⟨k0_dev7 c, k0_dev7_lt c⟩) (d' := ⟨k0_dev8 c, k0_dev8_lt c⟩) (Fin.ext (hd3 c).1) (Fin.ext (hd3 c).2) rfl rfl rfl rfl) $$ [K3 HO]
  · isplitr; · iexact HR
    isplitl [K3] <;> iassumption
  iintro Y3 HO
  iapply (step_send B S K c 4 [5, 6] (src_eq 4 c) (d := ⟨k0_dev9 c, k0_dev9_lt c⟩) (d' := ⟨k0_dev10 c, k0_dev10_lt c⟩) (Fin.ext (hd4 c).1) (Fin.ext (hd4 c).2) rfl rfl rfl rfl) $$ [K4 HO]
  · isplitr; · iexact HR
    isplitl [K4] <;> iassumption
  iintro Y4 HO
  iapply (step_send B S K c 5 [6] (src_eq 5 c) (d := ⟨k0_dev11 c, k0_dev11_lt c⟩) (d' := ⟨k0_dev12 c, k0_dev12_lt c⟩) (Fin.ext (hd5 c).1) (Fin.ext (hd5 c).2) rfl rfl rfl rfl) $$ [K5 HO]
  · isplitr; · iexact HR
    isplitl [K5] <;> iassumption
  iintro Y5 HO
  iapply (step_send B S K c 6 [] (src_eq 6 c) (d := ⟨k0_dev13 c, k0_dev13_lt c⟩) (d' := ⟨k0_dev14 c, k0_dev14_lt c⟩) (Fin.ext (hd6 c).1) (Fin.ext (hd6 c).2) rfl rfl rfl rfl) $$ [K6 HO]
  · isplitr; · iexact HR
    isplitl [K6] <;> iassumption
  iintro Y6 HO
  rw [show left c [] = 0 from rfl]
  iapply (step_waits B S K c (.recvB 0) (.recvS 0) (wpE_waitDma2_eq 𝒱₀ (c : Thread nD τ) none Set.univ) (wpE_waitDma2_eq 𝒱₀ (c : Thread nD τ) none Set.univ) rfl (bO_credit c) rfl (sO_credit c)) $$ [W0 HO]
  · isplitr; · iexact HR
    isplitl [W0] <;> iassumption
  iintro W0 HO
  iapply (step_waits B S K c (.recvB 1) (.recvS 1) (wpE_waitDma2_eq 𝒱₀ (c : Thread nD τ) none Set.univ) (wpE_waitDma2_eq 𝒱₀ (c : Thread nD τ) none Set.univ) rfl (bO_credit c) rfl (sO_credit c)) $$ [W1 HO]
  · isplitr; · iexact HR
    isplitl [W1] <;> iassumption
  iintro W1 HO
  iapply (step_waits B S K c (.recvB 2) (.recvS 2) (wpE_waitDma2_eq 𝒱₀ (c : Thread nD τ) none Set.univ) (wpE_waitDma2_eq 𝒱₀ (c : Thread nD τ) none Set.univ) rfl (bO_credit c) rfl (sO_credit c)) $$ [W2 HO]
  · isplitr; · iexact HR
    isplitl [W2] <;> iassumption
  iintro W2 HO
  iapply (step_waits B S K c (.recvB 3) (.recvS 3) (wpE_waitDma2_eq 𝒱₀ (c : Thread nD τ) none Set.univ) (wpE_waitDma2_eq 𝒱₀ (c : Thread nD τ) none Set.univ) rfl (bO_credit c) rfl (sO_credit c)) $$ [W3 HO]
  · isplitr; · iexact HR
    isplitl [W3] <;> iassumption
  iintro W3 HO
  iapply (step_waits B S K c (.recvB 4) (.recvS 4) (wpE_waitDma2_eq 𝒱₀ (c : Thread nD τ) none Set.univ) (wpE_waitDma2_eq 𝒱₀ (c : Thread nD τ) none Set.univ) rfl (bO_credit c) rfl (sO_credit c)) $$ [W4 HO]
  · isplitr; · iexact HR
    isplitl [W4] <;> iassumption
  iintro W4 HO
  iapply (step_waits B S K c (.recvB 5) (.recvS 5) (wpE_waitDma2_eq 𝒱₀ (c : Thread nD τ) none Set.univ) (wpE_waitDma2_eq 𝒱₀ (c : Thread nD τ) none Set.univ) rfl (bO_credit c) rfl (sO_credit c)) $$ [W5 HO]
  · isplitr; · iexact HR
    isplitl [W5] <;> iassumption
  iintro W5 HO
  iapply (step_waits B S K c (.recvB 6) (.recvS 6) (wpE_waitDma2_eq 𝒱₀ (c : Thread nD τ) none Set.univ) (wpE_waitDma2_eq 𝒱₀ (c : Thread nD τ) none Set.univ) rfl (bO_credit c) rfl (sO_credit c)) $$ [W6 HO]
  · isplitr; · iexact HR
    isplitl [W6] <;> iassumption
  iintro W6 HO
  iapply (step_waits B S K c (.sendB 0) (.sendS 0) (wpE_waitDma2_eq 𝒱₀ (c : Thread nD τ) none Set.univ) (wpE_waitDma2_eq 𝒱₀ (c : Thread nD τ) none Set.univ) rfl (src_credit _ _) rfl sM_credit) $$ [Y0 HO]
  · isplitr; · iexact HR
    isplitl [Y0] <;> iassumption
  iintro Y0 HO
  iapply (step_waits B S K c (.sendB 1) (.sendS 1) (wpE_waitDma2_eq 𝒱₀ (c : Thread nD τ) none Set.univ) (wpE_waitDma2_eq 𝒱₀ (c : Thread nD τ) none Set.univ) rfl (src_credit _ _) rfl sM_credit) $$ [Y1 HO]
  · isplitr; · iexact HR
    isplitl [Y1] <;> iassumption
  iintro Y1 HO
  iapply (step_waits B S K c (.sendB 2) (.sendS 2) (wpE_waitDma2_eq 𝒱₀ (c : Thread nD τ) none Set.univ) (wpE_waitDma2_eq 𝒱₀ (c : Thread nD τ) none Set.univ) rfl (src_credit _ _) rfl sM_credit) $$ [Y2 HO]
  · isplitr; · iexact HR
    isplitl [Y2] <;> iassumption
  iintro Y2 HO
  iapply (step_waits B S K c (.sendB 3) (.sendS 3) (wpE_waitDma2_eq 𝒱₀ (c : Thread nD τ) none Set.univ) (wpE_waitDma2_eq 𝒱₀ (c : Thread nD τ) none Set.univ) rfl (src_credit _ _) rfl sM_credit) $$ [Y3 HO]
  · isplitr; · iexact HR
    isplitl [Y3] <;> iassumption
  iintro Y3 HO
  iapply (step_waits B S K c (.sendB 4) (.sendS 4) (wpE_waitDma2_eq 𝒱₀ (c : Thread nD τ) none Set.univ) (wpE_waitDma2_eq 𝒱₀ (c : Thread nD τ) none Set.univ) rfl (src_credit _ _) rfl sM_credit) $$ [Y4 HO]
  · isplitr; · iexact HR
    isplitl [Y4] <;> iassumption
  iintro Y4 HO
  iapply (step_waits B S K c (.sendB 5) (.sendS 5) (wpE_waitDma2_eq 𝒱₀ (c : Thread nD τ) none Set.univ) (wpE_waitDma2_eq 𝒱₀ (c : Thread nD τ) none Set.univ) rfl (src_credit _ _) rfl sM_credit) $$ [Y5 HO]
  · isplitr; · iexact HR
    isplitl [Y5] <;> iassumption
  iintro Y5 HO
  iapply (step_waits B S K c (.sendB 6) (.sendS 6) (wpE_waitDma2_eq 𝒱₀ (c : Thread nD τ) none Set.univ) (wpE_waitDma2_eq 𝒱₀ (c : Thread nD τ) none Set.univ) rfl (src_credit _ _) rfl sM_credit) $$ [Y6 HO]
  · isplitr; · iexact HR
    isplitl [Y6] <;> iassumption
  iintro Y6 HO
  iapply (step_waits B S K c .locB .locS (wpE_waitDma2_eq 𝒱₀ (c : Thread nD τ) none Set.univ) (wpE_waitDma2_eq 𝒱₀ (c : Thread nD τ) none Set.univ) rfl (bO_credit c) rfl (sO_credit c)) $$ [HcB HaB HcS HaS HO]
  · isplitr; · iexact HR
    isplitr [HO]
    · unfold rdy
      isplitl [HcB HaB]
      · isplitl [HcB] <;> iassumption
      · isplitl [HcS] <;> iassumption
    iexact HO
  iintro ⟨G, G'⟩ HO
  rw [wp_ret]
  imodintro
  iapply Hk $$ [-HO] [HO]
  · isplitl [G]; · iexact G
    isplitl [G']; · iexact G'
    isplitl [Y0 Y1 Y2 Y3 Y4 Y5 Y6]
    · isplitl [Y0]; · iexact Y0
      isplitl [Y1]; · iexact Y1
      isplitl [Y2]; · iexact Y2
      isplitl [Y3]; · iexact Y3
      isplitl [Y4]; · iexact Y4
      isplitl [Y5] <;> iassumption
    · isplitl [W0]; · iexact W0
      isplitl [W1]; · iexact W1
      isplitl [W2]; · iexact W2
      isplitl [W3]; · iexact W3
      isplitl [W4]; · iexact W4
      isplitl [W5] <;> iassumption
  iexact HO

end Cert.Exchange
-- ==== Proof.Deal.lean ====
/- Dealing the exchange's slots, tokens, positions and credit to the devices, and putting the slots together again. -/
module

public import proofs.«01_k».proof.Proof.Run

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Dev nD → BigBuf F) (S : Dev nD → SmallBuf F) (K : GSem nD τ sig → ℕ) (c : Dev nD)

/-! ## Families over the devices and over the semaphores -/

theorem peer_ne : ∀ (r : Fin 7) (c : Dev nD), peer r c ≠ c := by decide
theorem peer_inj : ∀ c : Dev nD, Function.Injective (fun r : Fin 7 => peer r c) := by decide
theorem others_eq : ∀ c : Dev nD, (Finset.univ : Finset (Dev nD)).erase c = Finset.univ.image (fun r : Fin 7 => peer r c) := by decide
def peerEmb (c : Dev nD) : Fin 7 ↪ Dev nD := ⟨fun r => peer r c, peer_inj c⟩

/-- A family over the devices, seen from one of them: its own member and its seven peers'. -/
theorem around (Φ : Dev nD → sProp 𝕄) : bigSep Finset.univ Φ = iprop(Φ c ∗ bigSep Finset.univ fun r : Fin 7 => Φ (peer r c)) := by
  rw [bigSep_univ_at _ c, others_eq c, show (Finset.univ.image fun r : Fin 7 => peer r c) = Finset.univ.map (peerEmb c) from (Finset.map_eq_image (peerEmb c) _).symm, bigSep_map]
  rfl

/-- What device `c` has for peer `r c` and what that peer has for `c`, over all devices and peers. -/
theorem turn (Φ : Fin 7 → Dev nD → sProp 𝕄) :
    (bigSep Finset.univ fun c : Dev nD => bigSep Finset.univ fun r : Fin 7 => Φ r c)
      = bigSep Finset.univ fun c : Dev nD => bigSep Finset.univ fun r : Fin 7 => Φ r (peer r c) := by
  rw [bigSep_univ_comm, bigSep_univ_comm (fun (c : Dev nD) (r : Fin 7) => Φ r (peer r c))]
  exact bigSep_congr fun r _ => bigSep_univ_equiv (peerEquiv r) (fun c => Φ r c)

def smEquiv : (Unit ⊕ Unit) ⊕ ((Fin 7 ⊕ Fin 7) ⊕ (Fin 7 ⊕ Fin 7)) ≃ Sm where
  toFun
    | .inl (.inl _) => .locB
    | .inl (.inr _) => .locS
    | .inr (.inl (.inl r)) => .sendB r
    | .inr (.inl (.inr r)) => .sendS r
    | .inr (.inr (.inl r)) => .recvB r
    | .inr (.inr (.inr r)) => .recvS r
  invFun
    | .locB => .inl (.inl ())
    | .locS => .inl (.inr ())
    | .sendB r => .inr (.inl (.inl r))
    | .sendS r => .inr (.inl (.inr r))
    | .recvB r => .inr (.inr (.inl r))
    | .recvS r => .inr (.inr (.inr r))
  left_inv x := by rcases x with ((_|_)|((_|_)|(_|_))) <;> rfl
  right_inv x := by cases x <;> rfl

/-- A family over the thirty semaphores, sorted. -/
theorem sm_split (Φ : Sm → sProp 𝕄) : bigSep Finset.univ Φ
    = iprop((Φ .locB ∗ Φ .locS) ∗ ((bigSep Finset.univ fun r => Φ (.sendB r)) ∗ bigSep Finset.univ fun r => Φ (.sendS r))
      ∗ ((bigSep Finset.univ fun r => Φ (.recvB r)) ∗ bigSep Finset.univ fun r => Φ (.recvS r))) := by
  rw [bigSep_univ_equiv smEquiv Φ, bigSep_univ_sum, bigSep_univ_sum, bigSep_univ_sum, bigSep_univ_sum, bigSep_univ_sum,
    bigSep_univ_of_subsingleton (), bigSep_univ_of_subsingleton ()]
  rfl

/-! ## A buffer as its slots -/

/-- The slot an index lies in. -/
theorem bO_mem (i : S8x51712x128.Idx) : i ∈ (bO (⟨(i 0).val, (i 0).isLt⟩ : Dev nD)).view.set := by
  rw [bO_set]; exact (mem_big _ i).mpr rfl
theorem bM_mem (i : S8x51712x128.Idx) : i ∈ (bM (⟨(i 0).val, (i 0).isLt⟩ : Dev nD)).view.set := by
  rw [bM_set]; exact (mem_big _ i).mpr rfl
theorem sO_mem (i : S8x416x128.Idx) : i ∈ (sO (⟨(i 0).val, (i 0).isLt⟩ : Dev nD)).view.set := by
  rw [sO_set]; exact (mem_small _ i).mpr rfl

theorem bO_blocks (f : BigOut F) : ((((c : Thread nD τ).loc main_v1_0) ↦{fullShare} f) : sProp 𝕄) = bigSep Finset.univ fun p : Dev nD => bOpt c p f := by
  refine Ring.pointsTo_blocks (ℓ := (c : Thread nD τ).loc main_v1_0) (fun p : Dev nD => ((bO p).view.set : Finset S8x51712x128.Idx)) (fun p p' h => ?_) ?_ f
  · rw [bO_set, bO_set, Finset.disjoint_left]
    intro i hi hi'
    exact h (Fin.ext (((mem_big p i).mp hi).symm.trans ((mem_big p' i).mp hi')))
  · refine Finset.eq_univ_iff_forall.mpr fun i => ?_
    exact Finset.mem_biUnion.mpr ⟨_, Finset.mem_univ _, bO_mem i⟩

theorem bM_blocks (f : BigBuf F) : ((((c : Thread nD τ).loc main_arg0) ↦{fullShare} f) : sProp 𝕄) = bigSep Finset.univ fun p : Dev nD => bMpt c p f := by
  refine Ring.pointsTo_blocks (ℓ := (c : Thread nD τ).loc main_arg0) (fun p : Dev nD => ((bM p).view.set : Finset S8x51712x128.Idx)) (fun p p' h => ?_) ?_ f
  · rw [bM_set, bM_set, Finset.disjoint_left]
    intro i hi hi'
    exact h (Fin.ext (((mem_big p i).mp hi).symm.trans ((mem_big p' i).mp hi')))
  · refine Finset.eq_univ_iff_forall.mpr fun i => ?_
    exact Finset.mem_biUnion.mpr ⟨_, Finset.mem_univ _, bM_mem i⟩

theorem sO_blocks (f : SmallOut F) : ((((c : Thread nD τ).loc main_v1_1) ↦{fullShare} f) : sProp 𝕄) = bigSep Finset.univ fun p : Dev nD => sOpt c p f := by
  refine Ring.pointsTo_blocks (ℓ := (c : Thread nD τ).loc main_v1_1) (fun p : Dev nD => ((sO p).view.set : Finset S8x416x128.Idx)) (fun p p' h => ?_) ?_ f
  · rw [sO_set, sO_set, Finset.disjoint_left]
    intro i hi hi'
    exact h (Fin.ext (((mem_small p i).mp hi).symm.trans ((mem_small p' i).mp hi')))
  · refine Finset.eq_univ_iff_forall.mpr fun i => ?_
    exact Finset.mem_biUnion.mpr ⟨_, Finset.mem_univ _, sO_mem i⟩

theorem sM_eighths (f : SmallBuf F) : ((((c : Thread nD τ).loc main_arg1) ↦{fullShare} f) : sProp 𝕄)
    = iprop(sMpt c (eighth 0) f ∗ bigSep Finset.univ fun r : Fin 7 => sMpt c (eighth r.succ) f) := by
  have h := ShareLeaves.pointsTo_leaves (Ix := Unit) (Name := ℕ) (U := UU) (Lvl := ℕ) (Val := Elt F) (ℓ := (c : Thread nD τ).loc main_arg1) Finset.univ f 3 fullShare
  have hs : (sM.view.set : Finset S416x128.Idx) = Finset.univ := View.set_whole main_arg1
  unfold sMpt
  rw [hs]
  refine h.trans ?_
  show (bigSep (Finset.univ : Finset (Fin 8)) fun i => _) = _
  rw [Fin.univ_succ, Finset.cons_eq_insert, bigSep_insert (by simp [Fin.succ_ne_zero]), bigSep_map]
  rfl

/-! ## The credit of the arrivals -/

theorem peer_eq_iff {r : Fin 7} {c d : Dev nD} (h : c = peer r d) : d = peer r c := by rw [h, peer_peer]

theorem tally_cell (c' : Dev nD) (k k' : Sm) (n : ℕ) :
    (tallyAt (cell c' k') () n : CellTallies nD τ sig Unit) (cell c k) () = if c = c' ∧ k = k' then n else 0 := by
  rw [tallyAt_apply]
  by_cases h : c = c' ∧ k = k'
  · obtain ⟨rfl, rfl⟩ := h
    rw [if_pos ⟨rfl, rfl⟩, if_pos ⟨rfl, rfl⟩]
  · rw [if_neg h, if_neg (fun hh => h (cell_inj hh.1))]

theorem left_recvB (d : Dev nD) (r : Fin 7) : ∀ l : List (Fin 7),
    left d l (cell c (.recvB r)) () = l.count r * (if d = peer r c then NB else 0)
  | [] => by simp [left]
  | q :: l => by
    rw [left, Pi.add_apply, Finsupp.add_apply, Pi.add_apply, Finsupp.add_apply, left_recvB d r l, tally_cell, tally_cell,
      if_neg (c := c = peer q d ∧ Sm.recvB r = Sm.recvS q) (fun h => by cases h.2)]
    by_cases hq : q = r
    · subst hq
      rw [List.count_cons_self, Nat.add_mul, Nat.one_mul, Nat.add_zero]
      congr 1
      by_cases h : d = peer q c
      · rw [if_pos h, if_pos (by exact And.intro (by rw [h, peer_peer]) rfl)]
      · rw [if_neg h, if_neg (fun hh => h (peer_eq_iff hh.1))]
    · rw [List.count_cons_of_ne hq, if_neg (c := c = peer q d ∧ Sm.recvB r = Sm.recvB q) (fun h => hq (by cases h.2; rfl)), Nat.add_zero]

theorem left_recvS (d : Dev nD) (r : Fin 7) : ∀ l : List (Fin 7),
    left d l (cell c (.recvS r)) () = l.count r * (if d = peer r c then NS else 0)
  | [] => by simp [left]
  | q :: l => by
    rw [left, Pi.add_apply, Finsupp.add_apply, Pi.add_apply, Finsupp.add_apply, left_recvS d r l, tally_cell, tally_cell,
      if_neg (c := c = peer q d ∧ Sm.recvS r = Sm.recvB q) (fun h => by cases h.2)]
    by_cases hq : q = r
    · subst hq
      rw [List.count_cons_self, Nat.add_mul, Nat.one_mul, Nat.add_zero]
      congr 1
      by_cases h : d = peer q c
      · rw [if_pos h, if_pos (by exact And.intro (by rw [h, peer_peer]) rfl)]
      · rw [if_neg h, if_neg (fun hh => h (peer_eq_iff hh.1))]
    · rw [List.count_cons_of_ne hq, if_neg (c := c = peer q d ∧ Sm.recvS r = Sm.recvS q) (fun h => hq (by cases h.2; rfl)), Nat.add_zero]

theorem count_all : ∀ r : Fin 7, ([0, 1, 2, 3, 4, 5, 6] : List (Fin 7)).count r = 1 := by decide

theorem credit_recvB (r : Fin 7) :
    tallyOn (cell c (.recvB r)) (launchCredit (Pipeline.owing O₀) 0 (cell c (.recvB r))) = (tallyAt (cell c (.recvB r)) () NB : CellTallies nD τ sig Unit) := by
  unfold tallyAt; refine congrArg _ (Finsupp.ext fun u => ?_); cases u
  rw [Pipeline.launchCredit_owing, Finsupp.single_eq_same, Finset.sum_congr rfl fun d _ => (left_recvB c d r _).trans (by rw [count_all, Nat.one_mul]),
    Finset.sum_ite_eq' Finset.univ (peer r c) fun _ => NB, if_pos (Finset.mem_univ _)]
theorem credit_recvS (r : Fin 7) :
    tallyOn (cell c (.recvS r)) (launchCredit (Pipeline.owing O₀) 0 (cell c (.recvS r))) = (tallyAt (cell c (.recvS r)) () NS : CellTallies nD τ sig Unit) := by
  unfold tallyAt; refine congrArg _ (Finsupp.ext fun u => ?_); cases u
  rw [Pipeline.launchCredit_owing, Finsupp.single_eq_same, Finset.sum_congr rfl fun d _ => (left_recvS c d r _).trans (by rw [count_all, Nat.one_mul]),
    Finset.sum_ite_eq' Finset.univ (peer r c) fun _ => NS, if_pos (Finset.mem_univ _)]

def osem (k : Sm) : SemLoc sig := .dma (dsem k)
def osemEmb : Sm ↪ SemLoc sig := ⟨osem, fun a b h => dsem_inj (SemLoc.dma.inj h)⟩

theorem last_two (A₁ A₂ A₃ A₄ A₅ A₆ : sProp 𝕄) : iprop((A₁ ∗ A₂) ∗ (A₃ ∗ A₄) ∗ (A₅ ∗ A₆)) ⊢ iprop(A₅ ∗ A₆) := by
  iintro ⟨-, -, H₁, H₂⟩
  isplitl [H₁] <;> iassumption

theorem creds : (Pipeline.launchCred O₀ c : sProp 𝕄)
    ⊢ iprop((bigSep Finset.univ fun r : Fin 7 => cred (tallyAt (cell c (.recvB r)) () (amt (.recvB r))))
      ∗ bigSep Finset.univ fun r : Fin 7 => cred (tallyAt (cell c (.recvS r)) () (amt (.recvS r)))) := by
  unfold Pipeline.launchCred
  refine (bigSep_subset (Finset.subset_univ (Finset.univ.map osemEmb))).trans ?_
  rw [bigSep_map, sm_split]
  refine (last_two _ _ _ _ _ _).trans (BI.sep_mono ?_ ?_)
  · exact Entails.of_eq (bigSep_congr (s := Finset.univ) fun r _ => congrArg cred (credit_recvB c r))
  · exact Entails.of_eq (bigSep_congr (s := Finset.univ) fun r _ => congrArg cred (credit_recvS c r))

/-! ## The tokens and the positions -/

def tokEmb : Dev nD × Sm ↪ GSem nD τ sig × ℕ × Unit :=
  ⟨fun ck => (cell ck.1 ck.2, 0, ()), fun _ _ h => cellEmb.injective (congrArg Prod.fst h)⟩
def toks : Finset (GSem nD τ sig × ℕ × Unit) := Finset.univ.map tokEmb

/-- The tokens device `c` pays with: its own copies' departures', and its peers' arrivals'. -/
def paid : sProp 𝕄 :=
  iprop((dutyTok EX (cell c .locB) 0 () ∗ dutyTok EX (cell c .locS) 0 ())
    ∗ ((bigSep Finset.univ fun r => dutyTok EX (cell c (.sendB r)) 0 ()) ∗ bigSep Finset.univ fun r => dutyTok EX (cell c (.sendS r)) 0 ())
    ∗ ((bigSep Finset.univ fun r => dutyTok EX (cell (peer r c) (.recvB r)) 0 ()) ∗ bigSep Finset.univ fun r => dutyTok EX (cell (peer r c) (.recvS r)) 0 ()))

theorem toks_dealt : bigSep toks (fun x => (dutyTok EX x.1 x.2.1 x.2.2 : sProp 𝕄)) = bigSep Finset.univ fun c : Dev nD => (paid c : sProp 𝕄) := by
  unfold toks
  rw [bigSep_map, bigSep_univ_prod]
  refine (bigSep_congr fun c _ => sm_split (fun k => (dutyTok EX (cell c k) 0 () : sProp 𝕄))).trans ?_
  unfold paid
  simp only [bigSep_sep']
  rw [turn (fun r c => (dutyTok EX (cell c (.recvB r)) 0 () : sProp 𝕄)), turn (fun r c => (dutyTok EX (cell c (.recvS r)) 0 () : sProp 𝕄))]

/-- Device `c` at the start of every one of its semaphores' rounds. -/
def poss : sProp 𝕄 :=
  iprop((atPos EX (cell c .locB) 0 ∅ 0 ∗ atPos EX (cell c .locS) 0 ∅ 0)
    ∗ ((bigSep Finset.univ fun r => atPos EX (cell c (.sendB r)) 0 ∅ 0) ∗ bigSep Finset.univ fun r => atPos EX (cell c (.sendS r)) 0 ∅ 0)
    ∗ ((bigSep Finset.univ fun r => atPos EX (cell c (.recvB r)) 0 ∅ 0) ∗ bigSep Finset.univ fun r => atPos EX (cell c (.recvS r)) 0 ∅ 0))

theorem poss_dealt : bigSep cells (fun g => (atPos EX g 0 ∅ 0 : sProp 𝕄)) = bigSep Finset.univ fun c : Dev nD => (poss c : sProp 𝕄) := by
  unfold cells
  rw [bigSep_map, bigSep_univ_prod]
  exact bigSep_congr fun c _ => sm_split (fun k => (atPos EX (cell c k) 0 ∅ 0 : sProp 𝕄))

theorem sems_dealt : (bigSep Finset.univ fun c : Dev nD => (Pipeline.ownSems0 osem c : sProp 𝕄)) = bigSep cells (fun g => (semVal g 0 : sProp 𝕄)) := by
  unfold cells
  rw [bigSep_map, bigSep_univ_prod]
  rfl

/-! ## The whole deal -/

/-- What device `c` brings: its semaphores, its four buffers of the exchange, and its arrivals' credit. -/
def brings : sProp 𝕄 :=
  iprop(Pipeline.ownSems0 osem c ∗ (((c : Thread nD τ).loc main_arg0) ↦{fullShare} B c) ∗ (((c : Thread nD τ).loc main_arg1) ↦{fullShare} S c)
    ∗ (∃ f : BigOut F, ((c : Thread nD τ).loc main_v1_0) ↦{fullShare} f) ∗ (∃ f : SmallOut F, ((c : Thread nD τ).loc main_v1_1) ↦{fullShare} f)
    ∗ Pipeline.launchCred O₀ c)

/-- The same buffers as slots: its operands', and of its results' slots those of its own block and its peers'. -/
def slotsIn : sProp 𝕄 :=
  iprop((bMpt c c (B c) ∗ bigSep Finset.univ fun r : Fin 7 => bMpt c (peer r c) (B c))
    ∗ (sMpt c (eighth 0) (S c) ∗ bigSep Finset.univ fun r : Fin 7 => sMpt c (eighth r.succ) (S c)))
def outB : sProp 𝕄 := iprop((∃ f, bOpt c c f) ∗ bigSep Finset.univ fun r : Fin 7 => iprop(∃ f, bOpt (peer r c) c f))
def outS : sProp 𝕄 := iprop((∃ f, sOpt c c f) ∗ bigSep Finset.univ fun r : Fin 7 => iprop(∃ f, sOpt (peer r c) c f))

theorem slotsIn_intro : iprop((((c : Thread nD τ).loc main_arg0) ↦{fullShare} B c) ∗ (((c : Thread nD τ).loc main_arg1) ↦{fullShare} S c)) ⊢ slotsIn B S c := by
  rw [bM_blocks, around c, sM_eighths]
  exact Entails.of_eq rfl

theorem outB_one : iprop(∃ f : BigOut F, ((c : Thread nD τ).loc main_v1_0) ↦{fullShare} f)
    ⊢ iprop((∃ f, bOpt c c f) ∗ bigSep Finset.univ fun r : Fin 7 => iprop(∃ f : BigOut F, bOpt c (peer r c) f)) := by
  iintro ⟨%f, H⟩
  ihave H' := (Entails.of_eq ((bO_blocks c f).trans (around c _))) $$ H
  icases H' with ⟨H₁, H₂⟩
  isplitl [H₁]; · iexists f; iexact H₁
  have h : (bigSep Finset.univ fun r : Fin 7 => bOpt c (peer r c) f) ⊢ (bigSep Finset.univ fun r : Fin 7 => iprop(∃ f : BigOut F, bOpt c (peer r c) f) : sProp 𝕄) :=
    bigSep_mono fun r _ => show bOpt c (peer r c) f ⊢ iprop(∃ f : BigOut F, bOpt c (peer r c) f) from by iintro H; iexists f; iexact H
  iapply h; iexact H₂
theorem outS_one : iprop(∃ f : SmallOut F, ((c : Thread nD τ).loc main_v1_1) ↦{fullShare} f)
    ⊢ iprop((∃ f, sOpt c c f) ∗ bigSep Finset.univ fun r : Fin 7 => iprop(∃ f : SmallOut F, sOpt c (peer r c) f)) := by
  iintro ⟨%f, H⟩
  ihave H' := (Entails.of_eq ((sO_blocks c f).trans (around c _))) $$ H
  icases H' with ⟨H₁, H₂⟩
  isplitl [H₁]; · iexists f; iexact H₁
  have h : (bigSep Finset.univ fun r : Fin 7 => sOpt c (peer r c) f) ⊢ (bigSep Finset.univ fun r : Fin 7 => iprop(∃ f : SmallOut F, sOpt c (peer r c) f) : sProp 𝕄) :=
    bigSep_mono fun r _ => show sOpt c (peer r c) f ⊢ iprop(∃ f : SmallOut F, sOpt c (peer r c) f) from by iintro H; iexists f; iexact H
  iapply h; iexact H₂

/-- Every device's slot for each peer goes to that peer. -/
theorem outB_dealt : (bigSep Finset.univ fun c : Dev nD => iprop(∃ f : BigOut F, ((c : Thread nD τ).loc main_v1_0) ↦{fullShare} f))
    ⊢ (bigSep Finset.univ fun c : Dev nD => outB c : sProp 𝕄) := by
  have e : (bigSep Finset.univ fun c : Dev nD => iprop((∃ f, bOpt c c f) ∗ bigSep Finset.univ fun r : Fin 7 => iprop(∃ f : BigOut F, bOpt c (peer r c) f)))
      = (bigSep Finset.univ fun c : Dev nD => outB c : sProp 𝕄) := by
    unfold outB
    rw [bigSep_sep', bigSep_sep', turn (fun r c => iprop(∃ f : BigOut F, bOpt c (peer r c) f))]
    simp only [peer_peer]
  rw [← e]
  exact bigSep_mono fun c _ => outB_one c
theorem outS_dealt : (bigSep Finset.univ fun c : Dev nD => iprop(∃ f : SmallOut F, ((c : Thread nD τ).loc main_v1_1) ↦{fullShare} f))
    ⊢ (bigSep Finset.univ fun c : Dev nD => outS c : sProp 𝕄) := by
  have e : (bigSep Finset.univ fun c : Dev nD => iprop((∃ f, sOpt c c f) ∗ bigSep Finset.univ fun r : Fin 7 => iprop(∃ f : SmallOut F, sOpt c (peer r c) f)))
      = (bigSep Finset.univ fun c : Dev nD => outS c : sProp 𝕄) := by
    unfold outS
    rw [bigSep_sep', bigSep_sep', turn (fun r c => iprop(∃ f : SmallOut F, sOpt c (peer r c) f))]
    simp only [peer_peer]
  rw [← e]
  exact bigSep_mono fun c _ => outS_one c

theorem start_intro :
    iprop(slotsIn B S c ∗ outB c ∗ outS c ∗ poss c ∗ paid c ∗ Pipeline.launchCred O₀ c) ⊢ start B S c := by
  have h := creds (F := F) c
  unfold slotsIn outB outS poss paid start kit rdy
  simp only [bigSep_sep']
  iintro ⟨⟨⟨Hb, Hbr⟩, Hs, Hsr⟩, ⟨HoB, HoBr⟩, ⟨HoS, HoSr⟩, ⟨⟨Hp1, Hp2⟩, ⟨Hp3, Hp4⟩, Hp5, Hp6⟩, ⟨⟨Ht1, Ht2⟩, ⟨Ht3, Ht4⟩, Ht5, Ht6⟩, Hcr⟩
  ihave Hc := h $$ Hcr
  icases Hc with ⟨Hc1, Hc2⟩
  isplitl [Hb HoB Ht1]
  · isplitl [Hb]; · iexact Hb
    isplitl [HoB] <;> iassumption
  isplitl [Hs HoS Ht2]
  · isplitl [Hs]; · iexact Hs
    isplitl [HoS] <;> iassumption
  isplitl [Hp1]; · iexact Hp1
  isplitl [Hp2]; · iexact Hp2
  isplitl [Hbr HoBr Ht3 Ht5 Hsr HoSr Ht4 Ht6 Hp3 Hp4]
  · isplitl [Hbr HoBr Ht3 Ht5]
    · isplitl [Hbr]; · iexact Hbr
      isplitl [HoBr]; · iexact HoBr
      isplitl [Ht3] <;> iassumption
    isplitl [Hsr HoSr Ht4 Ht6]
    · isplitl [Hsr]; · iexact Hsr
      isplitl [HoSr]; · iexact HoSr
      isplitl [Ht4] <;> iassumption
    isplitl [Hp3] <;> iassumption
  isplitl [Hc1 Hp5]
  · isplitl [Hc1] <;> iassumption
  isplitl [Hc2] <;> iassumption

/-- From everything all devices bring, every device's start. -/
theorem deal : iprop((bigSep Finset.univ fun c : Dev nD => brings B S c) ∗ BI.own (EX (launchOf cells ∅ toks)))
    ⊢ (|={Set.univ}=> bigSep Finset.univ fun c : Dev nD => iprop((∃ K, recs B S K) ∗ start B S c) : sProp 𝕄) := by
  unfold brings
  simp only [bigSep_sep']
  iintro ⟨⟨Hv, Ha0, Ha1, Hb, Hs, Hcr⟩, HG⟩
  imod (Rounds.fund_launch EX (Rd B S) (S := cells) (Sd := ∅) (Finset.disjoint_empty_right _) (fun g h => absurd h (Finset.notMem_empty g)) toks) $$ [Hv HG]
    with ⟨%κ, -, #Hinv, #Hr, Hat, -, Htok⟩
  · isplitl [Hv]
    · iapply (Entails.of_eq (sems_dealt (F := F))); iexact Hv
    · iexact HG
  rw [Finset.union_empty]
  imodintro
  isplitr
  · iapply (BI.bigSep_intro_persistent (R := recs B S κ) fun (c : Dev nD) _ => (show recs B S κ ⊢ iprop(∃ K, recs B S K) from by iintro H; iexists κ; iexact H))
    unfold recs
    isplitr <;> iassumption
  · have h : iprop((bigSep Finset.univ fun c : Dev nD => iprop((((c : Thread nD τ).loc main_arg0) ↦{fullShare} B c) ∗ (((c : Thread nD τ).loc main_arg1) ↦{fullShare} S c)))
        ∗ (bigSep Finset.univ fun c : Dev nD => outB c) ∗ (bigSep Finset.univ fun c : Dev nD => outS c) ∗ (bigSep Finset.univ fun c : Dev nD => poss c)
        ∗ (bigSep Finset.univ fun c : Dev nD => paid c) ∗ (bigSep Finset.univ fun c : Dev nD => Pipeline.launchCred O₀ c))
        ⊢ (bigSep Finset.univ fun c : Dev nD => start B S c : sProp 𝕄) := by
      rw [← bigSep_sep', ← bigSep_sep', ← bigSep_sep', ← bigSep_sep', ← bigSep_sep']
      refine bigSep_mono fun c _ => show iprop(((((c : Thread nD τ).loc main_arg0) ↦{fullShare} B c) ∗ (((c : Thread nD τ).loc main_arg1) ↦{fullShare} S c))
        ∗ outB c ∗ outS c ∗ poss c ∗ paid c ∗ Pipeline.launchCred O₀ c) ⊢ start B S c from ?_
      iintro ⟨Ha, Hr⟩
      iapply (start_intro B S c)
      isplitl [Ha]; · iapply (slotsIn_intro B S c); iexact Ha
      iexact Hr
    iapply h
    isplitl [Ha0 Ha1]
    · rw [bigSep_sep']; isplitl [Ha0] <;> iassumption
    isplitl [Hb]; · iapply (outB_dealt (F := F)); iexact Hb
    isplitl [Hs]; · iapply (outS_dealt (F := F)); iexact Hs
    isplitl [Hat]; · iapply (Entails.of_eq (poss_dealt (F := F))); iexact Hat
    isplitl [Htok]; · iapply (Entails.of_eq (toks_dealt (F := F))); iexact Htok
    iexact Hcr

/-! ## The end -/

/-- What a device is left with: its operands unchanged, its results with every device's block, its semaphores at zero. -/
theorem finish_elim : finish B S c
    ⊢ iprop((((c : Thread nD τ).loc main_arg0) ↦{fullShare} B c) ∗ (((c : Thread nD τ).loc main_arg1) ↦{fullShare} S c)
      ∗ (((c : Thread nD τ).loc main_v1_0) ↦{fullShare} gatB B c) ∗ (((c : Thread nD τ).loc main_v1_1) ↦{fullShare} gatS S c)
      ∗ Pipeline.ownSems0 osem c) := by
  rw [bM_blocks, around c, sM_eighths, bO_blocks, around c, sO_blocks, around c (fun p => sOpt c p (gatS S c))]
  unfold Pipeline.ownSems0
  rw [sm_split]
  unfold finish got pay
  simp only [bigSep_sep']
  iintro ⟨⟨Hv1, Hb, Hm⟩, ⟨Hv2, Hs, Hn⟩, ⟨⟨Hv3, Hmr⟩, Hv4, Hnr⟩, ⟨Hv5, Hbr⟩, Hv6, Hsr⟩
  isplitl [Hm Hmr]
  · isplitl [Hm] <;> iassumption
  isplitl [Hn Hnr]
  · isplitl [Hn] <;> iassumption
  isplitl [Hb Hbr]
  · isplitl [Hb] <;> iassumption
  isplitl [Hs Hsr]
  · isplitl [Hs] <;> iassumption
  isplitl [Hv1 Hv2]
  · isplitl [Hv1]; · iexact Hv1
    iexact Hv2
  isplitl [Hv3 Hv4]
  · isplitl [Hv3]; · iexact Hv3
    iexact Hv4
  isplitl [Hv5]; · iexact Hv5
  iexact Hv6

end Cert.Exchange
-- ==== Proof.Quiet.lean ====
/- The two calls that exchange nothing: the big tensor's sum and optimizer step in row blocks, the small one's sum. -/
module

public import proofs.«01_k».proof.Proof.Body
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Tactic

@[expose] public section

set_option maxRecDepth 16384

noncomputable section

namespace Cert.Update

open Cert.KernelIdeal Cert.KernelIdeal.Gen Cert.Exchange
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ValueIdx (ix2 ix3)

variable {F : FTy → Type} [FloatOps F]

local notation "𝕄" => MT nD τ sig Unit (Elt F) ℕ UU ℕ

/-- Source `k`'s rows of a block of the big tensor. -/
def row (x : Vec F S8x512x128 .bf16) (k : Fin 8) : Vec F S1x512x128 .bf16 := fun i => x (ix3 k (i 1) (i 2))
/-- Source `k`'s rows of the small tensor. -/
def rowS (x : Vec F S8x416x128 .f32) (k : Fin 8) : Vec F S1x416x128 .f32 := fun i => x (ix3 k (i 1) (i 2))

/-- The four blocks the optimizer step leaves: the sum, the step, the two moments. -/
def gOf (x : Vec F S8x512x128 .bf16) : Vec F S512x128 .f32 :=
  k1_pay4 (row x 0) (row x 1) (row x 2) (row x 3) (row x 4) (row x 5) (row x 6) (row x 7)
def dOf (x : Vec F S8x512x128 .bf16) (w m v : Vec F S512x128 .f32) : Vec F S512x128 .f32 := k1_pay3 (gOf x) (k1_pay5 w) m v
def mOf (x : Vec F S8x512x128 .bf16) (m : Vec F S512x128 .f32) : Vec F S512x128 .f32 := k1_pay1 (gOf x) m
def vOf (x : Vec F S8x512x128 .bf16) (v : Vec F S512x128 .f32) : Vec F S512x128 .f32 := k1_pay2 (gOf x) v
/-- The block the small sum leaves. -/
def sOf (x : Vec F S8x416x128 .f32) : Vec F S416x128 .f32 :=
  k2_pay1 (rowS x 0) (rowS x 1) (rowS x 2) (rowS x 3) (rowS x 4) (rowS x 5) (rowS x 6) (rowS x 7)

theorem ld_row (x : Vec F S8x512x128 .bf16) (k : Fin 8) (off : Fin 3 → ℕ) (h : off = ![k.val, 0, 0]) (inb : ∀ a, off a + S1x512x128.size a ≤ S8x512x128.size a) :
    View.ld x (Rect.unit (s := S8x512x128) off S1x512x128.size inb) = row x k := by
  subst h
  rw [View.ld_unit]
  funext i
  refine extractStridedSlice_apply (s := S8x512x128) _ x _ i (ix3 k (i 1) (i 2)) (fun a => ?_)
  fin_cases a
  · have h0 : (i 0).val < 1 := (i 0).isLt
    show k.val = k.val + (i 0).val; omega
  · show (i 1).val = 0 + (i 1).val; omega
  · show (i 2).val = 0 + (i 2).val; omega

theorem ld_rowS (x : Vec F S8x416x128 .f32) (k : Fin 8) (off : Fin 3 → ℕ) (h : off = ![k.val, 0, 0]) (inb : ∀ a, off a + S1x416x128.size a ≤ S8x416x128.size a) :
    View.ld x (Rect.unit (s := S8x416x128) off S1x416x128.size inb) = rowS x k := by
  subst h
  rw [View.ld_unit]
  funext i
  refine extractStridedSlice_apply (s := S8x416x128) _ x _ i (ix3 k (i 1) (i 2)) (fun a => ?_)
  fin_cases a
  · have h0 : (i 0).val < 1 := (i 0).isLt
    show k.val = k.val + (i 0).val; omega
  · show (i 1).val = 0 + (i 1).val; omega
  · show (i 2).val = 0 + (i 2).val; omega

theorem off2 : (![0, 0] : Fin 2 → ℕ) = fun _ => 0 := by decide

/-- What one store over a whole buffer leaves to be read. -/
theorem read_whole {s : Shape} {e : EltTy} {κ : Kind} {sp : Space} (v : View sig κ sp s e) (f : v.ty.Contents (Elt F))
    {off : Fin s.rank → ℕ} (h : off = fun _ => 0) (inb : ∀ a, off a + s.size a ≤ s.size a) (p : s.Idx → Elt F e) :
    v.read (Elt F) (v.writes (Elt F) f [⟨Rect.unit off s.size inb, p⟩]) = p :=
  (View.read_writes_eq_canon v f _ fun y => ⟨_, List.mem_singleton_self _, View.mem_set_unit_zero h inb y⟩).trans
    (View.canon_unit_zero h inb p)

set_option maxHeartbeats 2000000 in
theorem big_run (c : Dev nD) (E : Set ℕ) (i : grid1.Coords) (a1 : Memref sig .tc .vmem S8x512x128 .bf16) (h1 : a1.IsWhole)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (a8 : Memref sig .tc .vmem S512x128 .f32) (h8 : a8.IsWhole)
    (x : Vec F S8x512x128 .bf16) (w m v : Vec F S512x128 .f32) (K : PUnit → sProp 𝕄) :
    iprop(owns (c : Thread nD τ) a1 fullShare x ∗ owns (c : Thread nD τ) a2 fullShare w ∗ owns (c : Thread nD τ) a3 fullShare m ∗ owns (c : Thread nD τ) a4 fullShare v
        ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare m ∗ owns (c : Thread nD τ) a4 fullShare v
          ∗ owns (c : Thread nD τ) a5 fullShare (gOf x) ∗ owns (c : Thread nD τ) a6 fullShare (dOf x w m v) ∗ owns (c : Thread nD τ) a7 fullShare (mOf x m) ∗ owns (c : Thread nD τ) a8 fullShare (vOf x v)) -∗ K ⟨⟩))
      ⊢ wp frame (wpE (defs₀ (F := F)) 𝒱₀ (c : Thread nD τ) none) E (cc1_sum_adamw_big i a1 h1 a2 h2 a3 h3 a4 h4 a5 h5 a6 h6 a7 h7 a8 h8) K := by
  simp only [cc1_sum_adamw_big_eq_skeleton]; unfold cc1_sum_adamw_big_skel
  simp only [k1_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  subst e1 e2 e3 e4
  have hg : ∀ p : Vec F S512x128 .f32, p = k1_pay4
      (View.ld (a1.view.read (Elt F) f1) (Rect.unit (s := S8x512x128) ![0, 0, 0] S1x512x128.size inb_S8x512x128_S1x512x128_0_0_0))
      (View.ld (a1.view.read (Elt F) f1) (Rect.unit (s := S8x512x128) ![1, 0, 0] S1x512x128.size inb_S8x512x128_S1x512x128_1_0_0))
      (View.ld (a1.view.read (Elt F) f1) (Rect.unit (s := S8x512x128) ![2, 0, 0] S1x512x128.size inb_S8x512x128_S1x512x128_2_0_0))
      (View.ld (a1.view.read (Elt F) f1) (Rect.unit (s := S8x512x128) ![3, 0, 0] S1x512x128.size inb_S8x512x128_S1x512x128_3_0_0))
      (View.ld (a1.view.read (Elt F) f1) (Rect.unit (s := S8x512x128) ![4, 0, 0] S1x512x128.size inb_S8x512x128_S1x512x128_4_0_0))
      (View.ld (a1.view.read (Elt F) f1) (Rect.unit (s := S8x512x128) ![5, 0, 0] S1x512x128.size inb_S8x512x128_S1x512x128_5_0_0))
      (View.ld (a1.view.read (Elt F) f1) (Rect.unit (s := S8x512x128) ![6, 0, 0] S1x512x128.size inb_S8x512x128_S1x512x128_6_0_0))
      (View.ld (a1.view.read (Elt F) f1) (Rect.unit (s := S8x512x128) ![7, 0, 0] S1x512x128.size inb_S8x512x128_S1x512x128_7_0_0))
      → p = gOf (a1.view.read (Elt F) f1) := by
    intro p hp
    rw [hp, ld_row _ 0 ![0, 0, 0] rfl _, ld_row _ 1 ![1, 0, 0] rfl _, ld_row _ 2 ![2, 0, 0] rfl _, ld_row _ 3 ![3, 0, 0] rfl _, ld_row _ 4 ![4, 0, 0] rfl _, ld_row _ 5 ![5, 0, 0] rfl _, ld_row _ 6 ![6, 0, 0] rfl _, ld_row _ 7 ![7, 0, 0] rfl _]
    rfl
  have hl : ∀ (y : Vec F S512x128 .f32), View.ld y (Rect.unit (s := S512x128) ![0, 0] S512x128.size inb_S512x128_S512x128_0_0) = y :=
    fun y => View.ld_unit_zero off2 _ y
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_whole _ _ off2 _ _).trans (hg _ rfl)
  isplitl [H6]
  · iexists _; isplitr
    swap; · iexact H6
    ipureintro
    refine (read_whole _ _ off2 _ _).trans ?_
    unfold dOf
    refine congr (congr (congr (congrArg k1_pay3 (hg _ rfl)) (congrArg k1_pay5 (hl _))) (hl _)) (hl _)
  isplitl [H7]
  · iexists _; isplitr
    swap; · iexact H7
    ipureintro
    refine (read_whole _ _ off2 _ _).trans ?_
    unfold mOf
    exact congr (congrArg k1_pay1 (hg _ rfl)) (hl _)
  iexists _; isplitr
  swap; · iexact H8
  ipureintro
  refine (read_whole _ _ off2 _ _).trans ?_
  unfold vOf
  exact congr (congrArg k1_pay2 (hg _ rfl)) (hl _)

set_option maxHeartbeats 1000000 in
theorem small_run (c : Dev nD) (E : Set ℕ) (i : grid2.Coords) (a1 : Memref sig .tc .vmem S8x416x128 .f32) (h1 : a1.IsWhole)
    (a2 : Memref sig .tc .vmem S416x128 .f32) (h2 : a2.IsWhole) (x : Vec F S8x416x128 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (sOf x)) -∗ K ⟨⟩))
      ⊢ wp frame (wpE (defs₀ (F := F)) 𝒱₀ (c : Thread nD τ) none) E (cc2_sum_small i a1 h1 a2 h2) K := by
  simp only [cc2_sum_small_eq_skeleton]; unfold cc2_sum_small_skel
  unfold owns
  iintro ⟨⟨%f1, %e1, H1⟩, ⟨%d2, %f2, -, H2⟩, Hk⟩
  subst e1
  sl_exec
  sl_step
  iapply Hk
  isplitl [H1]
  · iexists f1; isplitr; · ipureintro; rfl
    iexact H1
  iexists _; isplitr
  swap; · iexact H2
  ipureintro
  refine (read_whole _ _ off2 _ _).trans ?_
  unfold sOf
  rw [← ld_rowS _ 0 ![0, 0, 0] rfl inb_S8x416x128_S1x416x128_0_0_0, ← ld_rowS _ 1 ![1, 0, 0] rfl inb_S8x416x128_S1x416x128_1_0_0, ← ld_rowS _ 2 ![2, 0, 0] rfl inb_S8x416x128_S1x416x128_2_0_0,
    ← ld_rowS _ 3 ![3, 0, 0] rfl inb_S8x416x128_S1x416x128_3_0_0, ← ld_rowS _ 4 ![4, 0, 0] rfl inb_S8x416x128_S1x416x128_4_0_0, ← ld_rowS _ 5 ![5, 0, 0] rfl inb_S8x416x128_S1x416x128_5_0_0,
    ← ld_rowS _ 6 ![6, 0, 0] rfl inb_S8x416x128_S1x416x128_6_0_0, ← ld_rowS _ 7 ![7, 0, 0] rfl inb_S8x416x128_S1x416x128_7_0_0]
  rfl

/-! # The proof data, from contents `V` of the buffers -/

variable (V : (c : Dev nD) → (b : Ref sig .tc) → Buf (Elt F) ((c : Thread nD τ).loc b))

/-- The block of window `w` at point `t`. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def blkS (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def datB (c : Dev nD) : Dat τ (Elt F) Unit ℕ UU ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => gOf (blkB V c 0 t)
    | ⟨5, _⟩ => dOf (blkB V c 0 t) (blkB V c 1 t) (blkB V c 2 t) (blkB V c 3 t)
    | ⟨6, _⟩ => mOf (blkB V c 0 t) (blkB V c 2 t)
    | ⟨7, _⟩ => vOf (blkB V c 0 t) (blkB V c 3 t)
  Φ _ := Pipeline.scopedRest spec1 c
  q _ := fullShare
  owed _ := 0

def datS (c : Dev nD) : Dat τ (Elt F) Unit ℕ UU ℕ cfg2 c where
  A w := V c (Pipeline.arrRef spec2 w)
  after w t := match w with
    | ⟨0, _⟩ => blkS V c 0 t
    | ⟨1, _⟩ => sOf (blkS V c 0 t)
  Φ _ := Pipeline.scopedRest spec2 c
  q _ := fullShare
  owed _ := 0

theorem datB_A (c : Dev nD) (w : Fin cfg1.W) : (datB V c).A w = V c (Pipeline.arrRef spec1 w) := by dsimp only [datB]
theorem datS_A (c : Dev nD) (w : Fin cfg2.W) : (datS V c).A w = V c (Pipeline.arrRef spec2 w) := by dsimp only [datS]

theorem afterB (c : Dev nD) (t : Fin cfg1.N) :
    (datB V c).after 0 t = blkB V c 0 t ∧ (datB V c).after 1 t = blkB V c 1 t ∧ (datB V c).after 2 t = blkB V c 2 t ∧ (datB V c).after 3 t = blkB V c 3 t
    ∧ (datB V c).after 4 t = gOf (blkB V c 0 t) ∧ (datB V c).after 5 t = dOf (blkB V c 0 t) (blkB V c 1 t) (blkB V c 2 t) (blkB V c 3 t)
    ∧ (datB V c).after 6 t = mOf (blkB V c 0 t) (blkB V c 2 t) ∧ (datB V c).after 7 t = vOf (blkB V c 0 t) (blkB V c 3 t) := by
  dsimp only [datB]; exact ⟨rfl, rfl, rfl, rfl, rfl, rfl, rfl, rfl⟩
theorem afterS (c : Dev nD) (t : Fin cfg2.N) : (datS V c).after 0 t = blkS V c 0 t ∧ (datS V c).after 1 t = sOf (blkS V c 0 t) := by
  dsimp only [datS]; exact ⟨rfl, rfl⟩

theorem beforeB0 (c : Dev nD) (t : Fin cfg1.N) (d) : (datB V c).before 0 t d = blkB V c 0 t :=
  ((datB V c).before_in_eq_fetched 0 rfl (fun _ => rfl) (fun _ _ _ => rfl) (fun t => by rw [(afterB V c t).1]; unfold Dat.blockOf blkB; rw [datB_A]) t d).trans
    (by unfold Dat.fetched Dat.blockOf blkB; rw [datB_A]; rfl)
theorem beforeB1 (c : Dev nD) (t : Fin cfg1.N) (d) : (datB V c).before 1 t d = blkB V c 1 t :=
  ((datB V c).before_in_eq_fetched 1 rfl (fun _ => rfl) (fun _ _ _ => rfl) (fun t => by rw [(afterB V c t).2.1]; unfold Dat.blockOf blkB; rw [datB_A]) t d).trans
    (by unfold Dat.fetched Dat.blockOf blkB; rw [datB_A]; rfl)
theorem beforeB2 (c : Dev nD) (t : Fin cfg1.N) (d) : (datB V c).before 2 t d = blkB V c 2 t :=
  ((datB V c).before_in_eq_fetched 2 rfl (fun _ => rfl) (fun _ _ _ => rfl) (fun t => by rw [(afterB V c t).2.2.1]; unfold Dat.blockOf blkB; rw [datB_A]) t d).trans
    (by unfold Dat.fetched Dat.blockOf blkB; rw [datB_A]; rfl)
theorem beforeB3 (c : Dev nD) (t : Fin cfg1.N) (d) : (datB V c).before 3 t d = blkB V c 3 t :=
  ((datB V c).before_in_eq_fetched 3 rfl (fun _ => rfl) (fun _ _ _ => rfl) (fun t => by rw [(afterB V c t).2.2.2.1]; unfold Dat.blockOf blkB; rw [datB_A]) t d).trans
    (by unfold Dat.fetched Dat.blockOf blkB; rw [datB_A]; rfl)
theorem beforeS0 (c : Dev nD) (t : Fin cfg2.N) (d) : (datS V c).before 0 t d = blkS V c 0 t :=
  ((datS V c).before_in_eq_fetched 0 rfl (fun _ => rfl) (fun _ _ _ => rfl) (fun t => by rw [(afterS V c t).1]; unfold Dat.blockOf blkS; rw [datS_A]) t d).trans
    (by unfold Dat.fetched Dat.blockOf blkS; rw [datS_A]; rfl)

/-- The body at every point leaves what the proof data says. -/
theorem bodyB (c : Dev nD) (t : Fin cfg1.N) :
    iprop((datB V c).Φ t.castSucc ∗ (datB V c).owesAt () t.castSucc
      ∗ (∃ d, owns (c : Thread nD τ) (st1_0 t) fullShare ((datB V c).before 0 t d)) ∗ (∃ d, owns (c : Thread nD τ) (st1_1 t) fullShare ((datB V c).before 1 t d))
      ∗ (∃ d, owns (c : Thread nD τ) (st1_2 t) fullShare ((datB V c).before 2 t d)) ∗ (∃ d, owns (c : Thread nD τ) (st1_3 t) fullShare ((datB V c).before 3 t d))
      ∗ (∃ d, owns (c : Thread nD τ) (st1_4 t) fullShare ((datB V c).before 4 t d)) ∗ (∃ d, owns (c : Thread nD τ) (st1_5 t) fullShare ((datB V c).before 5 t d))
      ∗ (∃ d, owns (c : Thread nD τ) (st1_6 t) fullShare ((datB V c).before 6 t d)) ∗ (∃ d, owns (c : Thread nD τ) (st1_7 t) fullShare ((datB V c).before 7 t d)))
    ⊢ wp frame (wpE (defs₀ (F := F)) 𝒱₀ (c : Thread nD τ) none) Set.univ (bodyAt1 t) fun _ =>
      iprop((datB V c).Φ t.succ ∗ (datB V c).owesAt () t.succ
        ∗ owns (c : Thread nD τ) (st1_0 t) fullShare ((datB V c).after 0 t) ∗ owns (c : Thread nD τ) (st1_1 t) fullShare ((datB V c).after 1 t)
        ∗ owns (c : Thread nD τ) (st1_2 t) fullShare ((datB V c).after 2 t) ∗ owns (c : Thread nD τ) (st1_3 t) fullShare ((datB V c).after 3 t)
        ∗ owns (c : Thread nD τ) (st1_4 t) fullShare ((datB V c).after 4 t) ∗ owns (c : Thread nD τ) (st1_5 t) fullShare ((datB V c).after 5 t)
        ∗ owns (c : Thread nD τ) (st1_6 t) fullShare ((datB V c).after 6 t) ∗ owns (c : Thread nD τ) (st1_7 t) fullShare ((datB V c).after 7 t)) := by
  obtain ⟨a0, a1, a2, a3, a4, a5, a6, a7⟩ := afterB V c t
  unfold bodyAt1
  simp only [beforeB0, beforeB1, beforeB2, beforeB3]
  rw [show (datB V c).Φ t.succ = (datB V c).Φ t.castSucc from rfl, show (datB V c).owesAt () t.succ = (datB V c).owesAt () t.castSucc from rfl,
    a0, a1, a2, a3, a4, a5, a6, a7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (big_run c Set.univ (grid1.coords t) _ _ _ _ _ _ _ _ _ _ _ _ _ _ _ _ (blkB V c 0 t) (blkB V c 1 t) (blkB V c 2 t) (blkB V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bodyS (c : Dev nD) (t : Fin cfg2.N) :
    iprop((datS V c).Φ t.castSucc ∗ (datS V c).owesAt () t.castSucc
      ∗ (∃ d, owns (c : Thread nD τ) (st2_0 t) fullShare ((datS V c).before 0 t d)) ∗ (∃ d, owns (c : Thread nD τ) (st2_1 t) fullShare ((datS V c).before 1 t d)))
    ⊢ wp frame (wpE (defs₀ (F := F)) 𝒱₀ (c : Thread nD τ) none) Set.univ (bodyAt2 t) fun _ =>
      iprop((datS V c).Φ t.succ ∗ (datS V c).owesAt () t.succ
        ∗ owns (c : Thread nD τ) (st2_0 t) fullShare ((datS V c).after 0 t) ∗ owns (c : Thread nD τ) (st2_1 t) fullShare ((datS V c).after 1 t)) := by
  obtain ⟨a0, a1⟩ := afterS V c t
  unfold bodyAt2
  simp only [beforeS0]
  rw [show (datS V c).Φ t.succ = (datS V c).Φ t.castSucc from rfl, show (datS V c).owesAt () t.succ = (datS V c).owesAt () t.castSucc from rfl, a0, a1]
  iintro ⟨HΦ, Ho, ⟨%d0, H0⟩, ⟨%d1, H1⟩⟩
  iapply (small_run c Set.univ (grid2.coords t) _ _ _ _ (blkS V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_big (t : Fin cfg1.N) : defs₀ (F := F) .tc cfg1.body (cfg1.bodyArgs t (cfg1.slots t)) = bodyAt1 t := by
  unfold defs₀; rw [Defs.onTc_tc]
theorem defs₀_small (t : Fin cfg2.N) : defs₀ (F := F) .tc cfg2.body (cfg2.bodyArgs t (cfg2.slots t)) = bodyAt2 t := by
  unfold defs₀; rw [Defs.onTc_tc]

theorem oblB (c : Dev nD) : BodyObligation (datB V c) (defs₀ (F := F)) 𝒱₀ () Set.univ := fun t => by
  rw [bigSep_W1, bigSep_W1, defs₀_big]
  exact triple_restated (bodyB V c t) rfl .rfl fun _ => .rfl
theorem oblS (c : Dev nD) : BodyObligation (datS V c) (defs₀ (F := F)) 𝒱₀ () Set.univ := fun t => by
  rw [bigSep_W2, bigSep_W2, defs₀_small]
  exact triple_restated (bodyS V c t) rfl .rfl fun _ => .rfl

end Cert.Update
-- ==== Proof.Global.lean ====
/- Launching several kernel calls whose first state is made from every device's holdings at once, the scoped semaphores
   of all devices among them: needed by a kernel whose remote copies raise a peer's scoped semaphore with no barrier before. -/
module

public import Idealize.ShloMosaic.Lib.Pipeline.Regions
public import Idealize.ShloMosaic.Lib.Pipeline.Kit

@[expose] public section

set_option Elab.async false

noncomputable section

namespace Cert.Global

open Idealize.ShloMosaic Idealize.ShloMosaic.Pipeline
open Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

variable (L : GSem nD τ sig → Finset Ix) (lv : GSem nD τ sig → Ix → Lvl)

/-- The level facts of every cell, off what each core holds at the start; only the cells of the main cores have levels. -/
theorem levels_all (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have none : (bigSep Finset.univ fun d : Dev nD => bigSep (Finset.univ.erase Proc.tc) fun p => (coreLevAts ((d, p) : Thread nD τ) L lv : sProp 𝕄)) = BI.emp := by
    have one (d : Dev nD) (p : Proc τ) (hp : p ≠ .tc) : (coreLevAts ((d, p) : Thread nD τ) L lv : sProp 𝕄) = BI.emp := by
      unfold coreLevAts
      rw [bigSep_congr (Ψ := fun _ : SemLoc sig => (BI.emp : sProp 𝕄)) fun sm _ => by rw [hL (((d, p) : Thread nD τ), sm) hp, BI.bigSep_empty], BI.bigSep_emp_const]
    rw [bigSep_congr (Ψ := fun _ : Dev nD => (BI.emp : sProp 𝕄)) fun d _ =>
      (bigSep_congr (Ψ := fun _ : Proc τ => (BI.emp : sProp 𝕄)) fun p hp => one d p (Finset.ne_of_mem_erase hp)).trans (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), none, bigSep_sep']
  refine show iprop((bigSep Finset.univ fun c : Dev nD => bigSep Finset.univ fun sm : SemLoc sig => levels ((c.tc : Thread nD τ), sm) (L ((c.tc : Thread nD τ), sm)))
      ∗ bigSep Finset.univ fun c : Dev nD => coreLevAts (c.tc : Thread nD τ) L lv) ⊢ iprop((bigSep Finset.univ fun d : Dev nD => coreLevAts (d.tc : Thread nD τ) L lv) ∗ BI.emp) from ?_
  iintro ⟨-, H⟩
  isplitl [H]; · iexact H
  iempintro

variable (pcs : P → PCfg sig Λ₀ Val) (a : (p : P) → (pcs p).Adm) (phinj : Function.Injective (cellOf (nD := nD) (pin pcs a)))
  (EP : Emb (URounds (GSem nD τ sig) Unit) (MT nD τ sig Ix Val Name U Lvl)) (defs₀ : Defs nD τ sig Val Λ₀) (𝒱₀ : Variants)

local notation "𝔻" => Pipeline.defs pcs defs₀
local notation "𝕍" => Variants.lift 𝒱₀

/-- What device `c` holds at the start. -/
def holds (m : (ℓ : Loc nD τ sig) → Buf Val ℓ) (ρ : Dev nD → PrngReg) (O₀ : Dev nD → CellTallies nD τ sig Ix) (G : Dev nD → sProp 𝕄) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (ρ c) ∗ G c)

include phinj in
/-- Every weakly fair execution of `main` ends, with what `hfin` reads off and every scoped counter at zero. -/
theorem run_all [DecidableEq P] [∀ e, Nonempty (Val e)] [Infinite Name] [EP.LandsIn (upEmb : UEmb _ 𝕄)]
    (m : (ℓ : Loc nD τ sig) → Buf Val ℓ) (ρ : Dev nD → PrngReg)
    (main : Dev nD → Prog (TpuEff nD τ sig Val (Sig Λ₀ P fun p => (pcs p).Adm) .tc) PUnit)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄) ⊢ |={Set.univ}=> iprop(BI.own (EP (initOf (Pipeline.cells (pin pcs a) phinj) (Pipeline.launchToks (pin pcs a) phinj))) ∗ bigSep Finset.univ G))
    (T₀ Tₙ : Dev nD → sProp 𝕄)
    (hinit : iprop((bigSep Finset.univ fun c : Dev nD => holds m ρ O₀ G c) ∗ levAts L lv) ⊢ |={Set.univ}=> bigSep Finset.univ T₀)
    (hrun : ∀ (c : Dev nD) (Q : PUnit → sProp 𝕄),
      iprop((iprop(Tₙ c ∗ boundary (c.tc : Thread nD τ) ∗ ∃ W, owes (c.tc : Thread nD τ) (0 : CellTallies nD τ sig Ix) W) -∗ Q ⟨⟩)
          ∗ T₀ c ∗ levAts L lv ∗ Pipeline.ghostOn pcs a EP Finset.univ c)
        ⊢ wp frame (wpE 𝔻 𝕍 (c.tc : Thread nD τ) none) Set.univ (main c) Q)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, ρ⟩ Q := by
  classical
  let pre : Dev nD → sProp 𝕄 := fun c => iprop(T₀ c ∗ levAts L lv ∗ Pipeline.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have deal : iprop((bigSep Finset.univ fun d : Dev nD =>
          coreInit (Ix := Ix) (Name := Name) (U := U) (Lvl := Lvl) (owing O₀) 0 (⟨m, fun _ => 0, ρ⟩ : MemSt nD τ sig Val) (d.tc : Thread nD τ)) ∗ bigSep Finset.univ G)
        ⊢ (iprop((bigSep Finset.univ fun c : Dev nD => holds m ρ O₀ G c)
          ∗ bigSep Finset.univ fun c : Dev nD => levels0 (Ix := Ix) (Val := Val) (Name := Name) (U := U) (Lvl := Lvl) (τ := τ) (sig := sig) c) : sProp 𝕄) := by
      rw [← bigSep_sep', ← bigSep_sep']
      refine bigSep_mono fun c _ => (sep_mono (coreInit_boundary_owing O₀ m ρ c) .rfl).trans ?_
      unfold holds
      iintro ⟨⟨Hb, Hub, Hus, HL, Hlv, Hpr, Hcr⟩, HG⟩
      isplitr [Hlv]
      · isplitl [Hb]; · iexact Hb
        isplitl [Hub]; · iexact Hub
        isplitl [Hus]; · iexact Hus
        isplitl [HL]; · iexact HL
        isplitl [Hcr]; · iexact Hcr
        isplitl [Hpr]; · iexact Hpr
        iexact HG
      · iexact Hlv
    have ghost : iprop((bigSep Finset.univ fun c : Dev nD => bigSep Finset.univ fun p => PerCore.cellsGhost (pinD pcs fun _ => a) EP p c)
          ∗ (bigSep Finset.univ fun c : Dev nD => bigSep Finset.univ fun p => (PerCore.toksInit (pinD pcs fun _ => a) EP p c : sProp 𝕄)))
        ⊢ bigSep Finset.univ fun c : Dev nD => Pipeline.ghostOn pcs a EP Finset.univ c := by
      rw [← bigSep_sep']
      exact bigSep_mono fun c _ => show iprop((bigSep Finset.univ fun p => PerCore.cellsGhost (pinD pcs fun _ => a) EP p c)
          ∗ bigSep Finset.univ fun p => (PerCore.toksInit (pinD pcs fun _ => a) EP p c : sProp 𝕄)) ⊢ PerCore.ghostOn pcs (fun _ => a) EP Finset.univ c
        from Entails.of_eq (by unfold PerCore.ghostOn; rw [bigSep_sep'])
    iintro ⟨Hcores, Hu⟩
    imod hu₀ $$ Hu with ⟨HP, HG⟩
    ihave Hc := deal $$ [Hcores HG]
    · isplitl [Hcores] <;> iassumption
    icases Hc with ⟨Hh, Hlv⟩
    imod (levels_all L lv hL) $$ Hlv with #Hla
    imod (PerCore.fund_ghost (pinD pcs fun _ => a) EP phinj) $$ HP with ⟨Hg, Ht⟩
    imod hinit $$ [Hh] with HT
    · isplitl [Hh]; · iexact Hh
      iexact Hla
    imodintro
    iexists ()
    isplitr []
    · simp only [pre, bigSep_sep']
      isplitl [HT]; · iexact HT
      isplitr; · iapply (BI.bigSep_intro_persistent (S := Finset.univ) fun (c : Dev nD) _ => (BI.Entails.refl (levAts L lv : sProp 𝕄))); iexact Hla
      iapply ghost
      isplitl [Hg] <;> iassumption
    · iempintro
  · simp only [pre]
    iintro ⟨HT, Hla, Hg⟩
    iapply (hrun c _)
    isplitr [HT Hla Hg]
    · iintro ⟨HT, Hbd, HW⟩
      unfold post; simp only [liftTc_tc, fin]
      isplitl [HT Hbd]
      · isplitl [HT]; · iexact HT
        iexact Hbd
      iexact HW
    · isplitl [HT]; · iexact HT
      isplitl [Hla]; · iexact Hla
      iexact Hg
  · iintro ⟨H, -, Hsc⟩ %s' HSI
    ihave %hsc := (scSems_read_zero m ρ s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Global
-- ==== Proof.Whole.lean ====
/- The three calls one after another on every device: the exchange, the big tensor's update, the small tensor's sum. -/
module

public import proofs.«01_k».proof.Proof.Deal
public import proofs.«01_k».proof.Proof.Quiet
public import proofs.«01_k».proof.Proof.Global
public import proofs.«01_k».proof.Proof.Gen.KernelIdeal.Regions

@[expose] public section

set_option maxRecDepth 16384

noncomputable section

namespace Cert.Update

open Cert.KernelIdeal Cert.KernelIdeal.Gen Cert.Exchange
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold before and after each call -/

def B₀ (c : Dev nD) : BigBuf F := m ((c : Thread nD τ).loc main_arg0)
def S₀ (c : Dev nD) : SmallBuf F := m ((c : Thread nD τ).loc main_arg1)

def W0 (c : Dev nD) : Valuation τ sig (Elt F) := fun b => m (c, b)
def W1 (c : Dev nD) : Valuation τ sig (Elt F) :=
  Function.update (Function.update (W0 m c) (Proc.devRef .tc main_v1_0) (gatB (B₀ m) c)) (Proc.devRef .tc main_v1_1) (gatS (S₀ m) c)
abbrev V1 (c : Dev nD) (b : Ref sig .tc) : Buf (Elt F) ((c : Thread nD τ).loc b) := W1 m c (Proc.devRef .tc b)
def W2 (c : Dev nD) : Valuation τ sig (Elt F) :=
  Pipeline.withArrays spec1 c (W1 m c) fun w => (datB (V1 m) c).arrAt w cfg1.N
abbrev V2 (c : Dev nD) (b : Ref sig .tc) : Buf (Elt F) ((c : Thread nD τ).loc b) := W2 m c (Proc.devRef .tc b)
def W3 (c : Dev nD) : Valuation τ sig (Elt F) :=
  Pipeline.withArrays spec2 c (W2 m c) fun w => (datS (V2 m) c).arrAt w cfg2.N
abbrev V3 (c : Dev nD) (b : Ref sig .tc) : Buf (Elt F) ((c : Thread nD τ).loc b) := W3 m c (Proc.devRef .tc b)

theorem W1_of_ne (c : Dev nD) (b : Ref sig .tc) (h0 : b ≠ main_v1_0) (h1 : b ≠ main_v1_1) : W1 m c (Proc.devRef .tc b) = W0 m c (Proc.devRef .tc b) := by
  unfold W1
  rw [Function.update_of_ne (fun e => h1 (Proc.devRef_injective _ e)), Function.update_of_ne (fun e => h0 (Proc.devRef_injective _ e))]
theorem W1_big (c : Dev nD) : W1 m c (Proc.devRef .tc main_v1_0) = gatB (B₀ m) c := by
  unfold W1
  rw [Function.update_of_ne (by decide), Function.update_self]
theorem W1_small (c : Dev nD) : W1 m c (Proc.devRef .tc main_v1_1) = gatS (S₀ m) c := by
  unfold W1; rw [Function.update_self]

theorem W2_arr (c : Dev nD) (w : Fin cfg1.W) : W2 m c (Proc.devRef .tc (Pipeline.arrRef spec1 w)) = (datB (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) : W2 m c (Proc.devRef .tc b) = W1 m c (Proc.devRef .tc b) := by
  unfold W2; exact Pipeline.withArrays_of_ne spec1 c _ _ b hb
theorem W3_arr (c : Dev nD) (w : Fin cfg2.W) : W3 m c (Proc.devRef .tc (Pipeline.arrRef spec2 w)) = (datS (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) : W3 m c (Proc.devRef .tc b) = W2 m c (Proc.devRef .tc b) := by
  unfold W3; exact Pipeline.withArrays_of_ne spec2 c _ _ b hb

/-- An input of the update keeps its contents. -/
theorem W2_in (c : Dev nD) (w : Fin cfg1.W) (h : (cfg1.win w).isOut = false) :
    W2 m c (Proc.devRef .tc (Pipeline.arrRef spec1 w)) = W1 m c (Proc.devRef .tc (Pipeline.arrRef spec1 w)) :=
  (W2_arr m c w).trans (((datB (V1 m) c).arrAt_in w h _).trans (datB_A (V1 m) c w))

theorem end_arg (c : Dev nD) : ∀ b : Ref sig .tc, b ∈ [main_arg0, main_arg1, main_arg2, main_arg3, main_arg4] →
    W3 m c (Proc.devRef .tc b) = m ((c : Thread nD τ).loc b) := by
  intro b hb
  have n : ∀ b : Ref sig .tc, b ∈ [main_arg0, main_arg1, main_arg2, main_arg3, main_arg4] → (∀ w, Pipeline.arrRef spec2 w ≠ b) ∧ b ≠ main_v1_0 ∧ b ≠ main_v1_1 := by decide
  have h3 : W3 m c (Proc.devRef .tc b) = W2 m c (Proc.devRef .tc b) := W3_of_ne m c b (n b hb).1
  have h1 : W1 m c (Proc.devRef .tc b) = m ((c : Thread nD τ).loc b) := W1_of_ne m c b (n b hb).2.1 (n b hb).2.2
  refine h3.trans (Eq.trans ?_ h1)
  simp only [List.mem_cons, List.mem_singleton, List.not_mem_nil, _root_.or_false] at hb
  rcases hb with rfl | rfl | rfl | rfl | rfl
  · exact W2_of_ne m c _ (by decide)
  · exact W2_of_ne m c _ (by decide)
  · exact W2_in m c 1 rfl
  · exact W2_in m c 2 rfl
  · exact W2_in m c 3 rfl

/-! ## The exchange as a call -/

abbrev adm : (p : Fin 3) → (pcfgs (F := F) p).Adm := fun p => (cfgs p).toPCfg_adm

def datX (c : Dev nD) : Dat τ (Elt F) Unit ℕ UU ℕ cfg0 c where
  A w := w.elim0
  after w := w.elim0
  Φ t := if t.val = 0 then iprop(((∃ K, recs (B₀ m) (S₀ m) K) ∗ start (B₀ m) (S₀ m) c) ∗ Pipeline.scopedRest cfg0.spec c)
    else iprop(finish (B₀ m) (S₀ m) c ∗ Pipeline.scopedRest cfg0.spec c)
  q w := w.elim0
  owed t := if t.val = 0 then O₀ c else 0

def pdats : (p : Fin 3) → (c : Dev nD) → Dat τ (Elt F) Unit ℕ UU ℕ (Pipeline.pin (pcfgs (F := F)) adm p) c
  | ⟨0, _⟩ => datX m
  | ⟨1, _⟩ => datB (V1 m)
  | ⟨2, _⟩ => datS (V2 m)

theorem noWin (Φ : Fin 0 → sProp 𝕄) : bigSep Finset.univ Φ = (BI.emp : sProp 𝕄) := by
  rw [show (Finset.univ : Finset (Fin 0)) = ∅ from rfl, BI.bigSep_empty]

theorem Φ_first (c : Dev nD) (t : Fin (cfg0.N + 1)) (h : t.val = 0) : (datX m c).Φ t
    = iprop(((∃ K, recs (B₀ m) (S₀ m) K) ∗ start (B₀ m) (S₀ m) c) ∗ Pipeline.scopedRest cfg0.spec c) := by
  dsimp only [datX]; exact if_pos h
theorem Φ_last (c : Dev nD) (t : Fin (cfg0.N + 1)) (h : t.val ≠ 0) : (datX m c).Φ t = iprop(finish (B₀ m) (S₀ m) c ∗ Pipeline.scopedRest cfg0.spec c) := by
  dsimp only [datX]; exact if_neg h
theorem owed_first (c : Dev nD) (t : Fin (cfg0.N + 1)) (h : t.val = 0) : (datX m c).owed t = O₀ c := by
  dsimp only [datX]; exact if_pos h
theorem owed_last (c : Dev nD) (t : Fin (cfg0.N + 1)) (h : t.val ≠ 0) : (datX m c).owed t = 0 := by
  dsimp only [datX]; exact if_neg h

theorem owes_in {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) : ow c O ⊢ (dat.owesAt () t : sProp 𝕄) := by
  unfold ow Dat.owesAt Pipeline.owesWithin Dat.bound; rw [h, hr]
  iintro ⟨%W, HO⟩; iexists W; isplitr; · ipureintro; exact fun _ _ => Or.inl trivial
  iexact HO
theorem owes_out {cfg : Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ ow c O := by
  unfold ow Dat.owesAt Pipeline.owesWithin; rw [h]
  iintro ⟨%W, -, HO⟩; iexists W; iexact HO

theorem defs₀_exchange (t : Fin cfg0.N) : defs₀ (F := F) .tc cfg0.body (cfg0.bodyArgs t (cfg0.slots t)) = bodyAt0 t := by
  unfold defs₀; rw [Defs.onTc_tc]

theorem oblX (c : Dev nD) : BodyObligation (datX m c) (defs₀ (F := F)) 𝒱₀ () Set.univ := fun t => by
  obtain rfl := fin_N0 t
  rw [noWin, noWin, Φ_first m c t0_0.castSucc rfl, Φ_last m c t0_0.succ (by simp), defs₀_exchange]
  iintro ⟨⟨⟨⟨%K, #HR⟩, Hs⟩, Hsc⟩, HO, -⟩
  ihave HO' := (owes_out (datX m c) t0_0.castSucc (O₀ c) (owed_first m c _ rfl)) $$ HO
  iapply (body_run (B₀ m) (S₀ m) K c _)
  isplitl [Hs HO']
  · isplitr; · iexact HR
    isplitl [Hs] <;> iassumption
  iintro Hf HO
  isplitl [Hf Hsc]
  · isplitl [Hf] <;> iassumption
  isplitl [HO]
  · iapply (owes_in (datX m c) t0_0.succ 0 (owed_last m c _ (by simp)) rfl); iexact HO
  iempintro

/-! ## The two quiet calls as segments -/

set_option backward.isDefEq.respectTransparency.types false in
def segB : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (oblB (V1 m) c).loose
  hwaits := Pipeline.hwaits_of_owed_zero _ _ _ _ L lv 1 fun _ _ => rfl
  pre c := iprop(unscopedBufs c (V1 m c) ∗ ow c 0)
  post c := iprop(unscopedBufs c (V2 m c) ∗ ow c 0)
  X c := iprop(emp)
  Y c := iprop(emp)
  Z c := Pipeline.unscopedRest (Ix := Unit) (Name := ℕ) (U := UU) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (datB_A (V1 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (datB (V1 m) c) 0 0 rfl rfl); iexact HO
    isplitr; · iempintro
    iexact Hrest
  hin c := by
    rw [show (pdats m 1 c).Φ 0 = Pipeline.scopedRest spec1 c from rfl]
    iintro ⟨-, -, Hr⟩
    iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats m) ((pdats m 1 c).share_full fun _ => rfl)
      (V1 m c) (V2 m c) ((pdats m 1 c).arrAt · cfg1.N) (fun w => (W2_arr m c w).symm)
      (fun b hb => W2_of_ne m c b fun w e => hb (Finset.mem_image.mpr ⟨w, Finset.mem_univ _, e⟩))
    iintro ⟨Ha, HO, -, Hrest⟩
    imodintro
    isplitl [Ha Hrest]
    · iapply hjoin; isplitl [Ha] <;> iassumption
    iapply (owes_out (datB (V1 m) c) (Fin.last _) 0 rfl); iexact HO

set_option backward.isDefEq.respectTransparency.types false in
def segS : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (oblS (V2 m) c).loose
  hwaits := Pipeline.hwaits_of_owed_zero _ _ _ _ L lv 2 fun _ _ => rfl
  pre c := iprop(unscopedBufs c (V2 m c) ∗ ow c 0)
  post c := iprop(unscopedBufs c (V3 m c) ∗ ow c 0)
  X c := iprop(emp)
  Y c := iprop(emp)
  Z c := Pipeline.unscopedRest (Ix := Unit) (Name := ℕ) (U := UU) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) (datS_A (V2 m) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in (datS (V2 m) c) 0 0 rfl rfl); iexact HO
    isplitr; · iempintro
    iexact Hrest
  hin c := by
    rw [show (pdats m 2 c).Φ 0 = Pipeline.scopedRest spec2 c from rfl]
    iintro ⟨-, -, Hr⟩
    iexact Hr
  hout c := by
    rw [Pipeline.ownSems0_none, show (pdats m 2 c).Φ (Fin.last _) = Pipeline.scopedRest spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UU) (Lvl := ℕ)
      launch2.win launch2.arr_whole c (pdats m) ((pdats m 2 c).share_full fun _ => rfl)
      (V2 m c) (V3 m c) ((pdats m 2 c).arrAt · cfg2.N) (fun w => (W3_arr m c w).symm)
      (fun b hb => W3_of_ne m c b fun w e => hb (Finset.mem_image.mpr ⟨w, Finset.mem_univ _, e⟩))
    iintro ⟨Ha, HO, -, Hrest⟩
    imodintro
    isplitl [Ha Hrest]
    · iapply hjoin; isplitl [Ha] <;> iassumption
    iapply (owes_out (datS (V2 m) c) (Fin.last _) 0 rfl); iexact HO

/-! ## The buffers one by one -/

/-- The buffers the exchange does not touch. -/
def others (c : Dev nD) (V : (b : Ref sig .tc) → Buf (Elt F) ((c : Thread nD τ).loc b)) : sProp 𝕄 :=
  iprop((((c : Thread nD τ).loc main_arg2) ↦{fullShare} V main_arg2) ∗ (((c : Thread nD τ).loc main_arg3) ↦{fullShare} V main_arg3)
    ∗ (((c : Thread nD τ).loc main_arg4) ↦{fullShare} V main_arg4)
    ∗ (((c : Thread nD τ).loc main_v2_0) ↦{fullShare} V main_v2_0) ∗ (((c : Thread nD τ).loc main_v2_1) ↦{fullShare} V main_v2_1)
    ∗ (((c : Thread nD τ).loc main_v2_2) ↦{fullShare} V main_v2_2) ∗ (((c : Thread nD τ).loc main_v2_3) ↦{fullShare} V main_v2_3)
    ∗ (((c : Thread nD τ).loc main_v3) ↦{fullShare} V main_v3))

theorem bufs_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_arg1) ↦{fullShare} V main_arg1)
      ∗ (((c : Thread nD τ).loc main_arg2) ↦{fullShare} V main_arg2) ∗ (((c : Thread nD τ).loc main_arg3) ↦{fullShare} V main_arg3)
      ∗ (((c : Thread nD τ).loc main_arg4) ↦{fullShare} V main_arg4)
      ∗ (((c : Thread nD τ).loc main_v1_0) ↦{fullShare} V main_v1_0) ∗ (((c : Thread nD τ).loc main_v1_1) ↦{fullShare} V main_v1_1)
      ∗ (((c : Thread nD τ).loc main_v2_0) ↦{fullShare} V main_v2_0) ∗ (((c : Thread nD τ).loc main_v2_1) ↦{fullShare} V main_v2_1)
      ∗ (((c : Thread nD τ).loc main_v2_2) ↦{fullShare} V main_v2_2) ∗ (((c : Thread nD τ).loc main_v2_3) ↦{fullShare} V main_v2_3)
      ∗ (((c : Thread nD τ).loc main_v3) ↦{fullShare} V main_v3)) := by
  rw [Pipeline.unscopedBufs_split cfgs 0 launch0.win.arr_unscoped launch0.win.arr_inj c V, ← unscopedRest0_eq (Ix := Unit) (Name := ℕ) (U := UU) (Lvl := ℕ) c V]
  rw [noWin]
  exact BI.equiv_iff.mp emp_sep

theorem W0_out (c : Dev nD) : (unscopedBufs c (fun b => m ((c : Thread nD τ).loc b)) : sProp 𝕄)
    ⊢ iprop((((c : Thread nD τ).loc main_arg0) ↦{fullShare} B₀ m c) ∗ (((c : Thread nD τ).loc main_arg1) ↦{fullShare} S₀ m c)
      ∗ (∃ f : BigOut F, ((c : Thread nD τ).loc main_v1_0) ↦{fullShare} f) ∗ (∃ f : SmallOut F, ((c : Thread nD τ).loc main_v1_1) ↦{fullShare} f)
      ∗ others c (V1 m c)) := by
  have e : ∀ b : Ref sig .tc, b ≠ main_v1_0 → b ≠ main_v1_1 → V1 m c b = m ((c : Thread nD τ).loc b) := fun b h h' => W1_of_ne m c b h h'
  unfold others
  rw [bufs_eq, e main_arg2 (by decide) (by decide), e main_arg3 (by decide) (by decide), e main_arg4 (by decide) (by decide), e main_v2_0 (by decide) (by decide),
    e main_v2_1 (by decide) (by decide), e main_v2_2 (by decide) (by decide), e main_v2_3 (by decide) (by decide), e main_v3 (by decide) (by decide)]
  iintro ⟨H0, H1, H2, H3, H4, H5, H6, H7, H8, H9, H10, H11⟩
  isplitl [H0]; · iexact H0
  isplitl [H1]; · iexact H1
  isplitl [H5]; · iexists _; iexact H5
  isplitl [H6]; · iexists _; iexact H6
  isplitl [H2]; · iexact H2
  isplitl [H3]; · iexact H3
  isplitl [H4]; · iexact H4
  isplitl [H7]; · iexact H7
  isplitl [H8]; · iexact H8
  isplitl [H9]; · iexact H9
  isplitl [H10]; · iexact H10
  iexact H11

theorem W1_in (c : Dev nD) : iprop((((c : Thread nD τ).loc main_arg0) ↦{fullShare} B₀ m c) ∗ (((c : Thread nD τ).loc main_arg1) ↦{fullShare} S₀ m c)
      ∗ (((c : Thread nD τ).loc main_v1_0) ↦{fullShare} gatB (B₀ m) c) ∗ (((c : Thread nD τ).loc main_v1_1) ↦{fullShare} gatS (S₀ m) c)
      ∗ others c (V1 m c)) ⊢ (unscopedBufs c (V1 m c) : sProp 𝕄) := by
  have e : ∀ b : Ref sig .tc, b ≠ main_v1_0 → b ≠ main_v1_1 → V1 m c b = m ((c : Thread nD τ).loc b) := fun b h h' => W1_of_ne m c b h h'
  rw [bufs_eq, e main_arg0 (by decide) (by decide), e main_arg1 (by decide) (by decide), show V1 m c main_v1_0 = _ from W1_big m c, show V1 m c main_v1_1 = _ from W1_small m c]
  unfold others
  iintro ⟨H0, H1, H5, H6, H2, H3, H4, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The run -/

theorem oFacts : Pipeline.OwnSemFacts cfg0.spec osem := by
  refine ⟨?_, osemEmb.injective, fun _ w => w.elim0⟩
  decide

theorem sems_eq (c : Dev nD) : (scopedSems0 (c.tc : Thread nD τ) : sProp 𝕄)
    = iprop((Pipeline.cellsSems0 (Pipeline.pin (pcfgs (F := F)) adm) 0 c ∗ Pipeline.ownSems0 osem c)
      ∗ Pipeline.idleSems0 (Pipeline.pin (pcfgs (F := F)) adm) cellOf_inj 0 oFacts c) :=
  Pipeline.scopedSems0_split (Pipeline.pin (pcfgs (F := F)) adm) cellOf_inj 0 launch0.win.to₀ oFacts c

/-- What a device holds once the exchange's protocol is dealt. -/
def T₀ (c : Dev nD) : sProp 𝕄 :=
  iprop(((∃ K, recs (B₀ m) (S₀ m) K) ∗ start (B₀ m) (S₀ m) c) ∗ ow c (O₀ c) ∗ others c (V1 m c) ∗ scopedBufs (c.tc : Thread nD τ)
    ∗ Pipeline.cellsSems0 (Pipeline.pin (pcfgs (F := F)) adm) 0 c ∗ Pipeline.idleSems0 (Pipeline.pin (pcfgs (F := F)) adm) cellOf_inj 0 oFacts c
    ∗ opIdle (c.tc : Thread nD τ))

def T₀rest (c : Dev nD) : sProp 𝕄 :=
  iprop(ow c (O₀ c) ∗ others c (V1 m c) ∗ scopedBufs (c.tc : Thread nD τ)
    ∗ Pipeline.cellsSems0 (Pipeline.pin (pcfgs (F := F)) adm) 0 c ∗ Pipeline.idleSems0 (Pipeline.pin (pcfgs (F := F)) adm) cellOf_inj 0 oFacts c
    ∗ opIdle (c.tc : Thread nD τ))

def onFirst (X : sProp 𝕄) (c : Dev nD) : sProp 𝕄 := if c = 0 then X else iprop(emp)
theorem onFirst_all (X : sProp 𝕄) : bigSep Finset.univ (onFirst X) = X := by
  rw [BI.bigSep_univ_at _ (0 : Dev nD), show onFirst X 0 = X from if_pos rfl, BI.bigSep_congr (Φ := onFirst X) (Ψ := fun _ => (BI.emp : sProp 𝕄)) fun c hc => if_neg (Finset.ne_of_mem_erase hc),
    BI.bigSep_emp_const]
  exact BI.equiv_iff.mp sep_emp

def key : sProp 𝕄 := BI.own (EX (launchOf cells ∅ toks))
def u₀ : UU := (initOf (Pipeline.cells (Pipeline.pin (pcfgs (F := F)) adm) cellOf_inj) (Pipeline.launchToks (Pipeline.pin (pcfgs (F := F)) adm) cellOf_inj), launchOf cells ∅ toks)

theorem u₀_split : (ownU (u₀ (F := F)) : sProp 𝕄) ⊢ |={Set.univ}=>
    iprop(BI.own (EP (initOf (Pipeline.cells (Pipeline.pin (pcfgs (F := F)) adm) cellOf_inj) (Pipeline.launchToks (Pipeline.pin (pcfgs (F := F)) adm) cellOf_inj)))
      ∗ bigSep Finset.univ (onFirst (key (F := F)))) := by
  rw [onFirst_all]
  exact (show ownU _ ⊢ _ from ownU_pair _ _).trans fupd_intro

theorem first_step (c : Dev nD) : Global.holds m ρ O₀ (onFirst key) c ⊢ iprop((brings (B₀ m) (S₀ m) c ∗ onFirst key c) ∗ T₀rest m c) := by
  unfold Global.holds brings T₀rest
  have hb : (boundary (c.tc : Thread nD τ) : sProp 𝕄) ⊢ iprop(scopedBufs (c.tc : Thread nD τ) ∗ ((Pipeline.cellsSems0 (Pipeline.pin (pcfgs (F := F)) adm) 0 c ∗ Pipeline.ownSems0 osem c)
      ∗ Pipeline.idleSems0 (Pipeline.pin (pcfgs (F := F)) adm) cellOf_inj 0 oFacts c) ∗ opIdle (c.tc : Thread nD τ)) := by
    unfold boundary; rw [sems_eq]
  iintro ⟨Hb, Hub, -, HO, Hcr, -, HG⟩
  ihave H := hb $$ Hb
  icases H with ⟨Hsc, ⟨⟨Hcells, Hos⟩, Hidle⟩, Hop⟩
  ihave Hu := (W0_out m c) $$ Hub
  icases Hu with ⟨H0, H1, H2, H3, Hoth⟩
  isplitr [HO Hoth Hsc Hcells Hidle Hop]
  · isplitr [HG]
    · isplitl [Hos]; · iexact Hos
      isplitl [H0]; · iexact H0
      isplitl [H1]; · iexact H1
      isplitl [H2]; · iexact H2
      isplitl [H3]; · iexact H3
      iexact Hcr
    iexact HG
  isplitl [HO]; · unfold ow; iexists ∅; iexact HO
  isplitl [Hoth]; · iexact Hoth
  isplitl [Hsc]; · iexact Hsc
  isplitl [Hcells]; · iexact Hcells
  isplitl [Hidle]; · iexact Hidle
  iexact Hop

theorem init : iprop((bigSep Finset.univ fun c : Dev nD => Global.holds m ρ O₀ (onFirst key) c) ∗ levAts L lv) ⊢ |={Set.univ}=> (bigSep Finset.univ (T₀ m) : sProp 𝕄) := by
  have h1 : (bigSep Finset.univ fun c : Dev nD => Global.holds m ρ O₀ (onFirst key) c)
      ⊢ iprop(((bigSep Finset.univ fun c => brings (B₀ m) (S₀ m) c) ∗ key) ∗ (bigSep Finset.univ fun c => T₀rest m c)) := by
    have e : iprop(((bigSep Finset.univ fun c => brings (B₀ m) (S₀ m) c) ∗ bigSep Finset.univ (onFirst key)) ∗ (bigSep Finset.univ fun c => T₀rest m c))
        = bigSep Finset.univ fun c => iprop((brings (B₀ m) (S₀ m) c ∗ onFirst key c) ∗ T₀rest m c) := by rw [← BI.bigSep_sep', ← BI.bigSep_sep']
    rw [onFirst_all] at e
    rw [e]
    exact BI.bigSep_mono fun c _ => first_step m ρ c
  have h2 : iprop((bigSep Finset.univ fun c : Dev nD => iprop((∃ K, recs (B₀ m) (S₀ m) K) ∗ start (B₀ m) (S₀ m) c)) ∗ (bigSep Finset.univ fun c => T₀rest m c))
      ⊢ (bigSep Finset.univ (T₀ m) : sProp 𝕄) := by
    rw [← BI.bigSep_sep']
    refine BI.bigSep_mono fun c _ => ?_
    unfold T₀rest T₀
    exact BI.Entails.refl _
  iintro ⟨H, -⟩
  ihave H' := h1 $$ H
  icases H' with ⟨Hb, Hr⟩
  imod (show iprop((bigSep Finset.univ fun c => brings (B₀ m) (S₀ m) c) ∗ key) ⊢ _ from deal (B₀ m) (S₀ m)) $$ Hb with Hd
  imodintro
  iapply h2
  isplitl [Hd] <;> iassumption

local notation "𝔻" => Pipeline.defs (pcfgs (F := F)) defs₀
local notation "𝕍" => Variants.lift 𝒱₀

theorem exchange_call (c : Dev nD) {α : Type}
    (k : PUnit → Prog (TpuEff nD τ sig (Elt F) (Pipeline.Sig Λ₀ (Fin 3) fun p => (pcfgs (F := F) p).Adm) .tc) α) (Q : α → sProp 𝕄) :
    iprop((iprop(boundary (c.tc : Thread nD τ) ∗ unscopedBufs c (V1 m c) ∗ ow c 0) -∗ wp frame (wpE 𝔻 𝕍 (c.tc : Thread nD τ) none) Set.univ (k ⟨⟩) Q)
        ∗ T₀ m c ∗ Pipeline.cellsGhost (Pipeline.pin (pcfgs (F := F)) adm) EP 0 c ∗ Pipeline.toksInit (Pipeline.pin (pcfgs (F := F)) adm) EP 0 c)
      ⊢ wp frame (wpE 𝔻 𝕍 (c.tc : Thread nD τ) none) Set.univ (.op (.customCall (Pipeline.entry 0) ()) k) Q := by
  have hsb := Pipeline.scopedBufs_split (Pipeline.pin (pcfgs (F := F)) adm) 0 launch0.win.to₀.stage_scoped launch0.win.to₀.stage_inj launch0.stage_whole c
    (nD := nD) (τ := τ) (Ix := Unit) (Val := Elt F) (Name := ℕ) (U := UU) (Lvl := ℕ)
  have hin : iprop(iprop((∃ K, recs (B₀ m) (S₀ m) K) ∗ start (B₀ m) (S₀ m) c) ∗ Pipeline.prefHeld (pcfgs (F := F) 0).pre c (fun _ => fullShare) (adm 0).1
      ∗ Pipeline.scopedRest cfg0.spec c) ⊢ (datX m c).Φ 0 := by
    rw [Φ_first m c 0 rfl]
    iintro ⟨HX, -, Hr⟩
    isplitl [HX] <;> iassumption
  have hout : iprop((datX m c).Φ (Fin.last cfg0.N) ∗ Pipeline.cellsSems0 (Pipeline.pin (pcfgs (F := F)) adm) 0 c ∗ Dat.staging cfg0 c
      ∗ Pipeline.idleSems0 (Pipeline.pin (pcfgs (F := F)) adm) cellOf_inj 0 oFacts c)
      ⊢ iprop(((((c : Thread nD τ).loc main_arg0) ↦{fullShare} B₀ m c) ∗ (((c : Thread nD τ).loc main_arg1) ↦{fullShare} S₀ m c)
          ∗ (((c : Thread nD τ).loc main_v1_0) ↦{fullShare} gatB (B₀ m) c) ∗ (((c : Thread nD τ).loc main_v1_1) ↦{fullShare} gatS (S₀ m) c))
        ∗ scopedSems0 (c.tc : Thread nD τ) ∗ scopedBufs (c.tc : Thread nD τ)) := by
    rw [Φ_last m c (Fin.last cfg0.N) (by rw [Fin.val_last, show cfg0.N = 1 from N_0]; decide), sems_eq, hsb]
    iintro ⟨⟨Hf, Hr⟩, Hcells, Hst, Hidle⟩
    ihave H := (finish_elim (B₀ m) (S₀ m) c) $$ Hf
    icases H with ⟨H0, H1, H2, H3, Hos⟩
    isplitl [H0 H1 H2 H3]
    · isplitl [H0]; · iexact H0
      isplitl [H1]; · iexact H1
      isplitl [H2]; · iexact H2
      iexact H3
    isplitl [Hcells Hos Hidle]
    · isplitl [Hcells Hos]; · isplitl [Hcells] <;> iassumption
      iexact Hidle
    isplitl [Hst] <;> iassumption
  unfold T₀
  iintro ⟨Hk, ⟨HX, HO, Hoth, Hsc, Hcells, Hidle, Hop⟩, Hg, Ht⟩
  iapply (fupd_wp frame (wpE 𝔻 𝕍 (c.tc : Thread nD τ) none) Set.univ _ _)
  imod (Pipeline.cellsInit_alloc (Pipeline.pin (pcfgs (F := F)) adm) (pdats m) EP cellOf_inj 0 c) $$ [Hcells Hg] with ⟨%κ, -, Hinit⟩
  · isplitl [Hcells] <;> iassumption
  imodintro
  iapply (Pipeline.wp_customCall_entry_frame (pcfgs (F := F)) adm (pdats m) () EP κ cellOf_inj 0 defs₀ 𝒱₀ (fun _ => fullShare) c Set.univ (fun _ _ => Set.mem_univ _)
      (oblX m c).loose launch0.block_pos none (fun u h => nomatch h)
      (R := Pipeline.scopedRest cfg0.spec c) (I := Pipeline.idleSems0 (Pipeline.pin (pcfgs (F := F)) adm) cellOf_inj 0 oFacts c) (Entails.of_eq hsb) hin hout (k := k) (Q := Q))
    $$ [HX HO Hsc Hidle Hinit Ht]
  · isplitl [HO Hinit Ht]
    · unfold Pipeline.EntryPre Pipeline.PerCore.EntryPre
      isplitr; · unfold Pipeline.Dat.arrays; rw [noWin]; iempintro
      isplitl [HO]; · iapply (owes_in (datX m c) 0 (O₀ c) (owed_first m c 0 rfl) rfl); iexact HO
      isplitr; · unfold Pipeline.PerCore.cellsWaits Pipeline.PerCore.RDat.cellsWaits; rw [noWin]; iempintro
      isplitl [Hinit] <;> iassumption
    isplitr; · unfold Pipeline.prefHeld; rw [noWin]; iempintro
    isplitl [HX]; · iexact HX
    isplitl [Hidle]; · iexact Hidle
    iexact Hsc
  iintro ⟨Hpost, HY, Hss, Hsc⟩
  unfold Pipeline.EntryPost Pipeline.PerCore.EntryPost
  icases Hpost with ⟨-, HO⟩
  iapply Hk
  isplitl [Hsc Hss Hop]
  · iapply (show iprop(scopedBufs (c.tc : Thread nD τ) ∗ scopedSems0 (c.tc : Thread nD τ) ∗ opIdle (c.tc : Thread nD τ))
        ⊢ (boundary (c.tc : Thread nD τ) : sProp 𝕄) from BI.Entails.refl _)
    isplitl [Hsc]; · iexact Hsc
    isplitl [Hss]; · iexact Hss
    iexact Hop
  isplitl [HY Hoth]
  · icases HY with ⟨H0, H1, H2, H3⟩
    iapply (W1_in m c)
    isplitl [H0]; · iexact H0
    isplitl [H1]; · iexact H1
    isplitl [H2]; · iexact H2
    isplitl [H3]; · iexact H3
    iexact Hoth
  iapply (owes_out (datX m c) (Fin.last _) 0 (owed_last m c _ (by rw [Fin.val_last, show cfg0.N = 1 from N_0]; decide))); iexact HO

theorem main_eq (c : Dev nD) : main (F := F) c = .op (.customCall (Pipeline.entry 0) ()) fun _ => .op (.customCall (Pipeline.entry 1) ()) fun _ =>
    .op (.customCall (Pipeline.entry 2) ()) fun _ => .ret ⟨⟩ := by
  rw [main_chain]; rfl

theorem ghosts (c : Dev nD) : (Pipeline.ghostOn (pcfgs (F := F)) adm EP Finset.univ c : sProp 𝕄)
    ⊢ iprop((Pipeline.cellsGhost (Pipeline.pin (pcfgs (F := F)) adm) EP 0 c ∗ Pipeline.toksInit (Pipeline.pin (pcfgs (F := F)) adm) EP 0 c)
      ∗ (Pipeline.cellsGhost (Pipeline.pin (pcfgs (F := F)) adm) EP 1 c ∗ Pipeline.toksInit (Pipeline.pin (pcfgs (F := F)) adm) EP 1 c)
      ∗ (Pipeline.cellsGhost (Pipeline.pin (pcfgs (F := F)) adm) EP 2 c ∗ Pipeline.toksInit (Pipeline.pin (pcfgs (F := F)) adm) EP 2 c)) := by
  show (Pipeline.PerCore.ghostOn (pcfgs (F := F)) (fun _ => adm) EP Finset.univ c : sProp 𝕄) ⊢ _
  rw [Pipeline.PerCore.ghostOn_erase (p := (0 : Fin 3)) _ _ _ (by decide) c, Pipeline.PerCore.ghostOn_erase (p := (1 : Fin 3)) _ _ _ (by decide) c,
    Pipeline.PerCore.ghostOn_erase (p := (2 : Fin 3)) _ _ _ (by decide) c]
  iintro ⟨H0, H1, H2, -⟩
  isplitl [H0]; · iexact H0
  isplitl [H1]; · iexact H1
  iexact H2

theorem whole (c : Dev nD) (Q : PUnit → sProp 𝕄) :
    iprop((iprop(unscopedBufs c (V3 m c) ∗ boundary (c.tc : Thread nD τ) ∗ ∃ W, owes (c.tc : Thread nD τ) (0 : CellTallies nD τ sig Unit) W) -∗ Q ⟨⟩)
        ∗ T₀ m c ∗ levAts L lv ∗ Pipeline.ghostOn (pcfgs (F := F)) adm EP Finset.univ c)
      ⊢ wp frame (wpE 𝔻 𝕍 (c.tc : Thread nD τ) none) Set.univ (main (F := F) c) Q := by
  rw [main_eq]
  iintro ⟨Hk, HT, #Hla, Hg⟩
  ihave H := (ghosts c) $$ Hg
  icases H with ⟨⟨Hg0, Ht0⟩, ⟨Hg1, Ht1⟩, Hg2, Ht2⟩
  iapply (exchange_call m c _ Q)
  isplitr [HT Hg0 Ht0]
  · iintro ⟨Hb, Hu, HO⟩
    iapply (Pipeline.RegionSeg.wp (pcfgs (F := F)) adm (pdats m) () cellOf_inj EP defs₀ 𝒱₀ L lv (segB m) c none (fun u h => nomatch h) _ Q)
    isplitr [Hb Hu HO Hg1 Ht1]
    · iintro ⟨Hb, Hp⟩
      iapply (Pipeline.RegionSeg.wp (pcfgs (F := F)) adm (pdats m) () cellOf_inj EP defs₀ 𝒱₀ L lv (segS m) c none (fun u h => nomatch h) _ Q)
      isplitr [Hb Hp Hg2 Ht2]
      · iintro ⟨Hb, Hp⟩
        rw [wp_ret]
        imodintro
        iapply Hk
        ihave Hp' := (show (segS m).post c ⊢ iprop(unscopedBufs c (V3 m c) ∗ ow c 0) from BI.Entails.refl _) $$ Hp
        icases Hp' with ⟨Hu, HO⟩
        isplitl [Hu]; · iexact Hu
        isplitl [Hb]; · iexact Hb
        unfold ow; iexact HO
      isplitl [Hb]; · iexact Hb
      isplitl [Hp]; · iapply (show (segB m).post c ⊢ (segS m).pre c from BI.Entails.refl _); iexact Hp
      isplitr; · iexact Hla
      isplitl [Hg2]; · iexact Hg2
      iexact Ht2
    isplitl [Hb]; · iexact Hb
    isplitl [Hu HO]
    · iapply (show iprop(unscopedBufs c (V1 m c) ∗ ow c 0) ⊢ (segB m).pre c from BI.Entails.refl _)
      isplitl [Hu]; · iexact Hu
      iexact HO
    isplitr; · iexact Hla
    isplitl [Hg1]; · iexact Hg1
    iexact Ht1
  isplitl [HT]; · iexact HT
  isplitl [Hg0]; · iexact Hg0
  iexact Ht0

/-- Every execution ends with every buffer of the program at its contents after the third call, and every semaphore at zero. -/
theorem run_main : θ_run (defs (F := F)) (onTc main) ⟨m, fun _ => 0, ρ⟩
    (fun r => (∀ (c : Dev nD) (b : Ref sig .tc), b.isScoped = false → r.2.mem ((c : Thread nD τ).loc b) = W3 m c (Proc.devRef .tc b)) ∧ r.2.sem = fun _ => 0) := by
  refine Global.run_all L lv (pcfgs (F := F)) adm cellOf_inj EP defs₀ 𝒱₀ m ρ main O₀ L_of_ne (onFirst key) u₀ u₀_split (T₀ m) (fun c => unscopedBufs c (V3 m c)) (init m ρ) (whole m)
    (fun c s => ∀ b : Ref sig .tc, b.isScoped = false → s.mem ((c : Thread nD τ).loc b) = W3 m c (Proc.devRef .tc b)) (fun c s' => ?_)
    (fun s h hz => ⟨h, funext fun g => hz g (.inr (regions_no_unscoped g.2))⟩)
  rw [show (unscopedBufs c (V3 m c) : sProp 𝕄) = _ from Pipeline.unscopedBufs_held c (W3 m c)]
  unfold StableHlo.held
  iintro ⟨Hh, HSI⟩
  ihave Hr := (pointsTo_read_all (Pipeline.ucRefs τ sig) (fun b => ((c : Thread nD τ).1, b)) (W3 m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, by rw [show (Proc.devRef (τ := τ) .tc b).isScoped = b.isScoped from rfl, hb]; decide⟩)
  · iexact HSI

end Cert.Update
-- ==== Proof.Value.lean ====
/- What the update computes, element by element over the extended reals, and that the reference computes the same. -/
module

public import proofs.«01_k».proof.Proof.Whole
public import proofs.«01_k».proof.Defs
public import proofs.«01_k».proof.Proof.Gen.ReferenceIdeal.Run
public import Idealize.ShloMosaic.Lib.Pipeline.ValueKit.Geometry
public import Idealize.ShloMosaic.Lib.Pointwise.Tactic
public import Idealize.ShloMosaic.Lib.Pointwise.Reduce

@[expose] public section

set_option maxRecDepth 16384

noncomputable section

namespace Cert.Update

open Cert.KernelIdeal Cert.KernelIdeal.Gen Cert.Exchange
open Idealize.ShloMosaic hiding ix2 ix3
open Idealize.ShloMosaic.TcCoe
open Idealize.ShloMosaic.Pipeline (Dat Cfg Window)
open Idealize.ShloMosaic.ValueIdx (ix2 ix3)

/-! ## The optimizer's arithmetic on one element -/

/-- The new first moment of a moment `m` and a gradient `g`. -/
def mE (g m : EReal) : EReal := Ideal.ofBits .f32 0x3F666666#32 * m + Ideal.ofBits .f32 0x3DCCCCCD#32 * g
/-- The new second moment. -/
def vE (g v : EReal) : EReal := Ideal.ofBits .f32 0x3F7FBE77#32 * v + Ideal.ofBits .f32 0x3A83126F#32 * (g * g)
/-- The step of a weight `w`. -/
def dE (g w m v : EReal) : EReal :=
  Ideal.ofBits .f32 0xBA83126F#32 * (Ideal.div (Ideal.div (mE g m) (Ideal.ofBits .f32 0x3F26BD02#32))
    (Ideal.sqrt (Ideal.div (vE g v) (Ideal.ofBits .f32 0x3C231ACC#32)) + Ideal.ofBits .f32 0x322BCC77#32) + Ideal.ofBits .f32 0x3C23D70A#32 * w)

/-! ## The blocks the bodies leave -/

theorem cast_row (x : FVec Ideal S8x512x128 .bf16) (k : Fin 8) (y : S512x128.Idx) :
    shapeCast S512x128 (row (F := Ideal) x k) shapeCasts_S1x512x128_S512x128 y = x (ix3 k (y 0) (y 1)) :=
  shapeCast_dropUnit_apply ![512, 128] (row (F := Ideal) x k) shapeCasts_S1x512x128_S512x128 y

theorem cast_rowS (x : FVec Ideal S8x416x128 .f32) (k : Fin 8) (y : S416x128.Idx) :
    shapeCast S416x128 (rowS (F := Ideal) x k) shapeCasts_S1x416x128_S416x128 y = x (ix3 k (y 0) (y 1)) :=
  shapeCast_dropUnit_apply ![416, 128] (rowS (F := Ideal) x k) shapeCasts_S1x416x128_S416x128 y

theorem gOf_apply (x : FVec Ideal S8x512x128 .bf16) (y : S512x128.Idx) :
    gOf (F := Ideal) x y = (∑ k : Fin 8, (x (ix3 k (y 0) (y 1)) : EReal) : EReal) := by
  rw [Fin.sum_univ_eight, ← cast_row x 0 y, ← cast_row x 1 y, ← cast_row x 2 y, ← cast_row x 3 y, ← cast_row x 4 y, ← cast_row x 5 y, ← cast_row x 6 y, ← cast_row x 7 y]
  rfl

theorem sOf_apply (x : FVec Ideal S8x416x128 .f32) (y : S416x128.Idx) :
    sOf (F := Ideal) x y = (∑ k : Fin 8, (x (ix3 k (y 0) (y 1)) : EReal) : EReal) := by
  rw [Fin.sum_univ_eight, ← cast_rowS x 0 y, ← cast_rowS x 1 y, ← cast_rowS x 2 y, ← cast_rowS x 3 y, ← cast_rowS x 4 y, ← cast_rowS x 5 y, ← cast_rowS x 6 y, ← cast_rowS x 7 y]
  rfl

theorem pay1_apply (g m : FVec Ideal S512x128 .f32) (y : S512x128.Idx) : k1_pay1 g m y = mE (g y) (m y) := by
  unfold k1_pay1; rw [shapeCast_self]; rfl
theorem pay2_apply (g v : FVec Ideal S512x128 .f32) (y : S512x128.Idx) : k1_pay2 g v y = vE (g y) (v y) := by
  unfold k1_pay2; rw [shapeCast_self]; rfl
theorem pay3_apply (g w m v : FVec Ideal S512x128 .f32) (y : S512x128.Idx) : k1_pay3 g w m v y = dE (g y) (w y) (m y) (v y) := by
  unfold dE; rw [← pay1_apply g m y, ← pay2_apply g v y]; rfl
theorem pay5_apply (w : FVec Ideal S512x128 .f32) (y : S512x128.Idx) : k1_pay5 w y = w y := by
  unfold k1_pay5; rw [shapeCast_self]

theorem mOf_apply (x : FVec Ideal S8x512x128 .bf16) (m : FVec Ideal S512x128 .f32) (y : S512x128.Idx) :
    mOf (F := Ideal) x m y = mE (gOf (F := Ideal) x y) (m y) := pay1_apply _ _ _
theorem vOf_apply (x : FVec Ideal S8x512x128 .bf16) (v : FVec Ideal S512x128 .f32) (y : S512x128.Idx) :
    vOf (F := Ideal) x v y = vE (gOf (F := Ideal) x y) (v y) := pay2_apply _ _ _
theorem dOf_apply (x : FVec Ideal S8x512x128 .bf16) (w m v : FVec Ideal S512x128 .f32) (y : S512x128.Idx) :
    dOf (F := Ideal) x w m v y = dE (gOf (F := Ideal) x y) (w y) (m y) (v y) := by
  unfold dOf; rw [pay3_apply, pay5_apply]

/-! ## The arrays the two calls leave -/

variable (V : (c : Dev nD) → (b : Ref sig .tc) → Buf (Elt Ideal) ((c : Thread nD τ).loc b))

theorem index1 (t : Fin cfg1.N) : (cfg1.win 0).index t = ![0, (cfg1.grid.coords t 0).val, 0] ∧ (cfg1.win 1).index t = ![(cfg1.grid.coords t 0).val, 0]
    ∧ (cfg1.win 4).index t = ![(cfg1.grid.coords t 0).val, 0] :=
  (by decide +kernel : ∀ t : Fin cfg1.N, (cfg1.win 0).index t = ![0, (cfg1.grid.coords t 0).val, 0] ∧ (cfg1.win 1).index t = ![(cfg1.grid.coords t 0).val, 0]
    ∧ (cfg1.win 4).index t = ![(cfg1.grid.coords t 0).val, 0]) t

/-- Where an element of a block of the stacked gradient lies in the array. -/
theorem emb1_0 (t : Fin cfg1.N) (j : S8x512x128.Idx) (a : Fin 3) :
    ((((cfg1.win 0).blk t).view.emb j) a : Fin _).val = (cfg1.win 0).index t a * S8x512x128.size a + (j a).val := Window.rect_emb_val (cfg1.win 0) t j a
/-- Where an element of a block of rows lies in the array. -/
theorem emb1_4 (t : Fin cfg1.N) (j : S512x128.Idx) (a : Fin 2) :
    ((((cfg1.win 4).blk t).view.emb j) a : Fin _).val = (cfg1.win 4).index t a * S512x128.size a + (j a).val := Window.rect_emb_val (cfg1.win 4) t j a

theorem ix3_eq {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x
  apply Fin.ext
  fin_cases x
  · exact h0
  · exact h1
  · exact h2

theorem blk0_apply (c : Dev nD) (t : Fin cfg1.N) (k : Fin 8) (y : S512x128.Idx) :
    blkB V c 0 t (ix3 k (y 0) (y 1)) = V c main_v1_0 (ix3 k (((cfg1.win 4).blk t).view.emb y 0) (((cfg1.win 4).blk t).view.emb y 1)) := by
  refine congrArg (V c main_v1_0) (ix3_eq (n0 := 8) (n1 := 51712) (n2 := 128) _ _ _ _ ?_ ?_ ?_)
  · refine (emb1_0 t _ 0).trans ?_
    rw [(index1 t).1]; show 0 * 8 + k.val = k.val; omega
  · refine (emb1_0 t _ 1).trans (Eq.trans ?_ (emb1_4 t y 0).symm)
    rw [(index1 t).1, (index1 t).2.2]; rfl
  · refine (emb1_0 t _ 2).trans (Eq.trans ?_ (emb1_4 t y 1).symm)
    rw [(index1 t).1, (index1 t).2.2]; rfl

theorem blk1_apply (c : Dev nD) (t : Fin cfg1.N) (y : S512x128.Idx) : blkB V c 1 t y = V c main_arg2 (((cfg1.win 4).blk t).view.emb y) := rfl
theorem blk2_apply (c : Dev nD) (t : Fin cfg1.N) (y : S512x128.Idx) : blkB V c 2 t y = V c main_arg3 (((cfg1.win 4).blk t).view.emb y) := rfl
theorem blk3_apply (c : Dev nD) (t : Fin cfg1.N) (y : S512x128.Idx) : blkB V c 3 t y = V c main_arg4 (((cfg1.win 4).blk t).view.emb y) := rfl

/-- The sum over the eight sources at an element of the array. -/
def gSum (x : S8x51712x128.Idx → EReal) (i : S51712x128.Idx) : EReal := ∑ k : Fin 8, x (ix3 k (i 0) (i 1))

theorem gOf_blk (c : Dev nD) (t : Fin cfg1.N) (y : S512x128.Idx) :
    gOf (F := Ideal) (blkB V c 0 t) y = gSum (V c main_v1_0) (((cfg1.win 4).blk t).view.emb y) := by
  refine (gOf_apply _ y).trans (Finset.sum_congr rfl fun k _ => ?_)
  exact blk0_apply V c t k y

theorem arr4 (c : Dev nD) : (datB V c).arrAt 4 cfg1.N = fun i => gSum (V c main_v1_0) i := by
  refine (datB V c).arrAt_eq_of_covers 4 _ (by decide +kernel) fun t hf y => ?_
  rw [(afterB V c t).2.2.2.2.1]
  exact gOf_blk V c t y

theorem arr5 (c : Dev nD) : (datB V c).arrAt 5 cfg1.N = fun i => dE (gSum (V c main_v1_0) i) (V c main_arg2 i) (V c main_arg3 i) (V c main_arg4 i) := by
  refine (datB V c).arrAt_eq_of_covers 5 _ (by decide +kernel) fun t hf y => ?_
  rw [(afterB V c t).2.2.2.2.2.1]
  refine (dOf_apply _ _ _ _ y).trans ?_
  rw [gOf_blk V c t y]
  rfl

theorem arr6 (c : Dev nD) : (datB V c).arrAt 6 cfg1.N = fun i => mE (gSum (V c main_v1_0) i) (V c main_arg3 i) := by
  refine (datB V c).arrAt_eq_of_covers 6 _ (by decide +kernel) fun t hf y => ?_
  rw [(afterB V c t).2.2.2.2.2.2.1]
  refine (mOf_apply _ _ y).trans ?_
  rw [gOf_blk V c t y]
  rfl

theorem arr7 (c : Dev nD) : (datB V c).arrAt 7 cfg1.N = fun i => vE (gSum (V c main_v1_0) i) (V c main_arg4 i) := by
  refine (datB V c).arrAt_eq_of_covers 7 _ (by decide +kernel) fun t hf y => ?_
  rw [(afterB V c t).2.2.2.2.2.2.2]
  refine (vOf_apply _ _ y).trans ?_
  rw [gOf_blk V c t y]
  rfl

theorem arrS (c : Dev nD) : (datS V c).arrAt 1 cfg2.N = fun i => (∑ k : Fin 8, (V c main_v1_1 (ix3 k (i 0) (i 1)) : EReal) : EReal) := by
  refine (datS V c).arrAt_eq_of_covers 1 _ (by decide +kernel) fun t hf y => ?_
  rw [(afterS V c t).2]
  refine (sOf_apply _ y).trans (Finset.sum_congr rfl fun k _ => ?_)
  have hi : (cfg2.win 0).index t = ![0, 0, 0] ∧ (cfg2.win 1).index t = ![0, 0] :=
    (by decide +kernel : ∀ t : Fin cfg2.N, (cfg2.win 0).index t = ![0, 0, 0] ∧ (cfg2.win 1).index t = ![0, 0]) t
  have e0 : ∀ (j : S8x416x128.Idx) (a : Fin 3), ((((cfg2.win 0).blk t).view.emb j) a : Fin _).val = (cfg2.win 0).index t a * S8x416x128.size a + (j a).val :=
    fun j a => Window.rect_emb_val (cfg2.win 0) t j a
  have e1 : ∀ (j : S416x128.Idx) (a : Fin 2), ((((cfg2.win 1).blk t).view.emb j) a : Fin _).val = (cfg2.win 1).index t a * S416x128.size a + (j a).val :=
    fun j a => Window.rect_emb_val (cfg2.win 1) t j a
  refine congrArg (V c main_v1_1) (ix3_eq (n0 := 8) (n1 := 416) (n2 := 128) _ _ _ _ ?_ ?_ ?_)
  · refine (e0 _ 0).trans ?_
    rw [hi.1]; show 0 * 8 + k.val = k.val; omega
  · refine (e0 _ 1).trans (Eq.trans ?_ (e1 y 0).symm)
    rw [hi.1, hi.2]; rfl
  · refine (e0 _ 2).trans (Eq.trans ?_ (e1 y 1).symm)
    rw [hi.1, hi.2]; rfl

/-! ## What the five results hold at the end, from the launch contents -/

variable (m : (ℓ : Loc nD τ sig) → Buf (Elt Ideal) ℓ)

/-- The sum over the devices of their contribution to device `c`'s element `i`. -/
def gEnd (c : Dev nD) (i : S51712x128.Idx) : EReal := ∑ k : Fin 8, (B₀ m k (ix3 c (i 0) (i 1)) : EReal)

theorem gSum_end (c : Dev nD) (i : S51712x128.Idx) : gSum (V1 m c main_v1_0) i = gEnd m c i := by
  unfold gSum gEnd
  refine Finset.sum_congr rfl fun k _ => ?_
  exact congrFun (W1_big m c) (ix3 k (i 0) (i 1))

theorem V1_2 (c : Dev nD) : V1 m c main_arg2 = m ((c : Thread nD τ).loc main_arg2) := W1_of_ne m c _ (by decide) (by decide)
theorem V1_3 (c : Dev nD) : V1 m c main_arg3 = m ((c : Thread nD τ).loc main_arg3) := W1_of_ne m c _ (by decide) (by decide)
theorem V1_4 (c : Dev nD) : V1 m c main_arg4 = m ((c : Thread nD τ).loc main_arg4) := W1_of_ne m c _ (by decide) (by decide)

theorem end0 (c : Dev nD) : W3 m c (Proc.devRef .tc main_v2_0) = fun i => gEnd m c i := by
  refine (W3_of_ne m c main_v2_0 (by decide)).trans ((W2_arr m c 4).trans ((arr4 (V1 m) c).trans ?_))
  funext i; exact gSum_end m c i
theorem end1 (c : Dev nD) : W3 m c (Proc.devRef .tc main_v2_1)
    = fun i => dE (gEnd m c i) (m ((c : Thread nD τ).loc main_arg2) i) (m ((c : Thread nD τ).loc main_arg3) i) (m ((c : Thread nD τ).loc main_arg4) i) := by
  refine (W3_of_ne m c main_v2_1 (by decide)).trans ((W2_arr m c 5).trans ((arr5 (V1 m) c).trans ?_))
  funext i; rw [gSum_end m c i, V1_2, V1_3, V1_4]
theorem end2 (c : Dev nD) : W3 m c (Proc.devRef .tc main_v2_2) = fun i => mE (gEnd m c i) (m ((c : Thread nD τ).loc main_arg3) i) := by
  refine (W3_of_ne m c main_v2_2 (by decide)).trans ((W2_arr m c 6).trans ((arr6 (V1 m) c).trans ?_))
  funext i; rw [gSum_end m c i, V1_3]
theorem end3 (c : Dev nD) : W3 m c (Proc.devRef .tc main_v2_3) = fun i => vE (gEnd m c i) (m ((c : Thread nD τ).loc main_arg4) i) := by
  refine (W3_of_ne m c main_v2_3 (by decide)).trans ((W2_arr m c 7).trans ((arr7 (V1 m) c).trans ?_))
  funext i; rw [gSum_end m c i, V1_4]
theorem end4 (c : Dev nD) : W3 m c (Proc.devRef .tc main_v3) = fun i => (∑ k : Fin 8, (S₀ m k (ix2 (i 0) (i 1)) : EReal) : EReal) := by
  refine (W3_arr m c 1).trans ((arrS (V2 m) c).trans ?_)
  funext i
  refine Finset.sum_congr rfl fun k _ => ?_
  have h : V2 m c main_v1_1 = gatS (S₀ m) c := (W2_of_ne m c main_v1_1 (by decide)).trans (W1_small m c)
  exact congrFun h (ix3 k (i 0) (i 1))

end Cert.Update

namespace Cert.Plain

open Cert.ReferenceIdeal Cert.ReferenceIdeal.Gen
open Idealize.ShloMosaic hiding ix2 ix3
open Idealize.ShloMosaic.TcCoe
open Idealize.ShloMosaic.ValueIdx (ix2 ix3)
open Cert.Update (mE vE dE ix3_eq)

/-! ## The reference, element by element -/

/-- The reference's summed gradient. -/
abbrev gRef (x : FVec Ideal S64x51712x128 .bf16) : FVec Ideal S413696x128 .f32 :=
  Host.reduceAdd (extf .f32 (shapeCast _ x shapeCasts_S64x51712x128_S8x413696x128) bitsLt_bf16_f32) (constant S_ .f32 0x00000000#32) reducesTo_S8x413696x128_S413696x128_d0 h_S_
abbrev sRef (x : FVec Ideal S3328x128 .f32) : FVec Ideal S416x128 .f32 :=
  Host.reduceAdd (shapeCast _ x shapeCasts_S3328x128_S8x416x128) (constant S_ .f32 0x00000000#32) reducesTo_S8x416x128_S416x128_d0 h_S_
abbrev mRef (g m : FVec Ideal S413696x128 .f32) : FVec Ideal S413696x128 .f32 :=
  addf (mulf (broadcastInDim S413696x128 ![] bcast_S_S413696x128 (constant S_ .f32 0x3F666666#32)) m) (mulf (broadcastInDim S413696x128 ![] bcast_S_S413696x128 (constant S_ .f32 0x3DCCCCCD#32)) g)
abbrev vRef (g v : FVec Ideal S413696x128 .f32) : FVec Ideal S413696x128 .f32 :=
  addf (mulf (broadcastInDim S413696x128 ![] bcast_S_S413696x128 (constant S_ .f32 0x3F7FBE77#32)) v) (mulf (broadcastInDim S413696x128 ![] bcast_S_S413696x128 (constant S_ .f32 0x3A83126F#32)) (mulf g g))
abbrev dRef (g w m v : FVec Ideal S413696x128 .f32) : FVec Ideal S413696x128 .f32 :=
  mulf (broadcastInDim S413696x128 ![] bcast_S_S413696x128 (constant S_ .f32 0xBA83126F#32))
    (addf (Host.divf (Host.divf (mRef g m) (broadcastInDim S413696x128 ![] bcast_S_S413696x128 (constant S_ .f32 0x3F26BD02#32)))
      (addf (Host.sqrt (Host.divf (vRef g v) (broadcastInDim S413696x128 ![] bcast_S_S413696x128 (constant S_ .f32 0x3C231ACC#32)))) (broadcastInDim S413696x128 ![] bcast_S_S413696x128 (constant S_ .f32 0x322BCC77#32))))
      (mulf (broadcastInDim S413696x128 ![] bcast_S_S413696x128 (constant S_ .f32 0x3C23D70A#32)) w))

theorem mRef_apply (g m : FVec Ideal S413696x128 .f32) (j : S413696x128.Idx) : mRef g m j = mE (g j) (m j) := rfl
theorem vRef_apply (g v : FVec Ideal S413696x128 .f32) (j : S413696x128.Idx) : vRef g v j = vE (g j) (v j) := rfl
theorem dRef_apply (g w m v : FVec Ideal S413696x128 .f32) (j : S413696x128.Idx) : dRef g w m v j = dE (g j) (w j) (m j) (v j) := rfl

/-- The reference's sum, read at row `r` of block `c`: the sum over the eight sources of row `r` of their block `c`. -/
theorem gRef_apply (x : FVec Ideal S64x51712x128 .bf16) (c : Fin 8) (r : Fin 51712) (l : Fin 128) (j : S413696x128.Idx)
    (h0 : (j 0).val = c.val * 51712 + r.val) (h1 : (j 1).val = l.val) (hb : ∀ k : Fin 8, 8 * k.val + c.val < 64 := by omega) :
    gRef x j = (∑ k : Fin 8, (x (ix3 ⟨8 * k.val + c.val, hb k⟩ r l) : EReal) : EReal) := by
  refine (Host.reduceAdd_apply _ _ _ _ _).trans ?_
  rw [Ideal.hostReduceAdd_def]
  refine (Ideal.hostReduceAdd_r3_a0 (n0 := 8) (n1 := 413696) (n2 := 128) _ _ _ _).trans ?_
  refine Eq.trans (congrArg (· + _) (Ideal.ofBits_zero_f32 : (_ : EReal) = 0)) ?_
  rw [zero_add]
  refine Finset.sum_congr rfl fun k _ => ?_
  refine shapeCast_apply (s := S64x51712x128) (t := S8x413696x128) x _ _ _ ?_
  rw [Shape.rowMajor_val_three, Shape.rowMajor_val_three]
  show ((8 * k.val + c.val) * 51712 + r.val) * 128 + l.val = (k.val * 413696 + (j 0).val) * 128 + (j 1).val
  rw [h0, h1]; omega

theorem sRef_apply (x : FVec Ideal S3328x128 .f32) (r : Fin 416) (l : Fin 128) (j : S416x128.Idx)
    (h0 : (j 0).val = r.val) (h1 : (j 1).val = l.val) (hb : ∀ k : Fin 8, k.val * 416 + r.val < 3328 := by omega) :
    sRef x j = (∑ k : Fin 8, (x (ix2 ⟨k.val * 416 + r.val, hb k⟩ l) : EReal) : EReal) := by
  refine (Host.reduceAdd_apply _ _ _ _ _).trans ?_
  rw [Ideal.hostReduceAdd_def]
  refine (Ideal.hostReduceAdd_r3_a0 (n0 := 8) (n1 := 416) (n2 := 128) _ _ _ _).trans ?_
  refine Eq.trans (congrArg (· + _) (Ideal.ofBits_zero_f32 : (_ : EReal) = 0)) ?_
  rw [zero_add]
  refine Finset.sum_congr rfl fun k _ => ?_
  refine shapeCast_apply (s := S3328x128) (t := S8x416x128) x _ _ _ ?_
  rw [Shape.rowMajor_val_two, Shape.rowMajor_val_three]
  show (k.val * 416 + r.val) * 128 + l.val = (k.val * 416 + (j 0).val) * 128 + (j 1).val
  rw [h0, h1]

end Cert.Plain
-- ==== Proof.GatherProto.lean ====
/- The weight gather's protocol: which slot goes where, what every DMA semaphore's single round pays, and with what contents. -/
module

public import proofs.«01_k».proof.Proof.Slots
public import proofs.«01_k».proof.Proof.Gen.GatherIdeal

@[expose] public section

noncomputable section

namespace Cert.Gathering

open Cert.GatherIdeal Cert.GatherIdeal.Facts₀ Cert.GatherIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.Exchange (slot_emb slot_mem ix2_cases)

variable {F : FTy → Type} [FloatOps F]

/-! ## Who sends to whom -/

/-- The device whose three mesh bits differ from `c`'s by those of `r + 1`. -/
def other (r : Fin 7) (c : Dev nD) : Dev nD :=
  ⟨c.val ^^^ (r.val + 1), Nat.xor_lt_two_pow (n := 3) c.isLt (by have := r.isLt; omega)⟩
theorem other_other (r : Fin 7) (c : Dev nD) : other r (other r c) = c := by revert r c; decide
def otherEquiv (r : Fin 7) : Dev nD ≃ Dev nD := ⟨other r, other r, other_other r, other_other r⟩

/-- Copies 0 to 3 go to the sibling core and to the same core of the other three chips; copies 4 to 6 go to the sibling. -/
def tg : Fin 7 → Fin 7 := ![0, 3, 1, 5, 0, 0, 0]
/-- Where the block a copy brings comes from, as its receiver sees it. -/
def og : Fin 7 → Fin 7 := ![0, 3, 1, 5, 4, 2, 6]

abbrev dest (k : Fin 7) (c : Dev nD) : Dev nD := other (tg k) c
abbrev orig (k : Fin 7) (c : Dev nD) : Dev nD := other (og k) c
/-- Whose block copy `k` of device `c` carries. -/
abbrev cargo (k : Fin 7) (c : Dev nD) : Dev nD := orig k (dest k c)

theorem cargo_own : ∀ (k : Fin 7) (c : Dev nD), k.val < 4 → cargo k c = c := by decide
/-- The block a passed copy carries came with copy 1, 2 or 3. -/
def via : Fin 7 → Fin 7 := ![0, 0, 0, 0, 1, 2, 3]
theorem cargo_via : ∀ (k : Fin 7) (c : Dev nD), ¬ k.val < 4 → cargo k c = orig (via k) c := by decide

/-! ## Slots -/

/-- The operand. -/
abbrev xM : Memref sig .tc .hbm S51344x128 .bf16 := Memref.whole main_arg0
/-- The block of the result at an offset. -/
abbrev blkM (off : Fin 3 → ℕ) (inb : ∀ a, off a + S1x51344x128.size a ≤ S8x51344x128.size a) : Memref sig .tc .hbm S51344x128 .bf16 :=
  ((Memref.whole main_v1).slice (Rect.unit (s := S8x51344x128) off S1x51344x128.size inb) (fun _ => rfl)).squeeze S51344x128 squeezes_S1x51344x128_S51344x128
/-- Slot `p` of the result. -/
abbrev oM (p : Dev nD) : Memref sig .tc .hbm S51344x128 .bf16 := blkM (k0_off1 p) (k0_off1_inb p)

theorem off_own (p : Dev nD) : k0_off1 p = ![p.val, 0, 0] := by revert p; decide

theorem oM_emb (p : Dev nD) (i : Fin 51344) (j : Fin 128) : (oM p).view.emb (ix2 i j) = ix3 p i j :=
  slot_emb (k0_off1 p) p (off_own p) (k0_off1_inb p) _ i j
theorem oM_set (p : Dev nD) : (oM p).view.set = (Rect.unit (s := S8x51344x128) (k0_off1 p) S1x51344x128.size (k0_off1_inb p)).set :=
  (View.set_reshape _ _).trans (View.set_slice_whole main_v1 _)
theorem mem_slot (p : Dev nD) (i : S8x51344x128.Idx) :
    Iff (i ∈ (Rect.unit (s := S8x51344x128) (k0_off1 p) S1x51344x128.size (k0_off1_inb p)).set) ((i 0).val = p.val) :=
  slot_mem (k0_off1 p) p (off_own p) (k0_off1_inb p) i

/-! ## Contents -/

abbrev Shard (F : FTy → Type) : Type := (main_arg0 : Ref sig .tc).ty.Contents (Elt F)
abbrev Out (F : FTy → Type) : Type := (main_v1 : Ref sig .tc).ty.Contents (Elt F)

variable (X : Dev nD → Shard F)

/-- What every device's result ends with: slot `p` is device `p`'s operand. -/
def gat : Out F := fun i => X (i 0) (ix2 (i 1) (i 2))

theorem land_own (p : Dev nD) (f : Out F) {i : S8x51344x128.Idx} (hi : i ∈ (oM p).view.set) :
    (oM p).view.write (Elt F) f (xM.view.read (Elt F) (X p)) Finset.univ i = gat X i := by
  obtain ⟨x, -, rfl⟩ := Finset.mem_map.mp hi
  rw [View.write_emb_of_mem _ _ (Finset.mem_univ x), View.read_apply]
  obtain ⟨i, j, rfl⟩ := ix2_cases (a := 51344) (b := 128) x
  rw [oM_emb p i j]
  rfl
theorem land_pass (p : Dev nD) (f : Out F) {i : S8x51344x128.Idx} (hi : i ∈ (oM p).view.set) :
    (oM p).view.write (Elt F) f ((oM p).view.read (Elt F) (gat X)) Finset.univ i = gat X i := by
  obtain ⟨x, -, rfl⟩ := Finset.mem_map.mp hi
  rw [View.write_emb_of_mem _ _ (Finset.mem_univ x), View.read_apply]
  rfl

/-- Two copies of the rounds algebra: the pipelines' and the gather's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-! ## Points-tos -/

abbrev xpt (c : Dev nD) (q : PosShare TreeShare) (f : Shard F) : sProp 𝕄 :=
  xM.view.loc (c : Thread nD τ) ↦[xM.view.set]{q} f
/-- Slot `p` of device `c`'s result. -/
abbrev opt (c p : Dev nD) (f : Out F) : sProp 𝕄 :=
  (oM p).view.loc (c : Thread nD τ) ↦[(oM p).view.set]{fullShare} f

/-- One of eight shares of the operand. -/
abbrev eighth (k : Fin 8) : PosShare TreeShare := ShareLeaves.leaf 3 fullShare k

theorem opt_congr (c p : Dev nD) (f g : Out F) (h : ∀ i ∈ (oM p).view.set, f i = g i) : (opt c p f : sProp 𝕄) = opt c p g := pointsTo_congr h
/-- A slot that a device's operand was copied into. -/
theorem own_pt (c p : Dev nD) (f : Out F) :
    (opt c p ((oM p).view.write (Elt F) f (xM.view.read (Elt F) (X p)) Finset.univ) : sProp 𝕄) = opt c p (gat X) :=
  opt_congr c p _ _ fun i hi => land_own X p f hi
/-- A slot that the same slot of another device was copied into. -/
theorem pass_pt (c p : Dev nD) (f : Out F) :
    (opt c p ((oM p).view.write (Elt F) f ((oM p).view.read (Elt F) (gat X)) Finset.univ) : sProp 𝕄) = opt c p (gat X) :=
  opt_congr c p _ _ fun i hi => land_pass X p f hi

/-! ## The semaphores -/

/-- What a DMA semaphore of the gather counts: the departure or the arrival of a copy, or the local copy. -/
inductive Sm : Type
  | send (k : Fin 7) | recv (k : Fin 7) | loc
  deriving DecidableEq

namespace Sm
def num : Sm → Fin 15
  | send k => ⟨k.val, by omega⟩
  | recv k => ⟨7 + k.val, by omega⟩
  | loc => 14
def ofNum (n : Fin 15) : Sm :=
  if h : n.val < 7 then send ⟨n.val, h⟩ else if h' : n.val < 14 then recv ⟨n.val - 7, by omega⟩ else loc
theorem ofNum_num (k : Sm) : ofNum k.num = k := by
  cases k with
  | send k => revert k; decide
  | recv k => revert k; decide
  | loc => decide
theorem num_ofNum (n : Fin 15) : (ofNum n).num = n := by revert n; decide
def equiv : Sm ≃ Fin 15 := ⟨num, ofNum, ofNum_num, num_ofNum⟩
end Sm

instance : Fintype Sm := Fintype.ofEquiv (Fin 15) Sm.equiv.symm

/-- The DMA semaphore. -/
def dsem (k : Sm) : DmaSem sig := ⟨k.num.val, Nat.lt_of_lt_of_le k.num.isLt (by decide : 15 ≤ 15)⟩
theorem dsem_inj : Function.Injective dsem := fun a b h => by
  have : a.num = b.num := Fin.ext (show a.num.val = b.num.val from congrArg (fun x : DmaSem sig => x.val) h)
  exact Sm.equiv.injective this

abbrev cell (c : Dev nD) (k : Sm) : GSem nD τ sig := ((c : Thread nD τ), .dma (dsem k))

theorem cell_inj {c c' : Dev nD} {k k' : Sm} (h : cell c k = cell c' k') : c = c' ∧ k = k' :=
  ⟨congrArg (fun g : GSem nD τ sig => g.1.1) h, dsem_inj (SemLoc.dma.inj (congrArg (fun g : GSem nD τ sig => g.2) h))⟩

/-- Which of the gather's semaphores, if any. -/
def which : SemLoc sig → Option Sm
  | .dma n => if h : n.val < 15 then some (Sm.ofNum ⟨n.val, h⟩) else none
  | _ => none
theorem which_dsem (k : Sm) : which (.dma (dsem k)) = some k := by
  have h : (dsem k).val < 15 := k.num.isLt
  show (if h : (dsem k).val < 15 then some (Sm.ofNum ⟨(dsem k).val, h⟩) else none) = some k
  rw [dif_pos h]
  exact congrArg some (Sm.ofNum_num k)

/-! ## The schedule -/

/-- The credit of one block. -/
@[irreducible] def NB : ℕ := (oM 0).view.dmaCredit
theorem NB_pos : 0 < NB := by
  unfold NB
  exact (oM 0).view.dmaCredit_pos (Shape.numel_pos fun a => by fin_cases a <;> exact Nat.succ_pos _)
theorem blk_credit (off : Fin 3 → ℕ) (inb : ∀ a, off a + S1x51344x128.size a ≤ S8x51344x128.size a) : (blkM off inb).view.dmaCredit = NB := by unfold NB; rfl
theorem x_credit : xM.view.dmaCredit = NB := by unfold NB; rfl

/-- What copy `k` reads: a share of the operand, or a slot that has arrived. -/
def load (c : Dev nD) (k : Fin 7) : sProp 𝕄 :=
  if k.val < 4 then xpt c (eighth ⟨k.val + 1, by omega⟩) (X c) else opt c (orig (via k) c) (gat X)
theorem load_own (c : Dev nD) (k : Fin 7) (h : k.val < 4) : (load X c k : sProp 𝕄) = xpt c (eighth ⟨k.val + 1, by omega⟩) (X c) := if_pos h
theorem load_pass (c : Dev nD) (k : Fin 7) (h : ¬ k.val < 4) : (load X c k : sProp 𝕄) = opt c (orig (via k) c) (gat X) := if_neg h

def pay (c : Dev nD) : Sm → sProp 𝕄
  | .send k => load X c k
  | .recv k => opt c (orig k c) (gat X)
  | .loc => iprop(opt c c (gat X) ∗ xpt c (eighth 0) (X c))

/-- One round with one duty on each of the fifteen semaphores of each device. -/
def Rd : Rounds.Schedule (GSem nD τ sig) Unit 𝕄 where
  duties g r := if r = 0 then (match which g.2 with | some _ => {()} | none => ∅) else ∅
  unitless _ := False
  amount _ _ _ := NB
  payload g _ _ := match which g.2 with | some k => pay X g.1.1 k | none => iprop(emp)
  amount_pos _ _ _ _ := NB_pos

instance load_storable (c : Dev nD) (k : Fin 7) : BI.Storable (upEmb : UEmb _ 𝕄) (load X c k) := by
  unfold load
  split <;> infer_instance
instance pay_storable (c : Dev nD) (k : Sm) : BI.Storable (upEmb : UEmb _ 𝕄) (pay X c k) := by
  cases k <;> (unfold pay; infer_instance)
instance Rd_storable (g : GSem nD τ sig) (r : ℕ) (d : Unit) : BI.Storable (upEmb : UEmb _ 𝕄) ((Rd X).payload g r d) := by
  show BI.Storable upEmb (match which g.2 with | some k => pay X g.1.1 k | none => iprop(emp))
  cases which g.2 <;> infer_instance

theorem Rd_duties (c : Dev nD) (k : Sm) : (Rd X).duties (cell c k) 0 = {()} := by
  dsimp only [Rd]; rw [if_pos rfl, which_dsem]
theorem Rd_later (g : GSem nD τ sig) (r : ℕ) (h : 1 ≤ r) : (Rd X).duties g r = ∅ := by
  dsimp only [Rd]; rw [if_neg (by omega)]
theorem Rd_amount (g : GSem nD τ sig) (r : ℕ) (u : Unit) : (Rd X).amount g r u = NB := rfl
theorem Rd_expect (c : Dev nD) (k : Sm) : (Rd X).expect (cell c k) 0 = NB := by
  unfold Schedule.expect Schedule.amountOf; rw [Rd_duties, Finset.sum_singleton, Rd_amount]
theorem Rd_payload (c : Dev nD) (k : Sm) (u : Unit) : (Rd X).payload (cell c k) 0 u = pay X c k := by
  dsimp only [Rd]; rw [which_dsem]
theorem Rd_rest (c : Dev nD) (k : Sm) :
    bigSep ((Rd X).duties (cell c k) 0 \ ∅) (fun u => (Rd X).payload (cell c k) 0 u) = pay X c k := by
  rw [Finset.sdiff_empty, Rd_duties, bigSep_singleton, Rd_payload]
theorem Rd_mem (c : Dev nD) (k : Sm) : () ∈ (Rd X).duties (cell c k) 0 := by
  rw [Rd_duties]; exact Finset.mem_singleton_self _

/-! ## What a device owes, in the order its copies pay it, and what it may wait for meanwhile -/

/-- The credit the listed copies put at their receivers. -/
def left (c : Dev nD) : List (Fin 7) → CellTallies nD τ sig Unit
  | [] => 0
  | k :: l => left c l + tallyAt (cell (dest k c) (.recv k)) () NB

abbrev O₀ (c : Dev nD) : CellTallies nD τ sig Unit := left c [0, 1, 2, 3, 4, 5, 6]

theorem left_pos (c : Dev nD) (g : GSem nD τ sig) (u : Unit) : ∀ l : List (Fin 7), 0 < left c l g u → ∃ k ∈ l, g = cell (dest k c) (.recv k)
  | [], h => absurd h (by simp [left])
  | k :: l, h => by
    rcases Pipeline.add_pos_cases h with h | h
    · obtain ⟨k', hk, e⟩ := left_pos c g u l h
      exact ⟨k', List.mem_cons_of_mem _ hk, e⟩
    · rw [tallyAt_apply] at h
      by_cases hg : g = cell (dest k c) (.recv k) ∧ u = ()
      · exact ⟨k, List.mem_cons_self, hg.1⟩
      · rw [if_neg hg] at h; exact absurd h (Nat.lt_irrefl 0)

/-- Owing `O`, at some record of waits. -/
def ow (c : Dev nD) (O : CellTallies nD τ sig Unit) : sProp 𝕄 := iprop(∃ W, owes (c : Thread nD τ) O W)

def L (g : GSem nD τ sig) : Finset Unit := if g.1.2 = .tc then {()} else ∅
theorem L_of_ne (g : GSem nD τ sig) (h : g.1.2 ≠ .tc) : L g = ∅ := if_neg h
theorem L_cell (c : Dev nD) (k : Sm) : () ∈ L (cell c k) := by
  rw [show L (cell c k) = {()} from if_pos rfl]; exact Finset.mem_singleton_self _

/-- The arrivals of passed blocks lie above all else. -/
def rank : Sm → ℕ
  | .recv k => if k.val < 4 then 0 else 1
  | _ => 0
def lv (g : GSem nD τ sig) (_ : Unit) : ℕ := match which g.2 with | some k => rank k | none => 0
theorem lv_cell (c : Dev nD) (k : Sm) : lv (cell c k) () = rank k := by
  unfold lv; rw [which_dsem]

/-- A semaphore of rank 0 may be waited for as long as only passed copies are owed. -/
theorem may_wait (c : Dev nD) (k : Sm) (l : List (Fin 7)) (hl : ∀ j ∈ l, rank k < rank (.recv j)) :
    (levAts L lv : sProp 𝕄) ⊢ MayWait (c : Thread nD τ) (.dma (dsem k)) () (left c l) :=
  Pipeline.mayWait_of_levAts (L_cell c k) fun g u h => by
    obtain ⟨j, hj, rfl⟩ := left_pos c g u l h
    refine ⟨L_cell _ _, ?_⟩
    rw [show lv ((c : Thread nD τ), .dma (dsem k)) () = rank k from lv_cell c k, lv_cell]
    exact hl j hj

/-! ## The records every device may consult -/

def cellEmb : Dev nD × Sm ↪ GSem nD τ sig :=
  ⟨fun ck => cell ck.1 ck.2, fun _ _ h => Prod.ext (cell_inj h).1 (cell_inj h).2⟩
def cells : Finset (GSem nD τ sig) := Finset.univ.map cellEmb
theorem cell_mem (c : Dev nD) (k : Sm) : cell c k ∈ cells := Finset.mem_map_of_mem cellEmb (Finset.mem_univ (c, k))

def recs (K : GSem nD τ sig → ℕ) : sProp 𝕄 :=
  iprop((bigSep cells fun g => cellInv EX (Rd X) (K g) g) ∗ (bigSep cells fun g => reached EX g 0) ∗ levAts L lv)
instance recs_persistent (K : GSem nD τ sig → ℕ) : BI.Persistent (recs X K) := by unfold recs; infer_instance
theorem inv_at (K : GSem nD τ sig → ℕ) (c : Dev nD) (k : Sm) :
    (bigSep cells fun g => (cellInv EX (Rd X) (K g) g : sProp 𝕄)) ⊢ cellInv EX (Rd X) (K (cell c k)) (cell c k) := bigSep_elim (cell_mem c k)
theorem reached_at (c : Dev nD) (k : Sm) : (bigSep cells fun g => (reached EX g 0 : sProp 𝕄)) ⊢ reached EX (cell c k) 0 := bigSep_elim (cell_mem c k)
theorem recs_inv (K : GSem nD τ sig → ℕ) (c : Dev nD) (k : Sm) : recs X K ⊢ cellInv EX (Rd X) (K (cell c k)) (cell c k) := by
  unfold recs
  iintro ⟨H, -⟩
  iapply (inv_at X K c k); iexact H
theorem recs_reached (K : GSem nD τ sig → ℕ) (c : Dev nD) (k : Sm) : recs X K ⊢ reached EX (cell c k) 0 := by
  unfold recs
  iintro ⟨-, H, -⟩
  iapply (reached_at (F := F) c k); iexact H
theorem recs_levels (K : GSem nD τ sig → ℕ) : recs X K ⊢ (levAts L lv : sProp 𝕄) := by
  unfold recs
  iintro ⟨-, -, H⟩
  iexact H

end Cert.Gathering
-- ==== Proof.GatherBody.lean ====
/- The weight gather's body, one copy or wait at a time, and from start to end. -/
module

public import proofs.«01_k».proof.Proof.GatherProto
public import proofs.«01_k».proof.Proof.Gen.GatherIdeal.Skeleton

@[expose] public section

noncomputable section

namespace Cert.Gathering

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Shard F) (K : GSem nD τ sig → ℕ) (c : Dev nD)

/-- A semaphore's counter back at zero. -/
abbrev zero (k : Sm) : sProp 𝕄 := semVal (cell c k) 0
/-- What a wait takes: the credit and the position of its semaphore. -/
def rdy (k : Sm) : sProp 𝕄 := iprop(cred (tallyAt (cell c k) () NB) ∗ atPos EX (cell c k) 0 ∅ 0)

/-- A wait, with only copies of higher rank owed: the round is over, and the counter is taken out of its invariant. -/
theorem step_wait (k : Sm) (l : List (Fin 7)) (hl : ∀ j ∈ l, rank k < rank (.recv j)) {w : TpuEff nD τ sig (Elt F) Λ₀ .tc PUnit} {sm : DmaSem sig} {n : ℕ}
    (hw : ∀ Q : PUnit → sProp 𝕄, wpE (defs₀ (F := F)) 𝒱₀ (c : Thread nD τ) none Set.univ w Q = waitSpec (c : Thread nD τ) Set.univ (.dma sm) n Q)
    (hs : sm = dsem k) (hn : n = NB) {cont : PUnit → Prog (TpuEff nD τ sig (Elt F) Λ₀ .tc) PUnit} {Q : PUnit → sProp 𝕄} :
    iprop(recs X K ∗ rdy c k ∗ ow c (left c l))
      ⊢ iprop((zero c k -∗ pay X c k -∗ ow c (left c l) -∗ wp frame (wpE (defs₀ (F := F)) 𝒱₀ (c : Thread nD τ) none) Set.univ (cont ⟨⟩) Q)
        -∗ wp frame (wpE (defs₀ (F := F)) 𝒱₀ (c : Thread nD τ) none) Set.univ (.op w cont) Q) := by
  subst hs hn
  unfold ow rdy
  iintro ⟨#HR, ⟨Hc, Hat⟩, %W, HO⟩ Hk
  ihave #HI := (recs_inv X K c k) $$ HR
  ihave #HL := (recs_levels X K) $$ HR
  iapply (Rounds.wp_wait_rest_token 𝒱₀ EX (Rd X) (c : Thread nD τ) none (κ := K (cell c k)) hw (Set.mem_univ _) ()
    (O := left c l) (W := W) (R := 0) (m := 0) (T := ∅) ((Nat.zero_add _).trans (Rd_expect X c k).symm)) $$ [Hc HO Hat]
  · isplitr; · iexact HI
    isplitl [Hc]; · iexact Hc
    isplitl [HO]; · iexact HO
    isplitr; · iapply (may_wait c k l hl); iexact HL
    iexact Hat
  iintro ⟨HO, Hat, -, Hpay⟩
  imod (Rounds.cell_close EX (Rd X) (g := cell c k) (κ := K (cell c k)) (Es := Set.univ) (Set.mem_univ _) (fun h => h) (R := 1)
    (fun r h => Rd_later X _ r h)) $$ [Hat] with Hv
  · isplitr; · iexact HI
    iexact Hat
  ihave Hpay' := (Entails.of_eq (Rd_rest X c k)) $$ Hpay
  iapply Hk $$ [Hv] [Hpay']
  · iexact Hv
  · iexact Hpay'
  iexists _; iexact HO

/-- The copy of this device's own block. -/
theorem step_loc {sm : DmaSem sig} (hs : sm = dsem .loc)
    {hsrc : xM.view.WordExact} {hdst : (oM c).view.WordExact} {hsem}
    {cont : PUnit → Prog (TpuEff nD τ sig (Elt F) Λ₀ .tc) PUnit} {Q : PUnit → sProp 𝕄} :
    iprop(recs X K ∗ xpt c (eighth 0) (X c) ∗ (∃ f, opt c c f) ∗ dutyTok EX (cell c .loc) 0 () ∗ atPos EX (cell c .loc) 0 ∅ 0)
      ⊢ iprop((rdy c .loc -∗ wp frame (wpE (defs₀ (F := F)) 𝒱₀ (c : Thread nD τ) none) Set.univ (cont ⟨⟩) Q)
        -∗ wp frame (wpE (defs₀ (F := F)) 𝒱₀ (c : Thread nD τ) none) Set.univ (.op (.enqueueDma xM (.here (oM c)) (.dma sm) hsrc hdst hsem) cont) Q) := by
  subst hs
  unfold rdy
  iintro ⟨#HR, Hs, ⟨%f, Hd⟩, Ht, Ha⟩ Hk
  ihave #HI := (recs_inv X K c .loc) $$ HR
  ihave #Hr := (recs_reached X K c .loc) $$ HR
  iapply (Rounds.wp_copy_pointsTo 𝒱₀ EX (Rd X) (c : Thread nD τ) none (src := xM) (dst := oM c) (sem := .dma (dsem .loc)) (q := eighth 0)
    (fs := X c) (fd := f) (r := 0) (d := ()) (κ := K (cell c .loc)) (Rd_mem X c .loc) () NB (blk_credit _ _) rfl
    (by rw [Rd_payload]; exact BI.sep_mono (Entails.of_eq (own_pt X c c f)) (BI.Entails.refl _))) $$ [Hs Hd Ht]
  · isplitr; · iexact HI
    isplitl [Hs]; · iexact Hs
    isplitl [Hd]; · iexact Hd
    isplitl [Ht]; · iexact Ht
    iexact Hr
  iintro Hc
  iapply Hk
  isplitl [Hc] <;> iassumption

/-- What copy `k` takes besides what it reads. -/
def kit (k : Fin 7) : sProp 𝕄 :=
  iprop((∃ f, opt (dest k c) (cargo k c) f) ∗ dutyTok EX (cell c (.send k)) 0 () ∗ dutyTok EX (cell (dest k c) (.recv k)) 0 () ∗ atPos EX (cell c (.send k)) 0 ∅ 0)

/-- A remote copy into the slot of the block it carries. -/
theorem step_send (k : Fin 7) (l : List (Fin 7)) {src : Memref sig .tc .hbm S51344x128 .bf16} {q : PosShare TreeShare}
    {fs : Buf (Elt F) (src.view.loc (c : Thread nD τ))} {off : Fin 3 → ℕ} {inb : ∀ a, off a + S1x51344x128.size a ≤ S8x51344x128.size a}
    (hoff : off = k0_off1 (cargo k c)) {d : Dev nD} (hd : d = dest k c)
    {s₁ s₂ : DmaSem sig} (h₁ : s₁ = dsem (.send k)) (h₂ : s₂ = dsem (.recv k))
    (hload : (src.view.loc (c : Thread nD τ) ↦[src.view.set]{q} fs : sProp 𝕄) = load X c k)
    (hland : ∀ f : Out F, (opt (dest k c) (cargo k c) ((oM (cargo k c)).view.write (Elt F) f (src.view.read (Elt F) fs) Finset.univ) : sProp 𝕄)
      = opt (dest k c) (cargo k c) (gat X))
    {hsrc : src.view.WordExact} {hdst : (blkM off inb).view.WordExact} {hsc} {hsem}
    {cont : PUnit → Prog (TpuEff nD τ sig (Elt F) Λ₀ .tc) PUnit} {Q : PUnit → sProp 𝕄} :
    iprop(recs X K ∗ load X c k ∗ kit c k ∗ ow c (left c (k :: l)))
      ⊢ iprop((rdy c (.send k) -∗ ow c (left c l) -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma src (.remote (Dev.tc d) (blkM off inb) (.dma s₁) hsc) (.dma s₂) hsrc hdst hsem) cont) Q) := by
  subst hoff hd h₁ h₂
  rw [← hload]
  unfold ow kit rdy
  iintro ⟨#HR, Hs, ⟨⟨%f, Hd⟩, Ht, Hu, Ha⟩, %W, HO⟩ Hk
  ihave #HI1 := (recs_inv X K c (.send k)) $$ HR
  ihave #HI2 := (recs_inv X K (dest k c) (.recv k)) $$ HR
  ihave #Hr1 := (recs_reached X K c (.send k)) $$ HR
  ihave #Hr2 := (recs_reached X K (dest k c) (.recv k)) $$ HR
  iapply (Rounds.wp_send_pointsTo 𝒱₀ EX (Rd X) (c : Thread nD τ) none (c' := (dest k c : Thread nD τ)) (src := src) (dst := oM (cargo k c))
      (sS := .dma (dsem (.send k))) (sem := .dma (dsem (.recv k))) (q := q) (fs := fs)
      (κ₁ := K (cell c (.send k))) (κ₂ := K (cell (dest k c) (.recv k))) (r₁ := 0) (r₂ := 0) (d₁ := ()) (d₂ := ()) (fd := f)
      (Rd_mem X c (.send k)) (Rd_mem X (dest k c) (.recv k)) () () NB (blk_credit _ _)
      rfl rfl (left c l) rfl (W := W)
      (by rw [Rd_payload, hload]; exact BI.Entails.refl _)
      (by rw [Rd_payload]; exact Entails.of_eq (hland f))) $$ [Hs Hd HO Ht Hu]
  · isplitr; · iexact HI1
    isplitr; · iexact HI2
    isplitl [Hs]; · iexact Hs
    isplitl [Hd]; · iexact Hd
    isplitl [HO]; · iexact HO
    isplitl [Ht]; · iexact Ht
    isplitr; · iexact Hr1
    isplitl [Hu]; · iexact Hu
    iexact Hr2
  iintro ⟨Hc, HO⟩
  iapply Hk $$ [Hc Ha] [HO]
  · isplitl [Hc] <;> iassumption
  iexists W; iexact HO

/-- A copy of this device's own block. -/
theorem step_own (k : Fin 7) (hk : k.val < 4) (l : List (Fin 7)) {d : Dev nD} (hd : d = dest k c)
    {s₁ s₂ : DmaSem sig} (h₁ : s₁ = dsem (.send k)) (h₂ : s₂ = dsem (.recv k))
    {hsrc : xM.view.WordExact} {hdst : (oM c).view.WordExact} {hsc} {hsem}
    {cont : PUnit → Prog (TpuEff nD τ sig (Elt F) Λ₀ .tc) PUnit} {Q : PUnit → sProp 𝕄} :
    iprop(recs X K ∗ load X c k ∗ kit c k ∗ ow c (left c (k :: l)))
      ⊢ iprop((rdy c (.send k) -∗ ow c (left c l) -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma xM (.remote (Dev.tc d) (oM c) (.dma s₁) hsc) (.dma s₂) hsrc hdst hsem) cont) Q) :=
  step_send X K c k l (src := xM) (q := eighth ⟨k.val + 1, by omega⟩) (fs := X c) (congrArg k0_off1 (cargo_own k c hk)).symm hd h₁ h₂ (load_own X c k hk).symm
    (fun f => by rw [cargo_own k c hk]; exact own_pt X _ c f)

/-- A copy of a block that has arrived. -/
theorem step_pass (k : Fin 7) (hk : ¬ k.val < 4) (l : List (Fin 7)) {off : Fin 3 → ℕ} {inb : ∀ a, off a + S1x51344x128.size a ≤ S8x51344x128.size a}
    (hoff : off = k0_off1 (orig (via k) c)) {d : Dev nD} (hd : d = dest k c)
    {s₁ s₂ : DmaSem sig} (h₁ : s₁ = dsem (.send k)) (h₂ : s₂ = dsem (.recv k))
    {hsrc : (blkM off inb).view.WordExact} {hdst : (blkM off inb).view.WordExact} {hsc} {hsem}
    {cont : PUnit → Prog (TpuEff nD τ sig (Elt F) Λ₀ .tc) PUnit} {Q : PUnit → sProp 𝕄} :
    iprop(recs X K ∗ load X c k ∗ kit c k ∗ ow c (left c (k :: l)))
      ⊢ iprop((rdy c (.send k) -∗ ow c (left c l) -∗ wp frame (wpE (defs₀ (F := F)) 𝒱₀ (c : Thread nD τ) none) Set.univ (cont ⟨⟩) Q)
        -∗ wp frame (wpE (defs₀ (F := F)) 𝒱₀ (c : Thread nD τ) none) Set.univ
          (.op (.enqueueDma (blkM off inb) (.remote (Dev.tc d) (blkM off inb) (.dma s₁) hsc) (.dma s₂) hsrc hdst hsem) cont) Q) := by
  subst hoff
  exact step_send X K c k l (src := oM (orig (via k) c)) (q := fullShare) (fs := gat X) (congrArg k0_off1 (cargo_via k c hk)).symm hd h₁ h₂ (load_pass X c k hk).symm
    (fun f => by rw [cargo_via k c hk]; exact pass_pt X _ _ f)

end Cert.Gathering
-- ==== Proof.GatherRun.lean ====
/- The weight gather's body from start to end. -/
module

public import proofs.«01_k».proof.Proof.GatherBody

@[expose] public section

noncomputable section

namespace Cert.Gathering

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Shard F) (K : GSem nD τ sig → ℕ) (c : Dev nD)

theorem sep7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

/-- The shares of the operand that no copy reads. -/
def spare : sProp 𝕄 := iprop(xpt c (eighth 5) (X c) ∗ xpt c (eighth 6) (X c) ∗ xpt c (eighth 7) (X c))

/-- What a device starts its gather with. -/
def start : sProp 𝕄 :=
  iprop(spare X c ∗ (xpt c (eighth 0) (X c) ∗ (∃ f, opt c c f) ∗ dutyTok EX (cell c .loc) 0 () ∗ atPos EX (cell c .loc) 0 ∅ 0)
    ∗ (load X c 0 ∗ load X c 1 ∗ load X c 2 ∗ load X c 3)
    ∗ (bigSep Finset.univ fun k => kit c k)
    ∗ (bigSep Finset.univ fun k : Fin 7 => rdy c (.recv k)))

/-- What it ends it with. -/
def finish : sProp 𝕄 :=
  iprop(spare X c ∗ (zero c .loc ∗ (bigSep Finset.univ fun k : Fin 7 => zero c (.send k)) ∗ bigSep Finset.univ fun k : Fin 7 => zero c (.recv k))
    ∗ pay X c .loc ∗ (bigSep Finset.univ fun k : Fin 7 => pay X c (.send k))
    ∗ (pay X c (.recv 0) ∗ pay X c (.recv 4) ∗ pay X c (.recv 5) ∗ pay X c (.recv 6)))

/-- A block that has arrived, as what a passed copy reads. -/
theorem pass_on (k j : Fin 7) (hk : ¬ k.val < 4) (hj : via k = j) : pay X c (.recv j) = (load X c k : sProp 𝕄) := by
  subst hj
  exact (load_pass X c k hk).symm

set_option maxHeartbeats 4000000 in
theorem body_run (Q : PUnit → sProp 𝕄) :
    iprop((recs X K ∗ start X c ∗ ow c (O₀ c)) ∗ (finish X c -∗ ow c 0 -∗ Q ⟨⟩))
      ⊢ wp frame (wpE (defs₀ (F := F)) 𝒱₀ (c : Thread nD τ) none) Set.univ
        (cc0_weight_all_gather (F := F) (Memref.whole main_arg0) (Memref.isWhole_whole _) (Memref.whole main_v1) (Memref.isWhole_whole _) cc0_scratch0 cc0_scratch1 cc0_scratch2) Q := by
  have hd : ∀ c : Dev nD, k0_dev1 c = (dest 0 c).val ∧ k0_dev2 c = (dest 1 c).val ∧ k0_dev3 c = (dest 2 c).val ∧ k0_dev4 c = (dest 3 c).val := by decide
  have hp : ∀ c : Dev nD, k0_dev5 c = (dest 4 c).val ∧ k0_dev6 c = (dest 5 c).val ∧ k0_dev7 c = (dest 6 c).val := by decide
  have ho : ∀ c : Dev nD, k0_off2 c = k0_off1 (orig (via 4) c) ∧ k0_off3 c = k0_off1 (orig (via 5) c) ∧ k0_off4 c = k0_off1 (orig (via 6) c) := by decide
  simp only [cc0_weight_all_gather_eq_skeleton]; unfold cc0_weight_all_gather_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, Prog.bind_assoc, wp_deviceId]
  unfold start finish
  rw [sep7, sep7, sep7, sep7, sep7]
  iintro ⟨⟨#HR, ⟨Hsp, HL, ⟨D0, D1, D2, D3⟩, ⟨K0, K1, K2, K3, K4, K5, K6⟩, ⟨W0, W1, W2, W3, W4, W5, W6⟩⟩, HO⟩, Hk⟩
  iapply (step_loc X K c rfl) $$ [HL]
  · isplitr; · iexact HR
    iexact HL
  iintro YL
  iapply (step_own X K c 0 (by decide) [1, 2, 3, 4, 5, 6] (d := ⟨k0_dev1 c, k0_dev1_lt c⟩) (Fin.ext (hd c).1) rfl rfl) $$ [D0 K0 HO]
  · isplitr; · iexact HR
    isplitl [D0]; · iexact D0
    isplitl [K0] <;> iassumption
  iintro Y0 HO
  iapply (step_own X K c 1 (by decide) [2, 3, 4, 5, 6] (d := ⟨k0_dev2 c, k0_dev2_lt c⟩) (Fin.ext (hd c).2.1) rfl rfl) $$ [D1 K1 HO]
  · isplitr; · iexact HR
    isplitl [D1]; · iexact D1
    isplitl [K1] <;> iassumption
  iintro Y1 HO
  iapply (step_own X K c 2 (by decide) [3, 4, 5, 6] (d := ⟨k0_dev3 c, k0_dev3_lt c⟩) (Fin.ext (hd c).2.2.1) rfl rfl) $$ [D2 K2 HO]
  · isplitr; · iexact HR
    isplitl [D2]; · iexact D2
    isplitl [K2] <;> iassumption
  iintro Y2 HO
  iapply (step_own X K c 3 (by decide) [4, 5, 6] (d := ⟨k0_dev4 c, k0_dev4_lt c⟩) (Fin.ext (hd c).2.2.2) rfl rfl) $$ [D3 K3 HO]
  · isplitr; · iexact HR
    isplitl [D3]; · iexact D3
    isplitl [K3] <;> iassumption
  iintro Y3 HO
  iapply (step_wait X K c (.recv 1) [4, 5, 6] (by decide) (wpE_waitDma2_eq 𝒱₀ (c : Thread nD τ) none Set.univ) rfl (blk_credit _ _)) $$ [W1 HO]
  · isplitr; · iexact HR
    isplitl [W1] <;> iassumption
  iintro Z1 P1 HO
  ihave P := (Entails.of_eq (pass_on X c 4 1 (by decide) rfl)) $$ P1
  iapply (step_pass X K c 4 (by decide) [5, 6] (ho c).1 (d := ⟨k0_dev5 c, k0_dev5_lt c⟩) (Fin.ext (hp c).1) rfl rfl) $$ [P K4 HO]
  · isplitr; · iexact HR
    isplitl [P]; · iexact P
    isplitl [K4] <;> iassumption
  iintro Y4 HO
  iapply (step_wait X K c (.recv 2) [5, 6] (by decide) (wpE_waitDma2_eq 𝒱₀ (c : Thread nD τ) none Set.univ) rfl (blk_credit _ _)) $$ [W2 HO]
  · isplitr; · iexact HR
    isplitl [W2] <;> iassumption
  iintro Z2 P2 HO
  ihave P := (Entails.of_eq (pass_on X c 5 2 (by decide) rfl)) $$ P2
  iapply (step_pass X K c 5 (by decide) [6] (ho c).2.1 (d := ⟨k0_dev6 c, k0_dev6_lt c⟩) (Fin.ext (hp c).2.1) rfl rfl) $$ [P K5 HO]
  · isplitr; · iexact HR
    isplitl [P]; · iexact P
    isplitl [K5] <;> iassumption
  iintro Y5 HO
  iapply (step_wait X K c (.recv 3) [6] (by decide) (wpE_waitDma2_eq 𝒱₀ (c : Thread nD τ) none Set.univ) rfl (blk_credit _ _)) $$ [W3 HO]
  · isplitr; · iexact HR
    isplitl [W3] <;> iassumption
  iintro Z3 P3 HO
  ihave P := (Entails.of_eq (pass_on X c 6 3 (by decide) rfl)) $$ P3
  iapply (step_pass X K c 6 (by decide) [] (ho c).2.2 (d := ⟨k0_dev7 c, k0_dev7_lt c⟩) (Fin.ext (hp c).2.2) rfl rfl) $$ [P K6 HO]
  · isplitr; · iexact HR
    isplitl [P]; · iexact P
    isplitl [K6] <;> iassumption
  iintro Y6 HO
  iapply (step_wait X K c (.recv 0) [] (fun _ h => nomatch h) (wpE_waitDma2_eq 𝒱₀ (c : Thread nD τ) none Set.univ) rfl (blk_credit _ _)) $$ [W0 HO]
  · isplitr; · iexact HR
    isplitl [W0] <;> iassumption
  iintro Z0 P0 HO
  iapply (step_wait X K c (.recv 4) [] (fun _ h => nomatch h) (wpE_waitDma2_eq 𝒱₀ (c : Thread nD τ) none Set.univ) rfl (blk_credit _ _)) $$ [W4 HO]
  · isplitr; · iexact HR
    isplitl [W4] <;> iassumption
  iintro Z4 P4 HO
  iapply (step_wait X K c (.recv 5) [] (fun _ h => nomatch h) (wpE_waitDma2_eq 𝒱₀ (c : Thread nD τ) none Set.univ) rfl (blk_credit _ _)) $$ [W5 HO]
  · isplitr; · iexact HR
    isplitl [W5] <;> iassumption
  iintro Z5 P5 HO
  iapply (step_wait X K c (.recv 6) [] (fun _ h => nomatch h) (wpE_waitDma2_eq 𝒱₀ (c : Thread nD τ) none Set.univ) rfl (blk_credit _ _)) $$ [W6 HO]
  · isplitr; · iexact HR
    isplitl [W6] <;> iassumption
  iintro Z6 P6 HO
  iapply (step_wait X K c (.send 0) [] (fun _ h => nomatch h) (wpE_waitDma2_eq 𝒱₀ (c : Thread nD τ) none Set.univ) rfl x_credit) $$ [Y0 HO]
  · isplitr; · iexact HR
    isplitl [Y0] <;> iassumption
  iintro S0 D0 HO
  iapply (step_wait X K c (.send 1) [] (fun _ h => nomatch h) (wpE_waitDma2_eq 𝒱₀ (c : Thread nD τ) none Set.univ) rfl x_credit) $$ [Y1 HO]
  · isplitr; · iexact HR
    isplitl [Y1] <;> iassumption
  iintro S1 D1 HO
  iapply (step_wait X K c (.send 2) [] (fun _ h => nomatch h) (wpE_waitDma2_eq 𝒱₀ (c : Thread nD τ) none Set.univ) rfl x_credit) $$ [Y2 HO]
  · isplitr; · iexact HR
    isplitl [Y2] <;> iassumption
  iintro S2 D2 HO
  iapply (step_wait X K c (.send 3) [] (fun _ h => nomatch h) (wpE_waitDma2_eq 𝒱₀ (c : Thread nD τ) none Set.univ) rfl x_credit) $$ [Y3 HO]
  · isplitr; · iexact HR
    isplitl [Y3] <;> iassumption
  iintro S3 D3 HO
  iapply (step_wait X K c (.send 4) [] (fun _ h => nomatch h) (wpE_waitDma2_eq 𝒱₀ (c : Thread nD τ) none Set.univ) rfl (blk_credit _ _)) $$ [Y4 HO]
  · isplitr; · iexact HR
    isplitl [Y4] <;> iassumption
  iintro S4 D4 HO
  iapply (step_wait X K c (.send 5) [] (fun _ h => nomatch h) (wpE_waitDma2_eq 𝒱₀ (c : Thread nD τ) none Set.univ) rfl (blk_credit _ _)) $$ [Y5 HO]
  · isplitr; · iexact HR
    isplitl [Y5] <;> iassumption
  iintro S5 D5 HO
  iapply (step_wait X K c (.send 6) [] (fun _ h => nomatch h) (wpE_waitDma2_eq 𝒱₀ (c : Thread nD τ) none Set.univ) rfl (blk_credit _ _)) $$ [Y6 HO]
  · isplitr; · iexact HR
    isplitl [Y6] <;> iassumption
  iintro S6 D6 HO
  iapply (step_wait X K c .loc [] (fun _ h => nomatch h) (wpE_waitDma2_eq 𝒱₀ (c : Thread nD τ) none Set.univ) rfl (blk_credit _ _)) $$ [YL HO]
  · isplitr; · iexact HR
    isplitl [YL] <;> iassumption
  iintro ZL PL HO
  rw [wp_ret]
  imodintro
  iapply Hk $$ [-HO] [HO]
  · isplitl [Hsp]; · iexact Hsp
    isplitl [ZL S0 S1 S2 S3 S4 S5 S6 Z0 Z1 Z2 Z3 Z4 Z5 Z6]
    · isplitl [ZL]; · iexact ZL
      isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      · isplitl [Z0]; · iexact Z0
        isplitl [Z1]; · iexact Z1
        isplitl [Z2]; · iexact Z2
        isplitl [Z3]; · iexact Z3
        isplitl [Z4]; · iexact Z4
        isplitl [Z5]; · iexact Z5
        iexact Z6
    isplitl [PL]; · iexact PL
    isplitl [D0 D1 D2 D3 D4 D5 D6]
    · isplitl [D0]; · iexact D0
      isplitl [D1]; · iexact D1
      isplitl [D2]; · iexact D2
      isplitl [D3]; · iexact D3
      isplitl [D4]; · iexact D4
      isplitl [D5]; · iexact D5
      iexact D6
    · isplitl [P0]; · iexact P0
      isplitl [P4]; · iexact P4
      isplitl [P5]; · iexact P5
      iexact P6
  iexact HO

end Cert.Gathering
-- ==== Proof.GatherDeal.lean ====
/- Dealing the gather's slots, tokens, positions and credit to the devices, and putting the slots together again. -/
module

public import proofs.«01_k».proof.Proof.GatherRun

@[expose] public section

noncomputable section

namespace Cert.Gathering

open Cert.GatherIdeal Cert.GatherIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Shard F) (K : GSem nD τ sig → ℕ) (c : Dev nD)

/-! ## Families over the devices and over the semaphores -/

theorem orig_inj : ∀ c : Dev nD, Function.Injective (fun k : Fin 7 => orig k c) := by decide
theorem all_orig : ∀ c : Dev nD, (Finset.univ : Finset (Dev nD)).erase c = Finset.univ.image (fun k : Fin 7 => orig k c) := by decide
def origEmb (c : Dev nD) : Fin 7 ↪ Dev nD := ⟨fun k => orig k c, orig_inj c⟩

/-- A family over the devices, seen from one of them: its own member and those the seven arriving copies come from. -/
theorem around (Φ : Dev nD → sProp 𝕄) : bigSep Finset.univ Φ = iprop(Φ c ∗ bigSep Finset.univ fun k : Fin 7 => Φ (orig k c)) := by
  rw [bigSep_univ_at _ c, all_orig c, show (Finset.univ.image fun k : Fin 7 => orig k c) = Finset.univ.map (origEmb c) from (Finset.map_eq_image (origEmb c) _).symm, bigSep_map]
  rfl

/-- What the receiver of copy `k` has for it goes to the copy's sender, over all devices and copies. -/
theorem hand (Φ : Fin 7 → Dev nD → sProp 𝕄) :
    (bigSep Finset.univ fun c : Dev nD => bigSep Finset.univ fun k : Fin 7 => Φ k c)
      = bigSep Finset.univ fun c : Dev nD => bigSep Finset.univ fun k : Fin 7 => Φ k (dest k c) := by
  rw [bigSep_univ_comm, bigSep_univ_comm (fun (c : Dev nD) (k : Fin 7) => Φ k (dest k c))]
  exact bigSep_congr fun k _ => bigSep_univ_equiv (otherEquiv (tg k)) (fun c => Φ k c)

def smEquiv : Unit ⊕ (Fin 7 ⊕ Fin 7) ≃ Sm where
  toFun
    | .inl _ => .loc
    | .inr (.inl k) => .send k
    | .inr (.inr k) => .recv k
  invFun
    | .loc => .inl ()
    | .send k => .inr (.inl k)
    | .recv k => .inr (.inr k)
  left_inv x := by rcases x with (_|(_|_)) <;> rfl
  right_inv x := by cases x <;> rfl

/-- A family over the fifteen semaphores, sorted. -/
theorem sm_split (Φ : Sm → sProp 𝕄) : bigSep Finset.univ Φ
    = iprop(Φ .loc ∗ (bigSep Finset.univ fun k => Φ (.send k)) ∗ bigSep Finset.univ fun k => Φ (.recv k)) := by
  rw [bigSep_univ_equiv smEquiv Φ, bigSep_univ_sum, bigSep_univ_sum, bigSep_univ_of_subsingleton ()]
  rfl

/-! ## A buffer as its slots, or as its shares -/

theorem slot_of (i : S8x51344x128.Idx) : i ∈ (oM (⟨(i 0).val, (i 0).isLt⟩ : Dev nD)).view.set := by
  rw [oM_set]; exact (mem_slot _ i).mpr rfl

theorem out_slots (f : Out F) : ((((c : Thread nD τ).loc main_v1) ↦{fullShare} f) : sProp 𝕄) = bigSep Finset.univ fun p : Dev nD => opt c p f := by
  refine Ring.pointsTo_blocks (ℓ := (c : Thread nD τ).loc main_v1) (fun p : Dev nD => ((oM p).view.set : Finset S8x51344x128.Idx)) (fun p p' h => ?_) ?_ f
  · rw [oM_set, oM_set, Finset.disjoint_left]
    intro i hi hi'
    exact h (Fin.ext (((mem_slot p i).mp hi).symm.trans ((mem_slot p' i).mp hi')))
  · refine Finset.eq_univ_iff_forall.mpr fun i => ?_
    exact Finset.mem_biUnion.mpr ⟨_, Finset.mem_univ _, slot_of i⟩

theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide), bigSep_insert (by decide),
    bigSep_insert (by decide), bigSep_insert (by decide), bigSep_insert (by decide), bigSep_insert (by decide), bigSep_singleton]
  rfl

/-- The operand as the shares its readers take. -/
theorem shares (f : Shard F) : ((((c : Thread nD τ).loc main_arg0) ↦{fullShare} f) : sProp 𝕄)
    = iprop(xpt c (eighth 0) f ∗ xpt c (eighth 1) f ∗ xpt c (eighth 2) f ∗ xpt c (eighth 3) f ∗ xpt c (eighth 4) f ∗ xpt c (eighth 5) f ∗ xpt c (eighth 6) f ∗ xpt c (eighth 7) f) := by
  have h := ShareLeaves.pointsTo_leaves (Ix := Unit) (Name := ℕ) (U := UU) (Lvl := ℕ) (Val := Elt F) (ℓ := (c : Thread nD τ).loc main_arg0) Finset.univ f 3 fullShare
  have hs : (xM.view.set : Finset S51344x128.Idx) = Finset.univ := View.set_whole main_arg0
  unfold xpt
  rw [hs]
  exact h.trans (sep8 fun i : Fin 8 => (c : Thread nD τ).loc main_arg0 ↦[Finset.univ]{eighth i} f)

/-! ## The credit of the arrivals -/

theorem dest_eq_iff {k : Fin 7} {c d : Dev nD} (h : c = dest k d) : d = dest k c := by rw [h]; exact (other_other (tg k) d).symm

theorem tally_cell (c' : Dev nD) (k k' : Sm) (n : ℕ) :
    (tallyAt (cell c' k') () n : CellTallies nD τ sig Unit) (cell c k) () = if c = c' ∧ k = k' then n else 0 := by
  rw [tallyAt_apply]
  by_cases h : c = c' ∧ k = k'
  · obtain ⟨rfl, rfl⟩ := h
    rw [if_pos ⟨rfl, rfl⟩, if_pos ⟨rfl, rfl⟩]
  · rw [if_neg h, if_neg (fun hh => h (cell_inj hh.1))]

theorem left_recv (d : Dev nD) (k : Fin 7) : ∀ l : List (Fin 7),
    left d l (cell c (.recv k)) () = l.count k * (if d = dest k c then NB else 0)
  | [] => by simp [left]
  | q :: l => by
    rw [left, Pi.add_apply, Finsupp.add_apply, left_recv d k l, tally_cell]
    by_cases hq : q = k
    · subst hq
      rw [List.count_cons_self, Nat.add_mul, Nat.one_mul]
      congr 1
      by_cases h : d = dest q c
      · rw [if_pos h, if_pos (And.intro (dest_eq_iff h) rfl)]
      · rw [if_neg h, if_neg (fun hh => h (dest_eq_iff hh.1))]
    · rw [List.count_cons_of_ne hq, if_neg (c := c = dest q d ∧ Sm.recv k = Sm.recv q) (fun h => hq (by cases h.2; rfl)), Nat.add_zero]

theorem count_all : ∀ k : Fin 7, ([0, 1, 2, 3, 4, 5, 6] : List (Fin 7)).count k = 1 := by decide

theorem credit_recv (k : Fin 7) :
    tallyOn (cell c (.recv k)) (launchCredit (Pipeline.owing O₀) 0 (cell c (.recv k))) = (tallyAt (cell c (.recv k)) () NB : CellTallies nD τ sig Unit) := by
  unfold tallyAt; refine congrArg _ (Finsupp.ext fun u => ?_); cases u
  rw [Pipeline.launchCredit_owing, Finsupp.single_eq_same, Finset.sum_congr rfl fun d _ => (left_recv c d k _).trans (by rw [count_all, Nat.one_mul]),
    Finset.sum_ite_eq' Finset.univ (dest k c) fun _ => NB, if_pos (Finset.mem_univ _)]

def osem (k : Sm) : SemLoc sig := .dma (dsem k)
def osemEmb : Sm ↪ SemLoc sig := ⟨osem, fun a b h => dsem_inj (SemLoc.dma.inj h)⟩

theorem last_of (A₁ A₂ A₃ : sProp 𝕄) : iprop(A₁ ∗ A₂ ∗ A₃) ⊢ A₃ := by
  iintro ⟨-, -, H⟩
  iexact H

theorem creds : (Pipeline.launchCred O₀ c : sProp 𝕄) ⊢ bigSep Finset.univ fun k : Fin 7 => cred (tallyAt (cell c (.recv k)) () NB) := by
  unfold Pipeline.launchCred
  refine (bigSep_subset (Finset.subset_univ (Finset.univ.map osemEmb))).trans ?_
  rw [bigSep_map, sm_split]
  exact (last_of _ _ _).trans (Entails.of_eq (bigSep_congr (s := Finset.univ) fun k _ => congrArg cred (credit_recv c k)))

/-! ## The tokens and the positions -/

def tokEmb : Dev nD × Sm ↪ GSem nD τ sig × ℕ × Unit :=
  ⟨fun ck => (cell ck.1 ck.2, 0, ()), fun _ _ h => cellEmb.injective (congrArg Prod.fst h)⟩
def toks : Finset (GSem nD τ sig × ℕ × Unit) := Finset.univ.map tokEmb

/-- The tokens device `c` pays with: its own copies' departures', and its receivers' arrivals'. -/
def paid : sProp 𝕄 :=
  iprop(dutyTok EX (cell c .loc) 0 () ∗ (bigSep Finset.univ fun k => dutyTok EX (cell c (.send k)) 0 ())
    ∗ bigSep Finset.univ fun k => dutyTok EX (cell (dest k c) (.recv k)) 0 ())

theorem toks_dealt : bigSep toks (fun x => (dutyTok EX x.1 x.2.1 x.2.2 : sProp 𝕄)) = bigSep Finset.univ fun c : Dev nD => (paid c : sProp 𝕄) := by
  unfold toks
  rw [bigSep_map, bigSep_univ_prod]
  refine (bigSep_congr fun c _ => sm_split (fun k => (dutyTok EX (cell c k) 0 () : sProp 𝕄))).trans ?_
  unfold paid
  simp only [bigSep_sep']
  rw [hand (fun k c => (dutyTok EX (cell c (.recv k)) 0 () : sProp 𝕄))]

/-- Device `c` at the start of every one of its semaphores' rounds. -/
def poss : sProp 𝕄 :=
  iprop(atPos EX (cell c .loc) 0 ∅ 0 ∗ (bigSep Finset.univ fun k => atPos EX (cell c (.send k)) 0 ∅ 0)
    ∗ bigSep Finset.univ fun k => atPos EX (cell c (.recv k)) 0 ∅ 0)

theorem poss_dealt : bigSep cells (fun g => (atPos EX g 0 ∅ 0 : sProp 𝕄)) = bigSep Finset.univ fun c : Dev nD => (poss c : sProp 𝕄) := by
  unfold cells
  rw [bigSep_map, bigSep_univ_prod]
  exact bigSep_congr fun c _ => sm_split (fun k => (atPos EX (cell c k) 0 ∅ 0 : sProp 𝕄))

theorem sems_dealt : (bigSep Finset.univ fun c : Dev nD => (Pipeline.ownSems0 osem c : sProp 𝕄)) = bigSep cells (fun g => (semVal g 0 : sProp 𝕄)) := by
  unfold cells
  rw [bigSep_map, bigSep_univ_prod]
  rfl

/-! ## The whole deal -/

/-- What device `c` brings: its semaphores, its two buffers, and its arrivals' credit. -/
def brings : sProp 𝕄 :=
  iprop(Pipeline.ownSems0 osem c ∗ (((c : Thread nD τ).loc main_arg0) ↦{fullShare} X c)
    ∗ (∃ f : Out F, ((c : Thread nD τ).loc main_v1) ↦{fullShare} f) ∗ Pipeline.launchCred O₀ c)

/-- The slots device `c` writes: its own, and of each receiver that of the block the copy carries. -/
def slots : sProp 𝕄 := iprop((∃ f, opt c c f) ∗ bigSep Finset.univ fun k : Fin 7 => iprop(∃ f, opt (dest k c) (cargo k c) f))

theorem slots_one : iprop(∃ f : Out F, ((c : Thread nD τ).loc main_v1) ↦{fullShare} f)
    ⊢ iprop((∃ f, opt c c f) ∗ bigSep Finset.univ fun k : Fin 7 => iprop(∃ f : Out F, opt c (orig k c) f)) := by
  iintro ⟨%f, H⟩
  ihave H' := (Entails.of_eq ((out_slots c f).trans (around c _))) $$ H
  icases H' with ⟨H₁, H₂⟩
  isplitl [H₁]; · iexists f; iexact H₁
  have h : (bigSep Finset.univ fun k : Fin 7 => opt c (orig k c) f) ⊢ (bigSep Finset.univ fun k : Fin 7 => iprop(∃ f : Out F, opt c (orig k c) f) : sProp 𝕄) :=
    bigSep_mono fun k _ => show opt c (orig k c) f ⊢ iprop(∃ f : Out F, opt c (orig k c) f) from by iintro H; iexists f; iexact H
  iapply h; iexact H₂

theorem slots_dealt : (bigSep Finset.univ fun c : Dev nD => iprop(∃ f : Out F, ((c : Thread nD τ).loc main_v1) ↦{fullShare} f))
    ⊢ (bigSep Finset.univ fun c : Dev nD => slots c : sProp 𝕄) := by
  have e : (bigSep Finset.univ fun c : Dev nD => iprop((∃ f, opt c c f) ∗ bigSep Finset.univ fun k : Fin 7 => iprop(∃ f : Out F, opt c (orig k c) f)))
      = (bigSep Finset.univ fun c : Dev nD => slots c : sProp 𝕄) := by
    unfold slots
    rw [bigSep_sep', bigSep_sep', hand (fun k c => iprop(∃ f : Out F, opt c (orig k c) f))]
  rw [← e]
  exact bigSep_mono fun c _ => slots_one c

theorem start_intro :
    iprop((((c : Thread nD τ).loc main_arg0) ↦{fullShare} X c) ∗ slots c ∗ poss c ∗ paid c ∗ Pipeline.launchCred O₀ c) ⊢ start X c := by
  have h := creds (F := F) c
  unfold slots poss paid start kit rdy spare
  rw [shares, load_own X c 0 (by decide), load_own X c 1 (by decide), load_own X c 2 (by decide), load_own X c 3 (by decide)]
  simp only [bigSep_sep']
  iintro ⟨⟨E0, E1, E2, E3, E4, E5, E6, E7⟩, ⟨Ho, Hor⟩, ⟨Hp, Hps, Hpr⟩, ⟨Ht, Hts, Htr⟩, Hcr⟩
  ihave Hc := h $$ Hcr
  isplitl [E5 E6 E7]
  · isplitl [E5]; · iexact E5
    isplitl [E6] <;> iassumption
  isplitl [E0 Ho Hp Ht]
  · isplitl [E0]; · iexact E0
    isplitl [Ho]; · iexact Ho
    isplitl [Ht] <;> iassumption
  isplitl [E1 E2 E3 E4]
  · isplitl [E1]; · iexact E1
    isplitl [E2]; · iexact E2
    isplitl [E3]; · iexact E3
    iexact E4
  isplitl [Hor Hts Htr Hps]
  · isplitl [Hor]; · iexact Hor
    isplitl [Hts]; · iexact Hts
    isplitl [Htr] <;> iassumption
  isplitl [Hc] <;> iassumption

/-- From everything all devices bring, every device's start. -/
theorem deal : iprop((bigSep Finset.univ fun c : Dev nD => brings X c) ∗ BI.own (EX (launchOf cells ∅ toks)) ∗ levAts L lv)
    ⊢ (|={Set.univ}=> bigSep Finset.univ fun c : Dev nD => iprop((∃ K, recs X K) ∗ start X c) : sProp 𝕄) := by
  unfold brings
  simp only [bigSep_sep']
  iintro ⟨⟨Hv, Ha, Hb, Hcr⟩, HG, #HL⟩
  imod (Rounds.fund_launch EX (Rd X) (S := cells) (Sd := ∅) (Finset.disjoint_empty_right _) (fun g h => absurd h (Finset.notMem_empty g)) toks) $$ [Hv HG]
    with ⟨%κ, -, #Hinv, #Hr, Hat, -, Htok⟩
  · isplitl [Hv]
    · iapply (Entails.of_eq (sems_dealt (F := F))); iexact Hv
    · iexact HG
  rw [Finset.union_empty]
  imodintro
  isplitr
  · iapply (BI.bigSep_intro_persistent (R := recs X κ) fun (c : Dev nD) _ => (show recs X κ ⊢ iprop(∃ K, recs X K) from by iintro H; iexists κ; iexact H))
    unfold recs
    isplitr; · iexact Hinv
    isplitr <;> iassumption
  · have h : iprop((bigSep Finset.univ fun c : Dev nD => (((c : Thread nD τ).loc main_arg0) ↦{fullShare} X c))
        ∗ (bigSep Finset.univ fun c : Dev nD => slots c) ∗ (bigSep Finset.univ fun c : Dev nD => poss c)
        ∗ (bigSep Finset.univ fun c : Dev nD => paid c) ∗ (bigSep Finset.univ fun c : Dev nD => Pipeline.launchCred O₀ c))
        ⊢ (bigSep Finset.univ fun c : Dev nD => start X c : sProp 𝕄) := by
      rw [← bigSep_sep', ← bigSep_sep', ← bigSep_sep', ← bigSep_sep']
      exact bigSep_mono fun c _ => start_intro X c
    iapply h
    isplitl [Ha]; · iexact Ha
    isplitl [Hb]; · iapply (slots_dealt (F := F)); iexact Hb
    isplitl [Hat]; · iapply (Entails.of_eq (poss_dealt (F := F))); iexact Hat
    isplitl [Htok]; · iapply (Entails.of_eq (toks_dealt (F := F))); iexact Htok
    iexact Hcr

/-! ## The end -/

theorem back_own (k : Fin 7) (h : k.val < 4) : pay X c (.send k) = (xpt c (eighth ⟨k.val + 1, by omega⟩) (X c) : sProp 𝕄) := load_own X c k h
theorem back_pass (k j : Fin 7) (hk : ¬ k.val < 4) (hj : via k = j) : pay X c (.send k) = (opt c (orig j c) (gat X) : sProp 𝕄) := by
  subst hj; exact load_pass X c k hk
theorem pay_recv (k : Fin 7) : pay X c (.recv k) = (opt c (orig k c) (gat X) : sProp 𝕄) := rfl
theorem pay_loc : pay X c .loc = (iprop(opt c c (gat X) ∗ xpt c (eighth 0) (X c)) : sProp 𝕄) := rfl

/-- What a device is left with: its operand unchanged, its result with every device's block, its semaphores at zero. -/
theorem finish_elim : finish X c
    ⊢ iprop((((c : Thread nD τ).loc main_arg0) ↦{fullShare} X c) ∗ (((c : Thread nD τ).loc main_v1) ↦{fullShare} gat X) ∗ Pipeline.ownSems0 osem c) := by
  rw [shares, out_slots, around c, sep7 fun k => opt c (orig k c) (gat X)]
  unfold Pipeline.ownSems0
  rw [sm_split]
  unfold finish spare
  rw [sep7 fun k => pay X c (.send k), back_own X c 0 (by decide), back_own X c 1 (by decide), back_own X c 2 (by decide), back_own X c 3 (by decide),
    back_pass X c 4 1 (by decide) rfl, back_pass X c 5 2 (by decide) rfl, back_pass X c 6 3 (by decide) rfl, pay_recv, pay_recv, pay_recv, pay_recv, pay_loc]
  iintro ⟨⟨E5, E6, E7⟩, Hz, ⟨Q, E0⟩, ⟨E1, E2, E3, E4, Q1, Q2, Q3⟩, ⟨Q0, Q4, Q5, Q6⟩⟩
  isplitl [E0 E1 E2 E3 E4 E5 E6 E7]
  · isplitl [E0]; · iexact E0
    isplitl [E1]; · iexact E1
    isplitl [E2]; · iexact E2
    isplitl [E3]; · iexact E3
    isplitl [E4]; · iexact E4
    isplitl [E5]; · iexact E5
    isplitl [E6]; · iexact E6
    iexact E7
  isplitr [Hz]
  · isplitl [Q]; · iexact Q
    isplitl [Q0]; · iexact Q0
    isplitl [Q1]; · iexact Q1
    isplitl [Q2]; · iexact Q2
    isplitl [Q3]; · iexact Q3
    isplitl [Q4]; · iexact Q4
    isplitl [Q5] <;> iassumption
  iexact Hz

end Cert.Gathering
-- ==== Proof.GatherWhole.lean ====
/- The gather's one call on every device, and what every execution ends with. -/
module

public import proofs.«01_k».proof.Proof.GatherDeal
public import proofs.«01_k».proof.Proof.Global
public import proofs.«01_k».proof.Proof.Gen.GatherIdeal.Points
public import proofs.«01_k».proof.Proof.Gen.GatherIdeal.Launch
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.Gathering

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold before and after -/

def X₀ (c : Dev nD) : Shard F := m ((c : Thread nD τ).loc main_arg0)

def W1 (c : Dev nD) : Valuation τ sig (Elt F) := Function.update (fun b => m (c, b)) (Proc.devRef .tc main_v1) (gat (X₀ m))
abbrev V1 (c : Dev nD) (b : Ref sig .tc) : Buf (Elt F) ((c : Thread nD τ).loc b) := W1 m c (Proc.devRef .tc b)

theorem W1_arg (c : Dev nD) : W1 m c (Proc.devRef .tc main_arg0) = X₀ m c := by
  unfold W1
  rw [Function.update_of_ne (by decide)]
  rfl
theorem W1_out (c : Dev nD) : W1 m c (Proc.devRef .tc main_v1) = gat (X₀ m) := by
  unfold W1; rw [Function.update_self]

/-! ## The call -/

abbrev adm : (p : Fin 1) → (pcfgs (F := F) p).Adm := fun p => (cfgs p).toPCfg_adm

def datX (c : Dev nD) : Dat τ (Elt F) Unit ℕ UU ℕ cfg0 c where
  A w := w.elim0
  after w := w.elim0
  Φ t := if t.val = 0 then iprop(((∃ K, recs (X₀ m) K) ∗ start (X₀ m) c) ∗ Pipeline.scopedRest cfg0.spec c)
    else iprop(finish (X₀ m) c ∗ Pipeline.scopedRest cfg0.spec c)
  q w := w.elim0
  owed t := if t.val = 0 then O₀ c else 0

def pdats : (p : Fin 1) → (c : Dev nD) → Dat τ (Elt F) Unit ℕ UU ℕ (Pipeline.pin (pcfgs (F := F)) adm p) c
  | ⟨0, _⟩ => datX m

theorem noWin (Φ : Fin 0 → sProp 𝕄) : bigSep Finset.univ Φ = (BI.emp : sProp 𝕄) := by
  rw [show (Finset.univ : Finset (Fin 0)) = ∅ from rfl, BI.bigSep_empty]

theorem Φ_first (c : Dev nD) (t : Fin (cfg0.N + 1)) (h : t.val = 0) : (datX m c).Φ t
    = iprop(((∃ K, recs (X₀ m) K) ∗ start (X₀ m) c) ∗ Pipeline.scopedRest cfg0.spec c) := by
  dsimp only [datX]; exact if_pos h
theorem Φ_last (c : Dev nD) (t : Fin (cfg0.N + 1)) (h : t.val ≠ 0) : (datX m c).Φ t = iprop(finish (X₀ m) c ∗ Pipeline.scopedRest cfg0.spec c) := by
  dsimp only [datX]; exact if_neg h
theorem owed_first (c : Dev nD) (t : Fin (cfg0.N + 1)) (h : t.val = 0) : (datX m c).owed t = O₀ c := by
  dsimp only [datX]; exact if_pos h
theorem owed_last (c : Dev nD) (t : Fin (cfg0.N + 1)) (h : t.val ≠ 0) : (datX m c).owed t = 0 := by
  dsimp only [datX]; exact if_neg h

theorem owes_in {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) : ow c O ⊢ (dat.owesAt () t : sProp 𝕄) := by
  unfold ow Dat.owesAt Pipeline.owesWithin Dat.bound; rw [h, hr]
  iintro ⟨%W, HO⟩; iexists W; isplitr; · ipureintro; exact fun _ _ => Or.inl trivial
  iexact HO
theorem owes_out {cfg : Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ ow c O := by
  unfold ow Dat.owesAt Pipeline.owesWithin; rw [h]
  iintro ⟨%W, -, HO⟩; iexists W; iexact HO

theorem defs₀_gather (t : Fin cfg0.N) : defs₀ (F := F) .tc cfg0.body (cfg0.bodyArgs t (cfg0.slots t)) = bodyAt0 t := by
  unfold defs₀; rw [Defs.onTc_tc]

theorem oblX (c : Dev nD) : BodyObligation (datX m c) (defs₀ (F := F)) 𝒱₀ () Set.univ := fun t => by
  obtain rfl := fin_N0 t
  rw [noWin, noWin, Φ_first m c t0_0.castSucc rfl, Φ_last m c t0_0.succ (by simp), defs₀_gather]
  iintro ⟨⟨⟨⟨%K, #HR⟩, Hs⟩, Hsc⟩, HO, -⟩
  ihave HO' := (owes_out (datX m c) t0_0.castSucc (O₀ c) (owed_first m c _ rfl)) $$ HO
  iapply (body_run (X₀ m) K c _)
  isplitl [Hs HO']
  · isplitr; · iexact HR
    isplitl [Hs] <;> iassumption
  iintro Hf HO
  isplitl [Hf Hsc]
  · isplitl [Hf] <;> iassumption
  isplitl [HO]
  · iapply (owes_in (datX m c) t0_0.succ 0 (owed_last m c _ (by simp)) rfl); iexact HO
  iempintro

theorem bufs_eq (c : Dev nD) (V : (b : Ref sig .tc) → Buf (Elt F) ((c : Thread nD τ).loc b)) :
    (unscopedBufs c V : sProp 𝕄) = iprop((((c : Thread nD τ).loc main_arg0) ↦{fullShare} V main_arg0) ∗ (((c : Thread nD τ).loc main_v1) ↦{fullShare} V main_v1)) := by
  rw [Pipeline.unscopedBufs_split cfgs 0 launch0.win.arr_unscoped launch0.win.arr_inj c V, ← unscopedRest0_eq (Ix := Unit) (Name := ℕ) (U := UU) (Lvl := ℕ) c V]
  rw [noWin]
  exact BI.equiv_iff.mp emp_sep

/-! ## The run -/

/-- The program has no semaphore besides the call's own. -/
theorem all_scoped (sm : SemLoc sig) : sm.isScoped .tc = true := by revert sm; decide

theorem oFacts : Pipeline.OwnSemFacts cfg0.spec osem := by
  refine ⟨?_, osemEmb.injective, fun _ w => w.elim0⟩
  decide

theorem sems_eq (c : Dev nD) : (scopedSems0 (c.tc : Thread nD τ) : sProp 𝕄)
    = iprop((Pipeline.cellsSems0 (Pipeline.pin (pcfgs (F := F)) adm) 0 c ∗ Pipeline.ownSems0 osem c)
      ∗ Pipeline.idleSems0 (Pipeline.pin (pcfgs (F := F)) adm) cellOf_inj 0 oFacts c) :=
  Pipeline.scopedSems0_split (Pipeline.pin (pcfgs (F := F)) adm) cellOf_inj 0 launch0.win.to₀ oFacts c

def T₀rest (c : Dev nD) : sProp 𝕄 :=
  iprop(ow c (O₀ c) ∗ scopedBufs (c.tc : Thread nD τ)
    ∗ Pipeline.cellsSems0 (Pipeline.pin (pcfgs (F := F)) adm) 0 c ∗ Pipeline.idleSems0 (Pipeline.pin (pcfgs (F := F)) adm) cellOf_inj 0 oFacts c
    ∗ opIdle (c.tc : Thread nD τ))
/-- What a device holds once the gather's protocol is dealt. -/
def T₀ (c : Dev nD) : sProp 𝕄 := iprop(((∃ K, recs (X₀ m) K) ∗ start (X₀ m) c) ∗ T₀rest c)

def onFirst (Y : sProp 𝕄) (c : Dev nD) : sProp 𝕄 := if c = 0 then Y else iprop(emp)
theorem onFirst_all (Y : sProp 𝕄) : bigSep Finset.univ (onFirst Y) = Y := by
  rw [BI.bigSep_univ_at _ (0 : Dev nD), show onFirst Y 0 = Y from if_pos rfl, BI.bigSep_congr (Φ := onFirst Y) (Ψ := fun _ => (BI.emp : sProp 𝕄)) fun c hc => if_neg (Finset.ne_of_mem_erase hc),
    BI.bigSep_emp_const]
  exact BI.equiv_iff.mp sep_emp

def key : sProp 𝕄 := BI.own (EX (launchOf cells ∅ toks))
def u₀ : UU := (initOf (Pipeline.cells (Pipeline.pin (pcfgs (F := F)) adm) cellOf_inj) (Pipeline.launchToks (Pipeline.pin (pcfgs (F := F)) adm) cellOf_inj), launchOf cells ∅ toks)

theorem u₀_split : (ownU (u₀ (F := F)) : sProp 𝕄) ⊢ |={Set.univ}=>
    iprop(BI.own (EP (initOf (Pipeline.cells (Pipeline.pin (pcfgs (F := F)) adm) cellOf_inj) (Pipeline.launchToks (Pipeline.pin (pcfgs (F := F)) adm) cellOf_inj)))
      ∗ bigSep Finset.univ (onFirst (key (F := F)))) := by
  rw [onFirst_all]
  exact (show ownU _ ⊢ _ from ownU_pair _ _).trans fupd_intro

theorem first_step (c : Dev nD) : Global.holds m ρ O₀ (onFirst key) c ⊢ iprop((brings (X₀ m) c ∗ onFirst key c) ∗ T₀rest c) := by
  unfold Global.holds brings T₀rest
  have hb : (boundary (c.tc : Thread nD τ) : sProp 𝕄) ⊢ iprop(scopedBufs (c.tc : Thread nD τ) ∗ ((Pipeline.cellsSems0 (Pipeline.pin (pcfgs (F := F)) adm) 0 c ∗ Pipeline.ownSems0 osem c)
      ∗ Pipeline.idleSems0 (Pipeline.pin (pcfgs (F := F)) adm) cellOf_inj 0 oFacts c) ∗ opIdle (c.tc : Thread nD τ)) := by
    unfold boundary; rw [sems_eq]
  rw [bufs_eq]
  iintro ⟨Hb, ⟨H0, H1⟩, -, HO, Hcr, -, HG⟩
  ihave H := hb $$ Hb
  icases H with ⟨Hsc, ⟨⟨Hcells, Hos⟩, Hidle⟩, Hop⟩
  isplitr [HO Hsc Hcells Hidle Hop]
  · isplitr [HG]
    · isplitl [Hos]; · iexact Hos
      isplitl [H0]; · iexact H0
      isplitl [H1]; · iexists _; iexact H1
      iexact Hcr
    iexact HG
  isplitl [HO]; · unfold ow; iexists ∅; iexact HO
  isplitl [Hsc]; · iexact Hsc
  isplitl [Hcells]; · iexact Hcells
  isplitl [Hidle]; · iexact Hidle
  iexact Hop

theorem init : iprop((bigSep Finset.univ fun c : Dev nD => Global.holds m ρ O₀ (onFirst key) c) ∗ levAts L lv) ⊢ |={Set.univ}=> (bigSep Finset.univ (T₀ m) : sProp 𝕄) := by
  have h1 : (bigSep Finset.univ fun c : Dev nD => Global.holds m ρ O₀ (onFirst key) c)
      ⊢ iprop(((bigSep Finset.univ fun c => brings (X₀ m) c) ∗ key) ∗ (bigSep Finset.univ fun c => T₀rest c)) := by
    have e : iprop(((bigSep Finset.univ fun c => brings (X₀ m) c) ∗ bigSep Finset.univ (onFirst key)) ∗ (bigSep Finset.univ fun c => T₀rest c))
        = bigSep Finset.univ fun c => iprop((brings (X₀ m) c ∗ onFirst key c) ∗ T₀rest c) := by rw [← BI.bigSep_sep', ← BI.bigSep_sep']
    rw [onFirst_all] at e
    rw [e]
    exact BI.bigSep_mono fun c _ => first_step m ρ c
  have h2 : iprop((bigSep Finset.univ fun c : Dev nD => iprop((∃ K, recs (X₀ m) K) ∗ start (X₀ m) c)) ∗ (bigSep Finset.univ fun c => T₀rest c))
      ⊢ (bigSep Finset.univ (T₀ m) : sProp 𝕄) := by
    rw [← BI.bigSep_sep']
    exact BI.bigSep_mono fun c _ => BI.Entails.refl _
  iintro ⟨H, HL⟩
  ihave H' := h1 $$ H
  icases H' with ⟨⟨Hb, Hk⟩, Hr⟩
  imod (show iprop((bigSep Finset.univ fun c => brings (X₀ m) c) ∗ key ∗ levAts L lv) ⊢ _ from deal (X₀ m)) $$ [Hb Hk HL] with Hd
  · isplitl [Hb]; · iexact Hb
    isplitl [Hk] <;> iassumption
  imodintro
  iapply h2
  isplitl [Hd] <;> iassumption

local notation "𝔻" => Pipeline.defs (pcfgs (F := F)) defs₀
local notation "𝕍" => Variants.lift 𝒱₀

theorem gather_call (c : Dev nD) {α : Type}
    (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ unscopedBufs c (V1 m c) ∗ ow c 0) -∗ wp frame (wpE 𝔻 𝕍 (c.tc : Thread nD τ) none) Set.univ (k ⟨⟩) Q)
        ∗ T₀ m c ∗ Pipeline.cellsGhost (Pipeline.pin (pcfgs (F := F)) adm) EP 0 c ∗ Pipeline.toksInit (Pipeline.pin (pcfgs (F := F)) adm) EP 0 c)
      ⊢ wp frame (wpE 𝔻 𝕍 (c.tc : Thread nD τ) none) Set.univ (.op (.customCall (Pipeline.entry 0) ()) k) Q := by
  have hsb := Pipeline.scopedBufs_split (Pipeline.pin (pcfgs (F := F)) adm) 0 launch0.win.to₀.stage_scoped launch0.win.to₀.stage_inj launch0.stage_whole c
    (nD := nD) (τ := τ) (Ix := Unit) (Val := Elt F) (Name := ℕ) (U := UU) (Lvl := ℕ)
  have hin : iprop(iprop((∃ K, recs (X₀ m) K) ∗ start (X₀ m) c) ∗ Pipeline.prefHeld (pcfgs (F := F) 0).pre c (fun _ => fullShare) (adm 0).1
      ∗ Pipeline.scopedRest cfg0.spec c) ⊢ (datX m c).Φ 0 := by
    rw [Φ_first m c 0 rfl]
    iintro ⟨HX, -, Hr⟩
    isplitl [HX] <;> iassumption
  have hout : iprop((datX m c).Φ (Fin.last cfg0.N) ∗ Pipeline.cellsSems0 (Pipeline.pin (pcfgs (F := F)) adm) 0 c ∗ Dat.staging cfg0 c
      ∗ Pipeline.idleSems0 (Pipeline.pin (pcfgs (F := F)) adm) cellOf_inj 0 oFacts c)
      ⊢ iprop(((((c : Thread nD τ).loc main_arg0) ↦{fullShare} X₀ m c) ∗ (((c : Thread nD τ).loc main_v1) ↦{fullShare} gat (X₀ m)))
        ∗ scopedSems0 (c.tc : Thread nD τ) ∗ scopedBufs (c.tc : Thread nD τ)) := by
    rw [Φ_last m c (Fin.last cfg0.N) (by rw [Fin.val_last, show cfg0.N = 1 from N_0]; decide), sems_eq, hsb]
    iintro ⟨⟨Hf, Hr⟩, Hcells, Hst, Hidle⟩
    ihave H := (finish_elim (X₀ m) c) $$ Hf
    icases H with ⟨H0, H1, Hos⟩
    isplitl [H0 H1]
    · isplitl [H0] <;> iassumption
    isplitl [Hcells Hos Hidle]
    · isplitl [Hcells Hos]; · isplitl [Hcells] <;> iassumption
      iexact Hidle
    isplitl [Hst] <;> iassumption
  unfold T₀ T₀rest
  iintro ⟨Hk, ⟨HX, HO, Hsc, Hcells, Hidle, Hop⟩, Hg, Ht⟩
  iapply (fupd_wp frame (wpE 𝔻 𝕍 (c.tc : Thread nD τ) none) Set.univ _ _)
  imod (Pipeline.cellsInit_alloc (Pipeline.pin (pcfgs (F := F)) adm) (pdats m) EP cellOf_inj 0 c) $$ [Hcells Hg] with ⟨%κ, -, Hinit⟩
  · isplitl [Hcells] <;> iassumption
  imodintro
  iapply (Pipeline.wp_customCall_entry_frame (pcfgs (F := F)) adm (pdats m) () EP κ cellOf_inj 0 defs₀ 𝒱₀ (fun _ => fullShare) c Set.univ (fun _ _ => Set.mem_univ _)
      (oblX m c).loose launch0.block_pos none (fun u h => nomatch h)
      (R := Pipeline.scopedRest cfg0.spec c) (I := Pipeline.idleSems0 (Pipeline.pin (pcfgs (F := F)) adm) cellOf_inj 0 oFacts c) (Entails.of_eq hsb) hin hout (k := k) (Q := Q))
    $$ [HX HO Hsc Hidle Hinit Ht]
  · isplitl [HO Hinit Ht]
    · unfold Pipeline.EntryPre Pipeline.PerCore.EntryPre
      isplitr; · unfold Pipeline.Dat.arrays; rw [noWin]; iempintro
      isplitl [HO]; · iapply (owes_in (datX m c) 0 (O₀ c) (owed_first m c 0 rfl) rfl); iexact HO
      isplitr; · unfold Pipeline.PerCore.cellsWaits Pipeline.PerCore.RDat.cellsWaits; rw [noWin]; iempintro
      isplitl [Hinit] <;> iassumption
    isplitr; · unfold Pipeline.prefHeld; rw [noWin]; iempintro
    isplitl [HX]; · iexact HX
    isplitl [Hidle]; · iexact Hidle
    iexact Hsc
  iintro ⟨Hpost, HY, Hss, Hsc⟩
  unfold Pipeline.EntryPost Pipeline.PerCore.EntryPost
  icases Hpost with ⟨-, HO⟩
  iapply Hk
  isplitl [Hsc Hss Hop]
  · iapply (show iprop(scopedBufs (c.tc : Thread nD τ) ∗ scopedSems0 (c.tc : Thread nD τ) ∗ opIdle (c.tc : Thread nD τ))
        ⊢ (boundary (c.tc : Thread nD τ) : sProp 𝕄) from BI.Entails.refl _)
    isplitl [Hsc]; · iexact Hsc
    isplitl [Hss]; · iexact Hss
    iexact Hop
  isplitl [HY]
  · rw [bufs_eq, show V1 m c main_arg0 = _ from W1_arg m c, show V1 m c main_v1 = _ from W1_out m c]
    iexact HY
  iapply (owes_out (datX m c) (Fin.last _) 0 (owed_last m c _ (by rw [Fin.val_last, show cfg0.N = 1 from N_0]; decide))); iexact HO

theorem main_eq (c : Dev nD) : main (F := F) c = .op (.customCall (Pipeline.entry 0) ()) fun _ => .ret ⟨⟩ := by
  rw [main_chain]; rfl

theorem ghosts (c : Dev nD) : (Pipeline.ghostOn (pcfgs (F := F)) adm EP Finset.univ c : sProp 𝕄)
    ⊢ iprop(Pipeline.cellsGhost (Pipeline.pin (pcfgs (F := F)) adm) EP 0 c ∗ Pipeline.toksInit (Pipeline.pin (pcfgs (F := F)) adm) EP 0 c) := by
  show (Pipeline.PerCore.ghostOn (pcfgs (F := F)) (fun _ => adm) EP Finset.univ c : sProp 𝕄) ⊢ _
  rw [Pipeline.PerCore.ghostOn_erase (p := (0 : Fin 1)) _ _ _ (by decide) c]
  iintro ⟨H0, -⟩
  iexact H0

theorem whole (c : Dev nD) (Q : PUnit → sProp 𝕄) :
    iprop((iprop(unscopedBufs c (V1 m c) ∗ boundary (c.tc : Thread nD τ) ∗ ∃ W, owes (c.tc : Thread nD τ) (0 : CellTallies nD τ sig Unit) W) -∗ Q ⟨⟩)
        ∗ T₀ m c ∗ levAts L lv ∗ Pipeline.ghostOn (pcfgs (F := F)) adm EP Finset.univ c)
      ⊢ wp frame (wpE 𝔻 𝕍 (c.tc : Thread nD τ) none) Set.univ (main (F := F) c) Q := by
  rw [main_eq]
  iintro ⟨Hk, HT, -, Hg⟩
  ihave H := (ghosts c) $$ Hg
  icases H with ⟨Hg, Ht⟩
  iapply (gather_call m c _ Q)
  isplitr [HT Hg Ht]
  · iintro ⟨Hb, Hu, HO⟩
    rw [wp_ret]
    imodintro
    iapply Hk
    isplitl [Hu]; · iexact Hu
    isplitl [Hb]; · iexact Hb
    unfold ow; iexact HO
  isplitl [HT]; · iexact HT
  isplitl [Hg] <;> iassumption

/-- Every execution ends with every device's result holding every device's operand, the operands unchanged, and every semaphore at zero. -/
theorem run_main : θ_run (defs (F := F)) (onTc main) ⟨m, fun _ => 0, ρ⟩
    (fun r => (∀ c : Dev nD, r.2.mem ((c : Thread nD τ).loc main_v1) = gat (X₀ m) ∧ r.2.mem ((c : Thread nD τ).loc main_arg0) = m ((c : Thread nD τ).loc main_arg0))
      ∧ r.2.sem = fun _ => 0) := by
  refine Global.run_all L lv (pcfgs (F := F)) adm cellOf_inj EP defs₀ 𝒱₀ m ρ main O₀ L_of_ne (onFirst key) u₀ u₀_split (T₀ m) (fun c => unscopedBufs c (V1 m c)) (init m ρ) (whole m)
    (fun c s => ∀ b : Ref sig .tc, b.isScoped = false → s.mem ((c : Thread nD τ).loc b) = W1 m c (Proc.devRef .tc b)) (fun c s' => ?_)
    (fun s h hz => ⟨fun c => ⟨(h c main_v1 (by decide)).trans (W1_out m c), (h c main_arg0 (by decide)).trans (W1_arg m c)⟩,
      funext fun g => hz g (.inr (all_scoped g.2))⟩)
  rw [show (unscopedBufs c (V1 m c) : sProp 𝕄) = _ from Pipeline.unscopedBufs_held c (W1 m c)]
  unfold StableHlo.held
  iintro ⟨Hh, HSI⟩
  ihave Hr := (pointsTo_read_all (Pipeline.ucRefs τ sig) (fun b => ((c : Thread nD τ).1, b)) (W1 m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, by rw [show (Proc.devRef (τ := τ) .tc b).isScoped = b.isScoped from rfl, hb]; decide⟩)
  · iexact HSI

end Cert.Gathering
-- ==== Proof.RowMath.lean ====
/- One row of the root-mean-square norm over the extended reals: the backward pass in its closed form is the chain rule's sum. -/
module

public import Idealize.ShloMosaic.PureOps.Ideal
public import Idealize.ShloMosaic.PureOps.Ideal.Laws

@[expose] public section

noncomputable section

namespace Cert.Row

open Idealize.ShloMosaic

/-! ## The constants -/

theorem c1024 : Ideal.ofBits .f32 0x44800000#32 = ((1024 : ℝ) : EReal) := by
  simp [Ideal.ofBits, Ideal.ieee]
  norm_num
  rw [← EReal.coe_mul]
  norm_num
theorem cHalf : Ideal.ofBits .f32 0x3F000000#32 = ((1 / 2 : ℝ) : EReal) := by
  simp [Ideal.ofBits, Ideal.ieee]
  norm_num
  rw [← EReal.coe_mul]
  norm_num
theorem cNegHalf : Ideal.ofBits .f32 0xBF000000#32 = ((-(1 / 2) : ℝ) : EReal) := by
  simp [Ideal.ofBits, Ideal.ieee]
  norm_num
  rw [← EReal.coe_mul]
  norm_num
theorem cOne : Ideal.ofBits .f32 0x3F800000#32 = ((1 : ℝ) : EReal) := by
  simp [Ideal.ofBits, Ideal.ieee]
  norm_num
  rw [← EReal.coe_mul]
  norm_num
theorem cTwo : Ideal.ofBits .f32 0x40000000#32 = ((2 : ℝ) : EReal) := by
  simp [Ideal.ofBits, Ideal.ieee]
  norm_num
  rw [← EReal.coe_mul]
  norm_num
theorem cInv1024 : Ideal.ofBits .f32 0x3A800000#32 = ((1 / 1024 : ℝ) : EReal) := by
  simp [Ideal.ofBits, Ideal.ieee]
  norm_num
  rw [← EReal.coe_mul]
  norm_num
theorem cInv2048 : Ideal.ofBits .f32 0x3A000000#32 = ((1 / 2048 : ℝ) : EReal) := by
  simp [Ideal.ofBits, Ideal.ieee]
  norm_num
  rw [← EReal.coe_mul]
  norm_num
theorem cEps : ∃ e : ℝ, 0 < e ∧ Ideal.ofBits .f32 0x358637BD#32 = (e : EReal) := by
  refine ⟨8796093 * (2 : ℝ) ^ (-43 : Int), by positivity, ?_⟩
  simp [Ideal.ofBits, Ideal.ieee]

/-! ## Sums and real factors -/

theorem mul_coe_mul (x : EReal) (a b : ℝ) : x * (a : EReal) * (b : EReal) = x * ((a * b : ℝ) : EReal) := by
  rw [mul_assoc, ← EReal.coe_mul]

theorem add_mul_real (x y : EReal) {a : ℝ} (h : 0 ≤ a) : (x + y) * (a : EReal) = x * a + y * a := by
  rw [mul_comm, EReal.left_distrib_of_nonneg_of_ne_top (by exact_mod_cast h) (EReal.coe_ne_top a), mul_comm, mul_comm _ y]

theorem sum_mul_real {ι : Type*} (s : Finset ι) (f : ι → EReal) {a : ℝ} (h : 0 ≤ a) : (∑ i ∈ s, f i) * (a : EReal) = ∑ i ∈ s, f i * a := by
  classical
  induction s using Finset.induction_on with
  | empty => simp
  | insert i s hi ih => rw [Finset.sum_insert hi, Finset.sum_insert hi, add_mul_real _ _ h, ih]

theorem add_self (z : EReal) : z + z = z * ((2 : ℝ) : EReal) := by
  induction z using EReal.rec with
  | bot => rw [EReal.bot_mul_coe_of_pos (by norm_num)]; rfl
  | top => rw [EReal.top_mul_coe_of_pos (by norm_num)]; rfl
  | coe r => rw [← EReal.coe_add, ← EReal.coe_mul]; congr 1; linarith

theorem sq_nonneg (z : EReal) : 0 ≤ z * z := by
  induction z using EReal.rec with
  | bot => simp
  | top => simp
  | coe r => rw [← EReal.coe_mul]; exact_mod_cast mul_self_nonneg r

/-! ## The norm's scale and its backward pass -/

variable {n : Type*} [Fintype n]

/-- The mean square of a row, over 1024 entries, plus the small constant. -/
def q (x : n → EReal) : EReal := Ideal.div (∑ k, x k * x k) (Ideal.ofBits .f32 0x44800000#32) + Ideal.ofBits .f32 0x358637BD#32
/-- The row's scale. -/
def r (x : n → EReal) : EReal := Ideal.rsqrt (q x)
/-- The gradient of a row in closed form, `a` the incoming gradient times the weight. -/
def dxE (x a : n → EReal) (i : n) : EReal :=
  r x * (a i - x i * r x * Ideal.div (∑ k, a k * (x k * r x)) (Ideal.ofBits .f32 0x44800000#32))
/-- The gradient of the mean square's entries by the chain rule. -/
def kE (x a : n → EReal) : EReal :=
  Ideal.div ((∑ k, x k * a k) * (Ideal.ofBits .f32 0xBF000000#32 * Ideal.div (r x) (q x))) (Ideal.ofBits .f32 0x44800000#32)

theorem q_cases (x : n → EReal) : q x = ⊤ ∨ ∃ s : ℝ, 0 < s ∧ q x = (s : EReal) := by
  obtain ⟨e, he, hE⟩ := cEps
  have h0 : (0 : EReal) ≤ ∑ k, x k * x k := Finset.sum_nonneg fun k _ => sq_nonneg _
  unfold q
  rw [hE, c1024, Ideal.div_coe (by norm_num)]
  generalize (∑ k, x k * x k) = S at h0 ⊢
  induction S using EReal.rec with
  | bot => simp at h0
  | top => left; rw [EReal.top_mul_coe_of_pos (by norm_num)]; rfl
  | coe s =>
    right
    refine ⟨s * (1 / 1024) + e, ?_, by rw [← EReal.coe_mul, ← EReal.coe_add]⟩
    have : 0 ≤ s := by exact_mod_cast h0
    positivity

theorem dx_eq (x a : n → EReal) (i : n) : dxE x a i = a i * r x + x i * kE x a + kE x a * x i := by
  rcases q_cases x with h | ⟨s, hs, h⟩
  · have hr : r x = 0 := by unfold r; rw [h]; rfl
    have hk : kE x a = 0 := by
      unfold kE
      rw [hr, h, c1024, Ideal.div_coe (by norm_num), Ideal.div, if_neg (by simp)]
      simp
    unfold dxE
    rw [hk, hr]; simp
  · have hp : 0 < Real.sqrt s := Real.sqrt_pos.mpr hs
    have hr : r x = (((Real.sqrt s)⁻¹ : ℝ) : EReal) := by
      unfold r; rw [h, Ideal.rsqrt_coe, if_neg (not_lt.mpr hs.le), if_neg hs.ne']
    generalize hρ : (Real.sqrt s)⁻¹ = ρ at hr
    have hρ0 : 0 < ρ := hρ ▸ inv_pos.mpr hp
    have hss : 1 / s = ρ * ρ := by rw [← hρ, ← mul_inv, Real.mul_self_sqrt hs.le, one_div]
    have hT : (∑ k, a k * (x k * r x)) = (∑ k, x k * a k) * (ρ : EReal) := by
      rw [sum_mul_real _ _ hρ0.le, hr]
      exact Finset.sum_congr rfl fun k _ => by rw [← mul_assoc, mul_comm (a k)]
    unfold dxE kE
    rw [hT, hr, h, c1024, cNegHalf, Ideal.div_coe (by norm_num), Ideal.div_coe (by norm_num), Ideal.div_coe hs.ne', hss, ← EReal.coe_mul, ← EReal.coe_mul]
    generalize (∑ k, x k * a k) = T
    rw [mul_comm (T * _ * _) (x i), mul_coe_mul T, add_assoc, add_self, mul_comm (ρ : EReal), sub_eq_add_neg, add_mul_real _ _ hρ0.le]
    congr 1
    rw [mul_coe_mul T, mul_assoc (x i), mul_left_comm (ρ : EReal) T, ← EReal.coe_mul, ← mul_assoc, EReal.neg_mul,
      ← mul_assoc (x i) T, mul_coe_mul, ← mul_neg, ← EReal.coe_neg]
    rw [mul_coe_mul]
    refine congrArg (fun z : ℝ => x i * T * (z : EReal)) ?_
    linarith [mul_comm ρ ρ]

end Cert.Row

end
-- ==== Proof.NormValue.lean ====
/- What the backward pass of the root-mean-square norm computes, element by element over the extended reals, and that the reference's derivative is the same. -/
module

public import proofs.«01_k».proof.Defs
public import proofs.«01_k».proof.Proof.RowMath
public import proofs.«01_k».proof.Proof.Gen.NormIdeal.Value
public import proofs.«01_k».proof.Proof.Gen.NormReferenceIdeal.Run
public import Idealize.ShloMosaic.Lib.Pipeline.ValueKit

@[expose] public section

set_option maxRecDepth 16384

noncomputable section

namespace Cert.NormBack

open Cert.NormIdeal Cert.NormIdeal.Gen
open Idealize.ShloMosaic
open Idealize.ShloMosaic.TcCoe
open Idealize.ShloMosaic.Pipeline (Dat Cfg Window)
open Cert.Row

/-- Row `i` of an array of rows of 1024. -/
abbrev rowOf {N : ℕ} (x : (⟨2, ![N, 1024]⟩ : Shape).Idx → EReal) (i : Fin N) : Fin 1024 → EReal := fun k => x (ix2 i k)

/-- Row `i` of one array times a row of weights. -/
abbrev rowTimes {N : ℕ} (u : (⟨2, ![N, 1024]⟩ : Shape).Idx → EReal) (w : (⟨2, ![1, 1024]⟩ : Shape).Idx → EReal) (i : Fin N) : Fin 1024 → EReal :=
  fun k => u (ix2 i k) * w (ix2 0 k)
/-- What some rows add to the gradient of weight `j`. -/
abbrev dwPart {N : ℕ} (x u : (⟨2, ![N, 1024]⟩ : Shape).Idx → EReal) (j : Fin 1024) (k : Fin N) : EReal := u (ix2 k j) * (x (ix2 k j) * r (rowOf x k))

theorem pay3_apply (x dh dres : FVec Ideal S256x1024 .f32) (w : FVec Ideal S1x1024 .f32) (i : Fin 256) (j : Fin 1024) :
    k0_pay3 x dh w dres (ix2 i j) = dres (ix2 i j) + dxE (rowOf (N := 256) x i) (fun k => dh (ix2 i k) * w (ix2 0 k)) j := by
  pointwise [k0_pay3, k0_pay2, k0_pay1, dxE, r, q]

theorem pay5_apply (x dh : FVec Ideal S256x1024 .f32) (acc : FVec Ideal S1x1024 .f32) (j : Fin 1024) :
    k0_pay5 x dh acc (ix2 0 j) = acc (ix2 0 j) + ∑ k : Fin 256, dh (ix2 k j) * (x (ix2 k j) * r (rowOf (N := 256) x k)) := by
  pointwise [k0_pay5, k0_pay2, k0_pay1, r, q]

variable (m : (ℓ : Loc nD τ sig) → Buf (Elt Ideal) ℓ)

theorem outs1 (c : Dev nD) (t : Fin cfg0.N) : (outsAt0 m c t.val t.isLt).1 = k0_pay3 (iblk m c 0 t) (iblk m c 2 t) (iblk m c 1 t) (iblk m c 3 t) := by
  by_cases h : t.val % 8 = 0
  · rw [outsAt0_A m c t h]; frame_out
  · rw [outsAt0_B m c t h]; frame_out

theorem outs2_A (c : Dev nD) (t : Fin cfg0.N) (h : t.val % 8 = 0) : (outsAt0 m c t.val t.isLt).2 = k0_pay5 (iblk m c 0 t) (iblk m c 2 t) (k0_pay4 (F := Ideal)) := by
  rw [outsAt0_A m c t h]; frame_out

theorem outs2_B (c : Dev nD) (t : Fin cfg0.N) (h : ¬t.val % 8 = 0) :
    (outsAt0 m c t.val t.isLt).2 = k0_pay5 (iblk m c 0 t) (iblk m c 2 t) (outsAt0 m c (t.val - 1) (Nat.lt_of_le_of_lt (Nat.sub_le _ _) t.isLt)).2 := by
  rw [outsAt0_B m c t h]; frame_out

/-! ## The blocks of the arrays -/

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

theorem row_lt (t : Fin cfg0.N) (k : Fin 256) : t.val * 256 + k.val < 2048 := by have := Nat.lt_of_lt_of_eq t.isLt N_0; omega

theorem blk0 (c : Dev nD) (t : Fin cfg0.N) (k : Fin 256) (j : Fin 1024) :
    iblk m c 0 t (ix2 k j) = m ((c : Thread nD τ).loc main_arg0) (ix2 ⟨t.val * 256 + k.val, row_lt t k⟩ j) := by
  blk_ext! [iblk, V, idx t]
theorem blk1 (c : Dev nD) (t : Fin cfg0.N) (j : Fin 1024) : iblk m c 1 t (ix2 0 j) = m ((c : Thread nD τ).loc main_arg1) (ix2 0 j) := by
  blk_ext! [iblk, V, idx t]
theorem blk2 (c : Dev nD) (t : Fin cfg0.N) (k : Fin 256) (j : Fin 1024) :
    iblk m c 2 t (ix2 k j) = m ((c : Thread nD τ).loc main_arg2) (ix2 ⟨t.val * 256 + k.val, row_lt t k⟩ j) := by
  blk_ext! [iblk, V, idx t]
theorem blk3 (c : Dev nD) (t : Fin cfg0.N) (k : Fin 256) (j : Fin 1024) :
    iblk m c 3 t (ix2 k j) = m ((c : Thread nD τ).loc main_arg3) (ix2 ⟨t.val * 256 + k.val, row_lt t k⟩ j) := by
  blk_ext! [iblk, V, idx t]

/-! ## The two arrays the call leaves -/

/-- The gradient of the rows, on top of the gradient that reaches them directly. -/
def DX (x dh dres : (⟨2, ![2048, 1024]⟩ : Shape).Idx → EReal) (w : (⟨2, ![1, 1024]⟩ : Shape).Idx → EReal) (i : (⟨2, ![2048, 1024]⟩ : Shape).Idx) : EReal :=
  dres i + dxE (rowOf x (i 0)) (fun k => dh (ix2 (i 0) k) * w (ix2 0 k)) (i 1)
/-- The gradient of the weight. -/
def DW (x dh : (⟨2, ![2048, 1024]⟩ : Shape).Idx → EReal) (i : (⟨2, ![1, 1024]⟩ : Shape).Idx) : EReal :=
  ∑ k : Fin 2048, dh (ix2 k (i 1)) * (x (ix2 k (i 1)) * r (rowOf x k))

theorem arr4 (c : Dev nD) : (dats m 0 c).arrAt 4 cfg0.N = DX (m ((c : Thread nD τ).loc main_arg0)) (m ((c : Thread nD τ).loc main_arg2))
    (m ((c : Thread nD τ).loc main_arg3)) (m ((c : Thread nD τ).loc main_arg1)) := by
  refine (dats m 0 c).arrAt_eq_of_covers 4 _ (by decide +kernel) fun t hf y => ?_
  blk_simp
  rw [after0_4, outs1]
  obtain ⟨i, j, rfl⟩ : ∃ (i : Fin 256) (j : Fin 1024), y = ix2 i j := ⟨y 0, y 1, by funext a; match a with | ⟨0, _⟩ => rfl | ⟨1, _⟩ => rfl⟩
  have he : (win0_4.blk t).view.emb (ix2 i j) = ix2 ⟨t.val * 256 + i.val, row_lt t i⟩ j := by blk_ext [idx t]
  rw [he]
  have h0 : rowOf (N := 256) (iblk m c 0 t) i = rowOf (N := 2048) (m ((c : Thread nD τ).loc main_arg0)) ⟨t.val * 256 + i.val, row_lt t i⟩ :=
    funext fun k => blk0 m c t i k
  have h2 : rowTimes (N := 256) (iblk m c 2 t) (iblk m c 1 t) i
      = rowTimes (N := 2048) (m ((c : Thread nD τ).loc main_arg2)) (m ((c : Thread nD τ).loc main_arg1)) ⟨t.val * 256 + i.val, row_lt t i⟩ :=
    funext fun k => congrArg₂ (fun a b : EReal => a * b) (blk2 m c t i k) (blk1 m c t k)
  refine (pay3_apply _ _ _ _ i j).trans ?_
  rw [h0]
  exact congrArg₂ (fun (a : EReal) b => a + dxE _ b j) (blk3 m c t i j) h2

/-- The last point of the grid. -/
def tL : Fin cfg0.N := ⟨7, by decide⟩

theorem arr5 (c : Dev nD) : (dats m 0 c).arrAt 5 cfg0.N = DW (m ((c : Thread nD τ).loc main_arg0)) (m ((c : Thread nD τ).loc main_arg2)) := by
  refine (dats m 0 c).arrAt_eq_of_after_last 5 tL (by decide +kernel) _ fun y => ?_
  obtain ⟨j, rfl⟩ : ∃ j : Fin 1024, y = ix2 0 j := ⟨y 1, by funext a; match a with | ⟨0, _⟩ => exact Subsingleton.elim (α := Fin 1) _ _ | ⟨1, _⟩ => rfl⟩
  show ((dats m 0 c).after 5 tL (ix2 0 j) : EReal) = DW _ _ (ix2 0 j)
  rw [after0_5]
  have hs := Pipeline.eq_sum_fin_of_reset_step_last (fun n h => (outsAt0 m c n h).2 (ix2 0 j)) 8 (0 : EReal)
    (fun t => ∑ k : Fin 256, dwPart (N := 256) (iblk m c 0 t) (iblk m c 2 t) j k)
    (fun t h => by
      show (outsAt0 m c t.val t.isLt).2 (ix2 0 j) = _
      rw [outs2_A m c t h]
      refine (pay5_apply _ _ _ _).trans ?_
      refine congrArg (fun a : EReal => a + _) ?_
      pointwise [k0_pay4])
    (fun t h => by
      show (outsAt0 m c t.val t.isLt).2 (ix2 0 j) = _
      rw [outs2_B m c t h]
      exact pay5_apply _ _ _ _)
    (le_of_eq N_0) tL rfl
  refine hs.trans ?_
  rw [zero_add]
  unfold DW
  refine Fin.sum_mul_add_congr (S := cfg0.N) (n := 256) (L := 2048) (fun t k hl => ?_) (by decide)
  have h0 : rowOf (N := 256) (iblk m c 0 t) k = rowOf (N := 2048) (m ((c : Thread nD τ).loc main_arg0)) ⟨t.val * 256 + k.val, hl⟩ :=
    funext fun k' => blk0 m c t k k'
  show dwPart (N := 256) (iblk m c 0 t) (iblk m c 2 t) j k = dwPart (N := 2048) _ _ j ⟨t.val * 256 + k.val, hl⟩
  unfold dwPart
  rw [h0]
  exact congrArg₂ (fun a b : EReal => a * (b * _)) (blk2 m c t k j) (blk0 m c t k j)

end Cert.NormBack

namespace Cert.NormPlain

open Cert.NormReferenceIdeal Cert.NormReferenceIdeal.Gen
open Idealize.ShloMosaic
open Idealize.ShloMosaic.TcCoe
open Cert.Row
open Cert.NormBack (DX DW rowOf)

/-! ## The reference, element by element -/

abbrev qR (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))
abbrev wR (w : FVec Ideal S1x1024 .f32) : FVec Ideal S2048x1024 .f32 := broadcastInDim S2048x1024 ![0, 1] bcast_S1x1024_S2048x1024_0_1 w
abbrev rR (x : FVec Ideal S2048x1024 .f32) : FVec Ideal S2048x1024 .f32 := broadcastInDim S2048x1024 ![0, 1] bcast_S2048x1_S2048x1024_0_1 (Host.rsqrt (qR x))
abbrev kR (x a : FVec Ideal S2048x1024 .f32) : FVec Ideal S2048x1024 .f32 :=
  broadcastInDim S2048x1024 ![0] bcast_S2048_S2048x1024_0 (Host.reduceAdd (Host.divf
    (mulf (shapeCast _ (Host.reduceAdd (mulf x a) (constant S_ .f32 0x00000000#32) reducesTo_S2048x1024_S2048_d1 h_S_) shapeCasts_S2048_S2048x1)
      (mulf (broadcastInDim S2048x1 ![] bcast_S_S2048x1 (constant S_ .f32 0xBF000000#32)) (Host.divf (Host.rsqrt (qR x)) (qR x))))
    (broadcastInDim S2048x1 ![] bcast_S_S2048x1 (constant S_ .f32 0x44800000#32))) (constant S_ .f32 0x00000000#32) reducesTo_S2048x1_S2048_d1 h_S_)
/-- The derivative of the norm's rows along `a`, by the chain rule. -/
abbrev dxR (x a : FVec Ideal S2048x1024 .f32) : FVec Ideal S2048x1024 .f32 := addf (addf (mulf a (rR x)) (mulf x (kR x a))) (mulf (kR x a) x)
abbrev dwR (x dh : FVec Ideal S2048x1024 .f32) : FVec Ideal S1x1024 .f32 :=
  shapeCast _ (Host.reduceAdd (mulf (mulf x (rR x)) dh) (constant S_ .f32 0x00000000#32) reducesTo_S2048x1024_S1024_d0 h_S_) shapeCasts_S1024_S1x1024

theorem rR_apply (x : FVec Ideal S2048x1024 .f32) (i : Fin 2048) (j : Fin 1024) : rR x (ix2 i j) = r (rowOf (N := 2048) x i) := by
  pointwise [r, q]

theorem kR_apply (x a : FVec Ideal S2048x1024 .f32) (i : Fin 2048) (j : Fin 1024) : kR x a (ix2 i j) = kE (rowOf (N := 2048) x i) (rowOf (N := 2048) a i) := by
  pointwise [r, q, kE]
  exact Fin.sum_univ_one _

theorem dxR_apply (x a : FVec Ideal S2048x1024 .f32) (i : Fin 2048) (j : Fin 1024) :
    dxR x a (ix2 i j) = dxE (rowOf (N := 2048) x i) (rowOf (N := 2048) a i) j := by
  rw [dx_eq, ← kR_apply x a i j, ← rR_apply x i j]
  rfl

theorem dwR_apply (x dh : FVec Ideal S2048x1024 .f32) (j : Fin 1024) : dwR x dh (ix2 0 j) = ∑ k : Fin 2048, (x (ix2 k j) * r (rowOf (N := 2048) x k)) * dh (ix2 k j) := by
  pointwise [r, q]

theorem dx_ref (x dh dres : FVec Ideal S2048x1024 .f32) (w : FVec Ideal S1x1024 .f32) : addf dres (dxR x (mulf dh (wR w))) = DX x dh dres w := by
  funext i
  obtain ⟨p, j, rfl⟩ : ∃ (p : Fin 2048) (j : Fin 1024), i = ix2 p j := ⟨i 0, i 1, by funext a; match a with | ⟨0, _⟩ => rfl | ⟨1, _⟩ => rfl⟩
  have ha : rowOf (N := 2048) (mulf dh (wR w)) p = fun k => dh (ix2 p k) * w (ix2 0 k) := by funext k; pointwise
  refine (congrArg (dres (ix2 p j) + ·) (dxR_apply x (mulf dh (wR w)) p j)).trans ?_
  rw [ha]
  rfl

theorem dw_ref (x dh : FVec Ideal S2048x1024 .f32) : dwR x dh = DW x dh := by
  funext i
  obtain ⟨j, rfl⟩ : ∃ j : Fin 1024, i = ix2 0 j := ⟨i 1, by funext a; match a with | ⟨0, _⟩ => exact Subsingleton.elim (α := Fin 1) _ _ | ⟨1, _⟩ => rfl⟩
  refine (dwR_apply x dh j).trans ?_
  exact Finset.sum_congr rfl fun k _ => mul_comm _ _

end Cert.NormPlain

end
-- ==== Proof.LossValue.lean ====
/- What the final loss and its backward pass compute, element by element over the extended reals, and that the reference's loss and derivative are the same. -/
module

public import proofs.«01_k».proof.Defs
public import proofs.«01_k».proof.Proof.RowMath
public import proofs.«01_k».proof.Proof.NormValue
public import proofs.«01_k».proof.Proof.Gen.LossIdeal.Value
public import proofs.«01_k».proof.Proof.Gen.LossReferenceIdeal.Run
public import Idealize.ShloMosaic.Lib.Pipeline.ValueKit

@[expose] public section

set_option maxRecDepth 16384

noncomputable section

namespace Cert.LossBack

open Cert.LossIdeal Cert.LossIdeal.Gen
open Idealize.ShloMosaic
open Idealize.ShloMosaic.TcCoe
open Idealize.ShloMosaic.Pipeline (Dat Cfg Window)
open Cert.Row
open Cert.NormBack (rowOf rowTimes dwPart DW)

/-- The error at entry `j` of row `i`. -/
abbrev errAt {N : ℕ} (x t : (⟨2, ![N, 1024]⟩ : Shape).Idx → EReal) (w : (⟨2, ![1, 1024]⟩ : Shape).Idx → EReal) (i : Fin N) (j : Fin 1024) : EReal :=
  x (ix2 i j) * r (rowOf x i) * w (ix2 0 j) - t (ix2 i j)
/-- The gradient of the norm's output: the error over the row's length. -/
def DY {N : ℕ} (x t : (⟨2, ![N, 1024]⟩ : Shape).Idx → EReal) (w : (⟨2, ![1, 1024]⟩ : Shape).Idx → EReal) (i : (⟨2, ![N, 1024]⟩ : Shape).Idx) : EReal :=
  errAt x t w (i 0) (i 1) * Ideal.ofBits .f32 0x3A800000#32
/-- What row `i` adds to the loss. -/
abbrev lossPart {N : ℕ} (x t : (⟨2, ![N, 1024]⟩ : Shape).Idx → EReal) (w : (⟨2, ![1, 1024]⟩ : Shape).Idx → EReal) (i : Fin N) : EReal :=
  (∑ j : Fin 1024, errAt x t w i j * errAt x t w i j) * Ideal.ofBits .f32 0x3A000000#32

theorem pay6_apply (x t : FVec Ideal S256x1024 .f32) (w : FVec Ideal S1x1024 .f32) : k0_pay6 (F := Ideal) x w t = DY (N := 256) x t w := by
  funext y
  obtain ⟨i, j, rfl⟩ : ∃ (i : Fin 256) (j : Fin 1024), y = ix2 i j := ⟨y 0, y 1, by funext a; match a with | ⟨0, _⟩ => rfl | ⟨1, _⟩ => rfl⟩
  show k0_pay6 (F := Ideal) x w t (ix2 i j) = errAt (N := 256) x t w i j * Ideal.ofBits .f32 0x3A800000#32
  pointwise [k0_pay6, k0_pay5, k0_pay4, k0_pay3, r, q, errAt]

theorem pay7_apply (x t : FVec Ideal S256x1024 .f32) (w : FVec Ideal S1x1024 .f32) (i : Fin 256) (j : Fin 1024) :
    k0_pay7 (F := Ideal) x w t w (ix2 i j) = dxE (rowOf (N := 256) x i) (rowTimes (N := 256) (k0_pay6 (F := Ideal) x w t) w i) j := by
  pointwise [k0_pay7, k0_pay4, k0_pay3, dxE, r, q]

theorem pay1_apply (x u : FVec Ideal S256x1024 .f32) (acc : FVec Ideal S1x1024 .f32) (j : Fin 1024) :
    k0_pay1 (k0_pay4 x) u (k0_pay10 acc) (ix2 0 j) = acc (ix2 0 j) + ∑ k : Fin 256, dwPart (N := 256) x u j k := by
  pointwise [k0_pay1, k0_pay4, k0_pay3, k0_pay10, r, q, dwPart]

theorem pay2_apply (x t : FVec Ideal S256x1024 .f32) (w : FVec Ideal S1x1024 .f32) (acc : FVec Ideal S1x1 .f32) :
    k0_pay2 (k0_pay5 x w t) acc (ix2 0 0) = acc (ix2 0 0) + ∑ k : Fin 256, lossPart (N := 256) x t w k := by
  pointwise [k0_pay2, k0_pay5, k0_pay4, k0_pay3, r, q, errAt, lossPart]

variable (m : (ℓ : Loc nD τ sig) → Buf (Elt Ideal) ℓ)

theorem outs2 (c : Dev nD) (t : Fin cfg0.N) : (outsAt0 m c t.val t.isLt).2.1 = k0_pay7 (iblk m c 0 t) (iblk m c 1 t) (iblk m c 2 t) (iblk m c 1 t) := by
  by_cases h : t.val % 8 = 0
  · rw [outsAt0_A m c t h]; frame_out
  · rw [outsAt0_B m c t h]; frame_out

theorem outs1_A (c : Dev nD) (t : Fin cfg0.N) (h : t.val % 8 = 0) :
    (outsAt0 m c t.val t.isLt).1 = k0_pay2 (k0_pay5 (iblk m c 0 t) (iblk m c 1 t) (iblk m c 2 t)) (k0_pay9 (F := Ideal)) := by
  rw [outsAt0_A m c t h]; frame_out

theorem outs1_B (c : Dev nD) (t : Fin cfg0.N) (h : ¬t.val % 8 = 0) :
    (outsAt0 m c t.val t.isLt).1 = k0_pay2 (k0_pay5 (iblk m c 0 t) (iblk m c 1 t) (iblk m c 2 t))
      (outsAt0 m c (t.val - 1) (Nat.lt_of_le_of_lt (Nat.sub_le _ _) t.isLt)).1 := by
  rw [outsAt0_B m c t h]; frame_out

theorem outs3_A (c : Dev nD) (t : Fin cfg0.N) (h : t.val % 8 = 0) :
    (outsAt0 m c t.val t.isLt).2.2 = k0_pay1 (k0_pay4 (iblk m c 0 t)) (k0_pay6 (iblk m c 0 t) (iblk m c 1 t) (iblk m c 2 t)) (k0_pay10 (k0_pay8 (F := Ideal))) := by
  rw [outsAt0_A m c t h]; frame_out

theorem outs3_B (c : Dev nD) (t : Fin cfg0.N) (h : ¬t.val % 8 = 0) :
    (outsAt0 m c t.val t.isLt).2.2 = k0_pay1 (k0_pay4 (iblk m c 0 t)) (k0_pay6 (iblk m c 0 t) (iblk m c 1 t) (iblk m c 2 t))
      (k0_pay10 (outsAt0 m c (t.val - 1) (Nat.lt_of_le_of_lt (Nat.sub_le _ _) t.isLt)).2.2) := by
  rw [outsAt0_B m c t h]; frame_out

/-! ## The blocks of the arrays -/

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

theorem row_lt (t : Fin cfg0.N) (k : Fin 256) : t.val * 256 + k.val < 2048 := by have := Nat.lt_of_lt_of_eq t.isLt N_0; omega

theorem blk0 (c : Dev nD) (t : Fin cfg0.N) (k : Fin 256) (j : Fin 1024) :
    iblk m c 0 t (ix2 k j) = m ((c : Thread nD τ).loc main_arg0) (ix2 ⟨t.val * 256 + k.val, row_lt t k⟩ j) := by
  blk_ext! [iblk, V, idx t]
theorem blk1 (c : Dev nD) (t : Fin cfg0.N) (j : Fin 1024) : iblk m c 1 t (ix2 0 j) = m ((c : Thread nD τ).loc main_arg1) (ix2 0 j) := by
  blk_ext! [iblk, V, idx t]
theorem blk2 (c : Dev nD) (t : Fin cfg0.N) (k : Fin 256) (j : Fin 1024) :
    iblk m c 2 t (ix2 k j) = m ((c : Thread nD τ).loc main_arg2) (ix2 ⟨t.val * 256 + k.val, row_lt t k⟩ j) := by
  blk_ext! [iblk, V, idx t]

theorem row0 (c : Dev nD) (t : Fin cfg0.N) (k : Fin 256) :
    rowOf (N := 256) (iblk m c 0 t) k = rowOf (N := 2048) (m ((c : Thread nD τ).loc main_arg0)) ⟨t.val * 256 + k.val, row_lt t k⟩ :=
  funext fun k' => blk0 m c t k k'

theorem err_blk (c : Dev nD) (t : Fin cfg0.N) (k : Fin 256) (j : Fin 1024) :
    errAt (N := 256) (iblk m c 0 t) (iblk m c 2 t) (iblk m c 1 t) k j
      = errAt (N := 2048) (m ((c : Thread nD τ).loc main_arg0)) (m ((c : Thread nD τ).loc main_arg2)) (m ((c : Thread nD τ).loc main_arg1)) ⟨t.val * 256 + k.val, row_lt t k⟩ j := by
  unfold errAt
  rw [row0]
  exact congrArg₂ (fun a b : EReal => a - b) (congrArg₂ (fun a b : EReal => a * _ * b) (blk0 m c t k j) (blk1 m c t j)) (blk2 m c t k j)

theorem dy_blk (c : Dev nD) (t : Fin cfg0.N) (k : Fin 256) (j : Fin 1024) :
    DY (N := 256) (iblk m c 0 t) (iblk m c 2 t) (iblk m c 1 t) (ix2 k j)
      = DY (N := 2048) (m ((c : Thread nD τ).loc main_arg0)) (m ((c : Thread nD τ).loc main_arg2)) (m ((c : Thread nD τ).loc main_arg1))
        (ix2 ⟨t.val * 256 + k.val, row_lt t k⟩ j) :=
  congrArg (fun a : EReal => a * Ideal.ofBits .f32 0x3A800000#32) (err_blk m c t k j)

/-! ## The three arrays the call leaves -/

/-- The gradient of the rows. -/
def GX (x t : (⟨2, ![2048, 1024]⟩ : Shape).Idx → EReal) (w : (⟨2, ![1, 1024]⟩ : Shape).Idx → EReal) (i : (⟨2, ![2048, 1024]⟩ : Shape).Idx) : EReal :=
  dxE (rowOf x (i 0)) (rowTimes (DY x t w) w (i 0)) (i 1)
/-- The loss. -/
def LS (x t : (⟨2, ![2048, 1024]⟩ : Shape).Idx → EReal) (w : (⟨2, ![1, 1024]⟩ : Shape).Idx → EReal) (i : (⟨2, ![1, 1]⟩ : Shape).Idx) : EReal :=
  ∑ k : Fin 2048, lossPart x t w k

theorem arr4 (c : Dev nD) : (dats m 0 c).arrAt 4 cfg0.N = GX (m ((c : Thread nD τ).loc main_arg0)) (m ((c : Thread nD τ).loc main_arg2))
    (m ((c : Thread nD τ).loc main_arg1)) := by
  refine (dats m 0 c).arrAt_eq_of_covers 4 _ (by decide +kernel) fun t hf y => ?_
  blk_simp
  rw [after0_4, outs2]
  obtain ⟨i, j, rfl⟩ : ∃ (i : Fin 256) (j : Fin 1024), y = ix2 i j := ⟨y 0, y 1, by funext a; match a with | ⟨0, _⟩ => rfl | ⟨1, _⟩ => rfl⟩
  have he : (win0_4.blk t).view.emb (ix2 i j) = ix2 ⟨t.val * 256 + i.val, row_lt t i⟩ j := by blk_ext [idx t]
  rw [he]
  refine (pay7_apply _ _ _ i j).trans ?_
  rw [pay6_apply, row0]
  refine congrArg (fun b => dxE _ b j) (funext fun k => ?_)
  exact congrArg₂ (fun a b : EReal => a * b) (dy_blk m c t i k) (blk1 m c t k)

/-- The last point of the grid. -/
def tL : Fin cfg0.N := ⟨7, by decide⟩

theorem arr3 (c : Dev nD) : (dats m 0 c).arrAt 3 cfg0.N = LS (m ((c : Thread nD τ).loc main_arg0)) (m ((c : Thread nD τ).loc main_arg2))
    (m ((c : Thread nD τ).loc main_arg1)) := by
  refine (dats m 0 c).arrAt_eq_of_after_last 3 tL (by decide +kernel) _ fun y => ?_
  obtain rfl : y = ix2 0 0 := by funext a; match a with | ⟨0, _⟩ => exact Subsingleton.elim (α := Fin 1) _ _ | ⟨1, _⟩ => exact Subsingleton.elim (α := Fin 1) _ _
  show ((dats m 0 c).after 3 tL (ix2 0 0) : EReal) = LS _ _ _ (ix2 0 0)
  rw [after0_3]
  have hs := Pipeline.eq_sum_fin_of_reset_step_last (fun n h => (outsAt0 m c n h).1 (ix2 0 0)) 8 (0 : EReal)
    (fun t => ∑ k : Fin 256, lossPart (N := 256) (iblk m c 0 t) (iblk m c 2 t) (iblk m c 1 t) k)
    (fun t h => by
      show (outsAt0 m c t.val t.isLt).1 (ix2 0 0) = _
      rw [outs1_A m c t h]
      refine (pay2_apply _ _ _ _).trans ?_
      refine congrArg (fun a : EReal => a + _) ?_
      pointwise [k0_pay9])
    (fun t h => by
      show (outsAt0 m c t.val t.isLt).1 (ix2 0 0) = _
      rw [outs1_B m c t h]
      exact pay2_apply _ _ _ _)
    (le_of_eq N_0) tL rfl
  refine hs.trans ?_
  rw [zero_add]
  unfold LS
  refine Fin.sum_mul_add_congr (S := cfg0.N) (n := 256) (L := 2048) (fun t k hl => ?_) (by decide)
  refine congrArg (fun a : EReal => a * Ideal.ofBits .f32 0x3A000000#32) (Finset.sum_congr rfl fun j _ => ?_)
  exact congrArg₂ (fun a b : EReal => a * b) (err_blk m c t k j) (err_blk m c t k j)

theorem arr5 (c : Dev nD) : (dats m 0 c).arrAt 5 cfg0.N = DW (m ((c : Thread nD τ).loc main_arg0))
    (DY (N := 2048) (m ((c : Thread nD τ).loc main_arg0)) (m ((c : Thread nD τ).loc main_arg2)) (m ((c : Thread nD τ).loc main_arg1))) := by
  refine (dats m 0 c).arrAt_eq_of_after_last 5 tL (by decide +kernel) _ fun y => ?_
  obtain ⟨j, rfl⟩ : ∃ j : Fin 1024, y = ix2 0 j := ⟨y 1, by funext a; match a with | ⟨0, _⟩ => exact Subsingleton.elim (α := Fin 1) _ _ | ⟨1, _⟩ => rfl⟩
  show ((dats m 0 c).after 5 tL (ix2 0 j) : EReal) = DW _ _ (ix2 0 j)
  rw [after0_5]
  have hs := Pipeline.eq_sum_fin_of_reset_step_last (fun n h => (outsAt0 m c n h).2.2 (ix2 0 j)) 8 (0 : EReal)
    (fun t => ∑ k : Fin 256, dwPart (N := 256) (iblk m c 0 t) (DY (N := 256) (iblk m c 0 t) (iblk m c 2 t) (iblk m c 1 t)) j k)
    (fun t h => by
      show (outsAt0 m c t.val t.isLt).2.2 (ix2 0 j) = _
      rw [outs3_A m c t h, pay6_apply]
      refine (pay1_apply _ _ _ _).trans ?_
      refine congrArg (fun a : EReal => a + _) ?_
      pointwise [k0_pay8])
    (fun t h => by
      show (outsAt0 m c t.val t.isLt).2.2 (ix2 0 j) = _
      rw [outs3_B m c t h, pay6_apply]
      exact pay1_apply _ _ _ _)
    (le_of_eq N_0) tL rfl
  refine hs.trans ?_
  rw [zero_add]
  unfold DW
  refine Fin.sum_mul_add_congr (S := cfg0.N) (n := 256) (L := 2048) (fun t k hl => ?_) (by decide)
  unfold dwPart
  rw [row0]
  exact congrArg₂ (fun a b : EReal => a * (b * _)) (dy_blk m c t k j) (blk0 m c t k j)

end Cert.LossBack

namespace Cert.LossPlain

open Cert.LossReferenceIdeal Cert.LossReferenceIdeal.Gen
open Idealize.ShloMosaic
open Idealize.ShloMosaic.TcCoe
open Cert.Row
open Cert.NormBack (DW rowOf)
open Cert.NormPlain (wR rR dxR dwR rR_apply dxR_apply dw_ref)
open Cert.LossBack (errAt DY lossPart GX LS)

/-! ## The reference, element by element -/

abbrev errR (x t : FVec Ideal S2048x1024 .f32) (w : FVec Ideal S1x1024 .f32) : FVec Ideal S2048x1024 .f32 := subf (mulf (mulf x (rR x)) (wR w)) t
/-- The derivative of the loss along the norm's output, by the chain rule. -/
abbrev gR (x t : FVec Ideal S2048x1024 .f32) (w : FVec Ideal S1x1024 .f32) : FVec Ideal S2048x1024 .f32 :=
  mulf (broadcastInDim S2048x1024 ![0] bcast_S2048_S2048x1024_0
    (Host.divf (broadcastInDim S2048 ![] bcast_S_S2048 (mulf (constant S_ .f32 0x3F000000#32) (constant S_ .f32 0x3F800000#32)))
      (broadcastInDim S2048 ![] bcast_S_S2048 (constant S_ .f32 0x44800000#32))))
    (mulf (broadcastInDim S2048x1024 ![] bcast_S_S2048x1024 (constant S_ .f32 0x40000000#32)) (errR x t w))
abbrev lossR (x t : FVec Ideal S2048x1024 .f32) (w : FVec Ideal S1x1024 .f32) : FVec Ideal S1x1 .f32 :=
  shapeCast _ (mulf (constant S_ .f32 0x3F000000#32) (Host.reduceAdd (Host.divf
    (Host.reduceAdd (mulf (errR x t w) (errR x t w)) (constant S_ .f32 0x00000000#32) reducesTo_S2048x1024_S2048_d1 h_S_)
    (broadcastInDim S2048 ![] bcast_S_S2048 (constant S_ .f32 0x44800000#32))) (constant S_ .f32 0x00000000#32) reducesTo_S2048_S_d0 h_S_)) shapeCasts_S_S1x1

theorem errR_apply (x t : FVec Ideal S2048x1024 .f32) (w : FVec Ideal S1x1024 .f32) (i : Fin 2048) (j : Fin 1024) :
    errR x t w (ix2 i j) = errAt (N := 2048) x t w i j := by
  pointwise [r, q, errAt]

theorem gR_eq (x t : FVec Ideal S2048x1024 .f32) (w : FVec Ideal S1x1024 .f32) : gR x t w = DY (N := 2048) x t w := by
  funext y
  obtain ⟨i, j, rfl⟩ : ∃ (i : Fin 2048) (j : Fin 1024), y = ix2 i j := ⟨y 0, y 1, by funext a; match a with | ⟨0, _⟩ => rfl | ⟨1, _⟩ => rfl⟩
  have h : gR x t w (ix2 i j) = Ideal.div (Ideal.ofBits .f32 0x3F000000#32 * Ideal.ofBits .f32 0x3F800000#32) (Ideal.ofBits .f32 0x44800000#32)
      * (Ideal.ofBits .f32 0x40000000#32 * errAt (N := 2048) x t w i j) := by
    pointwise [r, q, errAt]
  refine h.trans ?_
  show _ = errAt (N := 2048) x t w i j * Ideal.ofBits .f32 0x3A800000#32
  rw [cHalf, cOne, c1024, cTwo, cInv1024, Ideal.div_coe (by norm_num), ← EReal.coe_mul, ← EReal.coe_mul, ← mul_assoc, ← EReal.coe_mul, mul_comm]
  norm_num

theorem dx_ref (x t : FVec Ideal S2048x1024 .f32) (w : FVec Ideal S1x1024 .f32) : dxR x (mulf (gR x t w) (wR w)) = GX x t w := by
  rw [gR_eq]
  funext y
  obtain ⟨p, j, rfl⟩ : ∃ (p : Fin 2048) (j : Fin 1024), y = ix2 p j := ⟨y 0, y 1, by funext a; match a with | ⟨0, _⟩ => rfl | ⟨1, _⟩ => rfl⟩
  have ha : ∀ g : FVec Ideal S2048x1024 .f32, rowOf (N := 2048) (mulf g (wR w)) p = fun k => g (ix2 p k) * w (ix2 0 k) := by intro g; funext k; pointwise
  refine (dxR_apply x _ p j).trans ?_
  rw [ha]
  rfl

theorem dw_eq (x t : FVec Ideal S2048x1024 .f32) (w : FVec Ideal S1x1024 .f32) : dwR x (gR x t w) = DW x (DY (N := 2048) x t w) := by
  rw [gR_eq, dw_ref]

theorem loss_eq (x t : FVec Ideal S2048x1024 .f32) (w : FVec Ideal S1x1024 .f32) : lossR x t w = LS x t w := by
  funext y
  obtain rfl : y = ix2 0 0 := by funext a; match a with | ⟨0, _⟩ => exact Subsingleton.elim (α := Fin 1) _ _ | ⟨1, _⟩ => exact Subsingleton.elim (α := Fin 1) _ _
  have h : lossR x t w (ix2 0 0) = Ideal.ofBits .f32 0x3F000000#32
      * ∑ k : Fin 2048, Ideal.div (∑ j : Fin 1024, errAt (N := 2048) x t w k j * errAt (N := 2048) x t w k j) (Ideal.ofBits .f32 0x44800000#32) := by
    pointwise [r, q, errAt]
  refine h.trans ?_
  unfold LS
  rw [cHalf, mul_comm, sum_mul_real _ _ (by norm_num)]
  refine Finset.sum_congr rfl fun k _ => ?_
  unfold lossPart
  rw [c1024, cInv2048, Ideal.div_coe (by norm_num), mul_coe_mul]
  norm_num

end Cert.LossPlain

end
-- ==== Proof.ForwardValue.lean ====
/- What the forward norm computes, element by element over the extended reals, and that the reference's norm is the same. -/
module

public import proofs.«01_k».proof.Defs
public import proofs.«01_k».proof.Proof.RowMath
public import proofs.«01_k».proof.Proof.NormValue
public import proofs.«01_k».proof.Proof.Gen.ForwardIdeal.Value
public import proofs.«01_k».proof.Proof.Gen.ForwardReferenceIdeal.Run
public import Idealize.ShloMosaic.Lib.Pipeline.ValueKit

@[expose] public section

set_option maxRecDepth 16384

noncomputable section

namespace Cert.NormFwd

open Cert.ForwardIdeal Cert.ForwardIdeal.Gen
open Idealize.ShloMosaic
open Idealize.ShloMosaic.TcCoe
open Idealize.ShloMosaic.Pipeline (Dat Cfg Window)
open Cert.Row
open Cert.NormBack (rowOf)

/-- Entry `j` of the normalised row `i`, scaled by the weight. -/
abbrev normAt {N : ℕ} (x : (⟨2, ![N, 1024]⟩ : Shape).Idx → EReal) (w : (⟨2, ![1, 1024]⟩ : Shape).Idx → EReal) (i : Fin N) (j : Fin 1024) : EReal :=
  x (ix2 i j) * r (rowOf x i) * w (ix2 0 j)
/-- The normalised rows. -/
def NX (x : (⟨2, ![2048, 1024]⟩ : Shape).Idx → EReal) (w : (⟨2, ![1, 1024]⟩ : Shape).Idx → EReal) (i : (⟨2, ![2048, 1024]⟩ : Shape).Idx) : EReal :=
  normAt x w (i 0) (i 1)

theorem pay1_apply (x : FVec Ideal S256x1024 .f32) (w : FVec Ideal S1x1024 .f32) (i : Fin 256) (j : Fin 1024) :
    (k0_pay1 (F := Ideal) x w (ix2 i j) : EReal) = normAt (N := 256) x w i j := by
  pointwise [k0_pay1, r, q, normAt]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (k : Fin 256) : t.val * 256 + k.val < 2048 := by have := Nat.lt_of_lt_of_eq t.isLt N_0; omega

theorem blk0 (c : Dev nD) (t : Fin cfg0.N) (k : Fin 256) (j : Fin 1024) :
    iblk m c 0 t (ix2 k j) = m ((c : Thread nD τ).loc main_arg0) (ix2 ⟨t.val * 256 + k.val, row_lt t k⟩ j) := by
  blk_ext! [iblk, V, idx t]
theorem blk1 (c : Dev nD) (t : Fin cfg0.N) (j : Fin 1024) : iblk m c 1 t (ix2 0 j) = m ((c : Thread nD τ).loc main_arg1) (ix2 0 j) := by
  blk_ext! [iblk, V, idx t]

theorem row0 (c : Dev nD) (t : Fin cfg0.N) (k : Fin 256) :
    rowOf (N := 256) (iblk m c 0 t) k = rowOf (N := 2048) (m ((c : Thread nD τ).loc main_arg0)) ⟨t.val * 256 + k.val, row_lt t k⟩ :=
  funext fun k' => blk0 m c t k k'

theorem out2 (c : Dev nD) (t : Fin cfg0.N) : out0_2 (iblk m c 0 t) (iblk m c 1 t) = k0_pay1 (iblk m c 0 t) (iblk m c 1 t) := by
  frame_out

theorem arr2 (c : Dev nD) : (dats m 0 c).arrAt 2 cfg0.N = NX (m ((c : Thread nD τ).loc main_arg0)) (m ((c : Thread nD τ).loc main_arg1)) := by
  refine (dats m 0 c).arrAt_eq_of_covers 2 _ (by decide +kernel) fun t hf y => ?_
  blk_simp
  rw [after0_2, out2]
  obtain ⟨i, j, rfl⟩ : ∃ (i : Fin 256) (j : Fin 1024), y = ix2 i j := ⟨y 0, y 1, by funext a; match a with | ⟨0, _⟩ => rfl | ⟨1, _⟩ => rfl⟩
  have he : (win0_2.blk t).view.emb (ix2 i j) = ix2 ⟨t.val * 256 + i.val, row_lt t i⟩ j := by blk_ext [idx t]
  rw [he]
  refine (pay1_apply _ _ i j).trans ?_
  unfold normAt
  rw [row0]
  exact congrArg₂ (fun a b : EReal => a * _ * b) (blk0 m c t i j) (blk1 m c t j)

end Cert.NormFwd

namespace Cert.NormFwdPlain

open Cert.ForwardReferenceIdeal Cert.ForwardReferenceIdeal.Gen
open Idealize.ShloMosaic
open Idealize.ShloMosaic.TcCoe
open Cert.Row
open Cert.NormPlain (wR rR)
open Cert.NormFwd (normAt NX)

theorem norm_eq (x : FVec Ideal S2048x1024 .f32) (w : FVec Ideal S1x1024 .f32) :
    (truncf .bf16 (mulf (mulf x (rR x)) (wR w)) bitsLt_bf16_f32 : FVec Ideal S2048x1024 .bf16) = NX x w := by
  funext y
  obtain ⟨i, j, rfl⟩ : ∃ (i : Fin 2048) (j : Fin 1024), y = ix2 i j := ⟨y 0, y 1, by funext a; match a with | ⟨0, _⟩ => rfl | ⟨1, _⟩ => rfl⟩
  show _ = normAt (N := 2048) x w i j
  pointwise [r, q, normAt]

end Cert.NormFwdPlain

end
-- ==== Proof.UpValue.lean ====
/- What the up projection computes, element by element over the extended reals, and that the reference's product is the same. -/
module

public import proofs.«01_k».proof.Defs
public import proofs.«01_k».proof.Proof.Gen.UpIdeal.Value
public import proofs.«01_k».proof.Proof.Gen.UpReferenceIdeal.Run
public import Idealize.ShloMosaic.Lib.Pipeline.ValueKit

@[expose] public section

set_option maxRecDepth 16384

noncomputable section

namespace Cert.UpProj

open Cert.UpIdeal Cert.UpIdeal.Gen
open Idealize.ShloMosaic
open Idealize.ShloMosaic.TcCoe
open Idealize.ShloMosaic.Pipeline (Dat Cfg Window)

/-- The inner product of row `i` of `a` and column `j` of `b`. -/
abbrev dotAt {M K N : ℕ} (a : (⟨2, ![M, K]⟩ : Shape).Idx → EReal) (b : (⟨2, ![K, N]⟩ : Shape).Idx → EReal) (i : Fin M) (j : Fin N) : EReal :=
  ∑ k : Fin K, a (ix2 i k) * b (ix2 k j)
/-- The product. -/
def UP (a : (⟨2, ![2048, 1024]⟩ : Shape).Idx → EReal) (b : (⟨2, ![1024, 4096]⟩ : Shape).Idx → EReal) (i : (⟨2, ![2048, 4096]⟩ : Shape).Idx) : EReal :=
  dotAt a b (i 0) (i 1)
/-- The product's positive part, squared. -/
def ACT (a : (⟨2, ![2048, 1024]⟩ : Shape).Idx → EReal) (b : (⟨2, ![1024, 4096]⟩ : Shape).Idx → EReal) (i : (⟨2, ![2048, 4096]⟩ : Shape).Idx) : EReal :=
  max (dotAt a b (i 0) (i 1)) 0 * max (dotAt a b (i 0) (i 1)) 0

theorem pay2_apply (a : FVec Ideal S512x1024 .bf16) (b : FVec Ideal S1024x1024 .bf16) (i : Fin 512) (j : Fin 1024) :
    (k0_pay2 (F := Ideal) (k0_pay1 (F := Ideal)) a b (ix2 i j) : EReal) = dotAt (M := 512) (K := 1024) (N := 1024) a b i j := by
  pointwise [k0_pay2, k0_pay1, dotAt]

theorem pay3_apply (u : FVec Ideal S512x1024 .f32) (i : Fin 512) (j : Fin 1024) :
    (k0_pay3 (F := Ideal) u (ix2 i j) : EReal) = max (u (ix2 i j) : EReal) 0 * max (u (ix2 i j) : EReal) 0 := by
  pointwise [k0_pay3]

variable (m : (ℓ : Loc nD τ sig) → Buf (Elt Ideal) ℓ)

theorem outs2 (c : Dev nD) (t : Fin cfg0.N) : (outsAt0 m c t).1 = k0_pay2 (k0_pay1 (F := Ideal)) (iblk m c 0 t) (iblk m c 1 t) := by
  unfold outsAt0; frame_out

theorem outs3 (c : Dev nD) (t : Fin cfg0.N) : (outsAt0 m c t).2 = k0_pay3 (k0_pay2 (k0_pay1 (F := Ideal)) (iblk m c 0 t) (iblk m c 1 t)) := by
  unfold outsAt0; frame_out

theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

theorem row_lt (t : Fin cfg0.N) (k : Fin 512) : t.val / 4 * 512 + k.val < 2048 := by have := Nat.lt_of_lt_of_eq t.isLt N_0; omega
theorem col_lt (t : Fin cfg0.N) (k : Fin 1024) : t.val % 4 * 1024 + k.val < 4096 := by omega

theorem blk0 (c : Dev nD) (t : Fin cfg0.N) (i : Fin 512) (k : Fin 1024) :
    iblk m c 0 t (ix2 i k) = m ((c : Thread nD τ).loc main_arg0) (ix2 ⟨t.val / 4 * 512 + i.val, row_lt t i⟩ k) := by
  blk_ext! [iblk, V, idx t]
theorem blk1 (c : Dev nD) (t : Fin cfg0.N) (k : Fin 1024) (j : Fin 1024) :
    iblk m c 1 t (ix2 k j) = m ((c : Thread nD τ).loc main_arg1) (ix2 k ⟨t.val % 4 * 1024 + j.val, col_lt t j⟩) := by
  blk_ext! [iblk, V, idx t]

theorem dot_blk (c : Dev nD) (t : Fin cfg0.N) (i : Fin 512) (j : Fin 1024) :
    (dotAt (M := 512) (K := 1024) (N := 1024) (iblk m c 0 t) (iblk m c 1 t) i j : EReal)
      = dotAt (M := 2048) (K := 1024) (N := 4096) (m ((c : Thread nD τ).loc main_arg0)) (m ((c : Thread nD τ).loc main_arg1))
        ⟨t.val / 4 * 512 + i.val, row_lt t i⟩ ⟨t.val % 4 * 1024 + j.val, col_lt t j⟩ :=
  Finset.sum_congr rfl fun k _ => congrArg₂ (fun a b : EReal => a * b) (blk0 m c t i k) (blk1 m c t k j)

theorem arr2 (c : Dev nD) : (dats m 0 c).arrAt 2 cfg0.N = UP (m ((c : Thread nD τ).loc main_arg0)) (m ((c : Thread nD τ).loc main_arg1)) := by
  refine (dats m 0 c).arrAt_eq_of_covers 2 _ (by decide +kernel) fun t hf y => ?_
  blk_simp
  rw [after0_2, outs2]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 4 * 512 + i.val, row_lt t i⟩ ⟨t.val % 4 * 1024 + j.val, col_lt t j⟩ := by blk_ext [idx t]
  rw [he]
  exact (pay2_apply _ _ i j).trans (dot_blk m c t i j)

theorem arr3 (c : Dev nD) : (dats m 0 c).arrAt 3 cfg0.N = ACT (m ((c : Thread nD τ).loc main_arg0)) (m ((c : Thread nD τ).loc main_arg1)) := by
  refine (dats m 0 c).arrAt_eq_of_covers 3 _ (by decide +kernel) fun t hf y => ?_
  blk_simp
  rw [after0_3, outs3]
  obtain ⟨i, j, rfl⟩ : ∃ (i : Fin 512) (j : Fin 1024), y = ix2 i j := ⟨y 0, y 1, by funext a; match a with | ⟨0, _⟩ => rfl | ⟨1, _⟩ => rfl⟩
  have he : (win0_3.blk t).view.emb (ix2 i j) = ix2 ⟨t.val / 4 * 512 + i.val, row_lt t i⟩ ⟨t.val % 4 * 1024 + j.val, col_lt t j⟩ := by blk_ext [idx t]
  rw [he]
  refine (pay3_apply _ i j).trans ?_
  exact congrArg (fun u : EReal => max u 0 * max u 0) ((pay2_apply _ _ i j).trans (dot_blk m c t i j))

end Cert.UpProj

namespace Cert.UpPlain

open Cert.UpReferenceIdeal Cert.UpReferenceIdeal.Gen
open Idealize.ShloMosaic
open Idealize.ShloMosaic.TcCoe
open Cert.UpProj (dotAt UP ACT)

abbrev upR (a : FVec Ideal S2048x1024 .bf16) (b : FVec Ideal S1024x4096 .bf16) : FVec Ideal S2048x4096 .f32 :=
  Host.dotGeneral dot_S2048x1024_S1024x4096_S2048x4096_1_0_0_1_n_n none (extf .f32 a bitsLt_bf16_f32) (extf .f32 b bitsLt_bf16_f32)
abbrev reluR (a : FVec Ideal S2048x1024 .bf16) (b : FVec Ideal S1024x4096 .bf16) : FVec Ideal S2048x4096 .f32 :=
  maximumf (upR a b) (broadcastInDim S2048x4096 ![] bcast_S_S2048x4096 (constant S_ .f32 0x00000000#32))

theorem up_eq (a : FVec Ideal S2048x1024 .bf16) (b : FVec Ideal S1024x4096 .bf16) : upR a b = UP a b := by
  funext y
  obtain ⟨i, j, rfl⟩ : ∃ (i : Fin 2048) (j : Fin 4096), y = ix2 i j := ⟨y 0, y 1, by funext a; match a with | ⟨0, _⟩ => rfl | ⟨1, _⟩ => rfl⟩
  show _ = dotAt (M := 2048) (K := 1024) (N := 4096) a b i j
  pointwise [dotAt]

theorem act_eq (a : FVec Ideal S2048x1024 .bf16) (b : FVec Ideal S1024x4096 .bf16) :
    (truncf .bf16 (mulf (reluR a b) (reluR a b)) bitsLt_bf16_f32 : FVec Ideal S2048x4096 .bf16) = ACT a b := by
  funext y
  obtain ⟨i, j, rfl⟩ : ∃ (i : Fin 2048) (j : Fin 4096), y = ix2 i j := ⟨y 0, y 1, by funext a; match a with | ⟨0, _⟩ => rfl | ⟨1, _⟩ => rfl⟩
  show _ = max (dotAt (M := 2048) (K := 1024) (N := 4096) a b i j) 0 * max (dotAt (M := 2048) (K := 1024) (N := 4096) a b i j) 0
  pointwise [dotAt]

end Cert.UpPlain

end
-- ==== Proof.DownValue.lean ====
/- What the down projection computes, element by element over the extended reals, and that the reference's product is the same. -/
module

public import proofs.«01_k».proof.Defs
public import proofs.«01_k».proof.Proof.UpValue
public import proofs.«01_k».proof.Proof.Gen.DownIdeal.Value
public import proofs.«01_k».proof.Proof.Gen.DownReferenceIdeal.Run
public import Idealize.ShloMosaic.Lib.Pipeline.ValueKit
public import Idealize.ShloMosaic.Lib.Pipeline.ReadBack

@[expose] public section

set_option maxRecDepth 16384

noncomputable section

namespace Cert.DownProj

open Cert.DownIdeal Cert.DownIdeal.Gen
open Idealize.ShloMosaic
open Idealize.ShloMosaic.TcCoe
open Idealize.ShloMosaic.Pipeline (Dat Cfg Window)
open Cert.UpProj (dotAt)

/-- The product on top of the rows it is added to. -/
def DN (a : (⟨2, ![2048, 4096]⟩ : Shape).Idx → EReal) (b : (⟨2, ![4096, 1024]⟩ : Shape).Idx → EReal) (x : (⟨2, ![2048, 1024]⟩ : Shape).Idx → EReal)
    (i : (⟨2, ![2048, 1024]⟩ : Shape).Idx) : EReal :=
  x i + dotAt a b (i 0) (i 1)

theorem pay2_apply (acc : FVec Ideal S512x1024 .f32) (a : FVec Ideal S512x1024 .bf16) (b : FVec Ideal S1024x1024 .bf16) (i : Fin 512) (j : Fin 1024) :
    (k0_pay2 (F := Ideal) acc a b (ix2 i j) : EReal) = (acc (ix2 i j) : EReal) + dotAt (M := 512) (K := 1024) (N := 1024) a b i j := by
  pointwise [k0_pay2, dotAt]

theorem pay1_apply (i : Fin 512) (j : Fin 1024) : (k0_pay1 (F := Ideal) (ix2 i j) : EReal) = 0 := by
  pointwise [k0_pay1]

theorem pay3_apply (u x : FVec Ideal S512x1024 .f32) (i : Fin 512) (j : Fin 1024) :
    (k0_pay3 (F := Ideal) u x (ix2 i j) : EReal) = (u (ix2 i j) : EReal) + x (ix2 i j) := by
  pointwise [k0_pay3]

variable (m : (ℓ : Loc nD τ sig) → Buf (Elt Ideal) ℓ)

theorem acc_A (c : Dev nD) (t : Fin cfg0.N) (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out; rw [read_unread_whole]
  · rw [outsAt0_B m c t h0 h1]; frame_out; rw [read_unread_whole]

theorem out_C (c : Dev nD) (t : Fin cfg0.N) (h0 : ¬t.val % 4 = 0) (h1 : t.val % 4 = 3) :
    (outsAt0 m c t.val t.isLt).1 = k0_pay3 (outsAt0 m c t.val t.isLt).2 (iblk m c 2 t) := by
  rw [acc_B m c t h0, outsAt0_C m c t h0 h1]; frame_out; rw [read_unread_whole]

theorem idx : ∀ t : Fin cfg0.N, win0_0.index t = ![t.val / 4, t.val % 4] ∧ win0_1.index t = ![t.val % 4, 0] ∧ win0_2.index t = ![t.val / 4, 0]
    ∧ win0_3.index t = ![t.val / 4, 0] :=
  (by decide +kernel : ∀ t : Fin grid0.N, _)

theorem row_lt (t : Fin cfg0.N) (k : Fin 512) : t.val / 4 * 512 + k.val < 2048 := by have := Nat.lt_of_lt_of_eq t.isLt N_0; omega
theorem col_lt (t : Fin cfg0.N) (k : Fin 1024) : t.val % 4 * 1024 + k.val < 4096 := by omega

theorem blk0 (c : Dev nD) (t : Fin cfg0.N) (i : Fin 512) (k : Fin 1024) :
    iblk m c 0 t (ix2 i k) = m ((c : Thread nD τ).loc main_arg0) (ix2 ⟨t.val / 4 * 512 + i.val, row_lt t i⟩ ⟨t.val % 4 * 1024 + k.val, col_lt t k⟩) := by
  blk_ext! [iblk, V, idx t]
theorem blk1 (c : Dev nD) (t : Fin cfg0.N) (k : Fin 1024) (j : Fin 1024) :
    iblk m c 1 t (ix2 k j) = m ((c : Thread nD τ).loc main_arg1) (ix2 ⟨t.val % 4 * 1024 + k.val, col_lt t k⟩ j) := by
  blk_ext! [iblk, V, idx t]
theorem blk2 (c : Dev nD) (t : Fin cfg0.N) (i : Fin 512) (j : Fin 1024) :
    iblk m c 2 t (ix2 i j) = m ((c : Thread nD τ).loc main_arg2) (ix2 ⟨t.val / 4 * 512 + i.val, row_lt t i⟩ j) := by
  blk_ext! [iblk, V, idx t]

/-- After the last of the four steps the accumulator holds the whole inner product. -/
theorem acc_eq (c : Dev nD) (t : Fin cfg0.N) (h : t.val % 4 = 3) (i : Fin 512) (j : Fin 1024) :
    ((outsAt0 m c t.val t.isLt).2 (ix2 i j) : EReal)
      = dotAt (M := 2048) (K := 4096) (N := 1024) (m ((c : Thread nD τ).loc main_arg0)) (m ((c : Thread nD τ).loc main_arg1))
        ⟨t.val / 4 * 512 + i.val, row_lt t i⟩ j := by
  have hs := Pipeline.eq_sum_fin_of_reset_step_of_flush (fun n h => ((outsAt0 m c n h).2 (ix2 i j) : EReal)) 4 (0 : EReal)
    (fun t => dotAt (M := 512) (K := 1024) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 4) (n := 1024) (L := 4096) (fun s k hl => ?_) (by decide)
  have hd : (4 * (t.val / 4) + s.val) / 4 = t.val / 4 := by omega
  have hm : (4 * (t.val / 4) + s.val) % 4 = s.val := by omega
  refine congrArg₂ (fun a b : EReal => a * b) ((blk0 m c _ i k).trans ?_) ((blk1 m c _ k j).trans ?_)
  · exact congrArg _ (congrArg₂ ix2 (Fin.ext (by show _ / 4 * 512 + _ = _; rw [hd])) (Fin.ext (by show _ % 4 * 1024 + _ = _; rw [hm])))
  · exact congrArg _ (congrArg₂ ix2 (Fin.ext (by show _ % 4 * 1024 + _ = _; rw [hm])) rfl)

theorem arr3 (c : Dev nD) : (dats m 0 c).arrAt 3 cfg0.N = DN (m ((c : Thread nD τ).loc main_arg0)) (m ((c : Thread nD τ).loc main_arg1))
    (m ((c : Thread nD τ).loc main_arg2)) := by
  refine (dats m 0 c).arrAt_eq_of_covers 3 _ (by decide +kernel) fun t hf y => ?_
  have h : t.val % 4 = 3 := (flush0_3 t).mp hf
  blk_simp
  rw [after0_3, out_C m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_3.blk t).view.emb (ix2 i j) = ix2 ⟨t.val / 4 * 512 + i.val, row_lt t i⟩ j := by blk_ext [idx t]
  rw [he]
  refine (pay3_apply _ _ i j).trans ?_
  refine (congrArg₂ (fun a b : EReal => a + b) (acc_eq m c t h i j) (blk2 m c t i j)).trans ?_
  exact add_comm (G := EReal) _ _

end Cert.DownProj

namespace Cert.DownPlain

open Cert.DownReferenceIdeal Cert.DownReferenceIdeal.Gen
open Idealize.ShloMosaic
open Idealize.ShloMosaic.TcCoe
open Cert.UpProj (dotAt)
open Cert.DownProj (DN)

theorem down_eq (a : FVec Ideal S2048x4096 .bf16) (b : FVec Ideal S4096x1024 .bf16) (x : FVec Ideal S2048x1024 .f32) :
    addf x (Host.dotGeneral dot_S2048x4096_S4096x1024_S2048x1024_1_0_0_1_n_n none (extf .f32 a bitsLt_bf16_f32) (extf .f32 b bitsLt_bf16_f32)) = DN a b x := by
  funext y
  obtain ⟨i, j, rfl⟩ : ∃ (i : Fin 2048) (j : Fin 1024), y = ix2 i j := ⟨y 0, y 1, by funext a; match a with | ⟨0, _⟩ => rfl | ⟨1, _⟩ => rfl⟩
  show _ = (x (ix2 i j) : EReal) + dotAt (M := 2048) (K := 4096) (N := 1024) a b i j
  pointwise [dotAt]

end Cert.DownPlain

end
-- ==== Proof.DownDxValue.lean ====
/- What the gradient of the up projection's product comes to, element by element over the extended reals, and that the reference's product is the same. -/
module

public import proofs.«01_k».proof.Defs
public import proofs.«01_k».proof.Proof.Gen.DownDxIdeal.Value
public import proofs.«01_k».proof.Proof.Gen.DownDxReferenceIdeal.Run
public import Idealize.ShloMosaic.Lib.Pipeline.ValueKit
public import Idealize.ShloMosaic.Lib.Pipeline.ReadBack

@[expose] public section

set_option maxRecDepth 16384

noncomputable section

namespace Cert.DownDxProd

open Cert.DownDxIdeal Cert.DownDxIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![N, K]⟩ : Shape).Idx → EReal) (i : Fin M) (j : Fin N) : EReal :=
  ∑ k : Fin K, a (ix2 i k) * b (ix2 j k)
/-- The product times the derivative of the squared positive part. -/
def PROD (a : (⟨2, ![2048, 1024]⟩ : Shape).Idx → EReal) (b : (⟨2, ![4096, 1024]⟩ : Shape).Idx → EReal) (x : (⟨2, ![2048, 4096]⟩ : Shape).Idx → EReal) (i : (⟨2, ![2048, 4096]⟩ : Shape).Idx) : EReal :=
  dot a b (i 0) (i 1) * (Ideal.ofBits .f32 0x40000000#32 * max (x i) 0)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1024 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

theorem pay3_apply (u x : FVec Ideal S512x1024 .f32) (i : Fin 512) (j : Fin 1024) :
    (k0_pay3 (F := Ideal) u x (ix2 i j) : EReal) = (u (ix2 i j) : EReal) * (Ideal.ofBits .f32 0x40000000#32 * max (x (ix2 i j) : EReal) 0) := by
  pointwise [k0_pay3]

variable (m : (ℓ : Loc nD τ sig) → Buf (Elt Ideal) ℓ)

theorem outs (c : Dev nD) (t : Fin cfg0.N) : outsAt0 m c t = k0_pay3 (k0_pay2 (k0_pay1 (F := Ideal)) (iblk m c 0 t) (iblk m c 1 t)) (iblk m c 2 t) := by
  unfold outsAt0; frame_out

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

theorem row_lt (t : Fin cfg0.N) (k : Fin 512) : t.val / 4 * 512 + k.val < 2048 := by have := Nat.lt_of_lt_of_eq t.isLt N_0; omega
theorem col_lt (t : Fin cfg0.N) (k : Fin 1024) : t.val % 4 * 1024 + k.val < 4096 := by omega

theorem blk0 (c : Dev nD) (t : Fin cfg0.N) (i : Fin 512) (k : Fin 1024) :
    iblk m c 0 t (ix2 i k) = m ((c : Thread nD τ).loc main_arg0) (ix2 ⟨t.val / 4 * 512 + i.val, row_lt t i⟩ k) := by
  blk_ext! [iblk, V, idx t]
theorem blk1 (c : Dev nD) (t : Fin cfg0.N) (k : Fin 1024) (j : Fin 1024) :
    iblk m c 1 t (ix2 j k) = m ((c : Thread nD τ).loc main_arg1) (ix2 ⟨t.val % 4 * 1024 + j.val, col_lt t j⟩ k) := by
  blk_ext! [iblk, V, idx t]
theorem blk2 (c : Dev nD) (t : Fin cfg0.N) (i : Fin 512) (j : Fin 1024) :
    iblk m c 2 t (ix2 i j) = m ((c : Thread nD τ).loc main_arg2) (ix2 ⟨t.val / 4 * 512 + i.val, row_lt t i⟩ ⟨t.val % 4 * 1024 + j.val, col_lt t j⟩) := by
  blk_ext! [iblk, V, idx t]

theorem dot_blk (c : Dev nD) (t : Fin cfg0.N) (i : Fin 512) (j : Fin 1024) :
    (k0_pay2 (F := Ideal) (k0_pay1 (F := Ideal)) (iblk m c 0 t) (iblk m c 1 t) (ix2 i j) : EReal) = dot (M := 2048) (K := 1024) (N := 4096) (m ((c : Thread nD τ).loc main_arg0)) (m ((c : Thread nD τ).loc main_arg1))
        ⟨t.val / 4 * 512 + i.val, row_lt t i⟩ ⟨t.val % 4 * 1024 + j.val, col_lt t j⟩ := by
  refine (pay2_apply _ _ _ _ _).trans ?_
  refine (congrArg (fun a : EReal => a + dot (M := 512) (K := 1024) (N := 1024) (iblk m c 0 t) (iblk m c 1 t) i j) (pay1_apply i j)).trans ?_
  rw [zero_add]
  exact Finset.sum_congr rfl fun k _ => congrArg₂ (fun a b : EReal => a * b) (blk0 m c t i k) (blk1 m c t k j)

theorem arr3 (c : Dev nD) : (dats m 0 c).arrAt 3 cfg0.N = PROD (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outs]
  obtain ⟨i, j, rfl⟩ : ∃ (i : Fin 512) (j : Fin 1024), y = ix2 i j := ⟨y 0, y 1, by funext a; match a with | ⟨0, _⟩ => rfl | ⟨1, _⟩ => rfl⟩
  have he : (win0_3.blk t).view.emb (ix2 i j) = ix2 ⟨t.val / 4 * 512 + i.val, row_lt t i⟩ ⟨t.val % 4 * 1024 + j.val, col_lt t j⟩ := by blk_ext [idx t]
  rw [he]
  refine (pay3_apply _ _ i j).trans ?_
  exact congrArg₂ (fun a b : EReal => a * (Ideal.ofBits .f32 0x40000000#32 * max b 0)) (dot_blk m c t i j) (blk2 m c t i j)

end Cert.DownDxProd

namespace Cert.DownDxPlain

open Cert.DownDxReferenceIdeal Cert.DownDxReferenceIdeal.Gen
open Idealize.ShloMosaic
open Idealize.ShloMosaic.TcCoe
open Cert.DownDxProd (dot PROD)

theorem prod_eq (a : FVec Ideal S2048x1024 .bf16) (b : FVec Ideal S4096x1024 .bf16) (x : FVec Ideal S2048x4096 .f32) :
    (truncf .bf16 (select (cmpf .ogt x (broadcastInDim S2048x4096 ![] bcast_S_S2048x4096 (constant S_ .f32 0x00000000#32))) (mulf (Host.dotGeneral dot_S2048x1024_S1024x4096_S2048x4096_1_0_0_1_n_n none (extf .f32 a bitsLt_bf16_f32) (transpose S1024x4096 [1, 0] (extf .f32 b bitsLt_bf16_f32) transposes_S4096x1024_S1024x4096_1_0)) (mulf (broadcastInDim S2048x4096 ![] bcast_S_S2048x4096 (constant S_ .f32 0x40000000#32)) (maximumf x (broadcastInDim S2048x4096 ![] bcast_S_S2048x4096 (constant S_ .f32 0x00000000#32))))) (broadcastInDim S2048x4096 ![] bcast_S_S2048x4096 (constant S_ .f32 0x00000000#32))) bitsLt_bf16_f32 : FVec Ideal S2048x4096 .bf16) = PROD a b x := by
  funext y
  obtain ⟨i, j, rfl⟩ : ∃ (i : Fin 2048) (j : Fin 4096), y = ix2 i j := ⟨y 0, y 1, by funext a; match a with | ⟨0, _⟩ => rfl | ⟨1, _⟩ => rfl⟩
  show _ = dot (M := 2048) (K := 1024) (N := 4096) a b i j * (Ideal.ofBits .f32 0x40000000#32 * max (x (ix2 i j) : EReal) 0)
  pointwise [dot]
  split_ifs with h
  · rfl
  · rw [max_eq_right (not_lt.mp h), mul_zero, mul_zero]

end Cert.DownDxPlain

end
-- ==== Proof.DownDwValue.lean ====
/- What the gradient of the down projection's weight comes to, element by element over the extended reals, and that the reference's product is the same. -/
module

public import proofs.«01_k».proof.Defs
public import proofs.«01_k».proof.Proof.Gen.DownDwIdeal.Value
public import proofs.«01_k».proof.Proof.Gen.DownDwReferenceIdeal.Run
public import Idealize.ShloMosaic.Lib.Pipeline.ValueKit
public import Idealize.ShloMosaic.Lib.Pipeline.ReadBack

@[expose] public section

set_option maxRecDepth 16384

noncomputable section

namespace Cert.DownDwProd

open Cert.DownDwIdeal Cert.DownDwIdeal.Gen
open Idealize.ShloMosaic
open Idealize.ShloMosaic.TcCoe
open Idealize.ShloMosaic.Pipeline (Dat Cfg Window)

/-- The inner product at row `i` and column `j`. -/
abbrev dot {M K N : ℕ} (a : (⟨2, ![K, M]⟩ : Shape).Idx → EReal) (b : (⟨2, ![K, N]⟩ : Shape).Idx → EReal) (i : Fin M) (j : Fin N) : EReal :=
  ∑ k : Fin K, a (ix2 k i) * b (ix2 k j)
/-- The product. -/
def PROD (a : (⟨2, ![2048, 4096]⟩ : Shape).Idx → EReal) (b : (⟨2, ![2048, 1024]⟩ : Shape).Idx → EReal) (i : (⟨2, ![4096, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S1024x512 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem acc_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  have h1 : t.val % 2 = 1 := by omega
  rw [outsAt0_B m c t h0 h1]; frame_out; rw [read_unread_whole]

theorem out_last (c : Dev nD) (t : Fin cfg0.N) (h0 : ¬t.val % 2 = 0) (h1 : t.val % 2 = 1) :
    (outsAt0 m c t.val t.isLt).1 = (outsAt0 m c t.val t.isLt).2 := by
  rw [acc_B m c t h0, outsAt0_B m c t h0 h1]; frame_out; rw [read_unread_whole]

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem row_lt (t : Fin cfg0.N) (k : Fin 512) : t.val / 2 * 512 + k.val < 4096 := by have := Nat.lt_of_lt_of_eq t.isLt N_0; omega
theorem mid_lt (t : Fin cfg0.N) (k : Fin 1024) : t.val % 2 * 1024 + k.val < 2048 := by omega

theorem blk0 (c : Dev nD) (t : Fin cfg0.N) (i : Fin 512) (k : Fin 1024) :
    iblk m c 0 t (ix2 k i) = m ((c : Thread nD τ).loc main_arg0) (ix2 ⟨t.val % 2 * 1024 + k.val, mid_lt t k⟩ ⟨t.val / 2 * 512 + i.val, row_lt t i⟩) := by
  blk_ext! [iblk, V, idx t]
theorem blk1 (c : Dev nD) (t : Fin cfg0.N) (k : Fin 1024) (j : Fin 1024) :
    iblk m c 1 t (ix2 k j) = m ((c : Thread nD τ).loc main_arg1) (ix2 ⟨t.val % 2 * 1024 + k.val, mid_lt t k⟩ j) := by
  blk_ext! [iblk, V, idx t]

/-- After the last of the 2 steps the accumulator holds the whole inner product. -/
theorem acc_eq (c : Dev nD) (t : Fin cfg0.N) (h : t.val % 2 = 1) (i : Fin 512) (j : Fin 1024) :
    ((outsAt0 m c t.val t.isLt).2 (ix2 i j) : EReal)
      = dot (M := 4096) (K := 2048) (N := 1024) (m ((c : Thread nD τ).loc main_arg0)) (m ((c : Thread nD τ).loc main_arg1))
        ⟨t.val / 2 * 512 + i.val, row_lt t i⟩ j := by
  have hs := Pipeline.eq_sum_fin_of_reset_step_of_flush (fun n h => ((outsAt0 m c n h).2 (ix2 i j) : EReal)) 2 (0 : EReal)
    (fun t => dot (M := 512) (K := 1024) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 2) (n := 1024) (L := 2048) (fun s k hl => ?_) (by decide)
  have hr : (2 * (t.val / 2) + s.val) / 2 = t.val / 2 := by omega
  have hm : (2 * (t.val / 2) + s.val) % 2 = s.val := by omega
  refine congrArg₂ (fun a b : EReal => a * b) ((blk0 m c _ i k).trans ?_) ((blk1 m c _ k j).trans ?_)
  · exact congrArg _ (congrArg₂ ix2 (Fin.ext (by show _ % 2 * 1024 + _ = _; rw [hm])) (Fin.ext (by show _ / 2 * 512 + _ = _; rw [hr])))
  · exact congrArg _ (congrArg₂ ix2 (Fin.ext (by show _ % 2 * 1024 + _ = _; rw [hm])) (rfl))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, out_last m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 2 * 512 + i.val, row_lt t i⟩ j := by blk_ext [idx t]
  rw [he]
  exact acc_eq m c t h i j

end Cert.DownDwProd

namespace Cert.DownDwPlain

open Cert.DownDwReferenceIdeal Cert.DownDwReferenceIdeal.Gen
open Idealize.ShloMosaic
open Idealize.ShloMosaic.TcCoe
open Cert.DownDwProd (dot PROD)

theorem prod_eq (a : FVec Ideal S2048x4096 .bf16) (b : FVec Ideal S2048x1024 .bf16) :
    (Host.dotGeneral dot_S4096x2048_S2048x1024_S4096x1024_1_0_0_1_n_n none (transpose S4096x2048 [1, 0] (extf .f32 a bitsLt_bf16_f32) transposes_S2048x4096_S4096x2048_1_0) (extf .f32 b bitsLt_bf16_f32) : FVec Ideal S4096x1024 .f32) = PROD a b := by
  funext y
  obtain ⟨i, j, rfl⟩ : ∃ (i : Fin 4096) (j : Fin 1024), y = ix2 i j := ⟨y 0, y 1, by funext a; match a with | ⟨0, _⟩ => rfl | ⟨1, _⟩ => rfl⟩
  show _ = dot (M := 4096) (K := 2048) (N := 1024) a b i j
  pointwise [dot]

end Cert.DownDwPlain

end
-- ==== Proof.UpDwValue.lean ====
/- What the gradient of the up projection's weight comes to, element by element over the extended reals, and that the reference's product is the same. -/
module

public import proofs.«01_k».proof.Defs
public import proofs.«01_k».proof.Proof.Gen.UpDwIdeal.Value
public import proofs.«01_k».proof.Proof.Gen.UpDwReferenceIdeal.Run
public import Idealize.ShloMosaic.Lib.Pipeline.ValueKit
public import Idealize.ShloMosaic.Lib.Pipeline.ReadBack

@[expose] public section

set_option maxRecDepth 16384

noncomputable section

namespace Cert.UpDwProd

open Cert.UpDwIdeal Cert.UpDwIdeal.Gen
open Idealize.ShloMosaic
open Idealize.ShloMosaic.TcCoe
open Idealize.ShloMosaic.Pipeline (Dat Cfg Window)

/-- The inner product at row `i` and column `j`. -/
abbrev dot {M K N : ℕ} (a : (⟨2, ![K, M]⟩ : Shape).Idx → EReal) (b : (⟨2, ![K, N]⟩ : Shape).Idx → EReal) (i : Fin M) (j : Fin N) : EReal :=
  ∑ k : Fin K, a (ix2 k i) * b (ix2 k j)
/-- The product. -/
def PROD (a : (⟨2, ![2048, 1024]⟩ : Shape).Idx → EReal) (b : (⟨2, ![2048, 4096]⟩ : Shape).Idx → EReal) (i : (⟨2, ![1024, 4096]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S1024x512 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem acc_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  have h1 : t.val % 2 = 1 := by omega
  rw [outsAt0_B m c t h0 h1]; frame_out; rw [read_unread_whole]

theorem out_last (c : Dev nD) (t : Fin cfg0.N) (h0 : ¬t.val % 2 = 0) (h1 : t.val % 2 = 1) :
    (outsAt0 m c t.val t.isLt).1 = (outsAt0 m c t.val t.isLt).2 := by
  rw [acc_B m c t h0, outsAt0_B m c t h0 h1]; frame_out; rw [read_unread_whole]

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, _)

theorem row_lt (t : Fin cfg0.N) (k : Fin 512) : t.val / 8 * 512 + k.val < 1024 := by have := Nat.lt_of_lt_of_eq t.isLt N_0; omega
theorem col_lt (t : Fin cfg0.N) (k : Fin 1024) : t.val / 2 % 4 * 1024 + k.val < 4096 := by omega
theorem mid_lt (t : Fin cfg0.N) (k : Fin 1024) : t.val % 2 * 1024 + k.val < 2048 := by omega

theorem blk0 (c : Dev nD) (t : Fin cfg0.N) (i : Fin 512) (k : Fin 1024) :
    iblk m c 0 t (ix2 k i) = m ((c : Thread nD τ).loc main_arg0) (ix2 ⟨t.val % 2 * 1024 + k.val, mid_lt t k⟩ ⟨t.val / 8 * 512 + i.val, row_lt t i⟩) := by
  blk_ext! [iblk, V, idx t]
theorem blk1 (c : Dev nD) (t : Fin cfg0.N) (k : Fin 1024) (j : Fin 1024) :
    iblk m c 1 t (ix2 k j) = m ((c : Thread nD τ).loc main_arg1) (ix2 ⟨t.val % 2 * 1024 + k.val, mid_lt t k⟩ ⟨t.val / 2 % 4 * 1024 + j.val, col_lt t j⟩) := by
  blk_ext! [iblk, V, idx t]

/-- After the last of the 2 steps the accumulator holds the whole inner product. -/
theorem acc_eq (c : Dev nD) (t : Fin cfg0.N) (h : t.val % 2 = 1) (i : Fin 512) (j : Fin 1024) :
    ((outsAt0 m c t.val t.isLt).2 (ix2 i j) : EReal)
      = dot (M := 1024) (K := 2048) (N := 4096) (m ((c : Thread nD τ).loc main_arg0)) (m ((c : Thread nD τ).loc main_arg1))
        ⟨t.val / 8 * 512 + i.val, row_lt t i⟩ ⟨t.val / 2 % 4 * 1024 + j.val, col_lt t j⟩ := by
  have hs := Pipeline.eq_sum_fin_of_reset_step_of_flush (fun n h => ((outsAt0 m c n h).2 (ix2 i j) : EReal)) 2 (0 : EReal)
    (fun t => dot (M := 512) (K := 1024) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 2) (n := 1024) (L := 2048) (fun s k hl => ?_) (by decide)
  have hr : (2 * (t.val / 2) + s.val) / 8 = t.val / 8 := by omega
  have hc : (2 * (t.val / 2) + s.val) / 2 % 4 = t.val / 2 % 4 := by omega
  have hm : (2 * (t.val / 2) + s.val) % 2 = s.val := by omega
  refine congrArg₂ (fun a b : EReal => a * b) ((blk0 m c _ i k).trans ?_) ((blk1 m c _ k j).trans ?_)
  · exact congrArg _ (congrArg₂ ix2 (Fin.ext (by show _ % 2 * 1024 + _ = _; rw [hm])) (Fin.ext (by show _ / 8 * 512 + _ = _; rw [hr])))
  · exact congrArg _ (congrArg₂ ix2 (Fin.ext (by show _ % 2 * 1024 + _ = _; rw [hm])) (Fin.ext (by show _ / 2 % 4 * 1024 + _ = _; rw [hc])))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, out_last m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 8 * 512 + i.val, row_lt t i⟩ ⟨t.val / 2 % 4 * 1024 + j.val, col_lt t j⟩ := by blk_ext [idx t]
  rw [he]
  exact acc_eq m c t h i j

end Cert.UpDwProd

namespace Cert.UpDwPlain

open Cert.UpDwReferenceIdeal Cert.UpDwReferenceIdeal.Gen
open Idealize.ShloMosaic
open Idealize.ShloMosaic.TcCoe
open Cert.UpDwProd (dot PROD)

theorem prod_eq (a : FVec Ideal S2048x1024 .bf16) (b : FVec Ideal S2048x4096 .bf16) :
    (Host.dotGeneral dot_S1024x2048_S2048x4096_S1024x4096_1_0_0_1_n_n none (transpose S1024x2048 [1, 0] (extf .f32 a bitsLt_bf16_f32) transposes_S2048x1024_S1024x2048_1_0) (extf .f32 b bitsLt_bf16_f32) : FVec Ideal S1024x4096 .f32) = PROD a b := by
  funext y
  obtain ⟨i, j, rfl⟩ : ∃ (i : Fin 1024) (j : Fin 4096), y = ix2 i j := ⟨y 0, y 1, by funext a; match a with | ⟨0, _⟩ => rfl | ⟨1, _⟩ => rfl⟩
  show _ = dot (M := 1024) (K := 2048) (N := 4096) a b i j
  pointwise [dot]

end Cert.UpDwPlain

end
-- ==== Proof.UpDxValue.lean ====
/- What the gradient in front of the up projection comes to, element by element over the extended reals, and that the reference's product is the same. -/
module

public import proofs.«01_k».proof.Defs
public import proofs.«01_k».proof.Proof.Gen.UpDxIdeal.Value
public import proofs.«01_k».proof.Proof.Gen.UpDxReferenceIdeal.Run
public import Idealize.ShloMosaic.Lib.Pipeline.ValueKit
public import Idealize.ShloMosaic.Lib.Pipeline.ReadBack

@[expose] public section

set_option maxRecDepth 16384

noncomputable section

namespace Cert.UpDxProd

open Cert.UpDxIdeal Cert.UpDxIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![N, K]⟩ : Shape).Idx → EReal) (i : Fin M) (j : Fin N) : EReal :=
  ∑ k : Fin K, a (ix2 i k) * b (ix2 j k)
/-- The product. -/
def PROD (a : (⟨2, ![2048, 4096]⟩ : Shape).Idx → EReal) (b : (⟨2, ![1024, 4096]⟩ : Shape).Idx → EReal) (i : (⟨2, ![2048, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1024 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem acc_A (c : Dev nD) (t : Fin cfg0.N) (h0 : t.val % 4 = 0) (h1 : ¬t.val % 4 = 3) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out; rw [read_unread_whole]
  · rw [outsAt0_B m c t h0 h1]; frame_out; rw [read_unread_whole]

theorem out_last (c : Dev nD) (t : Fin cfg0.N) (h0 : ¬t.val % 4 = 0) (h1 : t.val % 4 = 3) :
    (outsAt0 m c t.val t.isLt).1 = (outsAt0 m c t.val t.isLt).2 := by
  rw [acc_B m c t h0, outsAt0_C m c t h0 h1]; frame_out; rw [read_unread_whole]

theorem idx : ∀ t : Fin cfg0.N, win0_0.index t = ![t.val / 4, t.val % 4] ∧ win0_1.index t = ![0, t.val % 4] ∧ win0_2.index t = ![t.val / 4, 0] :=
  (by decide +kernel : ∀ t : Fin grid0.N, _)

theorem row_lt (t : Fin cfg0.N) (k : Fin 512) : t.val / 4 * 512 + k.val < 2048 := by have := Nat.lt_of_lt_of_eq t.isLt N_0; omega
theorem mid_lt (t : Fin cfg0.N) (k : Fin 1024) : t.val % 4 * 1024 + k.val < 4096 := by omega

theorem blk0 (c : Dev nD) (t : Fin cfg0.N) (i : Fin 512) (k : Fin 1024) :
    iblk m c 0 t (ix2 i k) = m ((c : Thread nD τ).loc main_arg0) (ix2 ⟨t.val / 4 * 512 + i.val, row_lt t i⟩ ⟨t.val % 4 * 1024 + k.val, mid_lt t k⟩) := by
  blk_ext! [iblk, V, idx t]
theorem blk1 (c : Dev nD) (t : Fin cfg0.N) (k : Fin 1024) (j : Fin 1024) :
    iblk m c 1 t (ix2 j k) = m ((c : Thread nD τ).loc main_arg1) (ix2 j ⟨t.val % 4 * 1024 + k.val, mid_lt t k⟩) := by
  blk_ext! [iblk, V, idx t]

/-- After the last of the 4 steps the accumulator holds the whole inner product. -/
theorem acc_eq (c : Dev nD) (t : Fin cfg0.N) (h : t.val % 4 = 3) (i : Fin 512) (j : Fin 1024) :
    ((outsAt0 m c t.val t.isLt).2 (ix2 i j) : EReal)
      = dot (M := 2048) (K := 4096) (N := 1024) (m ((c : Thread nD τ).loc main_arg0)) (m ((c : Thread nD τ).loc main_arg1))
        ⟨t.val / 4 * 512 + i.val, row_lt t i⟩ j := by
  have hs := Pipeline.eq_sum_fin_of_reset_step_of_flush (fun n h => ((outsAt0 m c n h).2 (ix2 i j) : EReal)) 4 (0 : EReal)
    (fun t => dot (M := 512) (K := 1024) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 4) (n := 1024) (L := 4096) (fun s k hl => ?_) (by decide)
  have hr : (4 * (t.val / 4) + s.val) / 4 = t.val / 4 := by omega
  have hm : (4 * (t.val / 4) + s.val) % 4 = s.val := by omega
  refine congrArg₂ (fun a b : EReal => a * b) ((blk0 m c _ i k).trans ?_) ((blk1 m c _ k j).trans ?_)
  · exact congrArg _ (congrArg₂ ix2 (Fin.ext (by show _ / 4 * 512 + _ = _; rw [hr])) (Fin.ext (by show _ % 4 * 1024 + _ = _; rw [hm])))
  · exact congrArg _ (congrArg₂ ix2 (rfl) (Fin.ext (by show _ % 4 * 1024 + _ = _; rw [hm])))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  blk_simp
  rw [after0_2, out_last m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 4 * 512 + i.val, row_lt t i⟩ j := by blk_ext [idx t]
  rw [he]
  exact acc_eq m c t h i j

end Cert.UpDxProd

namespace Cert.UpDxPlain

open Cert.UpDxReferenceIdeal Cert.UpDxReferenceIdeal.Gen
open Idealize.ShloMosaic
open Idealize.ShloMosaic.TcCoe
open Cert.UpDxProd (dot PROD)

theorem prod_eq (a : FVec Ideal S2048x4096 .bf16) (b : FVec Ideal S1024x4096 .bf16) :
    (Host.dotGeneral dot_S2048x4096_S4096x1024_S2048x1024_1_0_0_1_n_n none (extf .f32 a bitsLt_bf16_f32) (transpose S4096x1024 [1, 0] (extf .f32 b bitsLt_bf16_f32) transposes_S1024x4096_S4096x1024_1_0) : FVec Ideal S2048x1024 .f32) = PROD a b := by
  funext y
  obtain ⟨i, j, rfl⟩ : ∃ (i : Fin 2048) (j : Fin 1024), y = ix2 i j := ⟨y 0, y 1, by funext a; match a with | ⟨0, _⟩ => rfl | ⟨1, _⟩ => rfl⟩
  show _ = dot (M := 2048) (K := 4096) (N := 1024) a b i j
  pointwise [dot]

end Cert.UpDxPlain

end
-- ==== Proof.OutValue.lean ====
/- What the output projection comes to, element by element over the extended reals, and that the reference's product is the same. -/
module

public import proofs.«01_k».proof.Defs
public import proofs.«01_k».proof.Proof.Gen.OutIdeal.Value
public import proofs.«01_k».proof.Proof.Gen.OutReferenceIdeal.Run
public import Idealize.ShloMosaic.Lib.Pipeline.ValueKit
public import Idealize.ShloMosaic.Lib.Pipeline.ReadBack

@[expose] public section

set_option maxRecDepth 16384

noncomputable section

namespace Cert.OutProd

open Cert.OutIdeal Cert.OutIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![K, N]⟩ : Shape).Idx → EReal) (i : Fin M) (j : Fin N) : EReal :=
  ∑ k : Fin K, a (ix2 i k) * b (ix2 k j)
/-- The product on top of the rows it is added to. -/
def PROD (a : (⟨2, ![2048, 1024]⟩ : Shape).Idx → EReal) (b : (⟨2, ![1024, 1024]⟩ : Shape).Idx → EReal) (x : (⟨2, ![2048, 1024]⟩ : Shape).Idx → EReal) (i : (⟨2, ![2048, 1024]⟩ : Shape).Idx) : EReal :=
  x i + dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1024 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

theorem pay3_apply (u x : FVec Ideal S512x1024 .f32) (i : Fin 512) (j : Fin 1024) :
    (k0_pay3 (F := Ideal) u x (ix2 i j) : EReal) = (u (ix2 i j) : EReal) + x (ix2 i j) := by
  pointwise [k0_pay3]

variable (m : (ℓ : Loc nD τ sig) → Buf (Elt Ideal) ℓ)

theorem outs (c : Dev nD) (t : Fin cfg0.N) : outsAt0 m c t = k0_pay3 (k0_pay2 (k0_pay1 (F := Ideal)) (iblk m c 0 t) (iblk m c 1 t)) (iblk m c 2 t) := by
  unfold outsAt0; frame_out

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem row_lt (t : Fin cfg0.N) (k : Fin 512) : t.val * 512 + k.val < 2048 := by have := Nat.lt_of_lt_of_eq t.isLt N_0; omega

theorem blk0 (c : Dev nD) (t : Fin cfg0.N) (i : Fin 512) (k : Fin 1024) :
    iblk m c 0 t (ix2 i k) = m ((c : Thread nD τ).loc main_arg0) (ix2 ⟨t.val * 512 + i.val, row_lt t i⟩ k) := by
  blk_ext! [iblk, V, idx t]
theorem blk1 (c : Dev nD) (t : Fin cfg0.N) (k : Fin 1024) (j : Fin 1024) :
    iblk m c 1 t (ix2 k j) = m ((c : Thread nD τ).loc main_arg1) (ix2 k j) := by
  blk_ext! [iblk, V, idx t]
theorem blk2 (c : Dev nD) (t : Fin cfg0.N) (i : Fin 512) (j : Fin 1024) :
    iblk m c 2 t (ix2 i j) = m ((c : Thread nD τ).loc main_arg2) (ix2 ⟨t.val * 512 + i.val, row_lt t i⟩ j) := by
  blk_ext! [iblk, V, idx t]

theorem dot_blk (c : Dev nD) (t : Fin cfg0.N) (i : Fin 512) (j : Fin 1024) :
    (k0_pay2 (F := Ideal) (k0_pay1 (F := Ideal)) (iblk m c 0 t) (iblk m c 1 t) (ix2 i j) : EReal) = dot (M := 2048) (K := 1024) (N := 1024) (m ((c : Thread nD τ).loc main_arg0)) (m ((c : Thread nD τ).loc main_arg1))
        ⟨t.val * 512 + i.val, row_lt t i⟩ j := by
  refine (pay2_apply _ _ _ _ _).trans ?_
  refine (congrArg (fun a : EReal => a + dot (M := 512) (K := 1024) (N := 1024) (iblk m c 0 t) (iblk m c 1 t) i j) (pay1_apply i j)).trans ?_
  rw [zero_add]
  exact Finset.sum_congr rfl fun k _ => congrArg₂ (fun a b : EReal => a * b) (blk0 m c t i k) (blk1 m c t k j)

theorem arr3 (c : Dev nD) : (dats m 0 c).arrAt 3 cfg0.N = PROD (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outs]
  obtain ⟨i, j, rfl⟩ : ∃ (i : Fin 512) (j : Fin 1024), y = ix2 i j := ⟨y 0, y 1, by funext a; match a with | ⟨0, _⟩ => rfl | ⟨1, _⟩ => rfl⟩
  have he : (win0_3.blk t).view.emb (ix2 i j) = ix2 ⟨t.val * 512 + i.val, row_lt t i⟩ j := by blk_ext [idx t]
  rw [he]
  refine (pay3_apply _ _ i j).trans ?_
  refine (congrArg₂ (fun a b : EReal => a + b) (dot_blk m c t i j) (blk2 m c t i j)).trans ?_
  exact add_comm (G := EReal) _ _

end Cert.OutProd

namespace Cert.OutPlain

open Cert.OutReferenceIdeal Cert.OutReferenceIdeal.Gen
open Idealize.ShloMosaic
open Idealize.ShloMosaic.TcCoe
open Cert.OutProd (dot PROD)

theorem prod_eq (a : FVec Ideal S2048x1024 .bf16) (b : FVec Ideal S1024x1024 .bf16) (x : FVec Ideal S2048x1024 .f32) :
    addf x (Host.dotGeneral dot_S2048x1024_S1024x1024_S2048x1024_1_0_0_1_n_n none (extf .f32 a bitsLt_bf16_f32) (extf .f32 b bitsLt_bf16_f32)) = PROD a b x := by
  funext y
  obtain ⟨i, j, rfl⟩ : ∃ (i : Fin 2048) (j : Fin 1024), y = ix2 i j := ⟨y 0, y 1, by funext a; match a with | ⟨0, _⟩ => rfl | ⟨1, _⟩ => rfl⟩
  show _ = (x (ix2 i j) : EReal) + dot (M := 2048) (K := 1024) (N := 1024) a b i j
  pointwise [dot]

end Cert.OutPlain

end
-- ==== Proof.OutDxValue.lean ====
/- What the gradient in front of the output projection comes to, element by element over the extended reals, and that the reference's product is the same. -/
module

public import proofs.«01_k».proof.Defs
public import proofs.«01_k».proof.Proof.Gen.OutDxIdeal.Value
public import proofs.«01_k».proof.Proof.Gen.OutDxReferenceIdeal.Run
public import Idealize.ShloMosaic.Lib.Pipeline.ValueKit
public import Idealize.ShloMosaic.Lib.Pipeline.ReadBack

@[expose] public section

set_option maxRecDepth 16384

noncomputable section

namespace Cert.OutDxProd

open Cert.OutDxIdeal Cert.OutDxIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![N, K]⟩ : Shape).Idx → EReal) (i : Fin M) (j : Fin N) : EReal :=
  ∑ k : Fin K, a (ix2 i k) * b (ix2 j k)
/-- The product. -/
def PROD (a : (⟨2, ![2048, 1024]⟩ : Shape).Idx → EReal) (b : (⟨2, ![1024, 1024]⟩ : Shape).Idx → EReal) (i : (⟨2, ![2048, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1024 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem outs (c : Dev nD) (t : Fin cfg0.N) : outsAt0 m c t = k0_pay2 (k0_pay1 (F := Ideal)) (iblk m c 0 t) (iblk m c 1 t) := by
  unfold outsAt0; frame_out

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (k : Fin 512) : t.val * 512 + k.val < 2048 := by have := Nat.lt_of_lt_of_eq t.isLt N_0; omega

theorem blk0 (c : Dev nD) (t : Fin cfg0.N) (i : Fin 512) (k : Fin 1024) :
    iblk m c 0 t (ix2 i k) = m ((c : Thread nD τ).loc main_arg0) (ix2 ⟨t.val * 512 + i.val, row_lt t i⟩ k) := by
  blk_ext! [iblk, V, idx t]
theorem blk1 (c : Dev nD) (t : Fin cfg0.N) (k : Fin 1024) (j : Fin 1024) :
    iblk m c 1 t (ix2 j k) = m ((c : Thread nD τ).loc main_arg1) (ix2 j k) := by
  blk_ext! [iblk, V, idx t]

theorem dot_blk (c : Dev nD) (t : Fin cfg0.N) (i : Fin 512) (j : Fin 1024) :
    (k0_pay2 (F := Ideal) (k0_pay1 (F := Ideal)) (iblk m c 0 t) (iblk m c 1 t) (ix2 i j) : EReal) = dot (M := 2048) (K := 1024) (N := 1024) (m ((c : Thread nD τ).loc main_arg0)) (m ((c : Thread nD τ).loc main_arg1))
        ⟨t.val * 512 + i.val, row_lt t i⟩ j := by
  refine (pay2_apply _ _ _ _ _).trans ?_
  refine (congrArg (fun a : EReal => a + dot (M := 512) (K := 1024) (N := 1024) (iblk m c 0 t) (iblk m c 1 t) i j) (pay1_apply i j)).trans ?_
  rw [zero_add]
  exact Finset.sum_congr rfl fun k _ => congrArg₂ (fun a b : EReal => a * b) (blk0 m c t i k) (blk1 m c t k j)

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2, outs]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val * 512 + i.val, row_lt t i⟩ j := by blk_ext [idx t]
  rw [he]
  exact dot_blk m c t i j

end Cert.OutDxProd

namespace Cert.OutDxPlain

open Cert.OutDxReferenceIdeal Cert.OutDxReferenceIdeal.Gen
open Idealize.ShloMosaic
open Idealize.ShloMosaic.TcCoe
open Cert.OutDxProd (dot PROD)

theorem prod_eq (a : FVec Ideal S2048x1024 .bf16) (b : FVec Ideal S1024x1024 .bf16) :
    (Host.dotGeneral dot_S2048x1024_S1024x1024_S2048x1024_1_0_0_1_n_n none (extf .f32 a bitsLt_bf16_f32) (transpose S1024x1024 [1, 0] (extf .f32 b bitsLt_bf16_f32) transposes_S1024x1024_S1024x1024_1_0) : FVec Ideal S2048x1024 .f32) = PROD a b := by
  funext y
  obtain ⟨i, j, rfl⟩ : ∃ (i : Fin 2048) (j : Fin 1024), y = ix2 i j := ⟨y 0, y 1, by funext a; match a with | ⟨0, _⟩ => rfl | ⟨1, _⟩ => rfl⟩
  show _ = dot (M := 2048) (K := 1024) (N := 1024) a b i j
  pointwise [dot]

end Cert.OutDxPlain

end
-- ==== Proof.OutDwValue.lean ====
/- What the gradient of the output projection's weight comes to, element by element over the extended reals, and that the reference's product is the same. -/
module

public import proofs.«01_k».proof.Defs
public import proofs.«01_k».proof.Proof.Gen.OutDwIdeal.Value
public import proofs.«01_k».proof.Proof.Gen.OutDwReferenceIdeal.Run
public import Idealize.ShloMosaic.Lib.Pipeline.ValueKit
public import Idealize.ShloMosaic.Lib.Pipeline.ReadBack

@[expose] public section

set_option maxRecDepth 16384

noncomputable section

namespace Cert.OutDwProd

open Cert.OutDwIdeal Cert.OutDwIdeal.Gen
open Idealize.ShloMosaic
open Idealize.ShloMosaic.TcCoe
open Idealize.ShloMosaic.Pipeline (Dat Cfg Window)

/-- The inner product at row `i` and column `j`. -/
abbrev dot {M K N : ℕ} (a : (⟨2, ![K, M]⟩ : Shape).Idx → EReal) (b : (⟨2, ![K, N]⟩ : Shape).Idx → EReal) (i : Fin M) (j : Fin N) : EReal :=
  ∑ k : Fin K, a (ix2 k i) * b (ix2 k j)
/-- The product. -/
def PROD (a : (⟨2, ![2048, 1024]⟩ : Shape).Idx → EReal) (b : (⟨2, ![2048, 1024]⟩ : Shape).Idx → EReal) (i : (⟨2, ![1024, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S1024x512 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem acc_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  have h1 : t.val % 2 = 1 := by omega
  rw [outsAt0_B m c t h0 h1]; frame_out; rw [read_unread_whole]

theorem out_last (c : Dev nD) (t : Fin cfg0.N) (h0 : ¬t.val % 2 = 0) (h1 : t.val % 2 = 1) :
    (outsAt0 m c t.val t.isLt).1 = (outsAt0 m c t.val t.isLt).2 := by
  rw [acc_B m c t h0, outsAt0_B m c t h0 h1]; frame_out; rw [read_unread_whole]

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem row_lt (t : Fin cfg0.N) (k : Fin 512) : t.val / 2 * 512 + k.val < 1024 := by have := Nat.lt_of_lt_of_eq t.isLt N_0; omega
theorem mid_lt (t : Fin cfg0.N) (k : Fin 1024) : t.val % 2 * 1024 + k.val < 2048 := by omega

theorem blk0 (c : Dev nD) (t : Fin cfg0.N) (i : Fin 512) (k : Fin 1024) :
    iblk m c 0 t (ix2 k i) = m ((c : Thread nD τ).loc main_arg0) (ix2 ⟨t.val % 2 * 1024 + k.val, mid_lt t k⟩ ⟨t.val / 2 * 512 + i.val, row_lt t i⟩) := by
  blk_ext! [iblk, V, idx t]
theorem blk1 (c : Dev nD) (t : Fin cfg0.N) (k : Fin 1024) (j : Fin 1024) :
    iblk m c 1 t (ix2 k j) = m ((c : Thread nD τ).loc main_arg1) (ix2 ⟨t.val % 2 * 1024 + k.val, mid_lt t k⟩ j) := by
  blk_ext! [iblk, V, idx t]

/-- After the last of the 2 steps the accumulator holds the whole inner product. -/
theorem acc_eq (c : Dev nD) (t : Fin cfg0.N) (h : t.val % 2 = 1) (i : Fin 512) (j : Fin 1024) :
    ((outsAt0 m c t.val t.isLt).2 (ix2 i j) : EReal)
      = dot (M := 1024) (K := 2048) (N := 1024) (m ((c : Thread nD τ).loc main_arg0)) (m ((c : Thread nD τ).loc main_arg1))
        ⟨t.val / 2 * 512 + i.val, row_lt t i⟩ j := by
  have hs := Pipeline.eq_sum_fin_of_reset_step_of_flush (fun n h => ((outsAt0 m c n h).2 (ix2 i j) : EReal)) 2 (0 : EReal)
    (fun t => dot (M := 512) (K := 1024) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 2) (n := 1024) (L := 2048) (fun s k hl => ?_) (by decide)
  have hr : (2 * (t.val / 2) + s.val) / 2 = t.val / 2 := by omega
  have hm : (2 * (t.val / 2) + s.val) % 2 = s.val := by omega
  refine congrArg₂ (fun a b : EReal => a * b) ((blk0 m c _ i k).trans ?_) ((blk1 m c _ k j).trans ?_)
  · exact congrArg _ (congrArg₂ ix2 (Fin.ext (by show _ % 2 * 1024 + _ = _; rw [hm])) (Fin.ext (by show _ / 2 * 512 + _ = _; rw [hr])))
  · exact congrArg _ (congrArg₂ ix2 (Fin.ext (by show _ % 2 * 1024 + _ = _; rw [hm])) (rfl))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, out_last m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 2 * 512 + i.val, row_lt t i⟩ j := by blk_ext [idx t]
  rw [he]
  exact acc_eq m c t h i j

end Cert.OutDwProd

namespace Cert.OutDwPlain

open Cert.OutDwReferenceIdeal Cert.OutDwReferenceIdeal.Gen
open Idealize.ShloMosaic
open Idealize.ShloMosaic.TcCoe
open Cert.OutDwProd (dot PROD)

theorem prod_eq (a : FVec Ideal S2048x1024 .bf16) (b : FVec Ideal S2048x1024 .bf16) :
    (Host.dotGeneral dot_S1024x2048_S2048x1024_S1024x1024_1_0_0_1_n_n none (transpose S1024x2048 [1, 0] (extf .f32 a bitsLt_bf16_f32) transposes_S2048x1024_S1024x2048_1_0) (extf .f32 b bitsLt_bf16_f32) : FVec Ideal S1024x1024 .f32) = PROD a b := by
  funext y
  obtain ⟨i, j, rfl⟩ : ∃ (i : Fin 1024) (j : Fin 1024), y = ix2 i j := ⟨y 0, y 1, by funext a; match a with | ⟨0, _⟩ => rfl | ⟨1, _⟩ => rfl⟩
  show _ = dot (M := 1024) (K := 2048) (N := 1024) a b i j
  pointwise [dot]

end Cert.OutDwPlain

end
-- ==== Proof.BranchValue.lean ====
/- What a branch's projection comes to, element by element over the extended reals, and that the reference's product is the same. -/
module

public import proofs.«01_k».proof.Defs
public import proofs.«01_k».proof.Proof.Gen.BranchIdeal.Value
public import proofs.«01_k».proof.Proof.Gen.BranchReferenceIdeal.Run
public import Idealize.ShloMosaic.Lib.Pipeline.ValueKit
public import Idealize.ShloMosaic.Lib.Pipeline.ReadBack

@[expose] public section

set_option maxRecDepth 16384

noncomputable section

namespace Cert.BranchProd

open Cert.BranchIdeal Cert.BranchIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![K, N]⟩ : Shape).Idx → EReal) (i : Fin M) (j : Fin N) : EReal :=
  ∑ k : Fin K, a (ix2 i k) * b (ix2 k j)
/-- The product. -/
def PROD (a : (⟨2, ![2048, 1024]⟩ : Shape).Idx → EReal) (b : (⟨2, ![1024, 1024]⟩ : Shape).Idx → EReal) (i : (⟨2, ![2048, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1024 .bf16) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem outs (c : Dev nD) (t : Fin cfg0.N) : outsAt0 m c t = k0_pay2 (k0_pay1 (F := Ideal)) (iblk m c 0 t) (iblk m c 1 t) := by
  unfold outsAt0; frame_out

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (k : Fin 512) : t.val * 512 + k.val < 2048 := by have := Nat.lt_of_lt_of_eq t.isLt N_0; omega

theorem blk0 (c : Dev nD) (t : Fin cfg0.N) (i : Fin 512) (k : Fin 1024) :
    iblk m c 0 t (ix2 i k) = m ((c : Thread nD τ).loc main_arg0) (ix2 ⟨t.val * 512 + i.val, row_lt t i⟩ k) := by
  blk_ext! [iblk, V, idx t]
theorem blk1 (c : Dev nD) (t : Fin cfg0.N) (k : Fin 1024) (j : Fin 1024) :
    iblk m c 1 t (ix2 k j) = m ((c : Thread nD τ).loc main_arg1) (ix2 k j) := by
  blk_ext! [iblk, V, idx t]

theorem dot_blk (c : Dev nD) (t : Fin cfg0.N) (i : Fin 512) (j : Fin 1024) :
    (k0_pay2 (F := Ideal) (k0_pay1 (F := Ideal)) (iblk m c 0 t) (iblk m c 1 t) (ix2 i j) : EReal) = dot (M := 2048) (K := 1024) (N := 1024) (m ((c : Thread nD τ).loc main_arg0)) (m ((c : Thread nD τ).loc main_arg1))
        ⟨t.val * 512 + i.val, row_lt t i⟩ j := by
  refine (pay2_apply _ _ _ _ _).trans ?_
  refine (congrArg (fun a : EReal => a + dot (M := 512) (K := 1024) (N := 1024) (iblk m c 0 t) (iblk m c 1 t) i j) (pay1_apply i j)).trans ?_
  rw [zero_add]
  exact Finset.sum_congr rfl fun k _ => congrArg₂ (fun a b : EReal => a * b) (blk0 m c t i k) (blk1 m c t k j)

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2, outs]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val * 512 + i.val, row_lt t i⟩ j := by blk_ext [idx t]
  rw [he]
  exact dot_blk m c t i j

end Cert.BranchProd

namespace Cert.BranchPlain

open Cert.BranchReferenceIdeal Cert.BranchReferenceIdeal.Gen
open Idealize.ShloMosaic
open Idealize.ShloMosaic.TcCoe
open Cert.BranchProd (dot PROD)

theorem prod_eq (a : FVec Ideal S2048x1024 .bf16) (b : FVec Ideal S1024x1024 .bf16) :
    (Host.dotGeneral dot_S2048x1024_S1024x1024_S2048x1024_1_0_0_1_n_n none (extf .f32 a bitsLt_bf16_f32) (extf .f32 b bitsLt_bf16_f32) : FVec Ideal S2048x1024 .f32) = PROD a b := by
  funext y
  obtain ⟨i, j, rfl⟩ : ∃ (i : Fin 2048) (j : Fin 1024), y = ix2 i j := ⟨y 0, y 1, by funext a; match a with | ⟨0, _⟩ => rfl | ⟨1, _⟩ => rfl⟩
  show _ = dot (M := 2048) (K := 1024) (N := 1024) a b i j
  pointwise [dot]

end Cert.BranchPlain

end
-- ==== Proof.BranchSbValue.lean ====
/- What the attention branch's projection comes to, element by element over the extended reals, and that the reference's product is the same. -/
module

public import proofs.«01_k».proof.Defs
public import proofs.«01_k».proof.Proof.Gen.BranchSbIdeal.Value
public import proofs.«01_k».proof.Proof.Gen.BranchSbReferenceIdeal.Run
public import Idealize.ShloMosaic.Lib.Pipeline.ValueKit
public import Idealize.ShloMosaic.Lib.Pipeline.ReadBack

@[expose] public section

set_option maxRecDepth 16384

noncomputable section

namespace Cert.BranchSbProd

open Cert.BranchSbIdeal Cert.BranchSbIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![K, N]⟩ : Shape).Idx → EReal) (i : Fin M) (j : Fin N) : EReal :=
  ∑ k : Fin K, a (ix2 i k) * b (ix2 k j)
/-- The product. -/
def PROD (a : (⟨2, ![2048, 1024]⟩ : Shape).Idx → EReal) (b : (⟨2, ![1024, 1024]⟩ : Shape).Idx → EReal) (i : (⟨2, ![2048, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1024 .f32) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem outs (c : Dev nD) (t : Fin cfg0.N) : outsAt0 m c t = k0_pay2 (k0_pay1 (F := Ideal)) (iblk m c 0 t) (iblk m c 1 t) := by
  unfold outsAt0; frame_out

theorem idx : ∀ t : Fin cfg0.N, win0_0.index t = ![t.val, 0] ∧ win0_1.index t = ![0, 0] ∧ win0_2.index t = ![t.val, 0] :=
  (by decide +kernel : ∀ t : Fin grid0.N, _)

theorem row_lt (t : Fin cfg0.N) (k : Fin 512) : t.val * 512 + k.val < 2048 := by have := Nat.lt_of_lt_of_eq t.isLt N_0; omega

theorem blk0 (c : Dev nD) (t : Fin cfg0.N) (i : Fin 512) (k : Fin 1024) :
    iblk m c 0 t (ix2 i k) = m ((c : Thread nD τ).loc main_arg0) (ix2 ⟨t.val * 512 + i.val, row_lt t i⟩ k) := by
  blk_ext! [iblk, V, idx t]
theorem blk1 (c : Dev nD) (t : Fin cfg0.N) (k : Fin 1024) (j : Fin 1024) :
    iblk m c 1 t (ix2 k j) = m ((c : Thread nD τ).loc main_arg1) (ix2 k j) := by
  blk_ext! [iblk, V, idx t]

theorem dot_blk (c : Dev nD) (t : Fin cfg0.N) (i : Fin 512) (j : Fin 1024) :
    (k0_pay2 (F := Ideal) (k0_pay1 (F := Ideal)) (iblk m c 0 t) (iblk m c 1 t) (ix2 i j) : EReal) = dot (M := 2048) (K := 1024) (N := 1024) (m ((c : Thread nD τ).loc main_arg0)) (m ((c : Thread nD τ).loc main_arg1))
        ⟨t.val * 512 + i.val, row_lt t i⟩ j := by
  refine (pay2_apply _ _ _ _ _).trans ?_
  refine (congrArg (fun a : EReal => a + dot (M := 512) (K := 1024) (N := 1024) (iblk m c 0 t) (iblk m c 1 t) i j) (pay1_apply i j)).trans ?_
  rw [zero_add]
  exact Finset.sum_congr rfl fun k _ => congrArg₂ (fun a b : EReal => a * b) (blk0 m c t i k) (blk1 m c t k j)

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2, outs]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val * 512 + i.val, row_lt t i⟩ j := by blk_ext [idx t]
  rw [he]
  exact dot_blk m c t i j

end Cert.BranchSbProd

namespace Cert.BranchSbPlain

open Cert.BranchSbReferenceIdeal Cert.BranchSbReferenceIdeal.Gen
open Idealize.ShloMosaic
open Idealize.ShloMosaic.TcCoe
open Cert.BranchSbProd (dot PROD)

theorem prod_eq (a : FVec Ideal S2048x1024 .f32) (b : FVec Ideal S1024x1024 .bf16) :
    (Host.dotGeneral dot_S2048x1024_S1024x1024_S2048x1024_1_0_0_1_n_n none a (extf .f32 b bitsLt_bf16_f32) : FVec Ideal S2048x1024 .f32) = PROD a b := by
  funext y
  obtain ⟨i, j, rfl⟩ : ∃ (i : Fin 2048) (j : Fin 1024), y = ix2 i j := ⟨y 0, y 1, by funext a; match a with | ⟨0, _⟩ => rfl | ⟨1, _⟩ => rfl⟩
  show _ = dot (M := 2048) (K := 1024) (N := 1024) a b i j
  pointwise [dot]

end Cert.BranchSbPlain

end
-- ==== Proof.BranchSbDwValue.lean ====
/- What the gradient of the attention branch's weight comes to, element by element over the extended reals, and that the reference's product is the same. -/
module

public import proofs.«01_k».proof.Defs
public import proofs.«01_k».proof.Proof.Gen.BranchSbDwIdeal.Value
public import proofs.«01_k».proof.Proof.Gen.BranchSbDwReferenceIdeal.Run
public import Idealize.ShloMosaic.Lib.Pipeline.ValueKit
public import Idealize.ShloMosaic.Lib.Pipeline.ReadBack

@[expose] public section

set_option maxRecDepth 16384

noncomputable section

namespace Cert.BranchSbDwProd

open Cert.BranchSbDwIdeal Cert.BranchSbDwIdeal.Gen
open Idealize.ShloMosaic
open Idealize.ShloMosaic.TcCoe
open Idealize.ShloMosaic.Pipeline (Dat Cfg Window)

/-- The inner product at row `i` and column `j`. -/
abbrev dot {M K N : ℕ} (a : (⟨2, ![K, M]⟩ : Shape).Idx → EReal) (b : (⟨2, ![K, N]⟩ : Shape).Idx → EReal) (i : Fin M) (j : Fin N) : EReal :=
  ∑ k : Fin K, a (ix2 k i) * b (ix2 k j)
/-- The product. -/
def PROD (a : (⟨2, ![2048, 1024]⟩ : Shape).Idx → EReal) (b : (⟨2, ![2048, 1024]⟩ : Shape).Idx → EReal) (i : (⟨2, ![1024, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S1024x512 .f32) (b : FVec Ideal S1024x1024 .bf16) (i : Fin 512) (j : Fin 1024) :
    (k0_pay2 (F := Ideal) acc a b (ix2 i j) : EReal) = (acc (ix2 i j) : EReal) + dot (M := 512) (K := 1024) (N := 1024) a b i j := by
  pointwise [k0_pay2, dot]

variable (m : (ℓ : Loc nD τ sig) → Buf (Elt Ideal) ℓ)

theorem acc_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  have h1 : t.val % 2 = 1 := by omega
  rw [outsAt0_B m c t h0 h1]; frame_out; rw [read_unread_whole]

theorem out_last (c : Dev nD) (t : Fin cfg0.N) (h0 : ¬t.val % 2 = 0) (h1 : t.val % 2 = 1) :
    (outsAt0 m c t.val t.isLt).1 = (outsAt0 m c t.val t.isLt).2 := by
  rw [acc_B m c t h0, outsAt0_B m c t h0 h1]; frame_out; rw [read_unread_whole]

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem row_lt (t : Fin cfg0.N) (k : Fin 512) : t.val / 2 * 512 + k.val < 1024 := by have := Nat.lt_of_lt_of_eq t.isLt N_0; omega
theorem mid_lt (t : Fin cfg0.N) (k : Fin 1024) : t.val % 2 * 1024 + k.val < 2048 := by omega

theorem blk0 (c : Dev nD) (t : Fin cfg0.N) (i : Fin 512) (k : Fin 1024) :
    iblk m c 0 t (ix2 k i) = m ((c : Thread nD τ).loc main_arg0) (ix2 ⟨t.val % 2 * 1024 + k.val, mid_lt t k⟩ ⟨t.val / 2 * 512 + i.val, row_lt t i⟩) := by
  blk_ext! [iblk, V, idx t]
theorem blk1 (c : Dev nD) (t : Fin cfg0.N) (k : Fin 1024) (j : Fin 1024) :
    iblk m c 1 t (ix2 k j) = m ((c : Thread nD τ).loc main_arg1) (ix2 ⟨t.val % 2 * 1024 + k.val, mid_lt t k⟩ j) := by
  blk_ext! [iblk, V, idx t]

/-- After the last of the 2 steps the accumulator holds the whole inner product. -/
theorem acc_eq (c : Dev nD) (t : Fin cfg0.N) (h : t.val % 2 = 1) (i : Fin 512) (j : Fin 1024) :
    ((outsAt0 m c t.val t.isLt).2 (ix2 i j) : EReal)
      = dot (M := 1024) (K := 2048) (N := 1024) (m ((c : Thread nD τ).loc main_arg0)) (m ((c : Thread nD τ).loc main_arg1))
        ⟨t.val / 2 * 512 + i.val, row_lt t i⟩ j := by
  have hs := Pipeline.eq_sum_fin_of_reset_step_of_flush (fun n h => ((outsAt0 m c n h).2 (ix2 i j) : EReal)) 2 (0 : EReal)
    (fun t => dot (M := 512) (K := 1024) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 2) (n := 1024) (L := 2048) (fun s k hl => ?_) (by decide)
  have hr : (2 * (t.val / 2) + s.val) / 2 = t.val / 2 := by omega
  have hm : (2 * (t.val / 2) + s.val) % 2 = s.val := by omega
  refine congrArg₂ (fun a b : EReal => a * b) ((blk0 m c _ i k).trans ?_) ((blk1 m c _ k j).trans ?_)
  · exact congrArg _ (congrArg₂ ix2 (Fin.ext (by show _ % 2 * 1024 + _ = _; rw [hm])) (Fin.ext (by show _ / 2 * 512 + _ = _; rw [hr])))
  · exact congrArg _ (congrArg₂ ix2 (Fin.ext (by show _ % 2 * 1024 + _ = _; rw [hm])) (rfl))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, out_last m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 2 * 512 + i.val, row_lt t i⟩ j := by blk_ext [idx t]
  rw [he]
  exact acc_eq m c t h i j

end Cert.BranchSbDwProd

namespace Cert.BranchSbDwPlain

open Cert.BranchSbDwReferenceIdeal Cert.BranchSbDwReferenceIdeal.Gen
open Idealize.ShloMosaic
open Idealize.ShloMosaic.TcCoe
open Cert.BranchSbDwProd (dot PROD)

theorem prod_eq (a : FVec Ideal S2048x1024 .f32) (b : FVec Ideal S2048x1024 .bf16) :
    (Host.dotGeneral dot_S1024x2048_S2048x1024_S1024x1024_1_0_0_1_n_n none (transpose S1024x2048 [1, 0] a transposes_S2048x1024_S1024x2048_1_0) (extf .f32 b bitsLt_bf16_f32) : FVec Ideal S1024x1024 .f32) = PROD a b := by
  funext y
  obtain ⟨i, j, rfl⟩ : ∃ (i : Fin 1024) (j : Fin 1024), y = ix2 i j := ⟨y 0, y 1, by funext a; match a with | ⟨0, _⟩ => rfl | ⟨1, _⟩ => rfl⟩
  show _ = dot (M := 1024) (K := 2048) (N := 1024) a b i j
  pointwise [dot]

end Cert.BranchSbDwPlain

end
-- ==== Proof.InValue.lean ====
/- What the input projection comes to, element by element over the extended reals, and that the reference's product is the same. -/
module

public import proofs.«01_k».proof.Defs
public import proofs.«01_k».proof.Proof.Gen.InIdeal.Value
public import proofs.«01_k».proof.Proof.Gen.InReferenceIdeal.Run
public import Idealize.ShloMosaic.Lib.Pipeline.ValueKit
public import Idealize.ShloMosaic.Lib.Pipeline.ReadBack

@[expose] public section

set_option maxRecDepth 16384

noncomputable section

namespace Cert.InProd

open Cert.InIdeal Cert.InIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![K, N]⟩ : Shape).Idx → EReal) (i : Fin M) (j : Fin N) : EReal :=
  ∑ k : Fin K, a (ix2 i k) * b (ix2 k j)
/-- The product. -/
def PROD (a : (⟨2, ![2048, 1024]⟩ : Shape).Idx → EReal) (b : (⟨2, ![1024, 13440]⟩ : Shape).Idx → EReal) (i : (⟨2, ![2048, 13440]⟩ : Shape).Idx) : EReal :=
  dot a b (i 0) (i 1)

theorem pay1_apply (i : Fin 512) (j : Fin 640) : (k0_pay1 (F := Ideal) (ix2 i j) : EReal) = 0 := by
  pointwise [k0_pay1]

theorem pay2_apply (acc : FVec Ideal S512x640 .f32) (a : FVec Ideal S512x1024 .bf16) (b : FVec Ideal S1024x640 .bf16) (i : Fin 512) (j : Fin 640) :
    (k0_pay2 (F := Ideal) acc a b (ix2 i j) : EReal) = (acc (ix2 i j) : EReal) + dot (M := 512) (K := 1024) (N := 640) a b i j := by
  pointwise [k0_pay2, dot]

variable (m : (ℓ : Loc nD τ sig) → Buf (Elt Ideal) ℓ)

theorem outs (c : Dev nD) (t : Fin cfg0.N) : outsAt0 m c t = k0_pay2 (k0_pay1 (F := Ideal)) (iblk m c 0 t) (iblk m c 1 t) := by
  unfold outsAt0; frame_out

theorem idx : ∀ t : Fin cfg0.N, win0_0.index t = ![t.val / 21, 0] ∧ win0_1.index t = ![0, t.val % 21] ∧ win0_2.index t = ![t.val / 21, t.val % 21] :=
  (by decide +kernel : ∀ t : Fin grid0.N, _)

theorem row_lt (t : Fin cfg0.N) (k : Fin 512) : t.val / 21 * 512 + k.val < 2048 := by have := Nat.lt_of_lt_of_eq t.isLt N_0; omega
theorem col_lt (t : Fin cfg0.N) (k : Fin 640) : t.val % 21 * 640 + k.val < 13440 := by omega

theorem blk0 (c : Dev nD) (t : Fin cfg0.N) (i : Fin 512) (k : Fin 1024) :
    iblk m c 0 t (ix2 i k) = m ((c : Thread nD τ).loc main_arg0) (ix2 ⟨t.val / 21 * 512 + i.val, row_lt t i⟩ k) := by
  blk_ext! [iblk, V, idx t]
theorem blk1 (c : Dev nD) (t : Fin cfg0.N) (k : Fin 1024) (j : Fin 640) :
    iblk m c 1 t (ix2 k j) = m ((c : Thread nD τ).loc main_arg1) (ix2 k ⟨t.val % 21 * 640 + j.val, col_lt t j⟩) := by
  blk_ext! [iblk, V, idx t]

theorem dot_blk (c : Dev nD) (t : Fin cfg0.N) (i : Fin 512) (j : Fin 640) :
    (k0_pay2 (F := Ideal) (k0_pay1 (F := Ideal)) (iblk m c 0 t) (iblk m c 1 t) (ix2 i j) : EReal) = dot (M := 2048) (K := 1024) (N := 13440) (m ((c : Thread nD τ).loc main_arg0)) (m ((c : Thread nD τ).loc main_arg1))
        ⟨t.val / 21 * 512 + i.val, row_lt t i⟩ ⟨t.val % 21 * 640 + j.val, col_lt t j⟩ := by
  refine (pay2_apply _ _ _ _ _).trans ?_
  refine (congrArg (fun a : EReal => a + dot (M := 512) (K := 1024) (N := 640) (iblk m c 0 t) (iblk m c 1 t) i j) (pay1_apply i j)).trans ?_
  rw [zero_add]
  exact Finset.sum_congr rfl fun k _ => congrArg₂ (fun a b : EReal => a * b) (blk0 m c t i k) (blk1 m c t k j)

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  blk_simp
  rw [after0_2, outs]
  obtain ⟨i, j, rfl⟩ : ∃ (i : Fin 512) (j : Fin 640), y = ix2 i j := ⟨y 0, y 1, by funext a; match a with | ⟨0, _⟩ => rfl | ⟨1, _⟩ => rfl⟩
  have he : (win0_2.blk t).view.emb (ix2 i j) = ix2 ⟨t.val / 21 * 512 + i.val, row_lt t i⟩ ⟨t.val % 21 * 640 + j.val, col_lt t j⟩ := by blk_ext [idx t]
  rw [he]
  exact dot_blk m c t i j

end Cert.InProd

namespace Cert.InPlain

open Cert.InReferenceIdeal Cert.InReferenceIdeal.Gen
open Idealize.ShloMosaic
open Idealize.ShloMosaic.TcCoe
open Cert.InProd (dot PROD)

theorem prod_eq (a : FVec Ideal S2048x1024 .bf16) (b : FVec Ideal S1024x13440 .bf16) :
    (Host.dotGeneral dot_S2048x1024_S1024x13440_S2048x13440_1_0_0_1_n_n none (extf .f32 a bitsLt_bf16_f32) (extf .f32 b bitsLt_bf16_f32) : FVec Ideal S2048x13440 .f32) = PROD a b := by
  funext y
  obtain ⟨i, j, rfl⟩ : ∃ (i : Fin 2048) (j : Fin 13440), y = ix2 i j := ⟨y 0, y 1, by funext a; match a with | ⟨0, _⟩ => rfl | ⟨1, _⟩ => rfl⟩
  show _ = dot (M := 2048) (K := 1024) (N := 13440) a b i j
  pointwise [dot]

end Cert.InPlain

end
-- ==== Proof.InDwValue.lean ====
/- What the gradient of the input projection's weight comes to, element by element over the extended reals, and that the reference's product is the same. -/
module

public import proofs.«01_k».proof.Defs
public import proofs.«01_k».proof.Proof.Gen.InDwIdeal.Value
public import proofs.«01_k».proof.Proof.Gen.InDwReferenceIdeal.Run
public import Idealize.ShloMosaic.Lib.Pipeline.ValueKit
public import Idealize.ShloMosaic.Lib.Pipeline.ReadBack

@[expose] public section

set_option maxRecDepth 16384

noncomputable section

namespace Cert.InDwProd

open Cert.InDwIdeal Cert.InDwIdeal.Gen
open Idealize.ShloMosaic
open Idealize.ShloMosaic.TcCoe
open Idealize.ShloMosaic.Pipeline (Dat Cfg Window)

/-- The inner product at row `i` and column `j`. -/
abbrev dot {M K N : ℕ} (a : (⟨2, ![K, M]⟩ : Shape).Idx → EReal) (b : (⟨2, ![K, N]⟩ : Shape).Idx → EReal) (i : Fin M) (j : Fin N) : EReal :=
  ∑ k : Fin K, a (ix2 k i) * b (ix2 k j)
/-- The product. -/
def PROD (a : (⟨2, ![2048, 1024]⟩ : Shape).Idx → EReal) (b : (⟨2, ![2048, 13440]⟩ : Shape).Idx → EReal) (i : (⟨2, ![1024, 13440]⟩ : Shape).Idx) : EReal :=
  dot a b (i 0) (i 1)

theorem pay1_apply (i : Fin 512) (j : Fin 640) : (k0_pay1 (F := Ideal) (ix2 i j) : EReal) = 0 := by
  pointwise [k0_pay1]

theorem pay2_apply (acc : FVec Ideal S512x640 .f32) (a : FVec Ideal S1024x512 .bf16) (b : FVec Ideal S1024x640 .bf16) (i : Fin 512) (j : Fin 640) :
    (k0_pay2 (F := Ideal) acc a b (ix2 i j) : EReal) = (acc (ix2 i j) : EReal) + dot (M := 512) (K := 1024) (N := 640) a b i j := by
  pointwise [k0_pay2, dot]

variable (m : (ℓ : Loc nD τ sig) → Buf (Elt Ideal) ℓ)

theorem acc_A (c : Dev nD) (t : Fin cfg0.N) (h0 : t.val % 2 = 0) (h1 : ¬t.val % 2 = 1) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  have h1 : t.val % 2 = 1 := by omega
  rw [outsAt0_B m c t h0 h1]; frame_out; rw [read_unread_whole]

theorem out_last (c : Dev nD) (t : Fin cfg0.N) (h0 : ¬t.val % 2 = 0) (h1 : t.val % 2 = 1) :
    (outsAt0 m c t.val t.isLt).1 = (outsAt0 m c t.val t.isLt).2 := by
  rw [acc_B m c t h0, outsAt0_B m c t h0 h1]; frame_out; rw [read_unread_whole]

theorem idx : ∀ t : Fin cfg0.N, win0_0.index t = ![t.val % 2, t.val / 42] ∧ win0_1.index t = ![t.val % 2, t.val / 2 % 21] ∧ win0_2.index t = ![t.val / 42, t.val / 2 % 21] :=
  (by decide +kernel : ∀ t : Fin grid0.N, _)

theorem row_lt (t : Fin cfg0.N) (k : Fin 512) : t.val / 42 * 512 + k.val < 1024 := by have := Nat.lt_of_lt_of_eq t.isLt N_0; omega
theorem col_lt (t : Fin cfg0.N) (k : Fin 640) : t.val / 2 % 21 * 640 + k.val < 13440 := by omega
theorem mid_lt (t : Fin cfg0.N) (k : Fin 1024) : t.val % 2 * 1024 + k.val < 2048 := by omega

theorem blk0 (c : Dev nD) (t : Fin cfg0.N) (i : Fin 512) (k : Fin 1024) :
    iblk m c 0 t (ix2 k i) = m ((c : Thread nD τ).loc main_arg0) (ix2 ⟨t.val % 2 * 1024 + k.val, mid_lt t k⟩ ⟨t.val / 42 * 512 + i.val, row_lt t i⟩) := by
  blk_ext! [iblk, V, idx t]
theorem blk1 (c : Dev nD) (t : Fin cfg0.N) (k : Fin 1024) (j : Fin 640) :
    iblk m c 1 t (ix2 k j) = m ((c : Thread nD τ).loc main_arg1) (ix2 ⟨t.val % 2 * 1024 + k.val, mid_lt t k⟩ ⟨t.val / 2 % 21 * 640 + j.val, col_lt t j⟩) := by
  blk_ext! [iblk, V, idx t]

/-- After the last of the 2 steps the accumulator holds the whole inner product. -/
theorem acc_eq (c : Dev nD) (t : Fin cfg0.N) (h : t.val % 2 = 1) (i : Fin 512) (j : Fin 640) :
    ((outsAt0 m c t.val t.isLt).2 (ix2 i j) : EReal)
      = dot (M := 1024) (K := 2048) (N := 13440) (m ((c : Thread nD τ).loc main_arg0)) (m ((c : Thread nD τ).loc main_arg1))
        ⟨t.val / 42 * 512 + i.val, row_lt t i⟩ ⟨t.val / 2 % 21 * 640 + j.val, col_lt t j⟩ := by
  have hs := Pipeline.eq_sum_fin_of_reset_step_of_flush (fun n h => ((outsAt0 m c n h).2 (ix2 i j) : EReal)) 2 (0 : EReal)
    (fun t => dot (M := 512) (K := 1024) (N := 640) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 2) (n := 1024) (L := 2048) (fun s k hl => ?_) (by decide)
  have hr : (2 * (t.val / 2) + s.val) / 42 = t.val / 42 := by omega
  have hc : (2 * (t.val / 2) + s.val) / 2 % 21 = t.val / 2 % 21 := by omega
  have hm : (2 * (t.val / 2) + s.val) % 2 = s.val := by omega
  refine congrArg₂ (fun a b : EReal => a * b) ((blk0 m c _ i k).trans ?_) ((blk1 m c _ k j).trans ?_)
  · exact congrArg _ (congrArg₂ ix2 (Fin.ext (by show _ % 2 * 1024 + _ = _; rw [hm])) (Fin.ext (by show _ / 42 * 512 + _ = _; rw [hr])))
  · exact congrArg _ (congrArg₂ ix2 (Fin.ext (by show _ % 2 * 1024 + _ = _; rw [hm])) (Fin.ext (by show _ / 2 % 21 * 640 + _ = _; rw [hc])))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, out_last m c t (by omega) h]
  obtain ⟨i, j, rfl⟩ : ∃ (i : Fin 512) (j : Fin 640), y = ix2 i j := ⟨y 0, y 1, by funext a; match a with | ⟨0, _⟩ => rfl | ⟨1, _⟩ => rfl⟩
  have he : (win0_2.blk t).view.emb (ix2 i j) = ix2 ⟨t.val / 42 * 512 + i.val, row_lt t i⟩ ⟨t.val / 2 % 21 * 640 + j.val, col_lt t j⟩ := by blk_ext [idx t]
  rw [he]
  exact acc_eq m c t h i j

end Cert.InDwProd

namespace Cert.InDwPlain

open Cert.InDwReferenceIdeal Cert.InDwReferenceIdeal.Gen
open Idealize.ShloMosaic
open Idealize.ShloMosaic.TcCoe
open Cert.InDwProd (dot PROD)

theorem prod_eq (a : FVec Ideal S2048x1024 .bf16) (b : FVec Ideal S2048x13440 .bf16) :
    (Host.dotGeneral dot_S1024x2048_S2048x13440_S1024x13440_1_0_0_1_n_n none (transpose S1024x2048 [1, 0] (extf .f32 a bitsLt_bf16_f32) transposes_S2048x1024_S1024x2048_1_0) (extf .f32 b bitsLt_bf16_f32) : FVec Ideal S1024x13440 .f32) = PROD a b := by
  funext y
  obtain ⟨i, j, rfl⟩ : ∃ (i : Fin 1024) (j : Fin 13440), y = ix2 i j := ⟨y 0, y 1, by funext a; match a with | ⟨0, _⟩ => rfl | ⟨1, _⟩ => rfl⟩
  show _ = dot (M := 1024) (K := 2048) (N := 13440) a b i j
  pointwise [dot]

end Cert.InDwPlain

end
-- ==== Proof.InDxValue.lean ====
/- What the gradient in front of the input projection comes to, element by element over the extended reals, and that the reference's product is the same. -/
module

public import proofs.«01_k».proof.Defs
public import proofs.«01_k».proof.Proof.Gen.InDxIdeal.Value
public import proofs.«01_k».proof.Proof.Gen.InDxReferenceIdeal.Run
public import Idealize.ShloMosaic.Lib.Pipeline.ValueKit
public import Idealize.ShloMosaic.Lib.Pipeline.ReadBack

@[expose] public section

set_option maxRecDepth 16384

noncomputable section

namespace Cert.InDxProd

open Cert.InDxIdeal Cert.InDxIdeal.Gen
open Idealize.ShloMosaic
open Idealize.ShloMosaic.TcCoe
open Idealize.ShloMosaic.Pipeline (Dat Cfg Window)

/-- The inner product at row `i` and column `j`. -/
abbrev dot {M K N : ℕ} (a : (⟨2, ![M, K]⟩ : Shape).Idx → EReal) (b : (⟨2, ![N, K]⟩ : Shape).Idx → EReal) (i : Fin M) (j : Fin N) : EReal :=
  ∑ k : Fin K, a (ix2 i k) * b (ix2 j k)
/-- The product. -/
def PROD (a : (⟨2, ![2048, 13440]⟩ : Shape).Idx → EReal) (b : (⟨2, ![1024, 13440]⟩ : Shape).Idx → EReal) (i : (⟨2, ![2048, 1024]⟩ : Shape).Idx) : EReal :=
  dot a b (i 0) (i 1)

theorem pay1_apply (i : Fin 512) (j : Fin 1024) : (k0_pay1 (F := Ideal) (ix2 i j) : EReal) = 0 := by
  pointwise [k0_pay1]

theorem pay2_apply (acc : FVec Ideal S512x1024 .f32) (a : FVec Ideal S512x1920 .bf16) (b : FVec Ideal S1024x1920 .bf16) (i : Fin 512) (j : Fin 1024) :
    (k0_pay2 (F := Ideal) acc a b (ix2 i j) : EReal) = (acc (ix2 i j) : EReal) + dot (M := 512) (K := 1920) (N := 1024) a b i j := by
  pointwise [k0_pay2, dot]

variable (m : (ℓ : Loc nD τ sig) → Buf (Elt Ideal) ℓ)

theorem acc_A (c : Dev nD) (t : Fin cfg0.N) (h0 : t.val % 7 = 0) (h1 : ¬t.val % 7 = 6) :
    (outsAt0 m c t.val t.isLt).2 = k0_pay2 (k0_pay1 (F := Ideal)) (iblk m c 0 t) (iblk m c 1 t) := by
  rw [outsAt0_A m c t h0 h1]; frame_out

theorem acc_B (c : Dev nD) (t : Fin cfg0.N) (h0 : ¬t.val % 7 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 7 = 6
  · rw [outsAt0_C m c t h0 h1]; frame_out; rw [read_unread_whole]
  · rw [outsAt0_B m c t h0 h1]; frame_out; rw [read_unread_whole]

theorem out_last (c : Dev nD) (t : Fin cfg0.N) (h0 : ¬t.val % 7 = 0) (h1 : t.val % 7 = 6) :
    (outsAt0 m c t.val t.isLt).1 = (outsAt0 m c t.val t.isLt).2 := by
  rw [acc_B m c t h0, outsAt0_C m c t h0 h1]; frame_out; rw [read_unread_whole]

theorem idx : ∀ t : Fin cfg0.N, win0_0.index t = ![t.val / 7, t.val % 7] ∧ win0_1.index t = ![0, t.val % 7] ∧ win0_2.index t = ![t.val / 7, 0] :=
  (by decide +kernel : ∀ t : Fin grid0.N, _)

theorem row_lt (t : Fin cfg0.N) (k : Fin 512) : t.val / 7 * 512 + k.val < 2048 := by have := Nat.lt_of_lt_of_eq t.isLt N_0; omega
theorem mid_lt (t : Fin cfg0.N) (k : Fin 1920) : t.val % 7 * 1920 + k.val < 13440 := by omega

theorem blk0 (c : Dev nD) (t : Fin cfg0.N) (i : Fin 512) (k : Fin 1920) :
    iblk m c 0 t (ix2 i k) = m ((c : Thread nD τ).loc main_arg0) (ix2 ⟨t.val / 7 * 512 + i.val, row_lt t i⟩ ⟨t.val % 7 * 1920 + k.val, mid_lt t k⟩) := by
  blk_ext! [iblk, V, idx t]
theorem blk1 (c : Dev nD) (t : Fin cfg0.N) (k : Fin 1920) (j : Fin 1024) :
    iblk m c 1 t (ix2 j k) = m ((c : Thread nD τ).loc main_arg1) (ix2 j ⟨t.val % 7 * 1920 + k.val, mid_lt t k⟩) := by
  blk_ext! [iblk, V, idx t]

/-- After the last of the 7 steps the accumulator holds the whole inner product. -/
theorem acc_eq (c : Dev nD) (t : Fin cfg0.N) (h : t.val % 7 = 6) (i : Fin 512) (j : Fin 1024) :
    ((outsAt0 m c t.val t.isLt).2 (ix2 i j) : EReal)
      = dot (M := 2048) (K := 13440) (N := 1024) (m ((c : Thread nD τ).loc main_arg0)) (m ((c : Thread nD τ).loc main_arg1))
        ⟨t.val / 7 * 512 + i.val, row_lt t i⟩ j := by
  have hs := Pipeline.eq_sum_fin_of_reset_step_of_flush (fun n h => ((outsAt0 m c n h).2 (ix2 i j) : EReal)) 7 (0 : EReal)
    (fun t => dot (M := 512) (K := 1920) (N := 1024) (iblk m c 0 t) (iblk m c 1 t) i j)
    (fun t h => by
      show ((outsAt0 m c t.val t.isLt).2 (ix2 i j) : EReal) = _
      rw [acc_A m c t h (by omega)]
      refine (pay2_apply _ _ _ _ _).trans ?_
      exact congrArg (fun a : EReal => a + _) (pay1_apply i j))
    (fun t h => by
      show ((outsAt0 m c t.val t.isLt).2 (ix2 i j) : EReal) = _
      rw [acc_B m c t h]
      exact pay2_apply _ _ _ _ _)
    t h
  refine hs.trans ?_
  rw [zero_add]
  refine Fin.sum_mul_add_congr (S := 7) (n := 1920) (L := 13440) (fun s k hl => ?_) (by decide)
  have hr : (7 * (t.val / 7) + s.val) / 7 = t.val / 7 := by omega
  have hm : (7 * (t.val / 7) + s.val) % 7 = s.val := by omega
  refine congrArg₂ (fun a b : EReal => a * b) ((blk0 m c _ i k).trans ?_) ((blk1 m c _ k j).trans ?_)
  · exact congrArg _ (congrArg₂ ix2 (Fin.ext (by show _ / 7 * 512 + _ = _; rw [hr])) (Fin.ext (by show _ % 7 * 1920 + _ = _; rw [hm])))
  · exact congrArg _ (congrArg₂ ix2 (rfl) (Fin.ext (by show _ % 7 * 1920 + _ = _; rw [hm])))

theorem arr2 (c : Dev nD) : (dats m 0 c).arrAt 2 cfg0.N = PROD (m ((c : Thread nD τ).loc main_arg0)) (m ((c : Thread nD τ).loc main_arg1)) := by
  refine (dats m 0 c).arrAt_eq_of_covers 2 _ (by decide +kernel) fun t hf y => ?_
  have h : t.val % 7 = 6 := (flush0_2 t).mp hf
  blk_simp
  rw [after0_2, out_last m c t (by omega) h]
  obtain ⟨i, j, rfl⟩ : ∃ (i : Fin 512) (j : Fin 1024), y = ix2 i j := ⟨y 0, y 1, by funext a; match a with | ⟨0, _⟩ => rfl | ⟨1, _⟩ => rfl⟩
  have he : (win0_2.blk t).view.emb (ix2 i j) = ix2 ⟨t.val / 7 * 512 + i.val, row_lt t i⟩ j := by blk_ext [idx t]
  rw [he]
  exact acc_eq m c t h i j

end Cert.InDxProd

namespace Cert.InDxPlain

open Cert.InDxReferenceIdeal Cert.InDxReferenceIdeal.Gen
open Idealize.ShloMosaic
open Idealize.ShloMosaic.TcCoe
open Cert.InDxProd (dot PROD)

theorem prod_eq (a : FVec Ideal S2048x13440 .bf16) (b : FVec Ideal S1024x13440 .bf16) :
    (Host.dotGeneral dot_S2048x13440_S13440x1024_S2048x1024_1_0_0_1_n_n none (extf .f32 a bitsLt_bf16_f32) (transpose S13440x1024 [1, 0] (extf .f32 b bitsLt_bf16_f32) transposes_S1024x13440_S13440x1024_1_0) : FVec Ideal S2048x1024 .f32) = PROD a b := by
  funext y
  obtain ⟨i, j, rfl⟩ : ∃ (i : Fin 2048) (j : Fin 1024), y = ix2 i j := ⟨y 0, y 1, by funext a; match a with | ⟨0, _⟩ => rfl | ⟨1, _⟩ => rfl⟩
  show _ = dot (M := 2048) (K := 13440) (N := 1024) a b i j
  pointwise [dot]

end Cert.InDxPlain

end
-- ==== Proof.MergeValue.lean ====
/- What the merging of the branches comes to, element by element over the extended reals, and that the reference's gated sum is the same. -/
module

public import proofs.«01_k».proof.Defs
public import proofs.«01_k».proof.Proof.Gen.MergeIdeal.Value
public import proofs.«01_k».proof.Proof.Gen.MergeReferenceIdeal.Run
public import Idealize.ShloMosaic.Lib.Pipeline.ValueKit

@[expose] public section

set_option maxRecDepth 16384

noncomputable section

namespace Cert.MergeSum

open Cert.MergeIdeal Cert.MergeIdeal.Gen
open Idealize.ShloMosaic
open Idealize.ShloMosaic.TcCoe
open Idealize.ShloMosaic.Pipeline (Dat Cfg Window)

/-- The sigmoid. -/
def sg (x : EReal) : EReal := Ideal.div 1 (1 + Ideal.exp (-x))
/-- The gated sum of the three branches. -/
abbrev sumAt (p : (⟨2, ![2048, 3072]⟩ : Shape).Idx → EReal) (g : (⟨2, ![2048, 13440]⟩ : Shape).Idx → EReal) (i : Fin 2048) (j : Fin 1024) : EReal :=
  sg (g (ix2 i ⟨10240 + j.val, by omega⟩)) * p (ix2 i ⟨j.val, by omega⟩) + sg (g (ix2 i ⟨10240 + (1024 + j.val), by omega⟩)) * p (ix2 i ⟨1024 + j.val, by omega⟩)
    + sg (g (ix2 i ⟨10240 + (2048 + j.val), by omega⟩)) * p (ix2 i ⟨2048 + j.val, by omega⟩)
def SUM (p : (⟨2, ![2048, 3072]⟩ : Shape).Idx → EReal) (g : (⟨2, ![2048, 13440]⟩ : Shape).Idx → EReal) (i : (⟨2, ![2048, 1024]⟩ : Shape).Idx) : EReal :=
  sumAt p g (i 0) (i 1)

theorem pay1_apply (g0 p0 g1 p1 g2 p2 : FVec Ideal S256x1024 .f32) (i : Fin 256) (j : Fin 1024) :
    (k0_pay1 (F := Ideal) g0 p0 g1 p1 g2 p2 (ix2 i j) : EReal)
      = sg (g0 (ix2 i j)) * p0 (ix2 i j) + sg (g1 (ix2 i j)) * p1 (ix2 i j) + sg (g2 (ix2 i j)) * p2 (ix2 i j) := by
  pointwise [k0_pay1, sg]
  simp only [zero_sub]

variable (m : (ℓ : Loc nD τ sig) → Buf (Elt Ideal) ℓ)

theorem outs (c : Dev nD) (t : Fin cfg0.N) : outsAt0 m c t
    = k0_pay1 (X0_3 m c t) (iblk m c 0 t) (X0_4 m c t) (iblk m c 1 t) (X0_5 m c t) (iblk m c 2 t) := by
  unfold outsAt0; frame_out

theorem idx : ∀ t : Fin cfg0.N, win0_0.index t = ![t.val, 0] ∧ win0_1.index t = ![t.val, 1] ∧ win0_2.index t = ![t.val, 2]
    ∧ win0_3.index t = ![t.val, 10] ∧ win0_4.index t = ![t.val, 11] ∧ win0_5.index t = ![t.val, 12] ∧ win0_6.index t = ![t.val, 0] :=
  (by decide +kernel : ∀ t : Fin grid0.N, _)

theorem row_lt (t : Fin cfg0.N) (k : Fin 256) : t.val * 256 + k.val < 2048 := by have := Nat.lt_of_lt_of_eq t.isLt N_0; omega

theorem blk0 (c : Dev nD) (t : Fin cfg0.N) (k : Fin 256) (j : Fin 1024) :
    iblk m c 0 t (ix2 k j) = m ((c : Thread nD τ).loc main_arg0) (ix2 ⟨t.val * 256 + k.val, row_lt t k⟩ ⟨j.val, by omega⟩) := by
  blk_ext! [iblk, V, idx t]
theorem blk1 (c : Dev nD) (t : Fin cfg0.N) (k : Fin 256) (j : Fin 1024) :
    iblk m c 1 t (ix2 k j) = m ((c : Thread nD τ).loc main_arg0) (ix2 ⟨t.val * 256 + k.val, row_lt t k⟩ ⟨1024 + j.val, by omega⟩) := by
  blk_ext! [iblk, V, idx t]
theorem blk2 (c : Dev nD) (t : Fin cfg0.N) (k : Fin 256) (j : Fin 1024) :
    iblk m c 2 t (ix2 k j) = m ((c : Thread nD τ).loc main_arg0) (ix2 ⟨t.val * 256 + k.val, row_lt t k⟩ ⟨2048 + j.val, by omega⟩) := by
  blk_ext! [iblk, V, idx t]
theorem blk3 (c : Dev nD) (t : Fin cfg0.N) (k : Fin 256) (j : Fin 1024) :
    X0_3 m c t (ix2 k j) = m ((c : Thread nD τ).loc main_arg1) (ix2 ⟨t.val * 256 + k.val, row_lt t k⟩ ⟨10240 + j.val, by omega⟩) := by
  unfold X0_3 Pipeline.Window.fill
  rw [dif_pos (moved0_3 t _)]
  blk_ext! [iblk, V, idx t]
theorem blk4 (c : Dev nD) (t : Fin cfg0.N) (k : Fin 256) (j : Fin 1024) :
    X0_4 m c t (ix2 k j) = m ((c : Thread nD τ).loc main_arg1) (ix2 ⟨t.val * 256 + k.val, row_lt t k⟩ ⟨10240 + (1024 + j.val), by omega⟩) := by
  unfold X0_4 Pipeline.Window.fill
  rw [dif_pos (moved0_4 t _)]
  blk_ext! [iblk, V, idx t]
theorem blk5 (c : Dev nD) (t : Fin cfg0.N) (k : Fin 256) (j : Fin 1024) :
    X0_5 m c t (ix2 k j) = m ((c : Thread nD τ).loc main_arg1) (ix2 ⟨t.val * 256 + k.val, row_lt t k⟩ ⟨10240 + (2048 + j.val), by omega⟩) := by
  unfold X0_5 Pipeline.Window.fill
  rw [dif_pos (moved0_5 t _)]
  blk_ext! [iblk, V, idx t]

theorem arr6 (c : Dev nD) : (dats m 0 c).arrAt 6 cfg0.N = SUM (m ((c : Thread nD τ).loc main_arg0)) (m ((c : Thread nD τ).loc main_arg1)) := by
  refine (dats m 0 c).arrAt_eq_of_covers 6 _ (by decide +kernel) fun t hf y => ?_
  blk_simp
  rw [after0_6, outs]
  obtain ⟨i, j, rfl⟩ : ∃ (i : Fin 256) (j : Fin 1024), y = ix2 i j := ⟨y 0, y 1, by funext a; match a with | ⟨0, _⟩ => rfl | ⟨1, _⟩ => rfl⟩
  have he : (win0_6.blk t).view.emb (ix2 i j) = ix2 ⟨t.val * 256 + i.val, row_lt t i⟩ j := by blk_ext [idx t]
  rw [he]
  refine (pay1_apply _ _ _ _ _ _ i j).trans ?_
  exact congrArg₂ (fun a b : EReal => a + b)
    (congrArg₂ (fun a b : EReal => a + b) (congrArg₂ (fun a b : EReal => sg a * b) (blk3 m c t i j) (blk0 m c t i j))
      (congrArg₂ (fun a b : EReal => sg a * b) (blk4 m c t i j) (blk1 m c t i j)))
    (congrArg₂ (fun a b : EReal => sg a * b) (blk5 m c t i j) (blk2 m c t i j))

end Cert.MergeSum

namespace Cert.MergePlain

open Cert.MergeReferenceIdeal Cert.MergeReferenceIdeal.Gen
open Idealize.ShloMosaic
open Idealize.ShloMosaic.TcCoe
open Cert.MergeSum (sg sumAt SUM)

/-- The gates: the sigmoid of the last three of the input projection's thirteen blocks of columns. -/
abbrev gates (g : FVec Ideal S2048x13440 .f32) : FVec Ideal S2048x3072 .f32 :=
  Host.divf (broadcastInDim S2048x3072 ![] bcast_S_S2048x3072 (constant S_ .f32 0x3F800000#32)) (addf (broadcastInDim S2048x3072 ![] bcast_S_S2048x3072 (constant S_ .f32 0x3F800000#32)) (Host.exp (Host.negf (extractStridedSlice S2048x3072 ![0, 10240] g slices_S2048x13440_S2048x3072_0_10240))))

theorem merge_eq (p : FVec Ideal S2048x3072 .f32) (g : FVec Ideal S2048x13440 .f32) :
    (truncf .bf16 (addf (addf (addf (broadcastInDim S2048x1024 ![] bcast_S_S2048x1024 (constant S_ .f32 0x00000000#32))
        (mulf (extractStridedSlice S2048x1024 ![0, 0] (gates g) slices_S2048x3072_S2048x1024_0_0) (extractStridedSlice S2048x1024 ![0, 0] p slices_S2048x3072_S2048x1024_0_0)))
        (mulf (extractStridedSlice S2048x1024 ![0, 1024] (gates g) slices_S2048x3072_S2048x1024_0_1024) (extractStridedSlice S2048x1024 ![0, 1024] p slices_S2048x3072_S2048x1024_0_1024)))
        (mulf (extractStridedSlice S2048x1024 ![0, 2048] (gates g) slices_S2048x3072_S2048x1024_0_2048) (extractStridedSlice S2048x1024 ![0, 2048] p slices_S2048x3072_S2048x1024_0_2048)))
        bitsLt_bf16_f32 : FVec Ideal S2048x1024 .bf16) = SUM p g := by
  funext y
  obtain ⟨i, j, rfl⟩ : ∃ (i : Fin 2048) (j : Fin 1024), y = ix2 i j := ⟨y 0, y 1, by funext a; match a with | ⟨0, _⟩ => rfl | ⟨1, _⟩ => rfl⟩
  show _ = sumAt p g i j
  pointwise [sumAt, sg]

end Cert.MergePlain

end
-- ==== Proof.MergeDxValue.lean ====
/- What the gradients of the branches and of their gates come to, element by element over the extended reals, and that the reference's derivative of the gated product is the same. -/
module

public import proofs.«01_k».proof.Defs
public import proofs.«01_k».proof.Proof.Gen.MergeDxIdeal.Value
public import proofs.«01_k».proof.Proof.Gen.MergeDxReferenceIdeal.Run
public import Idealize.ShloMosaic.Lib.Pipeline.ValueKit

@[expose] public section

set_option maxRecDepth 16384

noncomputable section

namespace Cert.MergeGrad

open Cert.MergeDxIdeal Cert.MergeDxIdeal.Gen
open Idealize.ShloMosaic
open Idealize.ShloMosaic.TcCoe
open Idealize.ShloMosaic.Pipeline (Dat Cfg Window)

/-- The sigmoid. -/
def sg (x : EReal) : EReal := Ideal.div 1 (1 + Ideal.exp (-x))
/-- The gradient of an entry of a branch, from the gradient `d` of the merged entry and the gate `g`. -/
def dpE (d g : EReal) : EReal := d * sg g
/-- The gradient of the gate. -/
def dgE (d p g : EReal) : EReal := d * p * sg g * (1 - sg g)

def DP (g : (⟨2, ![2048, 13440]⟩ : Shape).Idx → EReal) (d : (⟨2, ![2048, 1024]⟩ : Shape).Idx → EReal) (y : (⟨2, ![2048, 3072]⟩ : Shape).Idx) : EReal :=
  dpE (d (ix2 (y 0) ⟨(y 1).val % 1024, Nat.mod_lt _ (by decide)⟩)) (g (ix2 (y 0) ⟨10240 + (y 1).val, by have := (y 1).isLt; simp at this; omega⟩))
def DG (p : (⟨2, ![2048, 3072]⟩ : Shape).Idx → EReal) (g : (⟨2, ![2048, 13440]⟩ : Shape).Idx → EReal) (d : (⟨2, ![2048, 1024]⟩ : Shape).Idx → EReal)
    (y : (⟨2, ![2048, 3072]⟩ : Shape).Idx) : EReal :=
  dgE (d (ix2 (y 0) ⟨(y 1).val % 1024, Nat.mod_lt _ (by decide)⟩)) (p y) (g (ix2 (y 0) ⟨10240 + (y 1).val, by have := (y 1).isLt; simp at this; omega⟩))

theorem pay2_apply (g d : FVec Ideal S256x1024 .f32) (i : Fin 256) (j : Fin 1024) :
    (k0_pay2 (F := Ideal) g d (ix2 i j) : EReal) = dpE (d (ix2 i j)) (g (ix2 i j)) := by
  pointwise [k0_pay2, k0_pay1, dpE, sg]
  simp only [zero_sub]
theorem pay3_apply (g d p : FVec Ideal S256x1024 .f32) (i : Fin 256) (j : Fin 1024) :
    (k0_pay3 (F := Ideal) g d p (ix2 i j) : EReal) = dgE (d (ix2 i j)) (p (ix2 i j)) (g (ix2 i j)) := by
  pointwise [k0_pay3, k0_pay1, dgE, sg]
  simp only [zero_sub]

variable (m : (ℓ : Loc nD τ sig) → Buf (Elt Ideal) ℓ)

theorem outs1 (c : Dev nD) (t : Fin cfg0.N) : (outsAt0 m c t).1 = k0_pay2 (X0_1 m c t) (iblk m c 2 t) := by
  unfold outsAt0; frame_out
theorem outs2 (c : Dev nD) (t : Fin cfg0.N) : (outsAt0 m c t).2 = k0_pay3 (X0_1 m c t) (iblk m c 2 t) (iblk m c 0 t) := by
  unfold outsAt0; frame_out

theorem idx : ∀ t : Fin cfg0.N, win0_0.index t = ![t.val / 3, t.val % 3] ∧ win0_1.index t = ![t.val / 3, 10 + t.val % 3] ∧ win0_2.index t = ![t.val / 3, 0]
    ∧ win0_3.index t = ![t.val / 3, t.val % 3] ∧ win0_4.index t = ![t.val / 3, t.val % 3] :=
  (by decide +kernel : ∀ t : Fin grid0.N, _)

theorem row_lt (t : Fin cfg0.N) (k : Fin 256) : t.val / 3 * 256 + k.val < 2048 := by have := Nat.lt_of_lt_of_eq t.isLt N_0; omega

theorem blk0 (c : Dev nD) (t : Fin cfg0.N) (k : Fin 256) (j : Fin 1024) :
    iblk m c 0 t (ix2 k j) = m ((c : Thread nD τ).loc main_arg0) (ix2 ⟨t.val / 3 * 256 + k.val, row_lt t k⟩ ⟨t.val % 3 * 1024 + j.val, by omega⟩) := by
  blk_ext! [iblk, V, idx t]
theorem blk1 (c : Dev nD) (t : Fin cfg0.N) (k : Fin 256) (j : Fin 1024) :
    X0_1 m c t (ix2 k j) = m ((c : Thread nD τ).loc main_arg1) (ix2 ⟨t.val / 3 * 256 + k.val, row_lt t k⟩ ⟨10240 + (t.val % 3 * 1024 + j.val), by omega⟩) := by
  unfold X0_1 Pipeline.Window.fill
  rw [dif_pos (moved0_1 t _)]
  blk_ext! [iblk, V, idx t]
theorem blk2 (c : Dev nD) (t : Fin cfg0.N) (k : Fin 256) (j : Fin 1024) :
    iblk m c 2 t (ix2 k j) = m ((c : Thread nD τ).loc main_arg2) (ix2 ⟨t.val / 3 * 256 + k.val, row_lt t k⟩ ⟨(t.val % 3 * 1024 + j.val) % 1024, by omega⟩) := by
  blk_ext! [iblk, V, idx t]

theorem arr3 (c : Dev nD) : (dats m 0 c).arrAt 3 cfg0.N = DP (m ((c : Thread nD τ).loc main_arg1)) (m ((c : Thread nD τ).loc main_arg2)) := by
  refine (dats m 0 c).arrAt_eq_of_covers 3 _ (by decide +kernel) fun t hf y => ?_
  blk_simp
  rw [after0_3, outs1]
  obtain ⟨i, j, rfl⟩ : ∃ (i : Fin 256) (j : Fin 1024), y = ix2 i j := ⟨y 0, y 1, by funext a; match a with | ⟨0, _⟩ => rfl | ⟨1, _⟩ => rfl⟩
  have he : (win0_3.blk t).view.emb (ix2 i j) = ix2 ⟨t.val / 3 * 256 + i.val, row_lt t i⟩ ⟨t.val % 3 * 1024 + j.val, by omega⟩ := by blk_ext [idx t]
  rw [he]
  refine (pay2_apply _ _ i j).trans ?_
  exact congrArg₂ (fun a b : EReal => dpE a b) (blk2 m c t i j) (blk1 m c t i j)

theorem arr4 (c : Dev nD) : (dats m 0 c).arrAt 4 cfg0.N
    = DG (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, outs2]
  obtain ⟨i, j, rfl⟩ : ∃ (i : Fin 256) (j : Fin 1024), y = ix2 i j := ⟨y 0, y 1, by funext a; match a with | ⟨0, _⟩ => rfl | ⟨1, _⟩ => rfl⟩
  have he : (win0_4.blk t).view.emb (ix2 i j) = ix2 ⟨t.val / 3 * 256 + i.val, row_lt t i⟩ ⟨t.val % 3 * 1024 + j.val, by omega⟩ := by blk_ext [idx t]
  rw [he]
  refine (pay3_apply _ _ _ i j).trans ?_
  refine (congrArg₂ (fun a b : EReal => dgE a b _) (blk2 m c t i j) (blk0 m c t i j)).trans ?_
  exact congrArg (fun a : EReal => dgE _ _ a) (blk1 m c t i j)

end Cert.MergeGrad

namespace Cert.MergeDxPlain

open Cert.MergeDxReferenceIdeal Cert.MergeDxReferenceIdeal.Gen
open Idealize.ShloMosaic
open Idealize.ShloMosaic.TcCoe
open Cert.MergeGrad (sg dpE dgE DP DG)

/-- The gates: the sigmoid of the last three of the input projection's thirteen blocks of columns. -/
abbrev gates (g : FVec Ideal S2048x13440 .f32) : FVec Ideal S2048x3072 .f32 :=
  Host.divf (broadcastInDim S2048x3072 ![] bcast_S_S2048x3072 (constant S_ .f32 0x3F800000#32)) (addf (broadcastInDim S2048x3072 ![] bcast_S_S2048x3072 (constant S_ .f32 0x3F800000#32)) (Host.exp (Host.negf (extractStridedSlice S2048x3072 ![0, 10240] g slices_S2048x13440_S2048x3072_0_10240))))

/-- The gradient of the merged branches, once for each branch. -/
abbrev thrice (d : FVec Ideal S2048x1024 .f32) : FVec Ideal S2048x3072 .f32 :=
  concatenate S2048x3072 1 [⟨S2048x1024, d⟩, ⟨S2048x1024, d⟩, ⟨S2048x1024, d⟩] concatenates_S2048x1024_S2048x1024_S2048x1024_S2048x3072_d1

theorem gates_apply (g : FVec Ideal S2048x13440 .f32) (i : Fin 2048) (j : Fin 3072) : (gates g (ix2 i j) : EReal) = sg (g (ix2 i ⟨10240 + j.val, by omega⟩)) := by
  pointwise [sg]

theorem thrice_apply (d : FVec Ideal S2048x1024 .f32) (i : Fin 2048) (j : Fin 3072) :
    (thrice d (ix2 i j) : EReal) = d (ix2 i ⟨j.val % 1024, Nat.mod_lt _ (by decide)⟩) := by
  rcases (by omega : j.val < 1024 ∨ (1024 ≤ j.val ∧ j.val < 2048) ∨ 2048 ≤ j.val) with h | h | h
  · have e : (⟨j.val % 1024, Nat.mod_lt _ (by decide)⟩ : Fin 1024) = ⟨j.val, h⟩ := Fin.ext (by show j.val % 1024 = j.val; omega)
    rw [e]
    pointwise
    exact dif_pos h
  · have e : (⟨j.val % 1024, Nat.mod_lt _ (by decide)⟩ : Fin 1024) = ⟨j.val - 1024, by omega⟩ := Fin.ext (by show j.val % 1024 = j.val - 1024; omega)
    rw [e]
    pointwise
    exact (dif_neg (by omega)).trans (dif_pos (by omega))
  · have e : (⟨j.val % 1024, Nat.mod_lt _ (by decide)⟩ : Fin 1024) = ⟨j.val - 1024 - 1024, by omega⟩ := Fin.ext (by show j.val % 1024 = j.val - 1024 - 1024; omega)
    rw [e]
    pointwise
    exact (dif_neg (by omega)).trans (dif_neg (by omega))

theorem dp_eq (g : FVec Ideal S2048x13440 .f32) (d : FVec Ideal S2048x1024 .f32) :
    (truncf .bf16 (mulf (gates g) (thrice d)) bitsLt_bf16_f32 : FVec Ideal S2048x3072 .bf16) = DP g d := by
  funext y
  obtain ⟨i, j, rfl⟩ : ∃ (i : Fin 2048) (j : Fin 3072), y = ix2 i j := ⟨y 0, y 1, by funext a; match a with | ⟨0, _⟩ => rfl | ⟨1, _⟩ => rfl⟩
  show (gates g (ix2 i j) : EReal) * thrice d (ix2 i j) = dpE _ _
  rw [gates_apply, thrice_apply]
  exact mul_comm _ _

theorem dg_eq (p : FVec Ideal S2048x3072 .f32) (g : FVec Ideal S2048x13440 .f32) (d : FVec Ideal S2048x1024 .f32) :
    (truncf .bf16 (mulf (mulf (thrice d) p) (mulf (gates g) (subf (broadcastInDim S2048x3072 ![] bcast_S_S2048x3072 (constant S_ .f32 0x3F800000#32)) (gates g))))
      bitsLt_bf16_f32 : FVec Ideal S2048x3072 .bf16) = DG p g d := by
  funext y
  obtain ⟨i, j, rfl⟩ : ∃ (i : Fin 2048) (j : Fin 3072), y = ix2 i j := ⟨y 0, y 1, by funext a; match a with | ⟨0, _⟩ => rfl | ⟨1, _⟩ => rfl⟩
  have h1 : (broadcastInDim S2048x3072 ![] bcast_S_S2048x3072 (constant (F := Ideal) S_ .f32 0x3F800000#32) (ix2 i j) : EReal) = 1 := by pointwise
  show ((thrice d (ix2 i j) : EReal) * p (ix2 i j)) * ((gates g (ix2 i j) : EReal)
    * ((broadcastInDim S2048x3072 ![] bcast_S_S2048x3072 (constant (F := Ideal) S_ .f32 0x3F800000#32) (ix2 i j) : EReal) - (gates g (ix2 i j) : EReal))) = dgE _ _ _
  rw [h1, gates_apply, thrice_apply]
  exact (mul_assoc _ _ _).symm

end Cert.MergeDxPlain

end
-- ==== Proof.DnPostValue.lean ====
/- What the gated norm of the heads comes to, element by element over the extended reals, and that the reference's norm of each head is the same. -/
module

public import proofs.«01_k».proof.Defs
public import proofs.«01_k».proof.Proof.Gen.DnPostIdeal.Value
public import proofs.«01_k».proof.Proof.Gen.DnPostReferenceIdeal.Run
public import Idealize.ShloMosaic.Lib.Pipeline.ValueKit

@[expose] public section

set_option maxRecDepth 16384

noncomputable section

namespace Cert.DnGate

open Cert.DnPostIdeal Cert.DnPostIdeal.Gen
open Idealize.ShloMosaic
open Idealize.ShloMosaic.TcCoe
open Idealize.ShloMosaic.Pipeline (Dat Cfg Window)

/-- `x` times its sigmoid. -/
def silu (x : EReal) : EReal := x * Ideal.div 1 (1 + Ideal.exp (-x))
/-- The reciprocal root of the mean square of 128 numbers, a millionth added. -/
def rs (x : Fin 128 → EReal) : EReal := Ideal.rsqrt (Ideal.div (∑ k, x k * x k) (Ideal.ofBits .f32 0x43000000#32) + Ideal.ofBits .f32 0x358637BD#32)
/-- Entry `j` of a head: its norm times its weight, gated. -/
def entry (x : Fin 128 → EReal) (w g : EReal) (j : Fin 128) : EReal := x j * rs x * w * silu g

/-- The head `h` of row `i`. -/
abbrev headOf (o : (⟨2, ![2048, 1024]⟩ : Shape).Idx → EReal) (i : Fin 2048) (h : Fin 8) : Fin 128 → EReal := fun k => o (ix2 i ⟨h.val * 128 + k.val, by omega⟩)
abbrev postAt (o : (⟨2, ![2048, 1024]⟩ : Shape).Idx → EReal) (g : (⟨2, ![2048, 13440]⟩ : Shape).Idx → EReal) (w : (⟨2, ![1, 128]⟩ : Shape).Idx → EReal)
    (i : Fin 2048) (h : Fin 8) (j : Fin 128) : EReal :=
  entry (headOf o i h) (w (ix2 0 j)) (g (ix2 i ⟨3072 + (h.val * 128 + j.val), by omega⟩)) j
def POST (o : (⟨2, ![2048, 1024]⟩ : Shape).Idx → EReal) (g : (⟨2, ![2048, 13440]⟩ : Shape).Idx → EReal) (w : (⟨2, ![1, 128]⟩ : Shape).Idx → EReal)
    (y : (⟨2, ![2048, 1024]⟩ : Shape).Idx) : EReal :=
  postAt o g w (y 0) ⟨(y 1).val / 128, by have := (y 1).isLt; simp at this; omega⟩ ⟨(y 1).val % 128, Nat.mod_lt _ (by decide)⟩

theorem POST_head (o : (⟨2, ![2048, 1024]⟩ : Shape).Idx → EReal) (g : (⟨2, ![2048, 13440]⟩ : Shape).Idx → EReal) (w : (⟨2, ![1, 128]⟩ : Shape).Idx → EReal)
    (i : Fin 2048) (h : Fin 8) (j : Fin 128) : POST o g w (ix2 i ⟨h.val * 128 + j.val, by omega⟩) = postAt o g w i h j := by
  have h1 : (⟨(h.val * 128 + j.val) / 128, by omega⟩ : Fin 8) = h := Fin.ext (by show (h.val * 128 + j.val) / 128 = h.val; omega)
  have h2 : (⟨(h.val * 128 + j.val) % 128, by omega⟩ : Fin 128) = j := Fin.ext (by show (h.val * 128 + j.val) % 128 = j.val; omega)
  show postAt o g w i ⟨(h.val * 128 + j.val) / 128, _⟩ ⟨(h.val * 128 + j.val) % 128, _⟩ = _
  rw [h1, h2]

theorem pay1_apply (x : FVec Ideal S256x128 .f32) (w : FVec Ideal S1x128 .f32) (g : FVec Ideal S256x128 .f32) (i : Fin 256) (j : Fin 128) :
    (k0_pay1 (F := Ideal) x w g (ix2 i j) : EReal) = entry (fun k => x (ix2 i k)) (w (ix2 0 j)) (g (ix2 i j)) j := by
  pointwise [k0_pay1, entry, rs, silu]
  simp only [zero_sub]

variable (m : (ℓ : Loc nD τ sig) → Buf (Elt Ideal) ℓ)

theorem out3 (c : Dev nD) (t : Fin cfg0.N) : out0_3 (iblk m c 0 t) (iblk m c 1 t) (iblk m c 2 t) = k0_pay1 (iblk m c 0 t) (iblk m c 2 t) (iblk m c 1 t) := by
  frame_out

theorem idx : ∀ t : Fin cfg0.N, win0_0.index t = ![t.val / 8, t.val % 8] ∧ win0_1.index t = ![t.val / 8, 24 + t.val % 8] ∧ win0_2.index t = ![0, 0]
    ∧ win0_3.index t = ![t.val / 8, t.val % 8] :=
  (by decide +kernel : ∀ t : Fin grid0.N, _)

theorem row_lt (t : Fin cfg0.N) (k : Fin 256) : t.val / 8 * 256 + k.val < 2048 := by have := Nat.lt_of_lt_of_eq t.isLt N_0; omega
/-- The head of a point of the grid. -/
abbrev hd (t : Fin cfg0.N) : Fin 8 := ⟨t.val % 8, Nat.mod_lt _ (by decide)⟩

theorem blk0 (c : Dev nD) (t : Fin cfg0.N) (k : Fin 256) (j : Fin 128) :
    iblk m c 0 t (ix2 k j) = m ((c : Thread nD τ).loc main_arg0) (ix2 ⟨t.val / 8 * 256 + k.val, row_lt t k⟩ ⟨t.val % 8 * 128 + j.val, by omega⟩) := by
  blk_ext! [iblk, V, idx t]
theorem blk1 (c : Dev nD) (t : Fin cfg0.N) (k : Fin 256) (j : Fin 128) :
    iblk m c 1 t (ix2 k j) = m ((c : Thread nD τ).loc main_arg1) (ix2 ⟨t.val / 8 * 256 + k.val, row_lt t k⟩ ⟨3072 + (t.val % 8 * 128 + j.val), by omega⟩) := by
  blk_ext! [iblk, V, idx t]
theorem blk2 (c : Dev nD) (t : Fin cfg0.N) (j : Fin 128) : iblk m c 2 t (ix2 0 j) = m ((c : Thread nD τ).loc main_arg2) (ix2 0 j) := by
  blk_ext! [iblk, V, idx t]

theorem arr3 (c : Dev nD) : (dats m 0 c).arrAt 3 cfg0.N
    = POST (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out3]
  obtain ⟨i, j, rfl⟩ : ∃ (i : Fin 256) (j : Fin 128), y = ix2 i j := ⟨y 0, y 1, by funext a; match a with | ⟨0, _⟩ => rfl | ⟨1, _⟩ => rfl⟩
  have he : (win0_3.blk t).view.emb (ix2 i j) = ix2 ⟨t.val / 8 * 256 + i.val, row_lt t i⟩ ⟨(hd t).val * 128 + j.val, by omega⟩ := by blk_ext [idx t]
  rw [he]
  refine (pay1_apply _ _ _ i j).trans (Eq.trans ?_ (POST_head _ _ _ ⟨t.val / 8 * 256 + i.val, row_lt t i⟩ (hd t) j).symm)
  have h0 : (fun k : Fin 128 => (iblk m c 0 t (ix2 i k) : EReal)) = headOf (m ((c : Thread nD τ).loc main_arg0)) ⟨t.val / 8 * 256 + i.val, row_lt t i⟩ (hd t) :=
    funext fun k => blk0 m c t i k
  refine (congrArg (fun a : Fin 128 → EReal => entry a _ _ j) h0).trans ?_
  exact congrArg₂ (fun a b : EReal => entry _ a b j) (blk2 m c t j) (blk1 m c t i j)

end Cert.DnGate

namespace Cert.DnPostPlain

open Cert.DnPostReferenceIdeal Cert.DnPostReferenceIdeal.Gen
open Idealize.ShloMosaic
open Idealize.ShloMosaic.TcCoe
open Cert.DnGate (silu rs entry headOf postAt POST POST_head)

/-- The heads of the array. -/
abbrev heads (x : FVec Ideal S2048x1024 .f32) : FVec Ideal S2048x8x128 .f32 := shapeCast _ x shapeCasts_S2048x1024_S2048x8x128
/-- The gates: the fourth of the input projection's blocks of columns. -/
abbrev gate (g : FVec Ideal S2048x13440 .f32) : FVec Ideal S2048x8x128 .f32 := heads (extractStridedSlice S2048x1024 ![0, 3072] g slices_S2048x13440_S2048x1024_0_3072)

/-- The gated norm, head by head. -/
abbrev core (o : FVec Ideal S2048x1024 .f32) (g : FVec Ideal S2048x13440 .f32) (w : FVec Ideal S1x128 .f32) : FVec Ideal S2048x8x128 .f32 :=
  mulf (mulf (mulf (heads o) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (heads o) (heads o)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32))))))
      (broadcastInDim S2048x8x128 ![0, 1, 2] bcast_S1x1x128_S2048x8x128_0_1_2 (broadcastInDim S1x1x128 ![1, 2] bcast_S1x128_S1x1x128_1_2 w)))
    (mulf (gate g) (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (gate g))))))

theorem core_apply (o : FVec Ideal S2048x1024 .f32) (g : FVec Ideal S2048x13440 .f32) (w : FVec Ideal S1x128 .f32) (i : Fin 2048) (h : Fin 8) (j : Fin 128) :
    (core o g w (ix3 i h j) : EReal) = postAt o g w i h j := by
  pointwise [postAt, headOf, entry, rs, silu]

theorem post_eq (o : FVec Ideal S2048x1024 .f32) (g : FVec Ideal S2048x13440 .f32) (w : FVec Ideal S1x128 .f32) :
    (truncf .bf16 (shapeCast S2048x1024 (core o g w) shapeCasts_S2048x8x128_S2048x1024 : FVec Ideal S2048x1024 .f32) bitsLt_bf16_f32 : FVec Ideal S2048x1024 .bf16) = POST o g w := by
  funext y
  obtain ⟨i, h, j, rfl⟩ : ∃ (i : Fin 2048) (h : Fin 8) (j : Fin 128), y = ix2 i ⟨h.val * 128 + j.val, by omega⟩ :=
    ⟨y 0, ⟨(y 1).val / 128, by have := (y 1).isLt; simp at this; omega⟩, ⟨(y 1).val % 128, Nat.mod_lt _ (by decide)⟩, by
      funext a; match a with | ⟨0, _⟩ => rfl | ⟨1, _⟩ => exact Fin.ext (by show (y 1).val = (y 1).val / 128 * 128 + (y 1).val % 128; omega)⟩
  refine Eq.trans ?_ ((core_apply o g w i h j).trans (POST_head o g w i h j).symm)
  refine shapeCast_apply (core o g w) shapeCasts_S2048x8x128_S2048x1024 _ (ix3 i h j) ?_
  rw [Shape.rowMajor_val_three, Shape.rowMajor_val_two]
  show (i.val * 8 + h.val) * 128 + j.val = i.val * 1024 + (h.val * 128 + j.val)
  omega

end Cert.DnPostPlain

end
-- ==== Proof.SsmPostValue.lean ====
/- What the gated norm of the groups comes to, element by element over the extended reals, and that the reference's norm of each group is the same. -/
module

public import proofs.«01_k».proof.Defs
public import proofs.«01_k».proof.Proof.Gen.SsmPostIdeal.Value
public import proofs.«01_k».proof.Proof.Gen.SsmPostReferenceIdeal.Run
public import Idealize.ShloMosaic.Lib.Pipeline.ValueKit

@[expose] public section

set_option maxRecDepth 16384

noncomputable section

namespace Cert.SsmGate

open Cert.SsmPostIdeal Cert.SsmPostIdeal.Gen
open Idealize.ShloMosaic
open Idealize.ShloMosaic.TcCoe
open Idealize.ShloMosaic.Pipeline (Dat Cfg Window)

/-- `x` times its sigmoid. -/
def silu (x : EReal) : EReal := x * Ideal.div 1 (1 + Ideal.exp (-x))
/-- The reciprocal root of the mean square of 256 numbers, a millionth added. -/
def rs (x : Fin 256 → EReal) : EReal := Ideal.rsqrt (Ideal.div (∑ k, x k * x k) (Ideal.ofBits .f32 0x43800000#32) + Ideal.ofBits .f32 0x358637BD#32)
/-- The gated entry: `y` with the skip connection, times the gate. -/
def gated (y x d z : EReal) : EReal := (y + x * d) * silu z
/-- Entry `j` of a group: its norm times its weight. -/
def entry (v : Fin 256 → EReal) (w : EReal) (j : Fin 256) : EReal := v j * rs v * w

/-- The gated entries of group `h` of row `i`. -/
abbrev groupOf (y : (⟨2, ![2048, 1024]⟩ : Shape).Idx → EReal) (x : (⟨2, ![2048, 2048]⟩ : Shape).Idx → EReal) (z : (⟨2, ![2048, 13440]⟩ : Shape).Idx → EReal)
    (d : (⟨2, ![1, 1024]⟩ : Shape).Idx → EReal) (i : Fin 2048) (h : Fin 4) : Fin 256 → EReal :=
  fun k => gated (y (ix2 i ⟨h.val * 256 + k.val, by omega⟩)) (x (ix2 i ⟨h.val * 256 + k.val, by omega⟩)) (d (ix2 0 ⟨h.val * 256 + k.val, by omega⟩))
    (z (ix2 i ⟨7168 + (h.val * 256 + k.val), by omega⟩))
abbrev postAt (y : (⟨2, ![2048, 1024]⟩ : Shape).Idx → EReal) (x : (⟨2, ![2048, 2048]⟩ : Shape).Idx → EReal) (z : (⟨2, ![2048, 13440]⟩ : Shape).Idx → EReal)
    (d w : (⟨2, ![1, 1024]⟩ : Shape).Idx → EReal) (i : Fin 2048) (h : Fin 4) (j : Fin 256) : EReal :=
  entry (groupOf y x z d i h) (w (ix2 0 ⟨h.val * 256 + j.val, by omega⟩)) j
def POST (y : (⟨2, ![2048, 1024]⟩ : Shape).Idx → EReal) (x : (⟨2, ![2048, 2048]⟩ : Shape).Idx → EReal) (z : (⟨2, ![2048, 13440]⟩ : Shape).Idx → EReal)
    (d w : (⟨2, ![1, 1024]⟩ : Shape).Idx → EReal) (e : (⟨2, ![2048, 1024]⟩ : Shape).Idx) : EReal :=
  postAt y x z d w (e 0) ⟨(e 1).val / 256, by have := (e 1).isLt; simp at this; omega⟩ ⟨(e 1).val % 256, Nat.mod_lt _ (by decide)⟩

theorem POST_group (y : (⟨2, ![2048, 1024]⟩ : Shape).Idx → EReal) (x : (⟨2, ![2048, 2048]⟩ : Shape).Idx → EReal) (z : (⟨2, ![2048, 13440]⟩ : Shape).Idx → EReal)
    (d w : (⟨2, ![1, 1024]⟩ : Shape).Idx → EReal) (i : Fin 2048) (h : Fin 4) (j : Fin 256) :
    POST y x z d w (ix2 i ⟨h.val * 256 + j.val, by omega⟩) = postAt y x z d w i h j := by
  have h1 : (⟨(h.val * 256 + j.val) / 256, by omega⟩ : Fin 4) = h := Fin.ext (by show (h.val * 256 + j.val) / 256 = h.val; omega)
  have h2 : (⟨(h.val * 256 + j.val) % 256, by omega⟩ : Fin 256) = j := Fin.ext (by show (h.val * 256 + j.val) % 256 = j.val; omega)
  show postAt y x z d w i ⟨(h.val * 256 + j.val) / 256, _⟩ ⟨(h.val * 256 + j.val) % 256, _⟩ = _
  rw [h1, h2]

theorem pay1_apply (y x : FVec Ideal S256x256 .f32) (d : FVec Ideal S1x256 .f32) (z : FVec Ideal S256x256 .f32) (w : FVec Ideal S1x256 .f32) (i : Fin 256) (j : Fin 256) :
    (k0_pay1 (F := Ideal) y x d z w (ix2 i j) : EReal)
      = entry (fun k => gated (y (ix2 i k)) (x (ix2 i k)) (d (ix2 0 k)) (z (ix2 i k))) (w (ix2 0 j)) j := by
  pointwise [k0_pay1, entry, gated, rs, silu]
  simp only [zero_sub]

variable (m : (ℓ : Loc nD τ sig) → Buf (Elt Ideal) ℓ)

theorem outs (c : Dev nD) (t : Fin cfg0.N) : outsAt0 m c t = k0_pay1 (iblk m c 0 t) (iblk m c 1 t) (iblk m c 3 t) (X0_2 m c t) (iblk m c 4 t) := by
  unfold outsAt0; frame_out

theorem idx : ∀ t : Fin cfg0.N, win0_0.index t = ![t.val % 8, t.val / 8] ∧ win0_1.index t = ![t.val % 8, t.val / 8] ∧ win0_2.index t = ![t.val % 8, 28 + t.val / 8]
    ∧ win0_3.index t = ![0, t.val / 8] ∧ win0_4.index t = ![0, t.val / 8] ∧ win0_5.index t = ![t.val % 8, t.val / 8] :=
  (by decide +kernel : ∀ t : Fin grid0.N, _)

theorem row_lt (t : Fin cfg0.N) (k : Fin 256) : t.val % 8 * 256 + k.val < 2048 := by omega
theorem grp_lt (t : Fin cfg0.N) : t.val / 8 < 4 := by have := Nat.lt_of_lt_of_eq t.isLt N_0; omega
/-- The group of a point of the grid. -/
abbrev gp (t : Fin cfg0.N) : Fin 4 := ⟨t.val / 8, grp_lt t⟩

theorem blk0 (c : Dev nD) (t : Fin cfg0.N) (k : Fin 256) (j : Fin 256) :
    iblk m c 0 t (ix2 k j) = m ((c : Thread nD τ).loc main_arg0) (ix2 ⟨t.val % 8 * 256 + k.val, row_lt t k⟩ ⟨t.val / 8 * 256 + j.val, by have := grp_lt t; omega⟩) := by
  blk_ext! [iblk, V, idx t]
theorem blk1 (c : Dev nD) (t : Fin cfg0.N) (k : Fin 256) (j : Fin 256) :
    iblk m c 1 t (ix2 k j) = m ((c : Thread nD τ).loc main_arg1) (ix2 ⟨t.val % 8 * 256 + k.val, row_lt t k⟩ ⟨t.val / 8 * 256 + j.val, by have := grp_lt t; omega⟩) := by
  blk_ext! [iblk, V, idx t]
theorem blk2 (c : Dev nD) (t : Fin cfg0.N) (k : Fin 256) (j : Fin 256) :
    X0_2 m c t (ix2 k j) = m ((c : Thread nD τ).loc main_arg2) (ix2 ⟨t.val % 8 * 256 + k.val, row_lt t k⟩ ⟨7168 + (t.val / 8 * 256 + j.val), by have := grp_lt t; omega⟩) := by
  unfold X0_2 Pipeline.Window.fill
  rw [dif_pos (moved0_2 t _)]
  blk_ext! [iblk, V, idx t]
theorem blk3 (c : Dev nD) (t : Fin cfg0.N) (j : Fin 256) :
    iblk m c 3 t (ix2 0 j) = m ((c : Thread nD τ).loc main_arg3) (ix2 0 ⟨t.val / 8 * 256 + j.val, by have := grp_lt t; omega⟩) := by
  blk_ext! [iblk, V, idx t]
theorem blk4 (c : Dev nD) (t : Fin cfg0.N) (j : Fin 256) :
    iblk m c 4 t (ix2 0 j) = m ((c : Thread nD τ).loc main_arg4) (ix2 0 ⟨t.val / 8 * 256 + j.val, by have := grp_lt t; omega⟩) := by
  blk_ext! [iblk, V, idx t]

theorem arr5 (c : Dev nD) : (dats m 0 c).arrAt 5 cfg0.N
    = POST (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, outs]
  obtain ⟨i, j, rfl⟩ : ∃ (i : Fin 256) (j : Fin 256), y = ix2 i j := ⟨y 0, y 1, by funext a; match a with | ⟨0, _⟩ => rfl | ⟨1, _⟩ => rfl⟩
  have he : (win0_5.blk t).view.emb (ix2 i j) = ix2 ⟨t.val % 8 * 256 + i.val, row_lt t i⟩ ⟨(gp t).val * 256 + j.val, by have := grp_lt t; omega⟩ := by blk_ext [idx t]
  rw [he]
  refine (pay1_apply _ _ _ _ _ i j).trans (Eq.trans ?_ (POST_group _ _ _ _ _ ⟨t.val % 8 * 256 + i.val, row_lt t i⟩ (gp t) j).symm)
  have h0 : (fun k : Fin 256 => gated (iblk m c 0 t (ix2 i k)) (iblk m c 1 t (ix2 i k)) (iblk m c 3 t (ix2 0 k)) (X0_2 m c t (ix2 i k)))
      = groupOf (m ((c : Thread nD τ).loc main_arg0)) (m ((c : Thread nD τ).loc main_arg1)) (m ((c : Thread nD τ).loc main_arg2)) (m ((c : Thread nD τ).loc main_arg3))
        ⟨t.val % 8 * 256 + i.val, row_lt t i⟩ (gp t) :=
    funext fun k => (congrArg₂ (fun a b : EReal => gated a b _ _) (blk0 m c t i k) (blk1 m c t i k)).trans
      (congrArg₂ (fun a b : EReal => gated _ _ a b) (blk3 m c t k) (blk2 m c t i k))
  exact congrArg₂ (fun (a : Fin 256 → EReal) (b : EReal) => entry a b j) h0 (blk4 m c t j)

end Cert.SsmGate

namespace Cert.SsmPostPlain

open Cert.SsmPostReferenceIdeal Cert.SsmPostReferenceIdeal.Gen
open Idealize.ShloMosaic
open Idealize.ShloMosaic.TcCoe
open Cert.SsmGate (silu rs gated entry groupOf postAt POST POST_group)

/-- The gate: the eighth of the input projection's blocks of columns. -/
abbrev gate (z : FVec Ideal S2048x13440 .f32) : FVec Ideal S2048x1024 .f32 := extractStridedSlice S2048x1024 ![0, 7168] z slices_S2048x13440_S2048x1024_0_7168
/-- The gated rows. -/
abbrev rows (y : FVec Ideal S2048x1024 .f32) (x : FVec Ideal S2048x2048 .f32) (z : FVec Ideal S2048x13440 .f32) (d : FVec Ideal S1x1024 .f32) : FVec Ideal S2048x1024 .f32 :=
  mulf (addf y (mulf (extractStridedSlice S2048x1024 ![0, 0] x slices_S2048x2048_S2048x1024_0_0) (broadcastInDim S2048x1024 ![0, 1] bcast_S1x1024_S2048x1024_0_1 d)))
    (mulf (gate z) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (gate z))))))
/-- The groups of the rows. -/
abbrev groups (v : FVec Ideal S2048x1024 .f32) : FVec Ideal S2048x4x256 .f32 := shapeCast _ v shapeCasts_S2048x1024_S2048x4x256
/-- The norm, group by group. -/
abbrev core (v : FVec Ideal S2048x1024 .f32) (w : FVec Ideal S1x1024 .f32) : FVec Ideal S2048x4x256 .f32 :=
  mulf (mulf (groups v) (broadcastInDim S2048x4x256 ![0, 1, 2] bcast_S2048x4x1_S2048x4x256_0_1_2 (Host.rsqrt (addf (Host.divf (broadcastInDim S2048x4x1 ![0, 1] bcast_S2048x4_S2048x4x1_0_1 (Host.reduceAdd (mulf (groups v) (groups v)) (constant S_ .f32 0x00000000#32) reducesTo_S2048x4x256_S2048x4_d2 h_S_)) (broadcastInDim S2048x4x1 ![] bcast_S_S2048x4x1 (constant S_ .f32 0x43800000#32))) (broadcastInDim S2048x4x1 ![] bcast_S_S2048x4x1 (constant S_ .f32 0x358637BD#32))))))
    (broadcastInDim S2048x4x256 ![0, 1, 2] bcast_S1x4x256_S2048x4x256_0_1_2 (broadcastInDim S1x4x256 ![1, 2] bcast_S4x256_S1x4x256_1_2 (shapeCast _ w shapeCasts_S1x1024_S4x256)))

theorem rows_apply (y : FVec Ideal S2048x1024 .f32) (x : FVec Ideal S2048x2048 .f32) (z : FVec Ideal S2048x13440 .f32) (d : FVec Ideal S1x1024 .f32) (i : Fin 2048) (j : Fin 1024) :
    (rows y x z d (ix2 i j) : EReal) = gated (y (ix2 i j)) (x (ix2 i ⟨j.val, by omega⟩)) (d (ix2 0 j)) (z (ix2 i ⟨7168 + j.val, by omega⟩)) := by
  pointwise [gated, silu]

theorem core_apply (v : FVec Ideal S2048x1024 .f32) (w : FVec Ideal S1x1024 .f32) (i : Fin 2048) (h : Fin 4) (j : Fin 256) :
    (core v w (ix3 i h j) : EReal) = entry (fun k => v (ix2 i ⟨h.val * 256 + k.val, by omega⟩)) (w (ix2 0 ⟨h.val * 256 + j.val, by omega⟩)) j := by
  pointwise [entry, rs]

theorem post_eq (y : FVec Ideal S2048x1024 .f32) (x : FVec Ideal S2048x2048 .f32) (z : FVec Ideal S2048x13440 .f32) (d w : FVec Ideal S1x1024 .f32) :
    (truncf .bf16 (shapeCast S2048x1024 (core (rows y x z d) w) shapeCasts_S2048x4x256_S2048x1024 : FVec Ideal S2048x1024 .f32) bitsLt_bf16_f32 : FVec Ideal S2048x1024 .bf16)
      = POST y x z d w := by
  funext e
  obtain ⟨i, h, j, rfl⟩ : ∃ (i : Fin 2048) (h : Fin 4) (j : Fin 256), e = ix2 i ⟨h.val * 256 + j.val, by omega⟩ :=
    ⟨e 0, ⟨(e 1).val / 256, by have := (e 1).isLt; simp at this; omega⟩, ⟨(e 1).val % 256, Nat.mod_lt _ (by decide)⟩, by
      funext a; match a with | ⟨0, _⟩ => rfl | ⟨1, _⟩ => exact Fin.ext (by show (e 1).val = (e 1).val / 256 * 256 + (e 1).val % 256; omega)⟩
  have hg : (fun k : Fin 256 => (rows y x z d (ix2 i ⟨h.val * 256 + k.val, by omega⟩) : EReal)) = groupOf y x z d i h := funext fun k => rows_apply y x z d i _
  refine Eq.trans ?_ (((core_apply (rows y x z d) w i h j).trans (congrArg (fun a : Fin 256 → EReal => entry a _ j) hg)).trans (POST_group y x z d w i h j).symm)
  refine shapeCast_apply (core (rows y x z d) w) shapeCasts_S2048x4x256_S2048x1024 _ (ix3 i h j) ?_
  rw [Shape.rowMajor_val_three, Shape.rowMajor_val_two]
  show (i.val * 4 + h.val) * 256 + j.val = i.val * 1024 + (h.val * 256 + j.val)
  omega

end Cert.SsmPostPlain

end
-- ==== Proof.lean ====
/- The gradient exchange with the update that follows it, the gathering of the weights, the small weights' step, a norm forward and backward, the products of the MLP, and the final loss: every claim. -/
module

public import proofs.«01_k».proof.Defs
public import proofs.«01_k».proof.Proof.Value
public import proofs.«01_k».proof.Proof.Gen.Kernel
public import proofs.«01_k».proof.Proof.Gen.ReferenceIdeal.Run
public import proofs.«01_k».proof.Proof.Gen.Gather
public import proofs.«01_k».proof.Proof.GatherWhole
public import proofs.«01_k».proof.Proof.Gen.GatherReferenceIdeal.Run
public import proofs.«01_k».proof.Proof.Gen.GatherReference.Run
public import proofs.«01_k».proof.Proof.Gen.Small.Frame
public import proofs.«01_k».proof.Proof.Gen.SmallIdeal.Frame
public import proofs.«01_k».proof.Proof.Gen.SmallIdeal.Value
public import proofs.«01_k».proof.Proof.Gen.SmallReferenceIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal.Run
public import proofs.«01_k».proof.Proof.Gen.Loss.Frame
public import proofs.«01_k».proof.Proof.Gen.LossIdeal.Frame
public import proofs.«01_k».proof.Proof.Gen.LossIdeal.Value
public import proofs.«01_k».proof.Proof.Gen.LossReferenceIdeal.Run
public import proofs.«01_k».proof.Proof.Gen.Forward.Frame
public import proofs.«01_k».proof.Proof.Gen.ForwardIdeal.Frame
public import proofs.«01_k».proof.Proof.Gen.ForwardIdeal.Value
public import proofs.«01_k».proof.Proof.Gen.ForwardReferenceIdeal.Run
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.NormValue
public import proofs.«01_k».proof.Proof.LossValue
public import proofs.«01_k».proof.Proof.ForwardValue
public import proofs.«01_k».proof.Proof.UpValue
public import proofs.«01_k».proof.Proof.DownValue
public import proofs.«01_k».proof.Proof.DownDxValue
public import proofs.«01_k».proof.Proof.DownDwValue
public import proofs.«01_k».proof.Proof.UpDwValue
public import proofs.«01_k».proof.Proof.UpDxValue
public import proofs.«01_k».proof.Proof.OutValue
public import proofs.«01_k».proof.Proof.OutDxValue
public import proofs.«01_k».proof.Proof.OutDwValue
public import proofs.«01_k».proof.Proof.BranchValue
public import proofs.«01_k».proof.Proof.BranchSbValue
public import proofs.«01_k».proof.Proof.BranchSbDwValue
public import proofs.«01_k».proof.Proof.InValue
public import proofs.«01_k».proof.Proof.InDwValue
public import proofs.«01_k».proof.Proof.InDxValue
public import proofs.«01_k».proof.Proof.MergeValue
public import proofs.«01_k».proof.Proof.MergeDxValue
public import proofs.«01_k».proof.Proof.DnPostValue
public import proofs.«01_k».proof.Proof.SsmPostValue
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxReferenceIdeal.Run
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwReferenceIdeal.Run
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwReferenceIdeal.Run
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxReferenceIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxReferenceIdeal.Run
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwReferenceIdeal.Run
public import proofs.«01_k».proof.Proof.Gen.Branch.Frame
public import proofs.«01_k».proof.Proof.Gen.BranchIdeal.Frame
public import proofs.«01_k».proof.Proof.Gen.BranchIdeal.Value
public import proofs.«01_k».proof.Proof.Gen.BranchReferenceIdeal.Run
public import proofs.«01_k».proof.Proof.Gen.BranchSb.Frame
public import proofs.«01_k».proof.Proof.Gen.BranchSbIdeal.Frame
public import proofs.«01_k».proof.Proof.Gen.BranchSbIdeal.Value
public import proofs.«01_k».proof.Proof.Gen.BranchSbReferenceIdeal.Run
public import proofs.«01_k».proof.Proof.Gen.BranchSbDw.Frame
public import proofs.«01_k».proof.Proof.Gen.BranchSbDwIdeal.Frame
public import proofs.«01_k».proof.Proof.Gen.BranchSbDwIdeal.Value
public import proofs.«01_k».proof.Proof.Gen.BranchSbDwReferenceIdeal.Run
public import proofs.«01_k».proof.Proof.Gen.In.Frame
public import proofs.«01_k».proof.Proof.Gen.InIdeal.Frame
public import proofs.«01_k».proof.Proof.Gen.InIdeal.Value
public import proofs.«01_k».proof.Proof.Gen.InReferenceIdeal.Run
public import proofs.«01_k».proof.Proof.Gen.InDw.Frame
public import proofs.«01_k».proof.Proof.Gen.InDwIdeal.Frame
public import proofs.«01_k».proof.Proof.Gen.InDwIdeal.Value
public import proofs.«01_k».proof.Proof.Gen.InDwReferenceIdeal.Run
public import proofs.«01_k».proof.Proof.Gen.InDx.Frame
public import proofs.«01_k».proof.Proof.Gen.InDxIdeal.Frame
public import proofs.«01_k».proof.Proof.Gen.InDxIdeal.Value
public import proofs.«01_k».proof.Proof.Gen.InDxReferenceIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeDx.Frame
public import proofs.«01_k».proof.Proof.Gen.MergeDxIdeal.Frame
public import proofs.«01_k».proof.Proof.Gen.MergeDxIdeal.Value
public import proofs.«01_k».proof.Proof.Gen.MergeDxReferenceIdeal.Run
public import proofs.«01_k».proof.Proof.Gen.DnPost.Frame
public import proofs.«01_k».proof.Proof.Gen.DnPostIdeal.Frame
public import proofs.«01_k».proof.Proof.Gen.DnPostIdeal.Value
public import proofs.«01_k».proof.Proof.Gen.DnPostReferenceIdeal.Run
public import proofs.«01_k».proof.Proof.Gen.SsmPost.Frame
public import proofs.«01_k».proof.Proof.Gen.SsmPostIdeal.Frame
public import proofs.«01_k».proof.Proof.Gen.SsmPostIdeal.Value
public import proofs.«01_k».proof.Proof.Gen.SsmPostReferenceIdeal.Run
public import Idealize.ShloMosaic.Lib.Quiescent

@[expose] public section

set_option maxRecDepth 16384

noncomputable section

namespace Cert.Proof

open Idealize.ShloMosaic hiding ix2 ix3
open Idealize.ShloMosaic.TcCoe Idealize.SL.Sem
open Idealize.ShloMosaic.ValueIdx (ix2 ix3)
open Cert.Update (B₀ S₀ W3 gEnd dE mE vE end0 end1 end2 end3 end4 end_arg ix3_eq)
open Cert.Plain (gRef sRef dRef mRef vRef gRef_apply sRef_apply dRef_apply mRef_apply vRef_apply)

/-- The arguments end as they began, the counters at zero. -/
theorem keeps {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, ∀ b : Ref Cert.KernelIdeal.sig .tc,
        b ∈ [Cert.KernelIdeal.main_arg0, Cert.KernelIdeal.main_arg1, Cert.KernelIdeal.main_arg2, Cert.KernelIdeal.main_arg3, Cert.KernelIdeal.main_arg4] →
          r.2.mem ((c.tc : Thread Cert.KernelIdeal.nD Cert.KernelIdeal.τ).loc b) = m ((c.tc : Thread Cert.KernelIdeal.nD Cert.KernelIdeal.τ).loc b))
      ∧ r.2.sem = fun _ => 0) := by
  refine (θ_run _ _ _).mono (fun r h => ⟨fun c b hb => ?_, h.2⟩) (Cert.Update.run_main (F := F) m g)
  have hs : ∀ b : Ref Cert.KernelIdeal.sig .tc,
      b ∈ [Cert.KernelIdeal.main_arg0, Cert.KernelIdeal.main_arg1, Cert.KernelIdeal.main_arg2, Cert.KernelIdeal.main_arg3, Cert.KernelIdeal.main_arg4] → b.isScoped = false := by decide
  exact (h.1 c b (hs b hb)).trans (end_arg m c b hb)

/-- The same, argument by argument. -/
theorem keeps_each {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨fun c =>
    ⟨h.1 c Cert.KernelIdeal.main_arg0 (by decide), h.1 c Cert.KernelIdeal.main_arg1 (by decide), h.1 c Cert.KernelIdeal.main_arg2 (by decide),
      h.1 c Cert.KernelIdeal.main_arg3 (by decide), h.1 c Cert.KernelIdeal.main_arg4 (by decide)⟩, h.2⟩) (keeps m g)

/-! ## The program as printed is the same text: its run is the idealized program's run over bit patterns -/

theorem same_exchange : @Cert.Kernel.cc0_grad_exchange Bits _ = @Cert.KernelIdeal.cc0_grad_exchange Bits _ := rfl

theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun same_exchange _) _) _) _) _) _) _) _) _) _) _
  | 1, (t, s) => rfl
  | 2, (t, s) => rfl

theorem same_defs : Cert.Kernel.defs (F := Bits) = Cert.KernelIdeal.defs (F := Bits) :=
  congrArg (Pipeline.defs (Cert.KernelIdeal.pcfgs (F := Bits))) same_bodies

theorem same_run : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congrArg (fun d => θ_run d (onTc (τ := Cert.KernelIdeal.τ) (Cert.KernelIdeal.main (F := Bits)))) same_defs

theorem frame_kernel : Cert.quiescent_Kernel := by
  intro m g _
  rw [same_run]
  exact keeps_each (F := Bits) m g

theorem frame_ideal : Cert.quiescent_KernelIdeal := fun m g _ => keeps_each (F := Ideal) m g

theorem frame_reference : Cert.quiescent_ReferenceIdeal := by
  intro m g _
  exact (θ_run Cert.ReferenceIdeal.defs _ _).mono (fun r h => ⟨fun c => (h c).2.2.2.2.2, sem_eq_zero_of_no_sems (by decide) r.2⟩)
    (Cert.ReferenceIdeal.Value.run (F := Ideal) m g)

/-! ## The two programs' results, element by element -/

abbrev MemK : Type := (ℓ : Loc Cert.KernelIdeal.nD Cert.KernelIdeal.τ Cert.KernelIdeal.sig) → Buf (Elt Ideal) ℓ

section Equal

variable (m : MemK) (x0 : FVec Ideal Cert.ReferenceIdeal.S64x51712x128 .bf16) (x1 : FVec Ideal Cert.ReferenceIdeal.S3328x128 .f32)

theorem sum_eq (h : ∀ c : Dev Cert.KernelIdeal.nD, B₀ m c = Layout.block ⟨3, ![8, 51712, 128]⟩ ⟨3, ![64, 51712, 128]⟩ 0 8 c x0)
    (c : Dev Cert.KernelIdeal.nD) (t : Layout.Tiles ⟨2, ![51712, 128]⟩ ⟨2, ![413696, 128]⟩ 0 8) (i : Cert.KernelIdeal.S51712x128.Idx) :
    gEnd m c i = gRef x0 (t.idx c i) := by
  refine Eq.trans ?_ (gRef_apply x0 c (i 0) (i 1) (t.idx c i) (Layout.idx_rows_val t c i).1 (Layout.idx_rows_val t c i).2).symm
  refine Finset.sum_congr rfl fun k _ => ?_
  rw [h k]
  refine (Layout.block_apply k x0 _ _).trans (congrArg x0 (ix3_eq (n0 := 64) (n1 := 51712) (n2 := 128) _ _ _ _ ?_ rfl rfl))
  show k.val * 8 + c.val = 8 * k.val + c.val
  omega

theorem small_eq (h : ∀ c : Dev Cert.KernelIdeal.nD, S₀ m c = Layout.block ⟨2, ![416, 128]⟩ ⟨2, ![3328, 128]⟩ 0 8 c x1)
    (i : Cert.KernelIdeal.S416x128.Idx) : (∑ k : Fin 8, (S₀ m k (ix2 (i 0) (i 1)) : EReal) : EReal) = sRef x1 i := by
  refine Eq.trans ?_ (sRef_apply x1 (i 0) (i 1) i rfl rfl).symm
  refine Finset.sum_congr rfl fun k _ => ?_
  rw [h k]
  refine (Layout.block_apply k x1 _ _).trans (congrArg x1 ?_)
  funext a
  apply Fin.ext
  fin_cases a
  · rfl
  · rfl

end Equal

theorem algebraic : Cert.algebraic_KernelIdeal_ReferenceIdeal := by
  intro m g m' g' _ hm
  have hB : ∀ c : Dev Cert.KernelIdeal.nD, B₀ m c = Layout.block ⟨3, ![8, 51712, 128]⟩ ⟨3, ![64, 51712, 128]⟩ 0 8 c _ := fun c => (hm c).1
  have hS : ∀ c : Dev Cert.KernelIdeal.nD, S₀ m c = Layout.block ⟨2, ![416, 128]⟩ ⟨2, ![3328, 128]⟩ 0 8 c _ := fun c => (hm c).2.1
  refine ⟨_, _, _, _, _, (θ_run Cert.KernelIdeal.defs _ _).mono (fun r h c => ?_) (Cert.Update.run_main (F := Ideal) m g),
    (θ_run Cert.ReferenceIdeal.defs _ _).mono (fun r h => h 0) (Cert.ReferenceIdeal.Value.run (F := Ideal) m' g')⟩
  have k : ∀ b : Ref Cert.KernelIdeal.sig .tc,
      b ∈ [Cert.KernelIdeal.main_arg0, Cert.KernelIdeal.main_arg1, Cert.KernelIdeal.main_arg2, Cert.KernelIdeal.main_arg3, Cert.KernelIdeal.main_arg4] → b.isScoped = false := by decide
  refine ⟨?_, ?_, ?_, ?_, ?_, (h.1 c _ (k _ (by decide))).trans (end_arg m c _ (by decide)), (h.1 c _ (k _ (by decide))).trans (end_arg m c _ (by decide)),
    (h.1 c _ (k _ (by decide))).trans (end_arg m c _ (by decide)), (h.1 c _ (k _ (by decide))).trans (end_arg m c _ (by decide)),
    (h.1 c _ (k _ (by decide))).trans (end_arg m c _ (by decide))⟩
  · refine (h.1 c Cert.KernelIdeal.main_v2_0 (by decide)).trans ((end0 m c).trans ?_)
    funext i
    exact sum_eq m _ hB c _ i
  · refine (h.1 c Cert.KernelIdeal.main_v2_1 (by decide)).trans ((end1 m c).trans ?_)
    funext i
    refine Eq.trans ?_ (dRef_apply (gRef _) _ _ _ _).symm
    rw [sum_eq m _ hB c (by decide) i, (hm c).2.2.1, (hm c).2.2.2.1, (hm c).2.2.2.2]
    rfl
  · refine (h.1 c Cert.KernelIdeal.main_v2_2 (by decide)).trans ((end2 m c).trans ?_)
    funext i
    refine Eq.trans ?_ (mRef_apply (gRef _) _ _).symm
    rw [sum_eq m _ hB c (by decide) i, (hm c).2.2.2.1]
    rfl
  · refine (h.1 c Cert.KernelIdeal.main_v2_3 (by decide)).trans ((end3 m c).trans ?_)
    funext i
    refine Eq.trans ?_ (vRef_apply (gRef _) _ _).symm
    rw [sum_eq m _ hB c (by decide) i, (hm c).2.2.2.2]
    rfl
  · refine (h.1 c Cert.KernelIdeal.main_v3 (by decide)).trans ((end4 m c).trans ?_)
    funext i
    exact small_eq m _ hS i

/-! ## The gathering of the weights -/

section Gathered

variable {F : FTy → Type} [FloatOps F]

/-- Slot `k` of the gathered array is block `k` of the whole one: the gathered array is the whole one, reshaped. -/
theorem gathered (X : Dev Cert.GatherIdeal.nD → FVec F Cert.GatherIdeal.S51344x128 .bf16) (w : FVec F Cert.GatherReferenceIdeal.S410752x128 .bf16)
    (t : Layout.Tiles ⟨2, ![51344, 128]⟩ ⟨2, ![410752, 128]⟩ 0 8) (sc : Cert.GatherReferenceIdeal.S410752x128.ShapeCasts Cert.GatherReferenceIdeal.S8x51344x128)
    (h : ∀ c : Dev Cert.GatherIdeal.nD, X c = Layout.block ⟨2, ![51344, 128]⟩ ⟨2, ![410752, 128]⟩ 0 8 c w t) :
    Cert.Gathering.gat X = shapeCast Cert.GatherReferenceIdeal.S8x51344x128 w sc := by
  funext i
  refine Eq.trans ((congrFun (h (i 0)) (ix2 (i 1) (i 2))).trans (Layout.block_apply (i 0) w t _)) (shapeCast_apply w sc i _ ?_).symm
  rw [Shape.rowMajor_val_two, Shape.rowMajor_val_three]
  rfl

/-- The gather's runs: every device's result is the whole array, reshaped. -/
theorem gather_run (m : (ℓ : Loc Cert.GatherIdeal.nD Cert.GatherIdeal.τ Cert.GatherIdeal.sig) → Buf (Elt F) ℓ) (g : Dev Cert.GatherIdeal.nD → PrngReg)
    (w : FVec F Cert.GatherReferenceIdeal.S410752x128 .bf16) (t : Layout.Tiles ⟨2, ![51344, 128]⟩ ⟨2, ![410752, 128]⟩ 0 8)
    (sc : Cert.GatherReferenceIdeal.S410752x128.ShapeCasts Cert.GatherReferenceIdeal.S8x51344x128)
    (h : ∀ c : Dev Cert.GatherIdeal.nD, m ((c.tc : Thread Cert.GatherIdeal.nD Cert.GatherIdeal.τ).loc Cert.GatherIdeal.main_arg0)
      = Layout.block ⟨2, ![51344, 128]⟩ ⟨2, ![410752, 128]⟩ 0 8 c w t) :
    θ_run (Cert.GatherIdeal.defs (F := F)) (onTc (τ := Cert.GatherIdeal.τ) (Cert.GatherIdeal.main (F := F))) ⟨m, fun _ => 0, g⟩ (fun r =>
      ∀ c : Dev Cert.GatherIdeal.nD,
        r.2.mem ((c.tc : Thread Cert.GatherIdeal.nD Cert.GatherIdeal.τ).loc Cert.GatherIdeal.main_v1) = shapeCast Cert.GatherReferenceIdeal.S8x51344x128 w sc
        ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)) :=
  (θ_run Cert.GatherIdeal.defs _ _).mono (fun r hr c => ⟨(hr.1 c).1.trans (gathered _ w t sc h), (hr.1 c).2⟩) (Cert.Gathering.run_main (F := F) m g)

/-- The gather leaves its operands as they were and every counter at zero. -/
theorem gather_keeps (m : (ℓ : Loc Cert.GatherIdeal.nD Cert.GatherIdeal.τ Cert.GatherIdeal.sig) → Buf (Elt F) ℓ) (g : Dev Cert.GatherIdeal.nD → PrngReg) :
    θ_run (Cert.GatherIdeal.defs (F := F)) (onTc (τ := Cert.GatherIdeal.τ) (Cert.GatherIdeal.main (F := F))) ⟨m, fun _ => 0, g⟩ (fun r =>
      (∀ c : Dev Cert.GatherIdeal.nD,
        r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0) :=
  (θ_run Cert.GatherIdeal.defs _ _).mono (fun r hr => ⟨fun c => (hr.1 c).2, hr.2⟩) (Cert.Gathering.run_main (F := F) m g)

end Gathered

theorem same_gather : @Cert.Gather.cc0_weight_all_gather Bits _ = @Cert.GatherIdeal.cc0_weight_all_gather Bits _ := rfl

theorem same_gather_bodies : Cert.Gather.defs₀ (F := Bits) = Cert.GatherIdeal.defs₀ (F := Bits) := by
  unfold Cert.Gather.defs₀ Cert.GatherIdeal.defs₀
  refine congrArg Defs.onTc ?_
  funext l a
  match l, a with
  | 0, (t, s) => exact congrFun (congrFun (congrFun (congrFun (congrFun (congrFun (congrFun same_gather _) _) _) _) _) _) _

theorem same_gather_defs : Cert.Gather.defs (F := Bits) = Cert.GatherIdeal.defs (F := Bits) :=
  congrArg (Pipeline.defs (Cert.GatherIdeal.pcfgs (F := Bits))) same_gather_bodies

theorem same_gather_run : θ_run (Cert.Gather.defs (F := Bits)) (onTc (τ := Cert.Gather.τ) (Cert.Gather.main (F := Bits)))
    = θ_run (Cert.GatherIdeal.defs (F := Bits)) (onTc (τ := Cert.GatherIdeal.τ) (Cert.GatherIdeal.main (F := Bits))) :=
  congrArg (fun d => θ_run d (onTc (τ := Cert.GatherIdeal.τ) (Cert.GatherIdeal.main (F := Bits)))) same_gather_defs

theorem frame_gather : Cert.quiescent_Gather := by
  intro m g _
  rw [same_gather_run]
  exact gather_keeps (F := Bits) m g

theorem frame_gather_ideal : Cert.quiescent_GatherIdeal := fun m g _ => gather_keeps (F := Ideal) m g

theorem frame_gather_reference_ideal : Cert.quiescent_GatherReferenceIdeal := by
  intro m g _
  exact (θ_run Cert.GatherReferenceIdeal.defs _ _).mono (fun r h => ⟨fun c => (h c).2, sem_eq_zero_of_no_sems (by decide) r.2⟩)
    (Cert.GatherReferenceIdeal.Value.run (F := Ideal) m g)

theorem frame_gather_reference : Cert.quiescent_GatherReference := by
  intro m g _
  exact (θ_run Cert.GatherReference.defs _ _).mono (fun r h => ⟨fun c => (h c).2, sem_eq_zero_of_no_sems (by decide) r.2⟩)
    (Cert.GatherReference.Value.run (F := Bits) m g)

theorem gather_algebraic : Cert.algebraic_GatherIdeal_GatherReferenceIdeal := by
  intro m g m' g' _ hm
  exact ⟨_, gather_run (F := Ideal) m g _ (by decide) Cert.GatherReferenceIdeal.Facts₀.shapeCasts_S410752x128_S8x51344x128 hm,
    (θ_run Cert.GatherReferenceIdeal.defs _ _).mono (fun r h => h 0) (Cert.GatherReferenceIdeal.Value.run (F := Ideal) m' g')⟩

theorem gather_bitexact : Cert.bitexact_Gather_GatherReference := by
  intro m g m' g' _ hm
  rw [same_gather_run]
  exact ⟨_, gather_run (F := Bits) m g _ (by decide) Cert.GatherReference.Facts₀.shapeCasts_S410752x128_S8x51344x128 hm,
    (θ_run Cert.GatherReference.defs _ _).mono (fun r h => h 0) (Cert.GatherReference.Value.run (F := Bits) m' g')⟩

/-! ## The step of the small weights -/

theorem frame_small : Cert.quiescent_Small := fun m g _ => Cert.Small.Gen.frame m g

theorem frame_small_ideal : Cert.quiescent_SmallIdeal := fun m g _ => Cert.SmallIdeal.Gen.frame m g

theorem frame_small_reference : Cert.quiescent_SmallReferenceIdeal := by
  intro m g _
  exact (θ_run Cert.SmallReferenceIdeal.defs _ _).mono (fun r h => ⟨fun c => (h c).2.2.2, sem_eq_zero_of_no_sems (by decide) r.2⟩)
    (Cert.SmallReferenceIdeal.Value.run (F := Ideal) m g)

/-- Element by element the step and the two moments are the same functions of the weight, its gradient and its moments. -/
theorem small_algebraic : Cert.algebraic_SmallIdeal_SmallReferenceIdeal := by
  intro m g m' g' _ hm
  refine ⟨_, _, _, Cert.SmallIdeal.Value.run (F := Ideal) m g, (θ_run Cert.SmallReferenceIdeal.defs _ _).mono (fun r h c => ?_)
    (Cert.SmallReferenceIdeal.Value.run (F := Ideal) m' g')⟩
  obtain ⟨h0, h1, h2, h3⟩ := hm c
  obtain ⟨k0, k1, k2, k⟩ := h c
  rw [h0, h1, h2, h3] at k0
  rw [h1, h2] at k1
  rw [h1, h3] at k2
  exact ⟨k0.trans rfl, k1.trans rfl, k2.trans rfl, k⟩

/-! ## The backward pass of a norm -/

theorem frame_norm : Cert.quiescent_Norm := fun m g _ => Cert.Norm.Gen.frame m g

theorem frame_norm_ideal : Cert.quiescent_NormIdeal := fun m g _ => Cert.NormIdeal.Gen.frame m g

theorem frame_norm_reference : Cert.quiescent_NormReferenceIdeal := by
  intro m g _
  exact (θ_run Cert.NormReferenceIdeal.defs _ _).mono (fun r h => ⟨fun c => (h c).2.2, sem_eq_zero_of_no_sems (by decide) r.2⟩)
    (Cert.NormReferenceIdeal.Value.run (F := Ideal) m g)

/-- The two gradients are the reference's, entry by entry. -/
theorem norm_algebraic : Cert.algebraic_NormIdeal_NormReferenceIdeal := by
  intro m g m' g' _ hm
  refine ⟨_, _, Cert.NormIdeal.Value.run_blocks (F := Ideal) m g, (θ_run Cert.NormReferenceIdeal.defs _ _).mono (fun r h c => ?_)
    (Cert.NormReferenceIdeal.Value.run (F := Ideal) m' g')⟩
  obtain ⟨h0, h1, h2, h3⟩ := hm c
  obtain ⟨k0, k1, k⟩ := h c
  rw [h0, h1, h2, h3] at k0
  rw [h0, h2] at k1
  exact ⟨k0.trans ((Cert.NormPlain.dx_ref _ _ _ _).trans (Cert.NormBack.arr4 m c).symm),
    k1.trans ((Cert.NormPlain.dw_ref _ _).trans (Cert.NormBack.arr5 m c).symm), k⟩

/-! ## The final loss -/

theorem frame_loss : Cert.quiescent_Loss := fun m g _ => Cert.Loss.Gen.frame m g

theorem frame_loss_ideal : Cert.quiescent_LossIdeal := fun m g _ => Cert.LossIdeal.Gen.frame m g

theorem frame_loss_reference : Cert.quiescent_LossReferenceIdeal := by
  intro m g _
  exact (θ_run Cert.LossReferenceIdeal.defs _ _).mono (fun r h => ⟨fun c => (h c).2.2.2, sem_eq_zero_of_no_sems (by decide) r.2⟩)
    (Cert.LossReferenceIdeal.Value.run (F := Ideal) m g)

/-- The loss and its two gradients are the reference's, entry by entry. -/
theorem loss_algebraic : Cert.algebraic_LossIdeal_LossReferenceIdeal := by
  intro m g m' g' _ hm
  refine ⟨_, _, _, Cert.LossIdeal.Value.run_blocks (F := Ideal) m g, (θ_run Cert.LossReferenceIdeal.defs _ _).mono (fun r h c => ?_)
    (Cert.LossReferenceIdeal.Value.run (F := Ideal) m' g')⟩
  obtain ⟨h0, h1, h2⟩ := hm c
  obtain ⟨k0, k1, k2, k⟩ := h c
  unfold Cert.LossReferenceIdeal.Value.res_main_v48 at k1
  rw [h0, h1, h2] at k0 k1 k2
  exact ⟨k0.trans ((Cert.LossPlain.loss_eq _ _ _).trans (Cert.LossBack.arr3 m c).symm),
    k1.trans ((Cert.LossPlain.dx_ref _ _ _).trans (Cert.LossBack.arr4 m c).symm),
    k2.trans ((Cert.LossPlain.dw_eq _ _ _).trans (Cert.LossBack.arr5 m c).symm), k⟩

/-! ## The forward norm -/

theorem frame_forward : Cert.quiescent_Forward := fun m g _ => Cert.Forward.Gen.frame m g

theorem frame_forward_ideal : Cert.quiescent_ForwardIdeal := fun m g _ => Cert.ForwardIdeal.Gen.frame m g

theorem frame_forward_reference : Cert.quiescent_ForwardReferenceIdeal := by
  intro m g _
  exact (θ_run Cert.ForwardReferenceIdeal.defs _ _).mono (fun r h => ⟨fun c => (h c).2, sem_eq_zero_of_no_sems (by decide) r.2⟩)
    (Cert.ForwardReferenceIdeal.Value.run (F := Ideal) m g)

/-- The normalised rows are the reference's, entry by entry. -/
theorem forward_algebraic : Cert.algebraic_ForwardIdeal_ForwardReferenceIdeal := by
  intro m g m' g' _ hm
  refine ⟨_, Cert.ForwardIdeal.Value.run_blocks (F := Ideal) m g, (θ_run Cert.ForwardReferenceIdeal.defs _ _).mono (fun r h c => ?_)
    (Cert.ForwardReferenceIdeal.Value.run (F := Ideal) m' g')⟩
  obtain ⟨h0, h1⟩ := hm c
  obtain ⟨k0, k⟩ := h c
  rw [h0, h1] at k0
  exact ⟨k0.trans ((Cert.NormFwdPlain.norm_eq _ _).trans (Cert.NormFwd.arr2 m c).symm), k⟩

/-! ## The up projection -/

theorem frame_up : Cert.quiescent_Up := fun m g _ => Cert.Up.Gen.frame m g

theorem frame_up_ideal : Cert.quiescent_UpIdeal := fun m g _ => Cert.UpIdeal.Gen.frame m g

theorem frame_up_reference : Cert.quiescent_UpReferenceIdeal := by
  intro m g _
  exact (θ_run Cert.UpReferenceIdeal.defs _ _).mono (fun r h => ⟨fun c => (h c).2.2, sem_eq_zero_of_no_sems (by decide) r.2⟩)
    (Cert.UpReferenceIdeal.Value.run (F := Ideal) m g)

/-- The product and its squared positive part are the reference's, entry by entry. -/
theorem up_algebraic : Cert.algebraic_UpIdeal_UpReferenceIdeal := by
  intro m g m' g' _ hm
  refine ⟨_, _, Cert.UpIdeal.Value.run_blocks (F := Ideal) m g, (θ_run Cert.UpReferenceIdeal.defs _ _).mono (fun r h c => ?_)
    (Cert.UpReferenceIdeal.Value.run (F := Ideal) m' g')⟩
  obtain ⟨h0, h1⟩ := hm c
  obtain ⟨k0, k1, k⟩ := h c
  rw [h0, h1] at k0 k1
  exact ⟨k0.trans ((Cert.UpPlain.up_eq _ _).trans (Cert.UpProj.arr2 m c).symm), k1.trans ((Cert.UpPlain.act_eq _ _).trans (Cert.UpProj.arr3 m c).symm), k⟩

/-! ## The down projection -/

theorem frame_down : Cert.quiescent_Down := fun m g _ => Cert.Down.Gen.frame m g

theorem frame_down_ideal : Cert.quiescent_DownIdeal := fun m g _ => Cert.DownIdeal.Gen.frame m g

theorem frame_down_reference : Cert.quiescent_DownReferenceIdeal := by
  intro m g _
  exact (θ_run Cert.DownReferenceIdeal.defs _ _).mono (fun r h => ⟨fun c => (h c).2, sem_eq_zero_of_no_sems (by decide) r.2⟩)
    (Cert.DownReferenceIdeal.Value.run (F := Ideal) m g)

/-- The product on top of the rows is the reference's, entry by entry. -/
theorem down_algebraic : Cert.algebraic_DownIdeal_DownReferenceIdeal := by
  intro m g m' g' _ hm
  refine ⟨_, Cert.DownIdeal.Value.run_blocks (F := Ideal) m g, (θ_run Cert.DownReferenceIdeal.defs _ _).mono (fun r h c => ?_)
    (Cert.DownReferenceIdeal.Value.run (F := Ideal) m' g')⟩
  obtain ⟨h0, h1, h2⟩ := hm c
  obtain ⟨k0, k⟩ := h c
  rw [h0, h1, h2] at k0
  exact ⟨k0.trans ((Cert.DownPlain.down_eq _ _ _).trans (Cert.DownProj.arr3 m c).symm), k⟩

/-! ## The gradient of the up projection's product -/

theorem frame_down_dx : Cert.quiescent_DownDx := fun m g _ => Cert.DownDx.Gen.frame m g

theorem frame_down_dx_ideal : Cert.quiescent_DownDxIdeal := fun m g _ => Cert.DownDxIdeal.Gen.frame m g

theorem frame_down_dx_reference : Cert.quiescent_DownDxReferenceIdeal := by
  intro m g _
  exact (θ_run Cert.DownDxReferenceIdeal.defs _ _).mono (fun r h => ⟨fun c => (h c).2, sem_eq_zero_of_no_sems (by decide) r.2⟩)
    (Cert.DownDxReferenceIdeal.Value.run (F := Ideal) m g)

/-- The product through the squared positive part's derivative is the reference's, entry by entry. -/
theorem down_dx_algebraic : Cert.algebraic_DownDxIdeal_DownDxReferenceIdeal := by
  intro m g m' g' _ hm
  refine ⟨_, Cert.DownDxIdeal.Value.run_blocks (F := Ideal) m g, (θ_run Cert.DownDxReferenceIdeal.defs _ _).mono (fun r h c => ?_)
    (Cert.DownDxReferenceIdeal.Value.run (F := Ideal) m' g')⟩
  obtain ⟨h0, h1, h2⟩ := hm c
  obtain ⟨k0, k⟩ := h c
  rw [h0, h1, h2] at k0
  exact ⟨k0.trans ((Cert.DownDxPlain.prod_eq _ _ _).trans (Cert.DownDxProd.arr3 m c).symm), k⟩

/-! ## The gradient of the down projection's weight -/

theorem frame_down_dw : Cert.quiescent_DownDw := fun m g _ => Cert.DownDw.Gen.frame m g

theorem frame_down_dw_ideal : Cert.quiescent_DownDwIdeal := fun m g _ => Cert.DownDwIdeal.Gen.frame m g

theorem frame_down_dw_reference : Cert.quiescent_DownDwReferenceIdeal := by
  intro m g _
  exact (θ_run Cert.DownDwReferenceIdeal.defs _ _).mono (fun r h => ⟨fun c => (h c).2, sem_eq_zero_of_no_sems (by decide) r.2⟩)
    (Cert.DownDwReferenceIdeal.Value.run (F := Ideal) m g)

/-- The product is the reference's, entry by entry. -/
theorem down_dw_algebraic : Cert.algebraic_DownDwIdeal_DownDwReferenceIdeal := by
  intro m g m' g' _ hm
  refine ⟨_, Cert.DownDwIdeal.Value.run_blocks (F := Ideal) m g, (θ_run Cert.DownDwReferenceIdeal.defs _ _).mono (fun r h c => ?_)
    (Cert.DownDwReferenceIdeal.Value.run (F := Ideal) m' g')⟩
  obtain ⟨h0, h1⟩ := hm c
  obtain ⟨k0, k⟩ := h c
  rw [h0, h1] at k0
  exact ⟨k0.trans ((Cert.DownDwPlain.prod_eq _ _).trans (Cert.DownDwProd.arr2 m c).symm), k⟩

/-! ## The gradient of the up projection's weight -/

theorem frame_up_dw : Cert.quiescent_UpDw := fun m g _ => Cert.UpDw.Gen.frame m g

theorem frame_up_dw_ideal : Cert.quiescent_UpDwIdeal := fun m g _ => Cert.UpDwIdeal.Gen.frame m g

theorem frame_up_dw_reference : Cert.quiescent_UpDwReferenceIdeal := by
  intro m g _
  exact (θ_run Cert.UpDwReferenceIdeal.defs _ _).mono (fun r h => ⟨fun c => (h c).2, sem_eq_zero_of_no_sems (by decide) r.2⟩)
    (Cert.UpDwReferenceIdeal.Value.run (F := Ideal) m g)

/-- The product is the reference's, entry by entry. -/
theorem up_dw_algebraic : Cert.algebraic_UpDwIdeal_UpDwReferenceIdeal := by
  intro m g m' g' _ hm
  refine ⟨_, Cert.UpDwIdeal.Value.run_blocks (F := Ideal) m g, (θ_run Cert.UpDwReferenceIdeal.defs _ _).mono (fun r h c => ?_)
    (Cert.UpDwReferenceIdeal.Value.run (F := Ideal) m' g')⟩
  obtain ⟨h0, h1⟩ := hm c
  obtain ⟨k0, k⟩ := h c
  rw [h0, h1] at k0
  exact ⟨k0.trans ((Cert.UpDwPlain.prod_eq _ _).trans (Cert.UpDwProd.arr2 m c).symm), k⟩

/-! ## The gradient in front of the up projection -/

theorem frame_up_dx : Cert.quiescent_UpDx := fun m g _ => Cert.UpDx.Gen.frame m g

theorem frame_up_dx_ideal : Cert.quiescent_UpDxIdeal := fun m g _ => Cert.UpDxIdeal.Gen.frame m g

theorem frame_up_dx_reference : Cert.quiescent_UpDxReferenceIdeal := by
  intro m g _
  exact (θ_run Cert.UpDxReferenceIdeal.defs _ _).mono (fun r h => ⟨fun c => (h c).2, sem_eq_zero_of_no_sems (by decide) r.2⟩)
    (Cert.UpDxReferenceIdeal.Value.run (F := Ideal) m g)

/-- The product is the reference's, entry by entry. -/
theorem up_dx_algebraic : Cert.algebraic_UpDxIdeal_UpDxReferenceIdeal := by
  intro m g m' g' _ hm
  refine ⟨_, Cert.UpDxIdeal.Value.run_blocks (F := Ideal) m g, (θ_run Cert.UpDxReferenceIdeal.defs _ _).mono (fun r h c => ?_)
    (Cert.UpDxReferenceIdeal.Value.run (F := Ideal) m' g')⟩
  obtain ⟨h0, h1⟩ := hm c
  obtain ⟨k0, k⟩ := h c
  rw [h0, h1] at k0
  exact ⟨k0.trans ((Cert.UpDxPlain.prod_eq _ _).trans (Cert.UpDxProd.arr2 m c).symm), k⟩

/-! ## The output projection -/

theorem frame_out : Cert.quiescent_Out := fun m g _ => Cert.Out.Gen.frame m g

theorem frame_out_ideal : Cert.quiescent_OutIdeal := fun m g _ => Cert.OutIdeal.Gen.frame m g

theorem frame_out_reference : Cert.quiescent_OutReferenceIdeal := by
  intro m g _
  exact (θ_run Cert.OutReferenceIdeal.defs _ _).mono (fun r h => ⟨fun c => (h c).2, sem_eq_zero_of_no_sems (by decide) r.2⟩)
    (Cert.OutReferenceIdeal.Value.run (F := Ideal) m g)

/-- The product on top of the rows is the reference's, entry by entry. -/
theorem out_algebraic : Cert.algebraic_OutIdeal_OutReferenceIdeal := by
  intro m g m' g' _ hm
  refine ⟨_, Cert.OutIdeal.Value.run_blocks (F := Ideal) m g, (θ_run Cert.OutReferenceIdeal.defs _ _).mono (fun r h c => ?_)
    (Cert.OutReferenceIdeal.Value.run (F := Ideal) m' g')⟩
  obtain ⟨h0, h1, h2⟩ := hm c
  obtain ⟨k0, k⟩ := h c
  rw [h0, h1, h2] at k0
  exact ⟨k0.trans ((Cert.OutPlain.prod_eq _ _ _).trans (Cert.OutProd.arr3 m c).symm), k⟩

/-! ## The gradient in front of the output projection -/

theorem frame_out_dx : Cert.quiescent_OutDx := fun m g _ => Cert.OutDx.Gen.frame m g

theorem frame_out_dx_ideal : Cert.quiescent_OutDxIdeal := fun m g _ => Cert.OutDxIdeal.Gen.frame m g

theorem frame_out_dx_reference : Cert.quiescent_OutDxReferenceIdeal := by
  intro m g _
  exact (θ_run Cert.OutDxReferenceIdeal.defs _ _).mono (fun r h => ⟨fun c => (h c).2, sem_eq_zero_of_no_sems (by decide) r.2⟩)
    (Cert.OutDxReferenceIdeal.Value.run (F := Ideal) m g)

/-- The product is the reference's, entry by entry. -/
theorem out_dx_algebraic : Cert.algebraic_OutDxIdeal_OutDxReferenceIdeal := by
  intro m g m' g' _ hm
  refine ⟨_, Cert.OutDxIdeal.Value.run_blocks (F := Ideal) m g, (θ_run Cert.OutDxReferenceIdeal.defs _ _).mono (fun r h c => ?_)
    (Cert.OutDxReferenceIdeal.Value.run (F := Ideal) m' g')⟩
  obtain ⟨h0, h1⟩ := hm c
  obtain ⟨k0, k⟩ := h c
  rw [h0, h1] at k0
  exact ⟨k0.trans ((Cert.OutDxPlain.prod_eq _ _).trans (Cert.OutDxProd.arr2 m c).symm), k⟩

/-! ## The gradient of the output projection's weight -/

theorem frame_out_dw : Cert.quiescent_OutDw := fun m g _ => Cert.OutDw.Gen.frame m g

theorem frame_out_dw_ideal : Cert.quiescent_OutDwIdeal := fun m g _ => Cert.OutDwIdeal.Gen.frame m g

theorem frame_out_dw_reference : Cert.quiescent_OutDwReferenceIdeal := by
  intro m g _
  exact (θ_run Cert.OutDwReferenceIdeal.defs _ _).mono (fun r h => ⟨fun c => (h c).2, sem_eq_zero_of_no_sems (by decide) r.2⟩)
    (Cert.OutDwReferenceIdeal.Value.run (F := Ideal) m g)

/-- The product is the reference's, entry by entry. -/
theorem out_dw_algebraic : Cert.algebraic_OutDwIdeal_OutDwReferenceIdeal := by
  intro m g m' g' _ hm
  refine ⟨_, Cert.OutDwIdeal.Value.run_blocks (F := Ideal) m g, (θ_run Cert.OutDwReferenceIdeal.defs _ _).mono (fun r h c => ?_)
    (Cert.OutDwReferenceIdeal.Value.run (F := Ideal) m' g')⟩
  obtain ⟨h0, h1⟩ := hm c
  obtain ⟨k0, k⟩ := h c
  rw [h0, h1] at k0
  exact ⟨k0.trans ((Cert.OutDwPlain.prod_eq _ _).trans (Cert.OutDwProd.arr2 m c).symm), k⟩

/-! ## A branch's projection -/

theorem frame_branch : Cert.quiescent_Branch := fun m g _ => Cert.Branch.Gen.frame m g

theorem frame_branch_ideal : Cert.quiescent_BranchIdeal := fun m g _ => Cert.BranchIdeal.Gen.frame m g

theorem frame_branch_reference : Cert.quiescent_BranchReferenceIdeal := by
  intro m g _
  exact (θ_run Cert.BranchReferenceIdeal.defs _ _).mono (fun r h => ⟨fun c => (h c).2, sem_eq_zero_of_no_sems (by decide) r.2⟩)
    (Cert.BranchReferenceIdeal.Value.run (F := Ideal) m g)

/-- The product is the reference's, entry by entry. -/
theorem branch_algebraic : Cert.algebraic_BranchIdeal_BranchReferenceIdeal := by
  intro m g m' g' _ hm
  refine ⟨_, Cert.BranchIdeal.Value.run_blocks (F := Ideal) m g, (θ_run Cert.BranchReferenceIdeal.defs _ _).mono (fun r h c => ?_)
    (Cert.BranchReferenceIdeal.Value.run (F := Ideal) m' g')⟩
  obtain ⟨h0, h1⟩ := hm c
  obtain ⟨k0, k⟩ := h c
  rw [h0, h1] at k0
  exact ⟨k0.trans ((Cert.BranchPlain.prod_eq _ _).trans (Cert.BranchProd.arr2 m c).symm), k⟩

/-! ## The attention branch's projection -/

theorem frame_branch_sb : Cert.quiescent_BranchSb := fun m g _ => Cert.BranchSb.Gen.frame m g

theorem frame_branch_sb_ideal : Cert.quiescent_BranchSbIdeal := fun m g _ => Cert.BranchSbIdeal.Gen.frame m g

theorem frame_branch_sb_reference : Cert.quiescent_BranchSbReferenceIdeal := by
  intro m g _
  exact (θ_run Cert.BranchSbReferenceIdeal.defs _ _).mono (fun r h => ⟨fun c => (h c).2, sem_eq_zero_of_no_sems (by decide) r.2⟩)
    (Cert.BranchSbReferenceIdeal.Value.run (F := Ideal) m g)

/-- The product is the reference's, entry by entry. -/
theorem branch_sb_algebraic : Cert.algebraic_BranchSbIdeal_BranchSbReferenceIdeal := by
  intro m g m' g' _ hm
  refine ⟨_, Cert.BranchSbIdeal.Value.run_blocks (F := Ideal) m g, (θ_run Cert.BranchSbReferenceIdeal.defs _ _).mono (fun r h c => ?_)
    (Cert.BranchSbReferenceIdeal.Value.run (F := Ideal) m' g')⟩
  obtain ⟨h0, h1⟩ := hm c
  obtain ⟨k0, k⟩ := h c
  rw [h0, h1] at k0
  exact ⟨k0.trans ((Cert.BranchSbPlain.prod_eq _ _).trans (Cert.BranchSbProd.arr2 m c).symm), k⟩

/-! ## The gradient of the attention branch's weight -/

theorem frame_branch_sb_dw : Cert.quiescent_BranchSbDw := fun m g _ => Cert.BranchSbDw.Gen.frame m g

theorem frame_branch_sb_dw_ideal : Cert.quiescent_BranchSbDwIdeal := fun m g _ => Cert.BranchSbDwIdeal.Gen.frame m g

theorem frame_branch_sb_dw_reference : Cert.quiescent_BranchSbDwReferenceIdeal := by
  intro m g _
  exact (θ_run Cert.BranchSbDwReferenceIdeal.defs _ _).mono (fun r h => ⟨fun c => (h c).2, sem_eq_zero_of_no_sems (by decide) r.2⟩)
    (Cert.BranchSbDwReferenceIdeal.Value.run (F := Ideal) m g)

/-- The product is the reference's, entry by entry. -/
theorem branch_sb_dw_algebraic : Cert.algebraic_BranchSbDwIdeal_BranchSbDwReferenceIdeal := by
  intro m g m' g' _ hm
  refine ⟨_, Cert.BranchSbDwIdeal.Value.run_blocks (F := Ideal) m g, (θ_run Cert.BranchSbDwReferenceIdeal.defs _ _).mono (fun r h c => ?_)
    (Cert.BranchSbDwReferenceIdeal.Value.run (F := Ideal) m' g')⟩
  obtain ⟨h0, h1⟩ := hm c
  obtain ⟨k0, k⟩ := h c
  rw [h0, h1] at k0
  exact ⟨k0.trans ((Cert.BranchSbDwPlain.prod_eq _ _).trans (Cert.BranchSbDwProd.arr2 m c).symm), k⟩

/-! ## The input projection -/

theorem frame_in_proj : Cert.quiescent_In := fun m g _ => Cert.In.Gen.frame m g

theorem frame_in_proj_ideal : Cert.quiescent_InIdeal := fun m g _ => Cert.InIdeal.Gen.frame m g

theorem frame_in_proj_reference : Cert.quiescent_InReferenceIdeal := by
  intro m g _
  exact (θ_run Cert.InReferenceIdeal.defs _ _).mono (fun r h => ⟨fun c => (h c).2, sem_eq_zero_of_no_sems (by decide) r.2⟩)
    (Cert.InReferenceIdeal.Value.run (F := Ideal) m g)

/-- The product is the reference's, entry by entry. -/
theorem in_proj_algebraic : Cert.algebraic_InIdeal_InReferenceIdeal := by
  intro m g m' g' _ hm
  refine ⟨_, Cert.InIdeal.Value.run_blocks (F := Ideal) m g, (θ_run Cert.InReferenceIdeal.defs _ _).mono (fun r h c => ?_)
    (Cert.InReferenceIdeal.Value.run (F := Ideal) m' g')⟩
  obtain ⟨h0, h1⟩ := hm c
  obtain ⟨k0, k⟩ := h c
  rw [h0, h1] at k0
  exact ⟨k0.trans ((Cert.InPlain.prod_eq _ _).trans (Cert.InProd.arr2 m c).symm), k⟩

/-! ## The gradient of the input projection's weight -/

theorem frame_in_dw : Cert.quiescent_InDw := fun m g _ => Cert.InDw.Gen.frame m g

theorem frame_in_dw_ideal : Cert.quiescent_InDwIdeal := fun m g _ => Cert.InDwIdeal.Gen.frame m g

theorem frame_in_dw_reference : Cert.quiescent_InDwReferenceIdeal := by
  intro m g _
  exact (θ_run Cert.InDwReferenceIdeal.defs _ _).mono (fun r h => ⟨fun c => (h c).2, sem_eq_zero_of_no_sems (by decide) r.2⟩)
    (Cert.InDwReferenceIdeal.Value.run (F := Ideal) m g)

/-- The product is the reference's, entry by entry. -/
theorem in_dw_algebraic : Cert.algebraic_InDwIdeal_InDwReferenceIdeal := by
  intro m g m' g' _ hm
  refine ⟨_, Cert.InDwIdeal.Value.run_blocks (F := Ideal) m g, (θ_run Cert.InDwReferenceIdeal.defs _ _).mono (fun r h c => ?_)
    (Cert.InDwReferenceIdeal.Value.run (F := Ideal) m' g')⟩
  obtain ⟨h0, h1⟩ := hm c
  obtain ⟨k0, k⟩ := h c
  rw [h0, h1] at k0
  exact ⟨k0.trans ((Cert.InDwPlain.prod_eq _ _).trans (Cert.InDwProd.arr2 m c).symm), k⟩

/-! ## The gradient in front of the input projection -/

theorem frame_in_dx : Cert.quiescent_InDx := fun m g _ => Cert.InDx.Gen.frame m g

theorem frame_in_dx_ideal : Cert.quiescent_InDxIdeal := fun m g _ => Cert.InDxIdeal.Gen.frame m g

theorem frame_in_dx_reference : Cert.quiescent_InDxReferenceIdeal := by
  intro m g _
  exact (θ_run Cert.InDxReferenceIdeal.defs _ _).mono (fun r h => ⟨fun c => (h c).2, sem_eq_zero_of_no_sems (by decide) r.2⟩)
    (Cert.InDxReferenceIdeal.Value.run (F := Ideal) m g)

/-- The product is the reference's, entry by entry. -/
theorem in_dx_algebraic : Cert.algebraic_InDxIdeal_InDxReferenceIdeal := by
  intro m g m' g' _ hm
  refine ⟨_, Cert.InDxIdeal.Value.run_blocks (F := Ideal) m g, (θ_run Cert.InDxReferenceIdeal.defs _ _).mono (fun r h c => ?_)
    (Cert.InDxReferenceIdeal.Value.run (F := Ideal) m' g')⟩
  obtain ⟨h0, h1⟩ := hm c
  obtain ⟨k0, k⟩ := h c
  rw [h0, h1] at k0
  exact ⟨k0.trans ((Cert.InDxPlain.prod_eq _ _).trans (Cert.InDxProd.arr2 m c).symm), k⟩

/-! ## The merging of the branches -/

theorem frame_merge : Cert.quiescent_Merge := fun m g _ => Cert.Merge.Gen.frame m g

theorem frame_merge_ideal : Cert.quiescent_MergeIdeal := fun m g _ => Cert.MergeIdeal.Gen.frame m g

theorem frame_merge_reference : Cert.quiescent_MergeReferenceIdeal := by
  intro m g _
  exact (θ_run Cert.MergeReferenceIdeal.defs _ _).mono (fun r h => ⟨fun c => (h c).2, sem_eq_zero_of_no_sems (by decide) r.2⟩)
    (Cert.MergeReferenceIdeal.Value.run (F := Ideal) m g)

/-- The gated sum of the branches is the reference's, entry by entry. -/
theorem merge_algebraic : Cert.algebraic_MergeIdeal_MergeReferenceIdeal := by
  intro m g m' g' _ hm
  refine ⟨_, Cert.MergeIdeal.Value.run_blocks (F := Ideal) m g, (θ_run Cert.MergeReferenceIdeal.defs _ _).mono (fun r h c => ?_)
    (Cert.MergeReferenceIdeal.Value.run (F := Ideal) m' g')⟩
  obtain ⟨h0, h1⟩ := hm c
  obtain ⟨k0, k⟩ := h c
  rw [h0, h1] at k0
  exact ⟨k0.trans ((Cert.MergePlain.merge_eq _ _).trans (Cert.MergeSum.arr6 m c).symm), k⟩

/-! ## The gradients of the branches and of their gates -/

theorem frame_merge_dx : Cert.quiescent_MergeDx := fun m g _ => Cert.MergeDx.Gen.frame m g

theorem frame_merge_dx_ideal : Cert.quiescent_MergeDxIdeal := fun m g _ => Cert.MergeDxIdeal.Gen.frame m g

theorem frame_merge_dx_reference : Cert.quiescent_MergeDxReferenceIdeal := by
  intro m g _
  exact (θ_run Cert.MergeDxReferenceIdeal.defs _ _).mono (fun r h => ⟨fun c => (h c).2.2, sem_eq_zero_of_no_sems (by decide) r.2⟩)
    (Cert.MergeDxReferenceIdeal.Value.run (F := Ideal) m g)

/-- Both gradients are the reference's, entry by entry. -/
theorem merge_dx_algebraic : Cert.algebraic_MergeDxIdeal_MergeDxReferenceIdeal := by
  intro m g m' g' _ hm
  refine ⟨_, _, Cert.MergeDxIdeal.Value.run_blocks (F := Ideal) m g, (θ_run Cert.MergeDxReferenceIdeal.defs _ _).mono (fun r h c => ?_)
    (Cert.MergeDxReferenceIdeal.Value.run (F := Ideal) m' g')⟩
  obtain ⟨h0, h1, h2⟩ := hm c
  obtain ⟨k0, k1, k⟩ := h c
  exact ⟨k0.trans ((Cert.MergeDxPlain.dp_eq _ _).trans (Eq.trans (by rw [h1, h2]) (Cert.MergeGrad.arr3 m c).symm)),
    k1.trans ((Cert.MergeDxPlain.dg_eq _ _ _).trans (Eq.trans (by rw [h0, h1, h2]) (Cert.MergeGrad.arr4 m c).symm)), k⟩

/-! ## The gated norm of the heads -/

theorem frame_dn_post : Cert.quiescent_DnPost := fun m g _ => Cert.DnPost.Gen.frame m g

theorem frame_dn_post_ideal : Cert.quiescent_DnPostIdeal := fun m g _ => Cert.DnPostIdeal.Gen.frame m g

theorem frame_dn_post_reference : Cert.quiescent_DnPostReferenceIdeal := by
  intro m g _
  exact (θ_run Cert.DnPostReferenceIdeal.defs _ _).mono (fun r h => ⟨fun c => (h c).2, sem_eq_zero_of_no_sems (by decide) r.2⟩)
    (Cert.DnPostReferenceIdeal.Value.run (F := Ideal) m g)

/-- The gated norm is the reference's, entry by entry. -/
theorem dn_post_algebraic : Cert.algebraic_DnPostIdeal_DnPostReferenceIdeal := by
  intro m g m' g' _ hm
  refine ⟨_, Cert.DnPostIdeal.Value.run_blocks (F := Ideal) m g, (θ_run Cert.DnPostReferenceIdeal.defs _ _).mono (fun r h c => ?_)
    (Cert.DnPostReferenceIdeal.Value.run (F := Ideal) m' g')⟩
  obtain ⟨h0, h1, h2⟩ := hm c
  obtain ⟨k0, k⟩ := h c
  rw [h0, h1, h2] at k0
  exact ⟨k0.trans ((Cert.DnPostPlain.post_eq _ _ _).trans (Cert.DnGate.arr3 m c).symm), k⟩

/-! ## The gated norm of the groups -/

theorem frame_ssm_post : Cert.quiescent_SsmPost := fun m g _ => Cert.SsmPost.Gen.frame m g

theorem frame_ssm_post_ideal : Cert.quiescent_SsmPostIdeal := fun m g _ => Cert.SsmPostIdeal.Gen.frame m g

theorem frame_ssm_post_reference : Cert.quiescent_SsmPostReferenceIdeal := by
  intro m g _
  exact (θ_run Cert.SsmPostReferenceIdeal.defs _ _).mono (fun r h => ⟨fun c => (h c).2, sem_eq_zero_of_no_sems (by decide) r.2⟩)
    (Cert.SsmPostReferenceIdeal.Value.run (F := Ideal) m g)

/-- The gated norm is the reference's, entry by entry. -/
theorem ssm_post_algebraic : Cert.algebraic_SsmPostIdeal_SsmPostReferenceIdeal := by
  intro m g m' g' _ hm
  refine ⟨_, Cert.SsmPostIdeal.Value.run_blocks (F := Ideal) m g, (θ_run Cert.SsmPostReferenceIdeal.defs _ _).mono (fun r h c => ?_)
    (Cert.SsmPostReferenceIdeal.Value.run (F := Ideal) m' g')⟩
  obtain ⟨h0, h1, h2, h3, h4⟩ := hm c
  obtain ⟨k0, k⟩ := h c
  rw [h0, h1, h2, h3, h4] at k0
  exact ⟨k0.trans ((Cert.SsmPostPlain.post_eq _ _ _ _ _).trans (Cert.SsmGate.arr5 m c).symm), k⟩

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    frame_kernel, frame_ideal, frame_reference, frame_gather, frame_gather_ideal, frame_gather_reference_ideal, frame_gather_reference,
    frame_small, frame_small_ideal, frame_small_reference,
    frame_norm, frame_norm_ideal, frame_norm_reference, frame_loss, frame_loss_ideal, frame_loss_reference,
    frame_forward, frame_forward_ideal, frame_forward_reference,
    frame_up, frame_up_ideal, frame_up_reference,
    frame_down, frame_down_ideal, frame_down_reference,
    frame_down_dx, frame_down_dx_ideal, frame_down_dx_reference,
    frame_down_dw, frame_down_dw_ideal, frame_down_dw_reference,
    frame_up_dw, frame_up_dw_ideal, frame_up_dw_reference,
    frame_up_dx, frame_up_dx_ideal, frame_up_dx_reference,
    frame_out, frame_out_ideal, frame_out_reference,
    frame_out_dx, frame_out_dx_ideal, frame_out_dx_reference,
    frame_out_dw, frame_out_dw_ideal, frame_out_dw_reference,
    frame_branch, frame_branch_ideal, frame_branch_reference,
    frame_branch_sb, frame_branch_sb_ideal, frame_branch_sb_reference,
    frame_branch_sb_dw, frame_branch_sb_dw_ideal, frame_branch_sb_dw_reference,
    frame_in_proj, frame_in_proj_ideal, frame_in_proj_reference,
    frame_in_dw, frame_in_dw_ideal, frame_in_dw_reference,
    frame_in_dx, frame_in_dx_ideal, frame_in_dx_reference,
    frame_merge, frame_merge_ideal, frame_merge_reference,
    frame_merge_dx, frame_merge_dx_ideal, frame_merge_dx_reference,
    frame_dn_post, frame_dn_post_ideal, frame_dn_post_reference,
    frame_ssm_post, frame_ssm_post_ideal, frame_ssm_post_reference,
    trivial, algebraic, trivial, gather_algebraic, gather_bitexact, trivial, small_algebraic,
    trivial, norm_algebraic, trivial, loss_algebraic,
    trivial, forward_algebraic, trivial, up_algebraic, trivial, down_algebraic, trivial, down_dx_algebraic, trivial, down_dw_algebraic, trivial, up_dw_algebraic, trivial, up_dx_algebraic, trivial, out_algebraic, trivial, out_dx_algebraic, trivial, out_dw_algebraic, trivial, branch_algebraic, trivial, branch_sb_algebraic, trivial, branch_sb_dw_algebraic, trivial, in_proj_algebraic, trivial, in_dw_algebraic, trivial, in_dx_algebraic, trivial, merge_algebraic, trivial, merge_dx_algebraic, trivial, dn_post_algebraic, trivial, ssm_post_algebraic⟩

end Cert.Proof

end
